-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite [hPre_finite : Cert.Pre_finite.Facts] (m : (ℓ : Loc Cert.NaIdeal.nD Cert.NaIdeal.τ Cert.NaIdeal.sig) → Buf (Elt Ideal) ℓ) : Prop :=
  ∀ c : Dev Cert.NaIdeal.nD,
    (Cert.Pre_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite [hPre_finite : Cert.Pre_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))) = (fun _ => 1#1)

def Pre_Moe [hPre_experts : Cert.Pre_experts.Facts] (m : (ℓ : Loc Cert.Moe.nD Cert.Moe.τ Cert.Moe.sig) → Buf (Elt Bits) ℓ) : Prop :=
  ∀ c : Dev Cert.Moe.nD,
    (Cert.Pre_experts.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3))) = (fun _ => 1#1)

def Pre_MoeIdeal [hPre_experts : Cert.Pre_experts.Facts] (m : (ℓ : Loc Cert.MoeIdeal.nD Cert.MoeIdeal.τ Cert.MoeIdeal.sig) → Buf (Elt Ideal) ℓ) : Prop :=
  ∀ c : Dev Cert.MoeIdeal.nD,
    (Cert.Pre_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts [hPre_experts : Cert.Pre_experts.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3))) = (fun _ => 1#1)

def Pre_Ip (m : (ℓ : Loc Cert.Ip.nD Cert.Ip.τ Cert.Ip.sig) → Buf (Elt Bits) ℓ) : Prop :=
  True

def Pre_IpIdeal (m : (ℓ : Loc Cert.IpIdeal.nD Cert.IpIdeal.τ Cert.IpIdeal.sig) → Buf (Elt Ideal) ℓ) : Prop :=
  True

def Pre_IpRefIdeal (m : (ℓ : Loc Cert.IpRefIdeal.nD Cert.IpRefIdeal.τ Cert.IpRefIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_OpRefIdeal (m : (ℓ : Loc Cert.OpRefIdeal.nD Cert.OpRefIdeal.τ Cert.OpRefIdeal.sig) → Buf (Elt Ideal) ℓ) : Prop :=
  True

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_finite [hNaIdeal : Cert.NaIdeal.Facts] [hPre_finite : Cert.Pre_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_finite [hNaRefIdeal : Cert.NaRefIdeal.Facts] [hPre_finite : Cert.Pre_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_Moe [hMoe : Cert.Moe.Facts] [hPre_experts : Cert.Pre_experts.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3))
      ∧ r.2.sem = fun _ => 0)

def quiescent_MoeIdeal [hMoeIdeal : Cert.MoeIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3))
      ∧ r.2.sem = fun _ => 0)

def quiescent_MoeRefIdeal_pre_experts [hMoeRefIdeal : Cert.MoeRefIdeal.Facts] [hPre_experts : Cert.Pre_experts.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3))
      ∧ r.2.sem = fun _ => 0)

def quiescent_Ip [hIp : Cert.Ip.Facts] : Prop :=
  ∀ (m : (ℓ : Loc Cert.Ip.nD Cert.Ip.τ Cert.Ip.sig) → Buf (Elt Bits) ℓ) (g : Dev Cert.Ip.nD → PrngReg), Pre_Ip m →
    θ_run (Cert.Ip.defs (F := Bits)) (onTc (τ := Cert.Ip.τ) (Cert.Ip.main (F := Bits))) ⟨m, fun _ => 0, g⟩ (fun r => (∀ c : Dev Cert.Ip.nD,
      r.2.mem ((c.tc : Thread Cert.Ip.nD Cert.Ip.τ).loc Cert.Ip.main_arg0) = m ((c.tc : Thread Cert.Ip.nD Cert.Ip.τ).loc Cert.Ip.main_arg0)
      ∧ r.2.mem ((c.tc : Thread Cert.Ip.nD Cert.Ip.τ).loc Cert.Ip.main_arg1) = m ((c.tc : Thread Cert.Ip.nD Cert.Ip.τ).loc Cert.Ip.main_arg1)
      ∧ r.2.mem ((c.tc : Thread Cert.Ip.nD Cert.Ip.τ).loc Cert.Ip.main_arg2) = m ((c.tc : Thread Cert.Ip.nD Cert.Ip.τ).loc Cert.Ip.main_arg2))
      ∧ r.2.sem = fun _ => 0)

def quiescent_IpIdeal [hIpIdeal : Cert.IpIdeal.Facts] : Prop :=
  ∀ (m : (ℓ : Loc Cert.IpIdeal.nD Cert.IpIdeal.τ Cert.IpIdeal.sig) → Buf (Elt Ideal) ℓ) (g : Dev Cert.IpIdeal.nD → PrngReg), Pre_IpIdeal m →
    θ_run (Cert.IpIdeal.defs (F := Ideal)) (onTc (τ := Cert.IpIdeal.τ) (Cert.IpIdeal.main (F := Ideal))) ⟨m, fun _ => 0, g⟩ (fun r => (∀ c : Dev Cert.IpIdeal.nD,
      r.2.mem ((c.tc : Thread Cert.IpIdeal.nD Cert.IpIdeal.τ).loc Cert.IpIdeal.main_arg0) = m ((c.tc : Thread Cert.IpIdeal.nD Cert.IpIdeal.τ).loc Cert.IpIdeal.main_arg0)
      ∧ r.2.mem ((c.tc : Thread Cert.IpIdeal.nD Cert.IpIdeal.τ).loc Cert.IpIdeal.main_arg1) = m ((c.tc : Thread Cert.IpIdeal.nD Cert.IpIdeal.τ).loc Cert.IpIdeal.main_arg1)
      ∧ r.2.mem ((c.tc : Thread Cert.IpIdeal.nD Cert.IpIdeal.τ).loc Cert.IpIdeal.main_arg2) = m ((c.tc : Thread Cert.IpIdeal.nD Cert.IpIdeal.τ).loc Cert.IpIdeal.main_arg2))
      ∧ r.2.sem = fun _ => 0)

def quiescent_IpRefIdeal [hIpRefIdeal : Cert.IpRefIdeal.Facts] : Prop :=
  ∀ (m : (ℓ : Loc Cert.IpRefIdeal.nD Cert.IpRefIdeal.τ Cert.IpRefIdeal.sig) → Buf (Elt Ideal) ℓ) (g : Dev Cert.IpRefIdeal.nD → PrngReg), Pre_IpRefIdeal m →
    θ_run (Cert.IpRefIdeal.defs (F := Ideal)) (onTc (τ := Cert.IpRefIdeal.τ) (Cert.IpRefIdeal.main (F := Ideal))) ⟨m, fun _ => 0, g⟩ (fun r => (∀ c : Dev Cert.IpRefIdeal.nD,
      r.2.mem ((c.tc : Thread Cert.IpRefIdeal.nD Cert.IpRefIdeal.τ).loc Cert.IpRefIdeal.main_arg0) = m ((c.tc : Thread Cert.IpRefIdeal.nD Cert.IpRefIdeal.τ).loc Cert.IpRefIdeal.main_arg0)
      ∧ r.2.mem ((c.tc : Thread Cert.IpRefIdeal.nD Cert.IpRefIdeal.τ).loc Cert.IpRefIdeal.main_arg1) = m ((c.tc : Thread Cert.IpRefIdeal.nD Cert.IpRefIdeal.τ).loc Cert.IpRefIdeal.main_arg1)
      ∧ r.2.mem ((c.tc : Thread Cert.IpRefIdeal.nD Cert.IpRefIdeal.τ).loc Cert.IpRefIdeal.main_arg2) = m ((c.tc : Thread Cert.IpRefIdeal.nD Cert.IpRefIdeal.τ).loc Cert.IpRefIdeal.main_arg2))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1)
      ∧ r.2.mem ((c.tc : Thread Cert.Op.nD Cert.Op.τ).loc Cert.Op.main_arg2) = m ((c.tc : Thread Cert.Op.nD Cert.Op.τ).loc Cert.Op.main_arg2)
      ∧ r.2.mem ((c.tc : Thread Cert.Op.nD Cert.Op.τ).loc Cert.Op.main_arg3) = m ((c.tc : Thread Cert.Op.nD Cert.Op.τ).loc Cert.Op.main_arg3)
      ∧ r.2.mem ((c.tc : Thread Cert.Op.nD Cert.Op.τ).loc Cert.Op.main_arg4) = m ((c.tc : Thread Cert.Op.nD Cert.Op.τ).loc Cert.Op.main_arg4)
      ∧ r.2.mem ((c.tc : Thread Cert.Op.nD Cert.Op.τ).loc Cert.Op.main_arg5) = m ((c.tc : Thread Cert.Op.nD Cert.Op.τ).loc Cert.Op.main_arg5)
      ∧ r.2.mem ((c.tc : Thread Cert.Op.nD Cert.Op.τ).loc Cert.Op.main_arg6) = m ((c.tc : Thread Cert.Op.nD Cert.Op.τ).loc Cert.Op.main_arg6)
      ∧ r.2.mem ((c.tc : Thread Cert.Op.nD Cert.Op.τ).loc Cert.Op.main_arg7) = m ((c.tc : Thread Cert.Op.nD Cert.Op.τ).loc Cert.Op.main_arg7)
      ∧ r.2.mem ((c.tc : Thread Cert.Op.nD Cert.Op.τ).loc Cert.Op.main_arg8) = m ((c.tc : Thread Cert.Op.nD Cert.Op.τ).loc Cert.Op.main_arg8)
      ∧ r.2.mem ((c.tc : Thread Cert.Op.nD Cert.Op.τ).loc Cert.Op.main_arg9) = m ((c.tc : Thread Cert.Op.nD Cert.Op.τ).loc Cert.Op.main_arg9)
      ∧ r.2.mem ((c.tc : Thread Cert.Op.nD Cert.Op.τ).loc Cert.Op.main_arg10) = m ((c.tc : Thread Cert.Op.nD Cert.Op.τ).loc Cert.Op.main_arg10)
      ∧ r.2.mem ((c.tc : Thread Cert.Op.nD Cert.Op.τ).loc Cert.Op.main_arg11) = m ((c.tc : Thread Cert.Op.nD Cert.Op.τ).loc Cert.Op.main_arg11)
      ∧ r.2.mem ((c.tc : Thread Cert.Op.nD Cert.Op.τ).loc Cert.Op.main_arg12) = m ((c.tc : Thread Cert.Op.nD Cert.Op.τ).loc Cert.Op.main_arg12))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
      ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
      ∧ r.2.mem ((c.tc : Thread Cert.OpIdeal.nD Cert.OpIdeal.τ).loc Cert.OpIdeal.main_arg3) = m ((c.tc : Thread Cert.OpIdeal.nD Cert.OpIdeal.τ).loc Cert.OpIdeal.main_arg3)
      ∧ r.2.mem ((c.tc : Thread Cert.OpIdeal.nD Cert.OpIdeal.τ).loc Cert.OpIdeal.main_arg4) = m ((c.tc : Thread Cert.OpIdeal.nD Cert.OpIdeal.τ).loc Cert.OpIdeal.main_arg4)
      ∧ r.2.mem ((c.tc : Thread Cert.OpIdeal.nD Cert.OpIdeal.τ).loc Cert.OpIdeal.main_arg5) = m ((c.tc : Thread Cert.OpIdeal.nD Cert.OpIdeal.τ).loc Cert.OpIdeal.main_arg5)
      ∧ r.2.mem ((c.tc : Thread Cert.OpIdeal.nD Cert.OpIdeal.τ).loc Cert.OpIdeal.main_arg6) = m ((c.tc : Thread Cert.OpIdeal.nD Cert.OpIdeal.τ).loc Cert.OpIdeal.main_arg6)
      ∧ r.2.mem ((c.tc : Thread Cert.OpIdeal.nD Cert.OpIdeal.τ).loc Cert.OpIdeal.main_arg7) = m ((c.tc : Thread Cert.OpIdeal.nD Cert.OpIdeal.τ).loc Cert.OpIdeal.main_arg7)
      ∧ r.2.mem ((c.tc : Thread Cert.OpIdeal.nD Cert.OpIdeal.τ).loc Cert.OpIdeal.main_arg8) = m ((c.tc : Thread Cert.OpIdeal.nD Cert.OpIdeal.τ).loc Cert.OpIdeal.main_arg8)
      ∧ r.2.mem ((c.tc : Thread Cert.OpIdeal.nD Cert.OpIdeal.τ).loc Cert.OpIdeal.main_arg9) = m ((c.tc : Thread Cert.OpIdeal.nD Cert.OpIdeal.τ).loc Cert.OpIdeal.main_arg9)
      ∧ r.2.mem ((c.tc : Thread Cert.OpIdeal.nD Cert.OpIdeal.τ).loc Cert.OpIdeal.main_arg10) = m ((c.tc : Thread Cert.OpIdeal.nD Cert.OpIdeal.τ).loc Cert.OpIdeal.main_arg10)
      ∧ r.2.mem ((c.tc : Thread Cert.OpIdeal.nD Cert.OpIdeal.τ).loc Cert.OpIdeal.main_arg11) = m ((c.tc : Thread Cert.OpIdeal.nD Cert.OpIdeal.τ).loc Cert.OpIdeal.main_arg11)
      ∧ r.2.mem ((c.tc : Thread Cert.OpIdeal.nD Cert.OpIdeal.τ).loc Cert.OpIdeal.main_arg12) = m ((c.tc : Thread Cert.OpIdeal.nD Cert.OpIdeal.τ).loc Cert.OpIdeal.main_arg12))
      ∧ r.2.sem = fun _ => 0)

def quiescent_OpRefIdeal [hOpRefIdeal : Cert.OpRefIdeal.Facts] : Prop :=
  ∀ (m : (ℓ : Loc Cert.OpRefIdeal.nD Cert.OpRefIdeal.τ Cert.OpRefIdeal.sig) → Buf (Elt Ideal) ℓ) (g : Dev Cert.OpRefIdeal.nD → PrngReg), Pre_OpRefIdeal m →
    θ_run (Cert.OpRefIdeal.defs (F := Ideal)) (onTc (τ := Cert.OpRefIdeal.τ) (Cert.OpRefIdeal.main (F := Ideal))) ⟨m, fun _ => 0, g⟩ (fun r => (∀ c : Dev Cert.OpRefIdeal.nD,
      r.2.mem ((c.tc : Thread Cert.OpRefIdeal.nD Cert.OpRefIdeal.τ).loc Cert.OpRefIdeal.main_arg0) = m ((c.tc : Thread Cert.OpRefIdeal.nD Cert.OpRefIdeal.τ).loc Cert.OpRefIdeal.main_arg0)
      ∧ r.2.mem ((c.tc : Thread Cert.OpRefIdeal.nD Cert.OpRefIdeal.τ).loc Cert.OpRefIdeal.main_arg1) = m ((c.tc : Thread Cert.OpRefIdeal.nD Cert.OpRefIdeal.τ).loc Cert.OpRefIdeal.main_arg1)
      ∧ r.2.mem ((c.tc : Thread Cert.OpRefIdeal.nD Cert.OpRefIdeal.τ).loc Cert.OpRefIdeal.main_arg2) = m ((c.tc : Thread Cert.OpRefIdeal.nD Cert.OpRefIdeal.τ).loc Cert.OpRefIdeal.main_arg2)
      ∧ r.2.mem ((c.tc : Thread Cert.OpRefIdeal.nD Cert.OpRefIdeal.τ).loc Cert.OpRefIdeal.main_arg3) = m ((c.tc : Thread Cert.OpRefIdeal.nD Cert.OpRefIdeal.τ).loc Cert.OpRefIdeal.main_arg3)
      ∧ r.2.mem ((c.tc : Thread Cert.OpRefIdeal.nD Cert.OpRefIdeal.τ).loc Cert.OpRefIdeal.main_arg4) = m ((c.tc : Thread Cert.OpRefIdeal.nD Cert.OpRefIdeal.τ).loc Cert.OpRefIdeal.main_arg4)
      ∧ r.2.mem ((c.tc : Thread Cert.OpRefIdeal.nD Cert.OpRefIdeal.τ).loc Cert.OpRefIdeal.main_arg5) = m ((c.tc : Thread Cert.OpRefIdeal.nD Cert.OpRefIdeal.τ).loc Cert.OpRefIdeal.main_arg5)
      ∧ r.2.mem ((c.tc : Thread Cert.OpRefIdeal.nD Cert.OpRefIdeal.τ).loc Cert.OpRefIdeal.main_arg6) = m ((c.tc : Thread Cert.OpRefIdeal.nD Cert.OpRefIdeal.τ).loc Cert.OpRefIdeal.main_arg6)
      ∧ r.2.mem ((c.tc : Thread Cert.OpRefIdeal.nD Cert.OpRefIdeal.τ).loc Cert.OpRefIdeal.main_arg7) = m ((c.tc : Thread Cert.OpRefIdeal.nD Cert.OpRefIdeal.τ).loc Cert.OpRefIdeal.main_arg7)
      ∧ r.2.mem ((c.tc : Thread Cert.OpRefIdeal.nD Cert.OpRefIdeal.τ).loc Cert.OpRefIdeal.main_arg8) = m ((c.tc : Thread Cert.OpRefIdeal.nD Cert.OpRefIdeal.τ).loc Cert.OpRefIdeal.main_arg8)
      ∧ r.2.mem ((c.tc : Thread Cert.OpRefIdeal.nD Cert.OpRefIdeal.τ).loc Cert.OpRefIdeal.main_arg9) = m ((c.tc : Thread Cert.OpRefIdeal.nD Cert.OpRefIdeal.τ).loc Cert.OpRefIdeal.main_arg9)
      ∧ r.2.mem ((c.tc : Thread Cert.OpRefIdeal.nD Cert.OpRefIdeal.τ).loc Cert.OpRefIdeal.main_arg10) = m ((c.tc : Thread Cert.OpRefIdeal.nD Cert.OpRefIdeal.τ).loc Cert.OpRefIdeal.main_arg10)
      ∧ r.2.mem ((c.tc : Thread Cert.OpRefIdeal.nD Cert.OpRefIdeal.τ).loc Cert.OpRefIdeal.main_arg11) = m ((c.tc : Thread Cert.OpRefIdeal.nD Cert.OpRefIdeal.τ).loc Cert.OpRefIdeal.main_arg11)
      ∧ r.2.mem ((c.tc : Thread Cert.OpRefIdeal.nD Cert.OpRefIdeal.τ).loc Cert.OpRefIdeal.main_arg12) = m ((c.tc : Thread Cert.OpRefIdeal.nD Cert.OpRefIdeal.τ).loc Cert.OpRefIdeal.main_arg12))
      ∧ r.2.sem = fun _ => 0)

def preserves_Na_NaIdeal : Prop :=
  IdealRules.named_const.Statement Cert.NaIdeal.κ "below" .f32 0xF0C9F2CA#32 ⊥
  ∧ IdealRules.named_const.Statement Cert.NaIdeal.κ "mask" .f32 0xF149F2CA#32 ⊥

def algebraic_NaIdeal_NaRefIdeal_pre_finite [hNaIdeal : Cert.NaIdeal.Facts] [hNaRefIdeal : Cert.NaRefIdeal.Facts] [hPre_finite : Cert.Pre_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v92)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v92) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v117) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def preserves_Moe_MoeIdeal : Prop :=
  True

def algebraic_MoeIdeal_MoeRefIdeal [hMoeIdeal : Cert.MoeIdeal.Facts] [hMoeRefIdeal : Cert.MoeRefIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)) →
    ∃ (v0 : (c : Dev Cert.MoeIdeal.nD) → Buf (Elt Ideal) ((c.tc : Thread Cert.MoeIdeal.nD Cert.MoeIdeal.τ).loc Cert.MoeIdeal.main_v69)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v69) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v95) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3))

def preserves_Ip_IpIdeal : Prop :=
  True

def algebraic_IpIdeal_IpRefIdeal [hIpIdeal : Cert.IpIdeal.Facts] [hIpRefIdeal : Cert.IpRefIdeal.Facts] : Prop :=
  ∀ (m : (ℓ : Loc Cert.IpIdeal.nD Cert.IpIdeal.τ Cert.IpIdeal.sig) → Buf (Elt Ideal) ℓ) (g : Dev Cert.IpIdeal.nD → PrngReg)
    (m' : (ℓ : Loc Cert.IpRefIdeal.nD Cert.IpRefIdeal.τ Cert.IpRefIdeal.sig) → Buf (Elt Ideal) ℓ) (g' : Dev Cert.IpRefIdeal.nD → PrngReg), Pre_IpIdeal m →
    (∀ c : Dev Cert.IpIdeal.nD,
      m' ((c.tc : Thread Cert.IpRefIdeal.nD Cert.IpRefIdeal.τ).loc Cert.IpRefIdeal.main_arg0) = m ((c.tc : Thread Cert.IpIdeal.nD Cert.IpIdeal.τ).loc Cert.IpIdeal.main_arg0)
      ∧ m' ((c.tc : Thread Cert.IpRefIdeal.nD Cert.IpRefIdeal.τ).loc Cert.IpRefIdeal.main_arg1) = m ((c.tc : Thread Cert.IpIdeal.nD Cert.IpIdeal.τ).loc Cert.IpIdeal.main_arg1)
      ∧ m' ((c.tc : Thread Cert.IpRefIdeal.nD Cert.IpRefIdeal.τ).loc Cert.IpRefIdeal.main_arg2) = m ((c.tc : Thread Cert.IpIdeal.nD Cert.IpIdeal.τ).loc Cert.IpIdeal.main_arg2)) →
    ∃ (v0 : (c : Dev Cert.IpIdeal.nD) → Buf (Elt Ideal) ((c.tc : Thread Cert.IpIdeal.nD Cert.IpIdeal.τ).loc Cert.IpIdeal.main_v4_0)) (v1 : (c : Dev Cert.IpIdeal.nD) → Buf (Elt Ideal) ((c.tc : Thread Cert.IpIdeal.nD Cert.IpIdeal.τ).loc Cert.IpIdeal.main_v4_1)),
      θ_run (Cert.IpIdeal.defs (F := Ideal)) (onTc (τ := Cert.IpIdeal.τ) (Cert.IpIdeal.main (F := Ideal))) ⟨m, fun _ => 0, g⟩ (fun r => ∀ c : Dev Cert.IpIdeal.nD,
          r.2.mem ((c.tc : Thread Cert.IpIdeal.nD Cert.IpIdeal.τ).loc Cert.IpIdeal.main_v4_0) = v0 c
          ∧ r.2.mem ((c.tc : Thread Cert.IpIdeal.nD Cert.IpIdeal.τ).loc Cert.IpIdeal.main_v4_1) = v1 c
          ∧ r.2.mem ((c.tc : Thread Cert.IpIdeal.nD Cert.IpIdeal.τ).loc Cert.IpIdeal.main_arg0) = m ((c.tc : Thread Cert.IpIdeal.nD Cert.IpIdeal.τ).loc Cert.IpIdeal.main_arg0)
          ∧ r.2.mem ((c.tc : Thread Cert.IpIdeal.nD Cert.IpIdeal.τ).loc Cert.IpIdeal.main_arg1) = m ((c.tc : Thread Cert.IpIdeal.nD Cert.IpIdeal.τ).loc Cert.IpIdeal.main_arg1)
          ∧ r.2.mem ((c.tc : Thread Cert.IpIdeal.nD Cert.IpIdeal.τ).loc Cert.IpIdeal.main_arg2) = m ((c.tc : Thread Cert.IpIdeal.nD Cert.IpIdeal.τ).loc Cert.IpIdeal.main_arg2))
      ∧ θ_run (Cert.IpRefIdeal.defs (F := Ideal)) (onTc (τ := Cert.IpRefIdeal.τ) (Cert.IpRefIdeal.main (F := Ideal))) ⟨m', fun _ => 0, g'⟩ (fun r => ∀ c : Dev Cert.IpRefIdeal.nD,
          r.2.mem ((c.tc : Thread Cert.IpRefIdeal.nD Cert.IpRefIdeal.τ).loc Cert.IpRefIdeal.main_v66) = v0 c
          ∧ r.2.mem ((c.tc : Thread Cert.IpRefIdeal.nD Cert.IpRefIdeal.τ).loc Cert.IpRefIdeal.main_v67) = v1 c
          ∧ r.2.mem ((c.tc : Thread Cert.IpRefIdeal.nD Cert.IpRefIdeal.τ).loc Cert.IpRefIdeal.main_arg0) = m' ((c.tc : Thread Cert.IpRefIdeal.nD Cert.IpRefIdeal.τ).loc Cert.IpRefIdeal.main_arg0)
          ∧ r.2.mem ((c.tc : Thread Cert.IpRefIdeal.nD Cert.IpRefIdeal.τ).loc Cert.IpRefIdeal.main_arg1) = m' ((c.tc : Thread Cert.IpRefIdeal.nD Cert.IpRefIdeal.τ).loc Cert.IpRefIdeal.main_arg1)
          ∧ r.2.mem ((c.tc : Thread Cert.IpRefIdeal.nD Cert.IpRefIdeal.τ).loc Cert.IpRefIdeal.main_arg2) = m' ((c.tc : Thread Cert.IpRefIdeal.nD Cert.IpRefIdeal.τ).loc Cert.IpRefIdeal.main_arg2))

def preserves_Op_OpIdeal : Prop :=
  True

def algebraic_OpIdeal_OpRefIdeal [hOpIdeal : Cert.OpIdeal.Facts] [hOpRefIdeal : Cert.OpRefIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.OpRefIdeal.nD Cert.OpRefIdeal.τ Cert.OpRefIdeal.sig) → Buf (Elt Ideal) ℓ) (g' : Dev Cert.OpRefIdeal.nD → PrngReg), Pre_OpIdeal m →
    (∀ c : Dev Cert.OpIdeal.nD,
      m' ((c.tc : Thread Cert.OpRefIdeal.nD Cert.OpRefIdeal.τ).loc Cert.OpRefIdeal.main_arg0) = m ((c.tc : Thread Cert.OpIdeal.nD Cert.OpIdeal.τ).loc Cert.OpIdeal.main_arg0)
      ∧ m' ((c.tc : Thread Cert.OpRefIdeal.nD Cert.OpRefIdeal.τ).loc Cert.OpRefIdeal.main_arg1) = m ((c.tc : Thread Cert.OpIdeal.nD Cert.OpIdeal.τ).loc Cert.OpIdeal.main_arg1)
      ∧ m' ((c.tc : Thread Cert.OpRefIdeal.nD Cert.OpRefIdeal.τ).loc Cert.OpRefIdeal.main_arg2) = m ((c.tc : Thread Cert.OpIdeal.nD Cert.OpIdeal.τ).loc Cert.OpIdeal.main_arg2)
      ∧ m' ((c.tc : Thread Cert.OpRefIdeal.nD Cert.OpRefIdeal.τ).loc Cert.OpRefIdeal.main_arg3) = m ((c.tc : Thread Cert.OpIdeal.nD Cert.OpIdeal.τ).loc Cert.OpIdeal.main_arg3)
      ∧ m' ((c.tc : Thread Cert.OpRefIdeal.nD Cert.OpRefIdeal.τ).loc Cert.OpRefIdeal.main_arg4) = m ((c.tc : Thread Cert.OpIdeal.nD Cert.OpIdeal.τ).loc Cert.OpIdeal.main_arg4)
      ∧ m' ((c.tc : Thread Cert.OpRefIdeal.nD Cert.OpRefIdeal.τ).loc Cert.OpRefIdeal.main_arg5) = m ((c.tc : Thread Cert.OpIdeal.nD Cert.OpIdeal.τ).loc Cert.OpIdeal.main_arg5)
      ∧ m' ((c.tc : Thread Cert.OpRefIdeal.nD Cert.OpRefIdeal.τ).loc Cert.OpRefIdeal.main_arg6) = m ((c.tc : Thread Cert.OpIdeal.nD Cert.OpIdeal.τ).loc Cert.OpIdeal.main_arg6)
      ∧ m' ((c.tc : Thread Cert.OpRefIdeal.nD Cert.OpRefIdeal.τ).loc Cert.OpRefIdeal.main_arg7) = m ((c.tc : Thread Cert.OpIdeal.nD Cert.OpIdeal.τ).loc Cert.OpIdeal.main_arg7)
      ∧ m' ((c.tc : Thread Cert.OpRefIdeal.nD Cert.OpRefIdeal.τ).loc Cert.OpRefIdeal.main_arg8) = m ((c.tc : Thread Cert.OpIdeal.nD Cert.OpIdeal.τ).loc Cert.OpIdeal.main_arg8)
      ∧ m' ((c.tc : Thread Cert.OpRefIdeal.nD Cert.OpRefIdeal.τ).loc Cert.OpRefIdeal.main_arg9) = m ((c.tc : Thread Cert.OpIdeal.nD Cert.OpIdeal.τ).loc Cert.OpIdeal.main_arg9)
      ∧ m' ((c.tc : Thread Cert.OpRefIdeal.nD Cert.OpRefIdeal.τ).loc Cert.OpRefIdeal.main_arg10) = m ((c.tc : Thread Cert.OpIdeal.nD Cert.OpIdeal.τ).loc Cert.OpIdeal.main_arg10)
      ∧ m' ((c.tc : Thread Cert.OpRefIdeal.nD Cert.OpRefIdeal.τ).loc Cert.OpRefIdeal.main_arg11) = m ((c.tc : Thread Cert.OpIdeal.nD Cert.OpIdeal.τ).loc Cert.OpIdeal.main_arg11)
      ∧ m' ((c.tc : Thread Cert.OpRefIdeal.nD Cert.OpRefIdeal.τ).loc Cert.OpRefIdeal.main_arg12) = m ((c.tc : Thread Cert.OpIdeal.nD Cert.OpIdeal.τ).loc Cert.OpIdeal.main_arg12)) →
    ∃ (v0 : (c : Dev Cert.OpIdeal.nD) → Buf (Elt Ideal) ((c.tc : Thread Cert.OpIdeal.nD Cert.OpIdeal.τ).loc Cert.OpIdeal.main_v5)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v5) = v0 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
          ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
          ∧ r.2.mem ((c.tc : Thread Cert.OpIdeal.nD Cert.OpIdeal.τ).loc Cert.OpIdeal.main_arg3) = m ((c.tc : Thread Cert.OpIdeal.nD Cert.OpIdeal.τ).loc Cert.OpIdeal.main_arg3)
          ∧ r.2.mem ((c.tc : Thread Cert.OpIdeal.nD Cert.OpIdeal.τ).loc Cert.OpIdeal.main_arg4) = m ((c.tc : Thread Cert.OpIdeal.nD Cert.OpIdeal.τ).loc Cert.OpIdeal.main_arg4)
          ∧ r.2.mem ((c.tc : Thread Cert.OpIdeal.nD Cert.OpIdeal.τ).loc Cert.OpIdeal.main_arg5) = m ((c.tc : Thread Cert.OpIdeal.nD Cert.OpIdeal.τ).loc Cert.OpIdeal.main_arg5)
          ∧ r.2.mem ((c.tc : Thread Cert.OpIdeal.nD Cert.OpIdeal.τ).loc Cert.OpIdeal.main_arg6) = m ((c.tc : Thread Cert.OpIdeal.nD Cert.OpIdeal.τ).loc Cert.OpIdeal.main_arg6)
          ∧ r.2.mem ((c.tc : Thread Cert.OpIdeal.nD Cert.OpIdeal.τ).loc Cert.OpIdeal.main_arg7) = m ((c.tc : Thread Cert.OpIdeal.nD Cert.OpIdeal.τ).loc Cert.OpIdeal.main_arg7)
          ∧ r.2.mem ((c.tc : Thread Cert.OpIdeal.nD Cert.OpIdeal.τ).loc Cert.OpIdeal.main_arg8) = m ((c.tc : Thread Cert.OpIdeal.nD Cert.OpIdeal.τ).loc Cert.OpIdeal.main_arg8)
          ∧ r.2.mem ((c.tc : Thread Cert.OpIdeal.nD Cert.OpIdeal.τ).loc Cert.OpIdeal.main_arg9) = m ((c.tc : Thread Cert.OpIdeal.nD Cert.OpIdeal.τ).loc Cert.OpIdeal.main_arg9)
          ∧ r.2.mem ((c.tc : Thread Cert.OpIdeal.nD Cert.OpIdeal.τ).loc Cert.OpIdeal.main_arg10) = m ((c.tc : Thread Cert.OpIdeal.nD Cert.OpIdeal.τ).loc Cert.OpIdeal.main_arg10)
          ∧ r.2.mem ((c.tc : Thread Cert.OpIdeal.nD Cert.OpIdeal.τ).loc Cert.OpIdeal.main_arg11) = m ((c.tc : Thread Cert.OpIdeal.nD Cert.OpIdeal.τ).loc Cert.OpIdeal.main_arg11)
          ∧ r.2.mem ((c.tc : Thread Cert.OpIdeal.nD Cert.OpIdeal.τ).loc Cert.OpIdeal.main_arg12) = m ((c.tc : Thread Cert.OpIdeal.nD Cert.OpIdeal.τ).loc Cert.OpIdeal.main_arg12))
      ∧ θ_run (Cert.OpRefIdeal.defs (F := Ideal)) (onTc (τ := Cert.OpRefIdeal.τ) (Cert.OpRefIdeal.main (F := Ideal))) ⟨m', fun _ => 0, g'⟩ (fun r => ∀ c : Dev Cert.OpRefIdeal.nD,
          r.2.mem ((c.tc : Thread Cert.OpRefIdeal.nD Cert.OpRefIdeal.τ).loc Cert.OpRefIdeal.main_v128) = v0 c
          ∧ r.2.mem ((c.tc : Thread Cert.OpRefIdeal.nD Cert.OpRefIdeal.τ).loc Cert.OpRefIdeal.main_arg0) = m' ((c.tc : Thread Cert.OpRefIdeal.nD Cert.OpRefIdeal.τ).loc Cert.OpRefIdeal.main_arg0)
          ∧ r.2.mem ((c.tc : Thread Cert.OpRefIdeal.nD Cert.OpRefIdeal.τ).loc Cert.OpRefIdeal.main_arg1) = m' ((c.tc : Thread Cert.OpRefIdeal.nD Cert.OpRefIdeal.τ).loc Cert.OpRefIdeal.main_arg1)
          ∧ r.2.mem ((c.tc : Thread Cert.OpRefIdeal.nD Cert.OpRefIdeal.τ).loc Cert.OpRefIdeal.main_arg2) = m' ((c.tc : Thread Cert.OpRefIdeal.nD Cert.OpRefIdeal.τ).loc Cert.OpRefIdeal.main_arg2)
          ∧ r.2.mem ((c.tc : Thread Cert.OpRefIdeal.nD Cert.OpRefIdeal.τ).loc Cert.OpRefIdeal.main_arg3) = m' ((c.tc : Thread Cert.OpRefIdeal.nD Cert.OpRefIdeal.τ).loc Cert.OpRefIdeal.main_arg3)
          ∧ r.2.mem ((c.tc : Thread Cert.OpRefIdeal.nD Cert.OpRefIdeal.τ).loc Cert.OpRefIdeal.main_arg4) = m' ((c.tc : Thread Cert.OpRefIdeal.nD Cert.OpRefIdeal.τ).loc Cert.OpRefIdeal.main_arg4)
          ∧ r.2.mem ((c.tc : Thread Cert.OpRefIdeal.nD Cert.OpRefIdeal.τ).loc Cert.OpRefIdeal.main_arg5) = m' ((c.tc : Thread Cert.OpRefIdeal.nD Cert.OpRefIdeal.τ).loc Cert.OpRefIdeal.main_arg5)
          ∧ r.2.mem ((c.tc : Thread Cert.OpRefIdeal.nD Cert.OpRefIdeal.τ).loc Cert.OpRefIdeal.main_arg6) = m' ((c.tc : Thread Cert.OpRefIdeal.nD Cert.OpRefIdeal.τ).loc Cert.OpRefIdeal.main_arg6)
          ∧ r.2.mem ((c.tc : Thread Cert.OpRefIdeal.nD Cert.OpRefIdeal.τ).loc Cert.OpRefIdeal.main_arg7) = m' ((c.tc : Thread Cert.OpRefIdeal.nD Cert.OpRefIdeal.τ).loc Cert.OpRefIdeal.main_arg7)
          ∧ r.2.mem ((c.tc : Thread Cert.OpRefIdeal.nD Cert.OpRefIdeal.τ).loc Cert.OpRefIdeal.main_arg8) = m' ((c.tc : Thread Cert.OpRefIdeal.nD Cert.OpRefIdeal.τ).loc Cert.OpRefIdeal.main_arg8)
          ∧ r.2.mem ((c.tc : Thread Cert.OpRefIdeal.nD Cert.OpRefIdeal.τ).loc Cert.OpRefIdeal.main_arg9) = m' ((c.tc : Thread Cert.OpRefIdeal.nD Cert.OpRefIdeal.τ).loc Cert.OpRefIdeal.main_arg9)
          ∧ r.2.mem ((c.tc : Thread Cert.OpRefIdeal.nD Cert.OpRefIdeal.τ).loc Cert.OpRefIdeal.main_arg10) = m' ((c.tc : Thread Cert.OpRefIdeal.nD Cert.OpRefIdeal.τ).loc Cert.OpRefIdeal.main_arg10)
          ∧ r.2.mem ((c.tc : Thread Cert.OpRefIdeal.nD Cert.OpRefIdeal.τ).loc Cert.OpRefIdeal.main_arg11) = m' ((c.tc : Thread Cert.OpRefIdeal.nD Cert.OpRefIdeal.τ).loc Cert.OpRefIdeal.main_arg11)
          ∧ r.2.mem ((c.tc : Thread Cert.OpRefIdeal.nD Cert.OpRefIdeal.τ).loc Cert.OpRefIdeal.main_arg12) = m' ((c.tc : Thread Cert.OpRefIdeal.nD Cert.OpRefIdeal.τ).loc Cert.OpRefIdeal.main_arg12))

def Claim : Prop :=
  ∃ (hNa : Cert.Na.Facts) (hNaIdeal : Cert.NaIdeal.Facts) (hNaRefIdeal : Cert.NaRefIdeal.Facts) (hMoe : Cert.Moe.Facts) (hMoeIdeal : Cert.MoeIdeal.Facts) (hMoeRefIdeal : Cert.MoeRefIdeal.Facts) (hIp : Cert.Ip.Facts) (hIpIdeal : Cert.IpIdeal.Facts) (hIpRefIdeal : Cert.IpRefIdeal.Facts) (hOp : Cert.Op.Facts) (hOpIdeal : Cert.OpIdeal.Facts) (hOpRefIdeal : Cert.OpRefIdeal.Facts) (hPre_finite : Cert.Pre_finite.Facts) (hPre_experts : Cert.Pre_experts.Facts),
    quiescent_Na (hNa := hNa)
    ∧ quiescent_NaIdeal (hNaIdeal := hNaIdeal)
    ∧ quiescent_NaIdeal_pre_finite (hNaIdeal := hNaIdeal) (hPre_finite := hPre_finite)
    ∧ quiescent_NaRefIdeal (hNaRefIdeal := hNaRefIdeal)
    ∧ quiescent_NaRefIdeal_pre_finite (hNaRefIdeal := hNaRefIdeal) (hPre_finite := hPre_finite)
    ∧ quiescent_Moe (hMoe := hMoe) (hPre_experts := hPre_experts)
    ∧ quiescent_MoeIdeal (hMoeIdeal := hMoeIdeal) (hPre_experts := hPre_experts)
    ∧ quiescent_MoeRefIdeal (hMoeRefIdeal := hMoeRefIdeal)
    ∧ quiescent_MoeRefIdeal_pre_experts (hMoeRefIdeal := hMoeRefIdeal) (hPre_experts := hPre_experts)
    ∧ quiescent_Ip (hIp := hIp)
    ∧ quiescent_IpIdeal (hIpIdeal := hIpIdeal)
    ∧ quiescent_IpRefIdeal (hIpRefIdeal := hIpRefIdeal)
    ∧ quiescent_Op (hOp := hOp)
    ∧ quiescent_OpIdeal (hOpIdeal := hOpIdeal)
    ∧ quiescent_OpRefIdeal (hOpRefIdeal := hOpRefIdeal)
    ∧ preserves_Na_NaIdeal
    ∧ algebraic_NaIdeal_NaRefIdeal_pre_finite (hNaIdeal := hNaIdeal) (hNaRefIdeal := hNaRefIdeal) (hPre_finite := hPre_finite)
    ∧ preserves_Moe_MoeIdeal
    ∧ algebraic_MoeIdeal_MoeRefIdeal (hMoeIdeal := hMoeIdeal) (hMoeRefIdeal := hMoeRefIdeal) (hPre_experts := hPre_experts)
    ∧ preserves_Ip_IpIdeal
    ∧ algebraic_IpIdeal_IpRefIdeal (hIpIdeal := hIpIdeal) (hIpRefIdeal := hIpRefIdeal)
    ∧ preserves_Op_OpIdeal
    ∧ algebraic_OpIdeal_OpRefIdeal (hOpIdeal := hOpIdeal) (hOpRefIdeal := hOpRefIdeal)
-- ==== Pre_experts.lean ====
abbrev S2x9216 : Shape := ⟨2, ![2, 9216]⟩
abbrev S425984x128 : Shape := ⟨2, ![425984, 128]⟩
abbrev S2x4x8x2048x1024 : Shape := ⟨5, ![2, 4, 8, 2048, 1024]⟩
abbrev S2x4x8x512x2048 : Shape := ⟨5, ![2, 4, 8, 512, 2048]⟩
abbrev S_ : Shape := ⟨0, ![]⟩

class Facts : Prop where
  bcast_S_S2x9216 : S_.BroadcastsInDim S2x9216 (![] : Fin 0 → Fin S2x9216.rank)
  reducesTo_S2x9216_S_d0_1 : S2x9216.ReducesTo [0, 1] S_
  h_S_ : 0 < S_.numel

variable [Facts]

def fn {F : FTy → Type} [FloatOps F] (main_arg0 : IVec S2x9216 32) (main_arg1 : FVec F S425984x128 .f32) (main_arg2 : FVec F S2x4x8x2048x1024 .f32) (main_arg3 : FVec F S2x4x8x512x2048 .f32) : IVec S_ 1 :=
  let main_c : IVec S_ 32 := constantI S_ 32 0#32
  let main_v0 : IVec S2x9216 32 := broadcastInDim S2x9216 ![] bcast_S_S2x9216 main_c
  let main_v1 : IVec S2x9216 1 := cmpi .sge main_arg0 main_v0
  let main_c_0 : IVec S_ 32 := constantI S_ 32 32#32
  let main_v2 : IVec S2x9216 32 := broadcastInDim S2x9216 ![] bcast_S_S2x9216 main_c_0
  let main_v3 : IVec S2x9216 1 := cmpi .slt main_arg0 main_v2
  let main_v4 : IVec S2x9216 1 := andi main_v1 main_v3
  let main_c_1 : IVec S_ 1 := constantI S_ 1 1#1
  let main_v5 : IVec S_ 1 := (fun x v => Host.reduce IntOp.andi x v reducesTo_S2x9216_S_d0_1 h_S_) main_v4 main_c_1
  main_v5
-- ==== Pre_finite.lean ====
abbrev S9216x6144 : Shape := ⟨2, ![9216, 6144]⟩
abbrev S6x15x31 : Shape := ⟨3, ![6, 15, 31]⟩
abbrev S_ : Shape := ⟨0, ![]⟩

class Facts : Prop where
  bitsLt_bf16_f32 : FTy.bits .bf16 < FTy.bits .f32
  bcast_S_S9216x6144 : S_.BroadcastsInDim S9216x6144 (![] : Fin 0 → Fin S9216x6144.rank)
  reducesTo_S9216x6144_S_d0_1 : S9216x6144.ReducesTo [0, 1] S_
  h_S_ : 0 < S_.numel
  bcast_S_S6x15x31 : S_.BroadcastsInDim S6x15x31 (![] : Fin 0 → Fin S6x15x31.rank)
  reducesTo_S6x15x31_S_d0_1_2 : S6x15x31.ReducesTo [0, 1, 2] S_

variable [Facts]

def fn {F : FTy → Type} [FloatOps F] (main_arg0 : FVec F S9216x6144 .bf16) (main_arg1 : FVec F S6x15x31 .f32) : IVec S_ 1 :=
  let main_v0 : FVec F S9216x6144 .f32 := (extf .f32 · bitsLt_bf16_f32) main_arg0
  let main_v1 : FVec F S9216x6144 .f32 := Host.absf main_v0
  let main_cst : FVec F S_ .f32 := constant S_ .f32 0x7F800000#32
  let main_v2 : FVec F S9216x6144 .f32 := broadcastInDim S9216x6144 ![] bcast_S_S9216x6144 main_cst
  let main_v3 : IVec S9216x6144 1 := cmpf .olt main_v1 main_v2
  let main_c : IVec S_ 1 := constantI S_ 1 1#1
  let main_v4 : IVec S_ 1 := (fun x v => Host.reduce IntOp.andi x v reducesTo_S9216x6144_S_d0_1 h_S_) main_v3 main_c
  let main_v5 : FVec F S6x15x31 .f32 := Host.absf main_arg1
  let main_cst_0 : FVec F S_ .f32 := constant S_ .f32 0x7F800000#32
  let main_v6 : FVec F S6x15x31 .f32 := broadcastInDim S6x15x31 ![] bcast_S_S6x15x31 main_cst_0
  let main_v7 : IVec S6x15x31 1 := cmpf .olt main_v5 main_v6
  let main_c_1 : IVec S_ 1 := constantI S_ 1 1#1
  let main_v8 : IVec S_ 1 := (fun x v => Host.reduce IntOp.andi x v reducesTo_S6x15x31_S_d0_1_2 h_S_) main_v7 main_c_1
  let main_v9 : IVec S_ 1 := andi main_v4 main_v8
  main_v9
-- ==== Na.lean ====
abbrev S9216x6144 : Shape := ⟨2, ![9216, 6144]⟩
abbrev S6x15x31 : Shape := ⟨3, ![6, 15, 31]⟩
abbrev S8 : Shape := ⟨1, ![8]⟩
abbrev S_ : Shape := ⟨0, ![]⟩
abbrev S8x1 : Shape := ⟨2, ![8, 1]⟩
abbrev S4 : Shape := ⟨1, ![4]⟩
abbrev S1x4 : Shape := ⟨2, ![1, 4]⟩
abbrev S8x4 : Shape := ⟨2, ![8, 4]⟩
abbrev S8x4x1 : Shape := ⟨3, ![8, 4, 1]⟩
abbrev S11 : Shape := ⟨1, ![11]⟩
abbrev S1x11 : Shape := ⟨2, ![1, 11]⟩
abbrev S8x11 : Shape := ⟨2, ![8, 11]⟩
abbrev S8x1x11 : Shape := ⟨3, ![8, 1, 11]⟩
abbrev S8x4x11 : Shape := ⟨3, ![8, 4, 11]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x4x1x11x1 : Shape := ⟨5, ![8, 4, 1, 11, 1]⟩
abbrev S1x1x64x1x64 : Shape := ⟨5, ![1, 1, 64, 1, 64]⟩
abbrev S8x4x64x11x64 : Shape := ⟨5, ![8, 4, 64, 11, 64]⟩
abbrev S8x4x64x11x64x1 : Shape := ⟨6, ![8, 4, 64, 11, 64, 1]⟩
abbrev S8x4x64x11x64x2 : Shape := ⟨6, ![8, 4, 64, 11, 64, 2]⟩
abbrev S6x8x4x64x11x64 : Shape := ⟨6, ![6, 8, 4, 64, 11, 64]⟩
abbrev S1x8x4x64x11x64 : Shape := ⟨6, ![1, 8, 4, 64, 11, 64]⟩
abbrev S8x6x4x64x11x64 : Shape := ⟨6, ![8, 6, 4, 64, 11, 64]⟩
abbrev S8x6x256x704 : Shape := ⟨4, ![8, 6, 256, 704]⟩
abbrev S8192x768 : Shape := ⟨2, ![8192, 768]⟩
abbrev S256x768 : Shape := ⟨2, ![256, 768]⟩
abbrev S2048x768 : Shape := ⟨2, ![2048, 768]⟩
abbrev S1x6x256x704 : Shape := ⟨4, ![1, 6, 256, 704]⟩
abbrev S256x128 : Shape := ⟨2, ![256, 128]⟩
abbrev S704x128 : Shape := ⟨2, ![704, 128]⟩
abbrev S256x704 : Shape := ⟨2, ![256, 704]⟩
abbrev S1x1x256x704 : Shape := ⟨4, ![1, 1, 256, 704]⟩
abbrev S256x256 : Shape := ⟨2, ![256, 256]⟩
abbrev S256 : Shape := ⟨1, ![256]⟩
abbrev S256x1 : Shape := ⟨2, ![256, 1]⟩

abbrev nBuf : Space → Nat
  | .hbm => 147
  | .vmem => 14
  | .smem => 0
  | _ => 0

abbrev hbmTy0_0 (i : Nat) : BufTy := match i % 128 with
  | 0 => ⟨S9216x6144, .bf16⟩
  | 1 => ⟨S6x15x31, .f32⟩
  | 2 => ⟨S8, .i32⟩
  | 3 => ⟨S_, .i32⟩
  | 4 => ⟨S8, .i32⟩
  | 5 => ⟨S8, .i32⟩
  | 6 => ⟨S_, .i32⟩
  | 7 => ⟨S8, .i32⟩
  | 8 => ⟨S8, .i32⟩
  | 9 => ⟨S_, .i32⟩
  | 10 => ⟨S_, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S8x1, .i32⟩
  | 18 => ⟨S_, .i32⟩
  | 19 => ⟨S8x1, .i32⟩
  | 20 => ⟨S8x1, .i32⟩
  | 21 => ⟨S4, .i32⟩
  | 22 => ⟨S1x4, .i32⟩
  | 23 => ⟨S8x4, .i32⟩
  | 24 => ⟨S8x4, .i32⟩
  | 25 => ⟨S8x4, .i32⟩
  | 26 => ⟨S_, .i32⟩
  | 27 => ⟨S8x4, .i32⟩
  | 28 => ⟨S8x4, .i32⟩
  | 29 => ⟨S_, .i32⟩
  | 30 => ⟨S_, .i32⟩
  | 31 => ⟨S_, .i32⟩
  | 32 => ⟨S8x4, .i32⟩
  | 33 => ⟨S8x4, .i32⟩
  | 34 => ⟨S_, .i32⟩
  | 35 => ⟨S8x4, .i32⟩
  | 36 => ⟨S8x4, .i32⟩
  | 37 => ⟨S8x4x1, .i32⟩
  | 38 => ⟨S8x1, .i32⟩
  | 39 => ⟨S11, .i32⟩
  | 40 => ⟨S1x11, .i32⟩
  | 41 => ⟨S8x11, .i32⟩
  | 42 => ⟨S8x11, .i32⟩
  | 43 => ⟨S8x11, .i32⟩
  | 44 => ⟨S8x1x11, .i32⟩
  | 45 => ⟨S8x4x11, .i32⟩
  | 46 => ⟨S8x4x11, .i32⟩
  | 47 => ⟨S8x4x11, .i1⟩
  | 48 => ⟨S_, .i32⟩
  | 49 => ⟨S8x4x1, .i32⟩
  | 50 => ⟨S8x4x1, .i32⟩
  | 51 => ⟨S8x4x11, .i32⟩
  | 52 => ⟨S8x4x11, .i32⟩
  | 53 => ⟨S8x4x11, .i1⟩
  | 54 => ⟨S8x4x11, .i1⟩
  | 55 => ⟨S8x4x1, .i32⟩
  | 56 => ⟨S8x4x11, .i32⟩
  | 57 => ⟨S8x4x11, .i32⟩
  | 58 => ⟨S8x4x11, .i32⟩
  | 59 => ⟨S_, .i32⟩
  | 60 => ⟨S8x4x11, .i32⟩
  | 61 => ⟨S8x4x11, .i32⟩
  | 62 => ⟨S_, .i32⟩
  | 63 => ⟨S_, .i32⟩
  | 64 => ⟨S_, .i32⟩
  | 65 => ⟨S8x4x11, .i32⟩
  | 66 => ⟨S8x4x11, .i32⟩
  | 67 => ⟨S_, .i32⟩
  | 68 => ⟨S8x4x11, .i32⟩
  | 69 => ⟨S8x4x11, .i32⟩
  | 70 => ⟨S64, .i32⟩
  | 71 => ⟨S_, .i32⟩
  | 72 => ⟨S64, .i32⟩
  | 73 => ⟨S64, .i32⟩
  | 74 => ⟨S_, .i32⟩
  | 75 => ⟨S_, .i32⟩
  | 76 => ⟨S_, .i32⟩
  | 77 => ⟨S64, .i32⟩
  | 78 => ⟨S64, .i32⟩
  | 79 => ⟨S_, .i32⟩
  | 80 => ⟨S64, .i32⟩
  | 81 => ⟨S64, .i32⟩
  | 82 => ⟨S64x1, .i32⟩
  | 83 => ⟨S1x64, .i32⟩
  | 84 => ⟨S64x64, .i32⟩
  | 85 => ⟨S64x64, .i32⟩
  | 86 => ⟨S64x64, .i1⟩
  | 87 => ⟨S1x64, .i32⟩
  | 88 => ⟨S_, .i32⟩
  | 89 => ⟨S64x1, .i32⟩
  | 90 => ⟨S64x1, .i32⟩
  | 91 => ⟨S64x64, .i32⟩
  | 92 => ⟨S64x64, .i32⟩
  | 93 => ⟨S64x64, .i1⟩
  | 94 => ⟨S64x64, .i1⟩
  | 95 => ⟨S1x64, .i32⟩
  | 96 => ⟨S64x1, .i32⟩
  | 97 => ⟨S64x64, .i32⟩
  | 98 => ⟨S64x64, .i32⟩
  | 99 => ⟨S64x64, .i32⟩
  | 100 => ⟨S_, .i32⟩
  | 101 => ⟨S64x64, .i32⟩
  | 102 => ⟨S64x64, .i32⟩
  | 103 => ⟨S_, .i32⟩
  | 104 => ⟨S_, .i32⟩
  | 105 => ⟨S_, .i32⟩
  | 106 => ⟨S64x64, .i32⟩
  | 107 => ⟨S64x64, .i32⟩
  | 108 => ⟨S_, .i32⟩
  | 109 => ⟨S64x64, .i32⟩
  | 110 => ⟨S64x64, .i32⟩
  | 111 => ⟨S8x4x1x11x1, .i32⟩
  | 112 => ⟨S1x1x64x1x64, .i32⟩
  | 113 => ⟨S_, .i32⟩
  | 114 => ⟨S8x4x1x11x1, .i32⟩
  | 115 => ⟨S8x4x1x11x1, .i1⟩
  | 116 => ⟨S_, .i32⟩
  | 117 => ⟨S8x4x1x11x1, .i32⟩
  | 118 => ⟨S8x4x1x11x1, .i32⟩
  | 119 => ⟨S8x4x1x11x1, .i32⟩
  | 120 => ⟨S_, .i32⟩
  | 121 => ⟨S1x1x64x1x64, .i32⟩
  | 122 => ⟨S1x1x64x1x64, .i1⟩
  | 123 => ⟨S_, .i32⟩
  | 124 => ⟨S1x1x64x1x64, .i32⟩
  | 125 => ⟨S1x1x64x1x64, .i32⟩
  | 126 => ⟨S1x1x64x1x64, .i32⟩
  | 127 => ⟨S8x4x64x11x64, .i32⟩
  | _ => ⟨S9216x6144, .bf16⟩

abbrev hbmTy0_1 (i : Nat) : BufTy := match i % 128 with
  | 0 => ⟨S8x4x64x11x64, .i32⟩
  | 1 => ⟨S8x4x64x11x64x1, .i32⟩
  | 2 => ⟨S8x4x64x11x64x1, .i32⟩
  | 3 => ⟨S8x4x64x11x64x2, .i32⟩
  | 4 => ⟨S6x8x4x64x11x64, .f32⟩
  | 5 => ⟨S8x4x1x11x1, .i1⟩
  | 6 => ⟨S1x1x64x1x64, .i1⟩
  | 7 => ⟨S8x4x64x11x64, .i1⟩
  | 8 => ⟨S8x4x64x11x64, .i1⟩
  | 9 => ⟨S8x4x64x11x64, .i1⟩
  | 10 => ⟨S1x8x4x64x11x64, .i1⟩
  | 11 => ⟨S_, .f32⟩
  | 12 => ⟨S_, .f32⟩
  | 13 => ⟨S6x8x4x64x11x64, .i1⟩
  | 14 => ⟨S6x8x4x64x11x64, .f32⟩
  | 15 => ⟨S6x8x4x64x11x64, .f32⟩
  | 16 => ⟨S8x6x4x64x11x64, .f32⟩
  | 17 => ⟨S8x6x256x704, .f32⟩
  | 18 => ⟨S8192x768, .f32⟩
  | _ => ⟨S9216x6144, .bf16⟩

abbrev hbmTy (i : Nat) : BufTy := match i / 128 with
  | 0 => hbmTy0_0 i
  | 1 => hbmTy0_1 i
  | _ => ⟨S9216x6144, .bf16⟩

abbrev bufTy : (tb : Table) → Fin (tcTables nBuf tb) → BufTy
  | .hbm, ⟨i, _⟩ => hbmTy i
  | .local _ .vmem, ⟨0, _⟩ => ⟨S256x768, .bf16⟩
  | .local _ .vmem, ⟨1, _⟩ => ⟨S256x768, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S256x768, .bf16⟩
  | .local _ .vmem, ⟨7, _⟩ => ⟨S256x768, .bf16⟩
  | .local _ .vmem, ⟨8, _⟩ => ⟨S256x768, .bf16⟩
  | .local _ .vmem, ⟨9, _⟩ => ⟨S256x768, .bf16⟩
  | .local _ .vmem, ⟨10, _⟩ => ⟨S1x6x256x704, .f32⟩
  | .local _ .vmem, ⟨11, _⟩ => ⟨S1x6x256x704, .f32⟩
  | .local _ .vmem, ⟨12, _⟩ => ⟨S256x768, .f32⟩
  | .local _ .vmem, ⟨13, _⟩ => ⟨S256x768, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_c_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_c_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_c_13 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_14 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_15 : Ref sig .tc := ⟨.hbm, 100, rfl⟩
abbrev main_v62 : Ref sig .tc := ⟨.hbm, 101, rfl⟩
abbrev main_v63 : Ref sig .tc := ⟨.hbm, 102, rfl⟩
abbrev main_c_16 : Ref sig .tc := ⟨.hbm, 103, rfl⟩
abbrev main_c_17 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_18 : Ref sig .tc := ⟨.hbm, 113, rfl⟩
abbrev main_v67 : Ref sig .tc := ⟨.hbm, 114, rfl⟩
abbrev main_v68 : Ref sig .tc := ⟨.hbm, 115, rfl⟩
abbrev main_c_19 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_20 : Ref sig .tc := ⟨.hbm, 120, rfl⟩
abbrev main_v72 : Ref sig .tc := ⟨.hbm, 121, rfl⟩
abbrev main_v73 : Ref sig .tc := ⟨.hbm, 122, rfl⟩
abbrev main_c_21 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  v4
def k0_off1 (i : grid0.Coords) : Fin 2 → Nat :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v11 : Index := Scalar.indexCast v5
  let c0_2 : Index := 0#32
  ![v11.toNat, 0]
def k0_off2 (i : grid0.Coords) : Fin 2 → Nat :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v55 : Index := Scalar.indexCast v5
  let c128_26 : Index := 128#32
  ![v55.toNat, 128]
def k0_off3 (i : grid0.Coords) : Fin 2 → Nat :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v99 : Index := Scalar.indexCast v5
  let c256_49 : Index := 256#32
  ![v99.toNat, 256]
def k0_off4 (i : grid0.Coords) : Fin 2 → Nat :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v143 : Index := Scalar.indexCast v5
  let c384_72 : Index := 384#32
  ![v143.toNat, 384]
def k0_off5 (i : grid0.Coords) : Fin 2 → Nat :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v187 : Index := Scalar.indexCast v5
  let c512_95 : Index := 512#32
  ![v187.toNat, 512]
def k0_off6 (i : grid0.Coords) : Fin 2 → Nat :=
  let c21_i32 : BitVec 32 := 21#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v231 : Index := Scalar.indexCast v5
  let c640_118 : Index := 640#32
  ![v231.toNat, 640]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c4_i32 : BitVec 32 := 4#32
  let c0_i32 : BitVec 32 := 0#32
  ![v0.toNat, c4_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NaIdeal.lean ====
variable {F : FTy → Type} [FloatOps F] [Named F]
def κ : String → Option EReal := fun
  | "below" => some ⊥
  | "mask" => some ⊥
  | _ => none
-- ==== NaRefIdeal.lean ====
abbrev S9216x6144 : Shape := ⟨2, ![9216, 6144]⟩
abbrev S6x15x31 : Shape := ⟨3, ![6, 15, 31]⟩
abbrev S8192x6144 : Shape := ⟨2, ![8192, 6144]⟩
abbrev S4x2048x6144 : Shape := ⟨3, ![4, 2048, 6144]⟩
abbrev S1024x6144 : Shape := ⟨2, ![1024, 6144]⟩
abbrev S4x256x6144 : Shape := ⟨3, ![4, 256, 6144]⟩
abbrev S4x2048x768 : Shape := ⟨3, ![4, 2048, 768]⟩
abbrev S4x256x768 : Shape := ⟨3, ![4, 256, 768]⟩
abbrev S4x32x64x6x128 : Shape := ⟨5, ![4, 32, 64, 6, 128]⟩
abbrev S_ : Shape := ⟨0, ![]⟩
abbrev S4x256x6x128 : Shape := ⟨4, ![4, 256, 6, 128]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x8x1 : Shape := ⟨3, ![32, 8, 1]⟩
abbrev S4x32x8x64x6x128 : Shape := ⟨6, ![4, 32, 8, 64, 6, 128]⟩
abbrev S4x6x32x64x8x64 : Shape := ⟨6, ![4, 6, 32, 64, 8, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S6x32x64x8x64 : Shape := ⟨5, ![6, 32, 64, 8, 64]⟩
abbrev S1x1x1x64x1x64 : Shape := ⟨6, ![1, 1, 1, 64, 1, 64]⟩
abbrev S1x6x32x64x8x64 : Shape := ⟨6, ![1, 6, 32, 64, 8, 64]⟩
abbrev S4x6x32x64x512 : Shape := ⟨5, ![4, 6, 32, 64, 512]⟩
abbrev S4x6x32x64x256 : Shape := ⟨5, ![4, 6, 32, 64, 256]⟩
abbrev S4x6x32x64x768 : Shape := ⟨5, ![4, 6, 32, 64, 768]⟩
abbrev S4x6x32x64 : Shape := ⟨4, ![4, 6, 32, 64]⟩
abbrev S4x6x32x64x1 : Shape := ⟨5, ![4, 6, 32, 64, 1]⟩
abbrev S4x32x6x128x64 : Shape := ⟨5, ![4, 32, 6, 128, 64]⟩
abbrev S4x6x128x32x64 : Shape := ⟨5, ![4, 6, 128, 32, 64]⟩
abbrev S8192x768 : Shape := ⟨2, ![8192, 768]⟩

abbrev nBuf : Space → Nat
  | .hbm => 162
  | .vmem => 0
  | .smem => 0
  | _ => 0

abbrev hbmTy0_0 (i : Nat) : BufTy := match i % 128 with
  | 0 => ⟨S9216x6144, .bf16⟩
  | 1 => ⟨S6x15x31, .f32⟩
  | 2 => ⟨S9216x6144, .f32⟩
  | 3 => ⟨S8192x6144, .f32⟩
  | 4 => ⟨S4x2048x6144, .f32⟩
  | 5 => ⟨S1024x6144, .f32⟩
  | 6 => ⟨S4x256x6144, .f32⟩
  | 7 => ⟨S4x2048x768, .f32⟩
  | 8 => ⟨S4x2048x768, .f32⟩
  | 9 => ⟨S4x2048x768, .f32⟩
  | 10 => ⟨S4x256x768, .f32⟩
  | 11 => ⟨S4x256x768, .f32⟩
  | 12 => ⟨S4x32x64x6x128, .f32⟩
  | 13 => ⟨S_, .f32⟩
  | 14 => ⟨S4x32x64x6x128, .f32⟩
  | 15 => ⟨S4x32x64x6x128, .f32⟩
  | 16 => ⟨S4x32x64x6x128, .f32⟩
  | 17 => ⟨S4x32x64x6x128, .f32⟩
  | 18 => ⟨S4x256x6x128, .f32⟩
  | 19 => ⟨S4x256x6x128, .f32⟩
  | 20 => ⟨S32, .i32⟩
  | 21 => ⟨S_, .i32⟩
  | 22 => ⟨S32, .i32⟩
  | 23 => ⟨S32, .i32⟩
  | 24 => ⟨S_, .i32⟩
  | 25 => ⟨S_, .i32⟩
  | 26 => ⟨S_, .i32⟩
  | 27 => ⟨S32, .i32⟩
  | 28 => ⟨S32, .i32⟩
  | 29 => ⟨S_, .i32⟩
  | 30 => ⟨S32, .i32⟩
  | 31 => ⟨S32, .i32⟩
  | 32 => ⟨S32x1, .i32⟩
  | 33 => ⟨S8, .i32⟩
  | 34 => ⟨S1x8, .i32⟩
  | 35 => ⟨S32x8, .i32⟩
  | 36 => ⟨S32x8, .i32⟩
  | 37 => ⟨S32x8, .i32⟩
  | 38 => ⟨S64, .i32⟩
  | 39 => ⟨S_, .i32⟩
  | 40 => ⟨S64, .i32⟩
  | 41 => ⟨S64, .i32⟩
  | 42 => ⟨S_, .i32⟩
  | 43 => ⟨S_, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S1x64, .i32⟩
  | 51 => ⟨S64x1, .i32⟩
  | 52 => ⟨S64x64, .i32⟩
  | 53 => ⟨S64x64, .i32⟩
  | 54 => ⟨S64x64, .i1⟩
  | 55 => ⟨S1x64, .i32⟩
  | 56 => ⟨S64x1, .i32⟩
  | 57 => ⟨S_, .i32⟩
  | 58 => ⟨S64x1, .i32⟩
  | 59 => ⟨S64x1, .i32⟩
  | 60 => ⟨S64x64, .i32⟩
  | 61 => ⟨S64x64, .i32⟩
  | 62 => ⟨S64x64, .i1⟩
  | 63 => ⟨S64x64, .i1⟩
  | 64 => ⟨S_, .i32⟩
  | 65 => ⟨S32x8, .i32⟩
  | 66 => ⟨S32x8, .i1⟩
  | 67 => ⟨S_, .i32⟩
  | 68 => ⟨S32x8, .i32⟩
  | 69 => ⟨S32x8, .i32⟩
  | 70 => ⟨S32x8, .i32⟩
  | 71 => ⟨S32x8x1, .i32⟩
  | 72 => ⟨S4x32x8x64x6x128, .f32⟩
  | 73 => ⟨S_, .i32⟩
  | 74 => ⟨S32x8, .i32⟩
  | 75 => ⟨S32x8, .i1⟩
  | 76 => ⟨S_, .i32⟩
  | 77 => ⟨S32x8, .i32⟩
  | 78 => ⟨S32x8, .i32⟩
  | 79 => ⟨S32x8, .i32⟩
  | 80 => ⟨S32x8x1, .i32⟩
  | 81 => ⟨S4x32x8x64x6x128, .f32⟩
  | 82 => ⟨S4x6x32x64x8x64, .f32⟩
  | 83 => ⟨S32x1, .i32⟩
  | 84 => ⟨S32x8, .i32⟩
  | 85 => ⟨S32x8, .i32⟩
  | 86 => ⟨S_, .i32⟩
  | 87 => ⟨S32x8, .i32⟩
  | 88 => ⟨S32x8, .i32⟩
  | 89 => ⟨S1x64, .i32⟩
  | 90 => ⟨S64x1, .i32⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S_, .i32⟩
  | 99 => ⟨S_, .i32⟩
  | 100 => ⟨S64x64, .i32⟩
  | 101 => ⟨S64x64, .i32⟩
  | 102 => ⟨S_, .i32⟩
  | 103 => ⟨S64x64, .i32⟩
  | 104 => ⟨S64x64, .i32⟩
  | 105 => ⟨S32x1x8x1, .i32⟩
  | 106 => ⟨S1x64x1x64, .i32⟩
  | 107 => ⟨S_, .i32⟩
  | 108 => ⟨S32x1x8x1, .i32⟩
  | 109 => ⟨S32x1x8x1, .i1⟩
  | 110 => ⟨S_, .i32⟩
  | 111 => ⟨S32x1x8x1, .i32⟩
  | 112 => ⟨S32x1x8x1, .i32⟩
  | 113 => ⟨S32x1x8x1, .i32⟩
  | 114 => ⟨S_, .i32⟩
  | 115 => ⟨S1x64x1x64, .i32⟩
  | 116 => ⟨S1x64x1x64, .i1⟩
  | 117 => ⟨S_, .i32⟩
  | 118 => ⟨S1x64x1x64, .i32⟩
  | 119 => ⟨S1x64x1x64, .i32⟩
  | 120 => ⟨S1x64x1x64, .i32⟩
  | 121 => ⟨S32x64x8x64, .i32⟩
  | 122 => ⟨S32x64x8x64, .i32⟩
  | 123 => ⟨S32x64x8x64x1, .i32⟩
  | 124 => ⟨S32x64x8x64x1, .i32⟩
  | 125 => ⟨S32x64x8x64x2, .i32⟩
  | 126 => ⟨S6x32x64x8x64, .f32⟩
  | 127 => ⟨S1x1x1x64x1x64, .i1⟩
  | _ => ⟨S9216x6144, .bf16⟩

abbrev hbmTy0_1 (i : Nat) : BufTy := match i % 128 with
  | 0 => ⟨S1x6x32x64x8x64, .f32⟩
  | 1 => ⟨S4x6x32x64x8x64, .f32⟩
  | 2 => ⟨S4x6x32x64x8x64, .f32⟩
  | 3 => ⟨S_, .f32⟩
  | 4 => ⟨S_, .f32⟩
  | 5 => ⟨S4x6x32x64x8x64, .i1⟩
  | 6 => ⟨S4x6x32x64x8x64, .f32⟩
  | 7 => ⟨S4x6x32x64x8x64, .f32⟩
  | 8 => ⟨S4x6x32x64x512, .f32⟩
  | 9 => ⟨S4x6x32x64x256, .f32⟩
  | 10 => ⟨S4x6x32x64x768, .f32⟩
  | 11 => ⟨S_, .f32⟩
  | 12 => ⟨S4x6x32x64, .f32⟩
  | 13 => ⟨S_, .f32⟩
  | 14 => ⟨S4x6x32x64, .f32⟩
  | 15 => ⟨S4x6x32x64, .f32⟩
  | 16 => ⟨S4x6x32x64x1, .f32⟩
  | 17 => ⟨S4x6x32x64x768, .f32⟩
  | 18 => ⟨S4x6x32x64x768, .f32⟩
  | 19 => ⟨S4x6x32x64x768, .f32⟩
  | 20 => ⟨S_, .f32⟩
  | 21 => ⟨S4x6x32x64, .f32⟩
  | 22 => ⟨S4x6x32x64x1, .f32⟩
  | 23 => ⟨S4x6x32x64x768, .f32⟩
  | 24 => ⟨S4x6x32x64x768, .f32⟩
  | 25 => ⟨S4x6x32x64x512, .f32⟩
  | 26 => ⟨S4x6x32x64x8x64, .f32⟩
  | 27 => ⟨S4x6x32x64x256, .f32⟩
  | 28 => ⟨S4x32x6x128x64, .f32⟩
  | 29 => ⟨S4x32x64x6x128, .f32⟩
  | 30 => ⟨S4x6x128x32x64, .f32⟩
  | 31 => ⟨S4x32x64x6x128, .f32⟩
  | 32 => ⟨S4x32x64x6x128, .f32⟩
  | 33 => ⟨S8192x768, .f32⟩
  | _ => ⟨S9216x6144, .bf16⟩

abbrev hbmTy (i : Nat) : BufTy := match i / 128 with
  | 0 => hbmTy0_0 i
  | 1 => hbmTy0_1 i
  | _ => ⟨S9216x6144, .bf16⟩

abbrev bufTy : (tb : Table) → Fin (tcTables nBuf tb) → BufTy
  | .hbm, ⟨i, _⟩ => hbmTy i
  | _, _ => ⟨S9216x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_c_13 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_14 : Ref sig .tc := ⟨.hbm, 107, rfl⟩
abbrev main_v74 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_16 : Ref sig .tc := ⟨.hbm, 114, rfl⟩
abbrev main_v79 : Ref sig .tc := ⟨.hbm, 115, rfl⟩
abbrev main_v80 : Ref sig .tc := ⟨.hbm, 116, rfl⟩
abbrev main_c_17 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_18 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_19 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩

abbrev nD : Nat := 1
abbrev τ : Topo := Topo.v7x

variable {F : FTy → Type} [FloatOps F]
-- ==== Moe.lean ====
abbrev S2x9216 : Shape := ⟨2, ![2, 9216]⟩
abbrev S425984x128 : Shape := ⟨2, ![425984, 128]⟩
abbrev S2x4x8x2048x1024 : Shape := ⟨5, ![2, 4, 8, 2048, 1024]⟩
abbrev S2x4x8x512x2048 : Shape := ⟨5, ![2, 4, 8, 512, 2048]⟩
abbrev S18432 : Shape := ⟨1, ![18432]⟩
abbrev S32 : Shape := ⟨1, ![32]⟩
abbrev S18432x1 : Shape := ⟨2, ![18432, 1]⟩
abbrev S1x32 : Shape := ⟨2, ![1, 32]⟩
abbrev S18432x32 : Shape := ⟨2, ![18432, 32]⟩
abbrev S_ : Shape := ⟨0, ![]⟩
abbrev S104 : Shape := ⟨1, ![104]⟩
abbrev S1 : Shape := ⟨1, ![1]⟩
abbrev S104x1 : Shape := ⟨2, ![104, 1]⟩
abbrev S104x32 : Shape := ⟨2, ![104, 32]⟩
abbrev S4096x128 : Shape := ⟨2, ![4096, 128]⟩
abbrev S1x1x1x2048x1024 : Shape := ⟨5, ![1, 1, 1, 2048, 1024]⟩
abbrev S1x1x1x512x2048 : Shape := ⟨5, ![1, 1, 1, 512, 2048]⟩
abbrev S2048x1024 : Shape := ⟨2, ![2048, 1024]⟩
abbrev S512x2048 : Shape := ⟨2, ![512, 2048]⟩
abbrev S1x1x1x256x1024 : Shape := ⟨5, ![1, 1, 1, 256, 1024]⟩
abbrev S256x1024 : Shape := ⟨2, ![256, 1024]⟩
abbrev S1x1x1x256x2048 : Shape := ⟨5, ![1, 1, 1, 256, 2048]⟩
abbrev S256x2048 : Shape := ⟨2, ![256, 2048]⟩
abbrev S256x128 : Shape := ⟨2, ![256, 128]⟩
abbrev S256x512 : Shape := ⟨2, ![256, 512]⟩

abbrev nBuf : Space → Nat
  | .hbm => 119
  | .vmem => 10
  | .smem => 4
  | _ => 0

abbrev bufTy : (tb : Table) → Fin (tcTables nBuf tb) → BufTy
  | .hbm, ⟨0, _⟩ => ⟨S2x9216, .i32⟩
  | .hbm, ⟨1, _⟩ => ⟨S425984x128, .f32⟩
  | .hbm, ⟨2, _⟩ => ⟨S2x4x8x2048x1024, .f32⟩
  | .hbm, ⟨3, _⟩ => ⟨S2x4x8x512x2048, .f32⟩
  | .hbm, ⟨4, _⟩ => ⟨S18432, .i32⟩
  | .hbm, ⟨5, _⟩ => ⟨S32, .i32⟩
  | .hbm, ⟨6, _⟩ => ⟨S18432x1, .i32⟩
  | .hbm, ⟨7, _⟩ => ⟨S1x32, .i32⟩
  | .hbm, ⟨8, _⟩ => ⟨S18432x32, .i32⟩
  | .hbm, ⟨9, _⟩ => ⟨S18432x32, .i32⟩
  | .hbm, ⟨10, _⟩ => ⟨S18432x32, .i1⟩
  | .hbm, ⟨11, _⟩ => ⟨S18432x32, .i32⟩
  | .hbm, ⟨12, _⟩ => ⟨S_, .i32⟩
  | .hbm, ⟨13, _⟩ => ⟨S_, .i32⟩
  | .hbm, ⟨14, _⟩ => ⟨S18432x32, .i32⟩
  | .hbm, ⟨15, _⟩ => ⟨S18432x32, .i32⟩
  | .hbm, ⟨16, _⟩ => ⟨S_, .i32⟩
  | .hbm, ⟨17, _⟩ => ⟨S18432, .i32⟩
  | .hbm, ⟨18, _⟩ => ⟨S_, .i32⟩
  | .hbm, ⟨19, _⟩ => ⟨S18432, .i32⟩
  | .hbm, ⟨20, _⟩ => ⟨S18432, .i32⟩
  | .hbm, ⟨21, _⟩ => ⟨S1x32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S_, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S1x32, .i32⟩
  | .hbm, ⟨55, _⟩ => ⟨S18432x32, .i32⟩
  | .hbm, ⟨56, _⟩ => ⟨S18432x32, .i32⟩
  | .hbm, ⟨57, _⟩ => ⟨S_, .i32⟩
  | .hbm, ⟨58, _⟩ => ⟨S18432, .i32⟩
  | .hbm, ⟨59, _⟩ => ⟨S18432, .i32⟩
  | .hbm, ⟨60, _⟩ => ⟨S104, .i32⟩
  | .hbm, ⟨61, _⟩ => ⟨S_, .i32⟩
  | .hbm, ⟨62, _⟩ => ⟨S104, .i32⟩
  | .hbm, ⟨63, _⟩ => ⟨S104, .i32⟩
  | .hbm, ⟨64, _⟩ => ⟨S1, .i32⟩
  | .hbm, ⟨65, _⟩ => ⟨S_, .i32⟩
  | .hbm, ⟨66, _⟩ => ⟨S104, .i32⟩
  | .hbm, ⟨67, _⟩ => ⟨S104, .i1⟩
  | .hbm, ⟨68, _⟩ => ⟨S1x32, .i32⟩
  | .hbm, ⟨69, _⟩ => ⟨S104x1, .i32⟩
  | .hbm, ⟨70, _⟩ => ⟨S104x32, .i32⟩
  | .hbm, ⟨71, _⟩ => ⟨S104x32, .i32⟩
  | .hbm, ⟨72, _⟩ => ⟨S104x32, .i1⟩
  | .hbm, ⟨73, _⟩ => ⟨S104x32, .i32⟩
  | .hbm, ⟨74, _⟩ => ⟨S_, .i32⟩
  | .hbm, ⟨75, _⟩ => ⟨S104, .i32⟩
  | .hbm, ⟨76, _⟩ => ⟨S_, .i32⟩
  | .hbm, ⟨77, _⟩ => ⟨S32, .i32⟩
  | .hbm, ⟨78, _⟩ => ⟨S32, .i1⟩
  | .hbm, ⟨79, _⟩ => ⟨S_, .i32⟩
  | .hbm, ⟨80, _⟩ => ⟨S_, .i32⟩
  | .hbm, ⟨81, _⟩ => ⟨S32, .i32⟩
  | .hbm, ⟨82, _⟩ => ⟨S32, .i32⟩
  | .hbm, ⟨83, _⟩ => ⟨S_, .i32⟩
  | .hbm, ⟨84, _⟩ => ⟨S_, .i32⟩
  | .hbm, ⟨85, _⟩ => ⟨S104, .i32⟩
  | .hbm, ⟨86, _⟩ => ⟨S1x32, .i32⟩
  | .hbm, ⟨87, _⟩ => ⟨S104x1, .i32⟩
  | .hbm, ⟨88, _⟩ => ⟨S104x32, .i32⟩
  | .hbm, ⟨89, _⟩ => ⟨S104x32, .i32⟩
  | .hbm, ⟨90, _⟩ => ⟨S104x32, .i1⟩
  | .hbm, ⟨91, _⟩ => ⟨S1x32, .i32⟩
  | .hbm, ⟨92, _⟩ => ⟨S_, .i32⟩
  | .hbm, ⟨93, _⟩ => ⟨S1x32, .i32⟩
  | .hbm, ⟨94, _⟩ => ⟨S1x32, .i1⟩
  | .hbm, ⟨95, _⟩ => ⟨S104x32, .i1⟩
  | .hbm, ⟨96, _⟩ => ⟨S104x32, .i1⟩
  | .hbm, ⟨97, _⟩ => ⟨S104x32, .i32⟩
  | .hbm, ⟨98, _⟩ => ⟨S_, .i32⟩
  | .hbm, ⟨99, _⟩ => ⟨S104, .i32⟩
  | .hbm, ⟨100, _⟩ => ⟨S_, .i32⟩
  | .hbm, ⟨101, _⟩ => ⟨S104, .i32⟩
  | .hbm, ⟨102, _⟩ => ⟨S104, .i32⟩
  | .hbm, ⟨103, _⟩ => ⟨S1, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i1⟩
  | .hbm, ⟨111, _⟩ => ⟨S_, .i32⟩
  | .hbm, ⟨112, _⟩ => ⟨S_, .i32⟩
  | .hbm, ⟨113, _⟩ => ⟨S_, .i1⟩
  | .hbm, ⟨114, _⟩ => ⟨S_, .i1⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S425984x128, .f32⟩
  | .local _ .vmem, ⟨0, _⟩ => ⟨S4096x128, .f32⟩
  | .local _ .vmem, ⟨1, _⟩ => ⟨S4096x128, .f32⟩
  | .local _ .vmem, ⟨2, _⟩ => ⟨S1x1x1x2048x1024, .f32⟩
  | .local _ .vmem, ⟨3, _⟩ => ⟨S1x1x1x2048x1024, .f32⟩
  | .local _ .vmem, ⟨4, _⟩ => ⟨S1x1x1x512x2048, .f32⟩
  | .local _ .vmem, ⟨5, _⟩ => ⟨S1x1x1x512x2048, .f32⟩
  | .local _ .vmem, ⟨6, _⟩ => ⟨S4096x128, .f32⟩
  | .local _ .vmem, ⟨7, _⟩ => ⟨S4096x128, .f32⟩
  | .local _ .vmem, ⟨8, _⟩ => ⟨S2048x1024, .bf16⟩
  | .local _ .vmem, ⟨9, _⟩ => ⟨S512x2048, .bf16⟩
  | .local _ .smem, ⟨0, _⟩ => ⟨S104, .i32⟩
  | .local _ .smem, ⟨1, _⟩ => ⟨S104, .i32⟩
  | .local _ .smem, ⟨2, _⟩ => ⟨S104, .i32⟩
  | .local _ .smem, ⟨3, _⟩ => ⟨S1, .i32⟩
  | _, _ => ⟨S2x9216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_call2_call0_c : Ref sig .tc := ⟨.hbm, 50, rfl⟩
abbrev main_call2_call0_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_c_8 : Ref sig .tc := ⟨.hbm, 76, rfl⟩
abbrev main_v44 : Ref sig .tc := ⟨.hbm, 77, rfl⟩
abbrev main_v45 : Ref sig .tc := ⟨.hbm, 78, rfl⟩
abbrev main_c_9 : Ref sig .tc := ⟨.hbm, 79, rfl⟩
abbrev main_call3_v0 : Ref sig .tc := ⟨.hbm, 80, rfl⟩
abbrev main_call3_v1 : Ref sig .tc := ⟨.hbm, 81, rfl⟩
abbrev main_v46 : Ref sig .tc := ⟨.hbm, 82, rfl⟩
abbrev main_c_10 : Ref sig .tc := ⟨.hbm, 83, rfl⟩
abbrev main_v47 : Ref sig .tc := ⟨.hbm, 84, rfl⟩
abbrev main_v48 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_c_13 : Ref sig .tc := ⟨.hbm, 100, rfl⟩
abbrev main_v62 : Ref sig .tc := ⟨.hbm, 101, rfl⟩
abbrev main_v63 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c : Ref sig .tc := ⟨.hbm, 112, rfl⟩
abbrev main_call4_v6 : Ref sig .tc := ⟨.hbm, 113, rfl⟩
abbrev main_call4_v7 : Ref sig .tc := ⟨.hbm, 114, rfl⟩
abbrev main_call4_c_0 : Ref sig .tc := ⟨.hbm, 115, rfl⟩
abbrev main_call4_v8 : Ref sig .tc := ⟨.hbm, 116, rfl⟩
abbrev main_v67 : Ref sig .tc := ⟨.hbm, 117, rfl⟩
abbrev main_v69 : Ref sig .tc := ⟨.hbm, 118, rfl⟩
abbrev main_v49 : Ref sig .tc := ⟨.smem, 0, rfl⟩
abbrev main_v36 : Ref sig .tc := ⟨.smem, 1, rfl⟩
abbrev main_v64 : Ref sig .tc := ⟨.smem, 2, rfl⟩
abbrev main_v68 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![104], ![false]⟩

abbrev pre0 : Pipeline.Prefetch sig := ⟨4, ![main_v49.idx, main_v36.idx, main_v64.idx, main_v68.idx], fun | 0 => main_v49.names | 1 => main_v36.names | 2 => main_v64.names | 3 => main_v68.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v10 : Index := Scalar.indexCast arg0
  ![v10.toNat]
def k0_off3 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond3 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let v20 : BitVec 32 := pf.at 0 (Rect.unit (s := S104) ![v19.toNat] S1.size (k0_off1_inb i)) numel1_S1
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  let c0_i32_12 : BitVec 32 := 0#32
  let c0_i32_13 : BitVec 32 := 0#32
  ![c0_i32_10.toNat, v18.toNat, v30.toNat, c0_i32_11.toNat, c0_i32_12.toNat]

def cc0_transform_2 (k0_off1_inb : ∀ i : grid0.Coords, ∀ a, (k0_off1 i) a + S1.size a ≤ S104.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let v20 : BitVec 32 := pf.at 0 (Rect.unit (s := S104) ![v19.toNat] S1.size (k0_off1_inb i)) numel1_S1
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  let c0_i32_12 : BitVec 32 := 0#32
  let c0_i32_13 : BitVec 32 := 0#32
  ![c0_i32_10.toNat, v18.toNat, v30.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeRefIdeal.lean ====
abbrev S2x9216 : Shape := ⟨2, ![2, 9216]⟩
abbrev S425984x128 : Shape := ⟨2, ![425984, 128]⟩
abbrev S2x4x8x2048x1024 : Shape := ⟨5, ![2, 4, 8, 2048, 1024]⟩
abbrev S2x4x8x512x2048 : Shape := ⟨5, ![2, 4, 8, 512, 2048]⟩
abbrev S26624x2048 : Shape := ⟨2, ![26624, 2048]⟩
abbrev S18432 : Shape := ⟨1, ![18432]⟩
abbrev S18432x1 : Shape := ⟨2, ![18432, 1]⟩
abbrev S32 : Shape := ⟨1, ![32]⟩
abbrev S1x32 : Shape := ⟨2, ![1, 32]⟩
abbrev S18432x32 : Shape := ⟨2, ![18432, 32]⟩
abbrev S_ : Shape := ⟨0, ![]⟩
abbrev S26624 : Shape := ⟨1, ![26624]⟩
abbrev S26624x1 : Shape := ⟨2, ![26624, 1]⟩
abbrev S26624x32 : Shape := ⟨2, ![26624, 32]⟩
abbrev S26624x4x8 : Shape := ⟨3, ![26624, 4, 8]⟩
abbrev S1x4x8x2048x1024 : Shape := ⟨5, ![1, 4, 8, 2048, 1024]⟩
abbrev S4x8x2048x1024 : Shape := ⟨4, ![4, 8, 2048, 1024]⟩
abbrev S1x4x8x512x2048 : Shape := ⟨5, ![1, 4, 8, 512, 2048]⟩
abbrev S4x8x512x2048 : Shape := ⟨4, ![4, 8, 512, 2048]⟩
abbrev S1x8x2048x1024 : Shape := ⟨4, ![1, 8, 2048, 1024]⟩
abbrev S8x2048x1024 : Shape := ⟨3, ![8, 2048, 1024]⟩
abbrev S26624x8x1024 : Shape := ⟨3, ![26624, 8, 1024]⟩
abbrev S26624x8x512 : Shape := ⟨3, ![26624, 8, 512]⟩
abbrev S26624x1x8 : Shape := ⟨3, ![26624, 1, 8]⟩
abbrev S26624x8 : Shape := ⟨2, ![26624, 8]⟩
abbrev S26624x8x1 : Shape := ⟨3, ![26624, 8, 1]⟩
abbrev S1x8x512x2048 : Shape := ⟨4, ![1, 8, 512, 2048]⟩
abbrev S8x512x2048 : Shape := ⟨3, ![8, 512, 2048]⟩

abbrev nBuf : Space → Nat
  | .hbm => 161
  | .vmem => 0
  | .smem => 0
  | _ => 0

abbrev hbmTy0_0 (i : Nat) : BufTy := match i % 128 with
  | 0 => ⟨S2x9216, .i32⟩
  | 1 => ⟨S425984x128, .f32⟩
  | 2 => ⟨S2x4x8x2048x1024, .f32⟩
  | 3 => ⟨S2x4x8x512x2048, .f32⟩
  | 4 => ⟨S26624x2048, .f32⟩
  | 5 => ⟨S18432, .i32⟩
  | 6 => ⟨S18432x1, .i32⟩
  | 7 => ⟨S32, .i32⟩
  | 8 => ⟨S1x32, .i32⟩
  | 9 => ⟨S18432x32, .i32⟩
  | 10 => ⟨S18432x32, .i32⟩
  | 11 => ⟨S18432x32, .i1⟩
  | 12 => ⟨S18432x32, .i32⟩
  | 13 => ⟨S_, .i32⟩
  | 14 => ⟨S32, .i32⟩
  | 15 => ⟨S_, .i32⟩
  | 16 => ⟨S32, .i32⟩
  | 17 => ⟨S32, .i32⟩
  | 18 => ⟨S_, .i32⟩
  | 19 => ⟨S_, .i32⟩
  | 20 => ⟨S32, .i32⟩
  | 21 => ⟨S32, .i32⟩
  | 22 => ⟨S32, .i32⟩
  | 23 => ⟨S_, .i32⟩
  | 24 => ⟨S32, .i32⟩
  | 25 => ⟨S32, .i1⟩
  | 26 => ⟨S32, .i32⟩
  | 27 => ⟨S32, .i32⟩
  | 28 => ⟨S_, .i32⟩
  | 29 => ⟨S32, .i32⟩
  | 30 => ⟨S32, .i1⟩
  | 31 => ⟨S32, .i1⟩
  | 32 => ⟨S_, .i32⟩
  | 33 => ⟨S32, .i32⟩
  | 34 => ⟨S32, .i32⟩
  | 35 => ⟨S32, .i32⟩
  | 36 => ⟨S_, .i32⟩
  | 37 => ⟨S32, .i32⟩
  | 38 => ⟨S32, .i32⟩
  | 39 => ⟨S_, .i32⟩
  | 40 => ⟨S_, .i32⟩
  | 41 => ⟨S32, .i32⟩
  | 42 => ⟨S1x32, .i32⟩
  | 43 => ⟨S26624, .i32⟩
  | 44 => ⟨S26624x1, .i32⟩
  | 45 => ⟨S26624x32, .i32⟩
  | 46 => ⟨S26624x32, .i32⟩
  | 47 => ⟨S26624x32, .i1⟩
  | 48 => ⟨S26624x32, .i32⟩
  | 49 => ⟨S_, .i32⟩
  | 50 => ⟨S26624, .i32⟩
  | 51 => ⟨S26624x1, .i32⟩
  | 52 => ⟨S1x32, .i32⟩
  | 53 => ⟨S26624x32, .i32⟩
  | 54 => ⟨S26624x32, .i32⟩
  | 55 => ⟨S26624x32, .i1⟩
  | 56 => ⟨S26624x32, .f32⟩
  | 57 => ⟨S26624x4x8, .f32⟩
  | 58 => ⟨S1x4x8x2048x1024, .f32⟩
  | 59 => ⟨S4x8x2048x1024, .f32⟩
  | 60 => ⟨S1x4x8x512x2048, .f32⟩
  | 61 => ⟨S4x8x512x2048, .f32⟩
  | 62 => ⟨S_, .f32⟩
  | 63 => ⟨S26624x2048, .f32⟩
  | 64 => ⟨S1x8x2048x1024, .f32⟩
  | 65 => ⟨S8x2048x1024, .f32⟩
  | 66 => ⟨S26624x8x1024, .f32⟩
  | 67 => ⟨S26624x8x512, .f32⟩
  | 68 => ⟨S26624x8x512, .f32⟩
  | 69 => ⟨S26624x8x512, .f32⟩
  | 70 => ⟨S_, .f32⟩
  | 71 => ⟨S26624x8x512, .f32⟩
  | 72 => ⟨S26624x8x512, .f32⟩
  | 73 => ⟨S_, .f32⟩
  | 74 => ⟨S26624x8x512, .f32⟩
  | 75 => ⟨S26624x8x512, .f32⟩
  | 76 => ⟨S26624x8x512, .f32⟩
  | 77 => ⟨S26624x8x512, .f32⟩
  | 78 => ⟨S26624x8x512, .f32⟩
  | 79 => ⟨S26624x1x8, .f32⟩
  | 80 => ⟨S26624x8, .f32⟩
  | 81 => ⟨S26624x8x1, .f32⟩
  | 82 => ⟨S26624x8x512, .f32⟩
  | 83 => ⟨S26624x8x512, .f32⟩
  | 84 => ⟨S1x8x512x2048, .f32⟩
  | 85 => ⟨S8x512x2048, .f32⟩
  | 86 => ⟨S26624x2048, .f32⟩
  | 87 => ⟨S26624x2048, .f32⟩
  | 88 => ⟨S1x8x2048x1024, .f32⟩
  | 89 => ⟨S8x2048x1024, .f32⟩
  | 90 => ⟨S26624x8x1024, .f32⟩
  | 91 => ⟨S26624x8x512, .f32⟩
  | 92 => ⟨S26624x8x512, .f32⟩
  | 93 => ⟨S26624x8x512, .f32⟩
  | 94 => ⟨S_, .f32⟩
  | 95 => ⟨S26624x8x512, .f32⟩
  | 96 => ⟨S26624x8x512, .f32⟩
  | 97 => ⟨S_, .f32⟩
  | 98 => ⟨S26624x8x512, .f32⟩
  | 99 => ⟨S26624x8x512, .f32⟩
  | 100 => ⟨S26624x8x512, .f32⟩
  | 101 => ⟨S26624x8x512, .f32⟩
  | 102 => ⟨S26624x8x512, .f32⟩
  | 103 => ⟨S26624x1x8, .f32⟩
  | 104 => ⟨S26624x8, .f32⟩
  | 105 => ⟨S26624x8x1, .f32⟩
  | 106 => ⟨S26624x8x512, .f32⟩
  | 107 => ⟨S26624x8x512, .f32⟩
  | 108 => ⟨S1x8x512x2048, .f32⟩
  | 109 => ⟨S8x512x2048, .f32⟩
  | 110 => ⟨S26624x2048, .f32⟩
  | 111 => ⟨S26624x2048, .f32⟩
  | 112 => ⟨S1x8x2048x1024, .f32⟩
  | 113 => ⟨S8x2048x1024, .f32⟩
  | 114 => ⟨S26624x8x1024, .f32⟩
  | 115 => ⟨S26624x8x512, .f32⟩
  | 116 => ⟨S26624x8x512, .f32⟩
  | 117 => ⟨S26624x8x512, .f32⟩
  | 118 => ⟨S_, .f32⟩
  | 119 => ⟨S26624x8x512, .f32⟩
  | 120 => ⟨S26624x8x512, .f32⟩
  | 121 => ⟨S_, .f32⟩
  | 122 => ⟨S26624x8x512, .f32⟩
  | 123 => ⟨S26624x8x512, .f32⟩
  | 124 => ⟨S26624x8x512, .f32⟩
  | 125 => ⟨S26624x8x512, .f32⟩
  | 126 => ⟨S26624x8x512, .f32⟩
  | 127 => ⟨S26624x1x8, .f32⟩
  | _ => ⟨S2x9216, .i32⟩

abbrev hbmTy0_1 (i : Nat) : BufTy := match i % 128 with
  | 0 => ⟨S26624x8, .f32⟩
  | 1 => ⟨S26624x8x1, .f32⟩
  | 2 => ⟨S26624x8x512, .f32⟩
  | 3 => ⟨S26624x8x512, .f32⟩
  | 4 => ⟨S1x8x512x2048, .f32⟩
  | 5 => ⟨S8x512x2048, .f32⟩
  | 6 => ⟨S26624x2048, .f32⟩
  | 7 => ⟨S26624x2048, .f32⟩
  | 8 => ⟨S1x8x2048x1024, .f32⟩
  | 9 => ⟨S8x2048x1024, .f32⟩
  | 10 => ⟨S26624x8x1024, .f32⟩
  | 11 => ⟨S26624x8x512, .f32⟩
  | 12 => ⟨S26624x8x512, .f32⟩
  | 13 => ⟨S26624x8x512, .f32⟩
  | 14 => ⟨S_, .f32⟩
  | 15 => ⟨S26624x8x512, .f32⟩
  | 16 => ⟨S26624x8x512, .f32⟩
  | 17 => ⟨S_, .f32⟩
  | 18 => ⟨S26624x8x512, .f32⟩
  | 19 => ⟨S26624x8x512, .f32⟩
  | 20 => ⟨S26624x8x512, .f32⟩
  | 21 => ⟨S26624x8x512, .f32⟩
  | 22 => ⟨S26624x8x512, .f32⟩
  | 23 => ⟨S26624x1x8, .f32⟩
  | 24 => ⟨S26624x8, .f32⟩
  | 25 => ⟨S26624x8x1, .f32⟩
  | 26 => ⟨S26624x8x512, .f32⟩
  | 27 => ⟨S26624x8x512, .f32⟩
  | 28 => ⟨S1x8x512x2048, .f32⟩
  | 29 => ⟨S8x512x2048, .f32⟩
  | 30 => ⟨S26624x2048, .f32⟩
  | 31 => ⟨S26624x2048, .f32⟩
  | 32 => ⟨S425984x128, .f32⟩
  | _ => ⟨S2x9216, .i32⟩

abbrev hbmTy (i : Nat) : BufTy := match i / 128 with
  | 0 => hbmTy0_0 i
  | 1 => hbmTy0_1 i
  | _ => ⟨S2x9216, .i32⟩

abbrev bufTy : (tb : Table) → Fin (tcTables nBuf tb) → BufTy
  | .hbm, ⟨i, _⟩ => hbmTy i
  | _, _ => ⟨S2x9216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_call1_call0_c : Ref sig .tc := ⟨.hbm, 39, rfl⟩
abbrev main_call1_call0_v0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_v23 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call6_v0 : Ref sig .tc := ⟨.hbm, 140, rfl⟩
abbrev main_call6_v1 : Ref sig .tc := ⟨.hbm, 141, rfl⟩
abbrev main_call6_cst : Ref sig .tc := ⟨.hbm, 142, rfl⟩
abbrev main_call6_v2 : Ref sig .tc := ⟨.hbm, 143, rfl⟩
abbrev main_call6_v3 : Ref sig .tc := ⟨.hbm, 144, rfl⟩
abbrev main_call6_cst_0 : Ref sig .tc := ⟨.hbm, 145, rfl⟩
abbrev main_call6_v4 : Ref sig .tc := ⟨.hbm, 146, rfl⟩
abbrev main_call6_v5 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩

abbrev nD : Nat := 1
abbrev τ : Topo := Topo.v7x

variable {F : FTy → Type} [FloatOps F]
-- ==== Ip.lean ====
abbrev S9216x2048 : Shape := ⟨2, ![9216, 2048]⟩
abbrev S8x6x2048 : Shape := ⟨3, ![8, 6, 2048]⟩
abbrev S2048x6176 : Shape := ⟨2, ![2048, 6176]⟩
abbrev S2048x6144 : Shape := ⟨2, ![2048, 6144]⟩
abbrev S2048x32 : Shape := ⟨2, ![2048, 32]⟩
abbrev S9216x6144 : Shape := ⟨2, ![9216, 6144]⟩
abbrev S9216x32 : Shape := ⟨2, ![9216, 32]⟩
abbrev S1024x2048 : Shape := ⟨2, ![1024, 2048]⟩
abbrev S1x6x2048 : Shape := ⟨3, ![1, 6, 2048]⟩
abbrev S2048x512 : Shape := ⟨2, ![2048, 512]⟩
abbrev S1024x512 : Shape := ⟨2, ![1024, 512]⟩
abbrev S1024x32 : Shape := ⟨2, ![1024, 32]⟩
abbrev S1x1x2048 : Shape := ⟨3, ![1, 1, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S8x6x2048, .f32⟩
  | .hbm, ⟨2, _⟩ => ⟨S2048x6176, .f32⟩
  | .hbm, ⟨3, _⟩ => ⟨S2048x6144, .f32⟩
  | .hbm, ⟨4, _⟩ => ⟨S2048x6144, .bf16⟩
  | .hbm, ⟨5, _⟩ => ⟨S2048x32, .f32⟩
  | .hbm, ⟨6, _⟩ => ⟨S2048x32, .bf16⟩
  | .hbm, ⟨7, _⟩ => ⟨S9216x6144, .bf16⟩
  | .hbm, ⟨8, _⟩ => ⟨S9216x32, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x512, .bf16⟩
  | .local _ .vmem, ⟨5, _⟩ => ⟨S2048x512, .bf16⟩
  | .local _ .vmem, ⟨6, _⟩ => ⟨S2048x32, .bf16⟩
  | .local _ .vmem, ⟨7, _⟩ => ⟨S1024x512, .bf16⟩
  | .local _ .vmem, ⟨8, _⟩ => ⟨S1024x512, .bf16⟩
  | .local _ .vmem, ⟨9, _⟩ => ⟨S1024x32, .f32⟩
  | .local _ .vmem, ⟨10, _⟩ => ⟨S1024x32, .f32⟩
  | .local _ .vmem, ⟨11, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32 : BitVec 32 := 8#32
  let v13 : BitVec 32 := Scalar.addi c0_i32_11 c8_i32
  let c1_i32 : BitVec 32 := 1#32
  ⟨c0_i32_11, v13, c1_i32⟩
def k0_mult1 (k0_t1 : Fin k0_t1_loop.trips) : BitVec 32 :=
  let c0_i32_11 : BitVec 32 := 0#32
  let c1_i32 : BitVec 32 := 1#32
  let arg9 : BitVec 32 := Scf.iv c0_i32_11 c1_i32 k0_t1
  let c128_i32 : BitVec 32 := 128#32
  let v19 : BitVec 32 := Scalar.muli arg9 c128_i32
  v19
def k0_off1 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c128_i32 : BitVec 32 := 128#32
  let v19 : BitVec 32 := Scalar.muli arg9 c128_i32
  let v20 : BitVec 32 := v19
  let v21 : Index := Scalar.indexCast v20
  let c0_20 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== IpRefIdeal.lean ====
abbrev S9216x2048 : Shape := ⟨2, ![9216, 2048]⟩
abbrev S8x6x2048 : Shape := ⟨3, ![8, 6, 2048]⟩
abbrev S2048x6176 : Shape := ⟨2, ![2048, 6176]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S4x1x2048 : Shape := ⟨3, ![4, 1, 2048]⟩
abbrev S4x2048 : Shape := ⟨2, ![4, 2048]⟩
abbrev S1x1x2048 : Shape := ⟨3, ![1, 1, 2048]⟩
abbrev S2048 : Shape := ⟨1, ![2048]⟩
abbrev S_ : Shape := ⟨0, ![]⟩
abbrev S4x2048x1 : Shape := ⟨3, ![4, 2048, 1]⟩
abbrev S4x256 : Shape := ⟨2, ![4, 256]⟩
abbrev S4x256x1 : Shape := ⟨3, ![4, 256, 1]⟩
abbrev S4x2048x6176 : Shape := ⟨3, ![4, 2048, 6176]⟩
abbrev S8192x6176 : Shape := ⟨2, ![8192, 6176]⟩
abbrev S4x256x6176 : Shape := ⟨3, ![4, 256, 6176]⟩
abbrev S1024x6176 : Shape := ⟨2, ![1024, 6176]⟩
abbrev S9216x6176 : Shape := ⟨2, ![9216, 6176]⟩
abbrev S9216x6144 : Shape := ⟨2, ![9216, 6144]⟩
abbrev S9216x32 : Shape := ⟨2, ![9216, 32]⟩

abbrev nBuf : Space → Nat
  | .hbm => 83
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8x6x2048, .f32⟩
  | .hbm, ⟨2, _⟩ => ⟨S2048x6176, .f32⟩
  | .hbm, ⟨3, _⟩ => ⟨S8192x2048, .f32⟩
  | .hbm, ⟨4, _⟩ => ⟨S4x2048x2048, .f32⟩
  | .hbm, ⟨5, _⟩ => ⟨S1024x2048, .f32⟩
  | .hbm, ⟨6, _⟩ => ⟨S4x256x2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x1x2048, .f32⟩
  | .hbm, ⟨40, _⟩ => ⟨S4x1x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x256, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x2048, .f32⟩
  | .hbm, ⟨52, _⟩ => ⟨S4x256x2048, .f32⟩
  | .hbm, ⟨53, _⟩ => ⟨S4x256x2048, .f32⟩
  | .hbm, ⟨54, _⟩ => ⟨S_, .f32⟩
  | .hbm, ⟨55, _⟩ => ⟨S4x256, .f32⟩
  | .hbm, ⟨56, _⟩ => ⟨S4x256x1, .f32⟩
  | .hbm, ⟨57, _⟩ => ⟨S_, .f32⟩
  | .hbm, ⟨58, _⟩ => ⟨S4x256x1, .f32⟩
  | .hbm, ⟨59, _⟩ => ⟨S4x256x1, .f32⟩
  | .hbm, ⟨60, _⟩ => ⟨S_, .f32⟩
  | .hbm, ⟨61, _⟩ => ⟨S4x256x1, .f32⟩
  | .hbm, ⟨62, _⟩ => ⟨S4x256x1, .f32⟩
  | .hbm, ⟨63, _⟩ => ⟨S4x256x1, .f32⟩
  | .hbm, ⟨64, _⟩ => ⟨S4x256x2048, .f32⟩
  | .hbm, ⟨65, _⟩ => ⟨S4x256x2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S1x1x2048, .f32⟩
  | .hbm, ⟨70, _⟩ => ⟨S4x256x2048, .f32⟩
  | .hbm, ⟨71, _⟩ => ⟨S4x256x2048, .f32⟩
  | .hbm, ⟨72, _⟩ => ⟨S1x1x2048, .f32⟩
  | .hbm, ⟨73, _⟩ => ⟨S4x256x2048, .f32⟩
  | .hbm, ⟨74, _⟩ => ⟨S4x256x2048, .f32⟩
  | .hbm, ⟨75, _⟩ => ⟨S4x2048x6176, .f32⟩
  | .hbm, ⟨76, _⟩ => ⟨S8192x6176, .f32⟩
  | .hbm, ⟨77, _⟩ => ⟨S4x256x6176, .f32⟩
  | .hbm, ⟨78, _⟩ => ⟨S1024x6176, .f32⟩
  | .hbm, ⟨79, _⟩ => ⟨S9216x6176, .f32⟩
  | .hbm, ⟨80, _⟩ => ⟨S9216x6144, .f32⟩
  | .hbm, ⟨81, _⟩ => ⟨S9216x6144, .bf16⟩
  | .hbm, ⟨82, _⟩ => ⟨S9216x32, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Op.lean ====
abbrev S8192x512 : Shape := ⟨2, ![8192, 512]⟩
abbrev S8192x768 : Shape := ⟨2, ![8192, 768]⟩
abbrev S1024x512 : Shape := ⟨2, ![1024, 512]⟩
abbrev S1024x768 : Shape := ⟨2, ![1024, 768]⟩
abbrev S9216x2048 : Shape := ⟨2, ![9216, 2048]⟩
abbrev S8x6x2048 : Shape := ⟨3, ![8, 6, 2048]⟩
abbrev S512 : Shape := ⟨1, ![512]⟩
abbrev S768 : Shape := ⟨1, ![768]⟩
abbrev S2048x2048 : Shape := ⟨2, ![2048, 2048]⟩
abbrev S2048 : Shape := ⟨1, ![2048]⟩
abbrev S1x512 : Shape := ⟨2, ![1, 512]⟩
abbrev S1x768 : Shape := ⟨2, ![1, 768]⟩
abbrev S1x2048 : Shape := ⟨2, ![1, 2048]⟩
abbrev S256x512 : Shape := ⟨2, ![256, 512]⟩
abbrev S256x768 : Shape := ⟨2, ![256, 768]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S512x2048 : Shape := ⟨2, ![512, 2048]⟩
abbrev S768x2048 : Shape := ⟨2, ![768, 2048]⟩
abbrev S1x1x2048 : Shape := ⟨3, ![1, 1, 2048]⟩

abbrev nBuf : Space → Nat
  | .hbm => 19
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x768, .f32⟩
  | .hbm, ⟨2, _⟩ => ⟨S8192x768, .f32⟩
  | .hbm, ⟨3, _⟩ => ⟨S1024x512, .f32⟩
  | .hbm, ⟨4, _⟩ => ⟨S1024x768, .f32⟩
  | .hbm, ⟨5, _⟩ => ⟨S1024x768, .f32⟩
  | .hbm, ⟨6, _⟩ => ⟨S9216x2048, .f32⟩
  | .hbm, ⟨7, _⟩ => ⟨S8x6x2048, .f32⟩
  | .hbm, ⟨8, _⟩ => ⟨S512, .f32⟩
  | .hbm, ⟨9, _⟩ => ⟨S768, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S1x512, .f32⟩
  | .hbm, ⟨14, _⟩ => ⟨S1x768, .f32⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S9216x2048, .f32⟩
  | .local _ .vmem, ⟨0, _⟩ => ⟨S256x512, .f32⟩
  | .local _ .vmem, ⟨1, _⟩ => ⟨S256x512, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x512, .f32⟩
  | .local _ .vmem, ⟨7, _⟩ => ⟨S256x512, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x2048, .f32⟩
  | .local _ .vmem, ⟨13, _⟩ => ⟨S256x2048, .f32⟩
  | .local _ .vmem, ⟨14, _⟩ => ⟨S1x6x2048, .f32⟩
  | .local _ .vmem, ⟨15, _⟩ => ⟨S1x6x2048, .f32⟩
  | .local _ .vmem, ⟨16, _⟩ => ⟨S1x512, .f32⟩
  | .local _ .vmem, ⟨17, _⟩ => ⟨S1x768, .f32⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OpRefIdeal.lean ====
abbrev S8192x512 : Shape := ⟨2, ![8192, 512]⟩
abbrev S8192x768 : Shape := ⟨2, ![8192, 768]⟩
abbrev S1024x512 : Shape := ⟨2, ![1024, 512]⟩
abbrev S1024x768 : Shape := ⟨2, ![1024, 768]⟩
abbrev S9216x2048 : Shape := ⟨2, ![9216, 2048]⟩
abbrev S8x6x2048 : Shape := ⟨3, ![8, 6, 2048]⟩
abbrev S512 : Shape := ⟨1, ![512]⟩
abbrev S768 : Shape := ⟨1, ![768]⟩
abbrev S2048x2048 : Shape := ⟨2, ![2048, 2048]⟩
abbrev S2048 : Shape := ⟨1, ![2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S4x1x2048 : Shape := ⟨3, ![4, 1, 2048]⟩
abbrev S4x2048 : Shape := ⟨2, ![4, 2048]⟩
abbrev S1x1x2048 : Shape := ⟨3, ![1, 1, 2048]⟩
abbrev S4x2048x512 : Shape := ⟨3, ![4, 2048, 512]⟩
abbrev S_ : Shape := ⟨0, ![]⟩
abbrev S4x2048x1 : Shape := ⟨3, ![4, 2048, 1]⟩
abbrev S1x1x512 : Shape := ⟨3, ![1, 1, 512]⟩
abbrev S4x2048x768 : Shape := ⟨3, ![4, 2048, 768]⟩
abbrev S1x1x768 : Shape := ⟨3, ![1, 1, 768]⟩
abbrev S4x256x512 : Shape := ⟨3, ![4, 256, 512]⟩
abbrev S4x256 : Shape := ⟨2, ![4, 256]⟩
abbrev S4x256x1 : Shape := ⟨3, ![4, 256, 1]⟩
abbrev S4x256x768 : Shape := ⟨3, ![4, 256, 768]⟩

abbrev nBuf : Space → Nat
  | .hbm => 166
  | .vmem => 0
  | .smem => 0
  | _ => 0

abbrev hbmTy0_0 (i : Nat) : BufTy := match i % 128 with
  | 0 => ⟨S8192x512, .f32⟩
  | 1 => ⟨S8192x768, .f32⟩
  | 2 => ⟨S8192x768, .f32⟩
  | 3 => ⟨S1024x512, .f32⟩
  | 4 => ⟨S1024x768, .f32⟩
  | 5 => ⟨S1024x768, .f32⟩
  | 6 => ⟨S9216x2048, .f32⟩
  | 7 => ⟨S8x6x2048, .f32⟩
  | 8 => ⟨S512, .f32⟩
  | 9 => ⟨S768, .f32⟩
  | 10 => ⟨S2048x2048, .f32⟩
  | 11 => ⟨S2048, .f32⟩
  | 12 => ⟨S2048, .f32⟩
  | 13 => ⟨S8192x2048, .f32⟩
  | 14 => ⟨S4x2048x2048, .f32⟩
  | 15 => ⟨S1024x2048, .f32⟩
  | 16 => ⟨S4x256x2048, .f32⟩
  | 17 => ⟨S4x1x2048, .f32⟩
  | 18 => ⟨S4x2048, .f32⟩
  | 19 => ⟨S4x1x2048, .f32⟩
  | 20 => ⟨S1x1x2048, .f32⟩
  | 21 => ⟨S2048, .f32⟩
  | 22 => ⟨S4x2048x512, .f32⟩
  | 23 => ⟨S4x2048x512, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x512, .f32⟩
  | 35 => ⟨S4x2048x512, .f32⟩
  | 36 => ⟨S1x1x512, .f32⟩
  | 37 => ⟨S4x2048x512, .f32⟩
  | 38 => ⟨S4x2048x512, .f32⟩
  | 39 => ⟨S4x2048x768, .f32⟩
  | 40 => ⟨S4x2048x768, .f32⟩
  | 41 => ⟨S_, .f32⟩
  | 42 => ⟨S4x2048, .f32⟩
  | 43 => ⟨S4x2048x1, .f32⟩
  | 44 => ⟨S_, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S4x2048x1, .f32⟩
  | 51 => ⟨S4x2048x768, .f32⟩
  | 52 => ⟨S4x2048x768, .f32⟩
  | 53 => ⟨S1x1x768, .f32⟩
  | 54 => ⟨S4x2048x768, .f32⟩
  | 55 => ⟨S4x2048x768, .f32⟩
  | 56 => ⟨S4x2048x768, .f32⟩
  | 57 => ⟨S4x2048x2048, .f32⟩
  | 58 => ⟨S4x2048x2048, .f32⟩
  | 59 => ⟨S4x256x512, .f32⟩
  | 60 => ⟨S4x256x512, .f32⟩
  | 61 => ⟨S_, .f32⟩
  | 62 => ⟨S4x256, .f32⟩
  | 63 => ⟨S4x256x1, .f32⟩
  | 64 => ⟨S_, .f32⟩
  | 65 => ⟨S4x256x1, .f32⟩
  | 66 => ⟨S4x256x1, .f32⟩
  | 67 => ⟨S_, .f32⟩
  | 68 => ⟨S4x256x1, .f32⟩
  | 69 => ⟨S4x256x1, .f32⟩
  | 70 => ⟨S4x256x1, .f32⟩
  | 71 => ⟨S4x256x512, .f32⟩
  | 72 => ⟨S4x256x512, .f32⟩
  | 73 => ⟨S1x1x512, .f32⟩
  | 74 => ⟨S4x256x512, .f32⟩
  | 75 => ⟨S4x256x512, .f32⟩
  | 76 => ⟨S4x256x768, .f32⟩
  | 77 => ⟨S4x256x768, .f32⟩
  | 78 => ⟨S_, .f32⟩
  | 79 => ⟨S4x256, .f32⟩
  | 80 => ⟨S4x256x1, .f32⟩
  | 81 => ⟨S_, .f32⟩
  | 82 => ⟨S4x256x1, .f32⟩
  | 83 => ⟨S4x256x1, .f32⟩
  | 84 => ⟨S_, .f32⟩
  | 85 => ⟨S4x256x1, .f32⟩
  | 86 => ⟨S4x256x1, .f32⟩
  | 87 => ⟨S4x256x1, .f32⟩
  | 88 => ⟨S4x256x768, .f32⟩
  | 89 => ⟨S4x256x768, .f32⟩
  | 90 => ⟨S1x1x768, .f32⟩
  | 91 => ⟨S4x256x768, .f32⟩
  | 92 => ⟨S4x256x768, .f32⟩
  | 93 => ⟨S4x256x768, .f32⟩
  | 94 => ⟨S4x256x2048, .f32⟩
  | 95 => ⟨S4x256x2048, .f32⟩
  | 96 => ⟨S_, .f32⟩
  | 97 => ⟨S4x2048x2048, .f32⟩
  | 98 => ⟨S4x2048x2048, .f32⟩
  | 99 => ⟨S4x2048x2048, .f32⟩
  | 100 => ⟨S4x2048x2048, .f32⟩
  | 101 => ⟨S4x2048x2048, .f32⟩
  | 102 => ⟨S_, .f32⟩
  | 103 => ⟨S4x2048, .f32⟩
  | 104 => ⟨S4x2048x1, .f32⟩
  | 105 => ⟨S_, .f32⟩
  | 106 => ⟨S4x2048x1, .f32⟩
  | 107 => ⟨S4x2048x1, .f32⟩
  | 108 => ⟨S4x2048x2048, .f32⟩
  | 109 => ⟨S4x2048x2048, .f32⟩
  | 110 => ⟨S4x2048x2048, .f32⟩
  | 111 => ⟨S_, .f32⟩
  | 112 => ⟨S4x2048, .f32⟩
  | 113 => ⟨S4x2048x1, .f32⟩
  | 114 => ⟨S_, .f32⟩
  | 115 => ⟨S4x2048x1, .f32⟩
  | 116 => ⟨S4x2048x1, .f32⟩
  | 117 => ⟨S_, .f32⟩
  | 118 => ⟨S4x2048x1, .f32⟩
  | 119 => ⟨S4x2048x1, .f32⟩
  | 120 => ⟨S4x2048x1, .f32⟩
  | 121 => ⟨S4x2048x2048, .f32⟩
  | 122 => ⟨S4x2048x2048, .f32⟩
  | 123 => ⟨S1x1x2048, .f32⟩
  | 124 => ⟨S4x2048x2048, .f32⟩
  | 125 => ⟨S4x2048x2048, .f32⟩
  | 126 => ⟨S1x1x2048, .f32⟩
  | 127 => ⟨S4x2048x2048, .f32⟩
  | _ => ⟨S8192x512, .f32⟩

abbrev hbmTy0_1 (i : Nat) : BufTy := match i % 128 with
  | 0 => ⟨S4x2048x2048, .f32⟩
  | 1 => ⟨S_, .f32⟩
  | 2 => ⟨S4x256x2048, .f32⟩
  | 3 => ⟨S4x256x2048, .f32⟩
  | 4 => ⟨S1x1x2048, .f32⟩
  | 5 => ⟨S4x256x2048, .f32⟩
  | 6 => ⟨S4x256x2048, .f32⟩
  | 7 => ⟨S4x256x2048, .f32⟩
  | 8 => ⟨S_, .f32⟩
  | 9 => ⟨S4x256, .f32⟩
  | 10 => ⟨S4x256x1, .f32⟩
  | 11 => ⟨S_, .f32⟩
  | 12 => ⟨S4x256x1, .f32⟩
  | 13 => ⟨S4x256x1, .f32⟩
  | 14 => ⟨S4x256x2048, .f32⟩
  | 15 => ⟨S4x256x2048, .f32⟩
  | 16 => ⟨S4x256x2048, .f32⟩
  | 17 => ⟨S_, .f32⟩
  | 18 => ⟨S4x256, .f32⟩
  | 19 => ⟨S4x256x1, .f32⟩
  | 20 => ⟨S_, .f32⟩
  | 21 => ⟨S4x256x1, .f32⟩
  | 22 => ⟨S4x256x1, .f32⟩
  | 23 => ⟨S_, .f32⟩
  | 24 => ⟨S4x256x1, .f32⟩
  | 25 => ⟨S4x256x1, .f32⟩
  | 26 => ⟨S4x256x1, .f32⟩
  | 27 => ⟨S4x256x2048, .f32⟩
  | 28 => ⟨S4x256x2048, .f32⟩
  | 29 => ⟨S1x1x2048, .f32⟩
  | 30 => ⟨S4x256x2048, .f32⟩
  | 31 => ⟨S4x256x2048, .f32⟩
  | 32 => ⟨S1x1x2048, .f32⟩
  | 33 => ⟨S4x256x2048, .f32⟩
  | 34 => ⟨S4x256x2048, .f32⟩
  | 35 => ⟨S8192x2048, .f32⟩
  | 36 => ⟨S1024x2048, .f32⟩
  | 37 => ⟨S9216x2048, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_12 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_17 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_18 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_20 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_cst_22 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩

abbrev nD : Nat := 1
abbrev τ : Topo := Topo.v7x

variable {F : FTy → Type} [FloatOps F]
-- ==== Proof.Softmax.lean ====
/- The mathematics of a softmax over two families of scores at the extended reals: scores of -inf carry no weight, so a
   family that only adds such scores leaves the weighted mean as it was; and dividing each weight or the weighted sum by
   the total is the same. -/
module

public import Idealize.ShloMosaic.PureOps.Ideal
public import Idealize.ShloMosaic.PureOps.Ideal.Laws

@[expose] public section

noncomputable section

namespace Cert.Proof.Softmax

open Idealize.ShloMosaic

/-- The weight of a score against a real maximum, as a real number. -/
def wt (M : ℝ) (s : EReal) : ℝ := (Ideal.exp (s - (M : EReal))).toReal

theorem exp_sub_coe (M : ℝ) (s : EReal) (hs : s ≠ ⊤) : Ideal.exp (s - (M : EReal)) = (wt M s : EReal) := by
  induction s with
  | bot => simp [wt]
  | coe r => rw [wt, ← EReal.coe_sub, Ideal.exp_coe, EReal.toReal_coe]
  | top => exact absurd rfl hs

theorem wt_bot (M : ℝ) : wt M ⊥ = 0 := by simp [wt]

theorem wt_nonneg (M : ℝ) (s : EReal) (hs : s ≠ ⊤) : 0 ≤ wt M s := by
  induction s with
  | bot => simp [wt]
  | coe r => rw [wt, ← EReal.coe_sub, Ideal.exp_coe, EReal.toReal_coe]; exact (Real.exp_pos _).le
  | top => exact absurd rfl hs

theorem wt_pos (M r : ℝ) : 0 < wt M (r : EReal) := by
  rw [wt, ← EReal.coe_sub, Ideal.exp_coe, EReal.toReal_coe]; exact Real.exp_pos _

theorem coe_sum {ι : Type*} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ
    (by simp) fun a s ha ih => ?_
  rw [Finset.sum_insert ha, Finset.sum_insert ha, EReal.coe_add, ih]

/-- The kernel's form: the weighted sums of the two families over the total weight. -/
def mean {nK nC : ℕ} (sK : Fin nK → EReal) (sC : Fin nC → EReal) (vK : Fin nK → EReal) (vC : Fin nC → EReal) : EReal :=
  let M := max (Finset.fold max ⊥ sK Finset.univ) (Finset.fold max ⊥ sC Finset.univ)
  Ideal.div (∑ j, Ideal.exp (sK j - M) * vK j + ∑ j, Ideal.exp (sC j - M) * vC j)
    (∑ j, Ideal.exp (sK j - M) + ∑ j, Ideal.exp (sC j - M))

theorem fold_eq_sup {ι : Type*} [Fintype ι] (f : ι → EReal) : Finset.fold max ⊥ f Finset.univ = Finset.univ.sup f := rfl

theorem max_real {ι κ : Type*} [Fintype ι] [Fintype κ] [Nonempty κ] (s : ι → EReal) (sC : κ → ℝ) (hs : ∀ i, s i ≠ ⊤) :
    ∃ M : ℝ, max (Finset.fold max ⊥ s Finset.univ) (Finset.fold max ⊥ (fun j => (sC j : EReal)) Finset.univ) = (M : EReal) := by
  rw [fold_eq_sup, fold_eq_sup]
  have h1 : max (Finset.univ.sup s) (Finset.univ.sup fun j => (sC j : EReal)) ≠ ⊤ := by
    refine (max_lt ?_ ?_).ne
    · exact (Finset.sup_lt_iff bot_lt_top).2 fun i _ => lt_top_iff_ne_top.2 (hs i)
    · exact (Finset.sup_lt_iff bot_lt_top).2 fun i _ => EReal.coe_lt_top _
  have h2 : max (Finset.univ.sup s) (Finset.univ.sup fun j => (sC j : EReal)) ≠ ⊥ := by
    obtain ⟨j⟩ := ‹Nonempty κ›
    refine (lt_of_lt_of_le (EReal.bot_lt_coe (sC j)) (le_max_of_le_right ?_)).ne'
    exact Finset.le_sup (f := fun j => (sC j : EReal)) (Finset.mem_univ j)
  exact ⟨_, (EReal.coe_toReal h1 h2).symm⟩

/-- A family with extra scores of -inf: the maximum is the same. -/
theorem fold_extend {nK nR : ℕ} (sK : Fin nK → EReal) (sR : Fin nR → EReal) (e : Fin nR → Fin nK)
    (hs : ∀ i, sK (e i) = sR i) (hout : ∀ j, (∀ i, e i ≠ j) → sK j = ⊥) :
    Finset.fold max ⊥ sK Finset.univ = Finset.fold max ⊥ sR Finset.univ := by
  rw [fold_eq_sup, fold_eq_sup]
  refine le_antisymm (Finset.sup_le fun j _ => ?_) (Finset.sup_le fun i _ => ?_)
  · by_cases h : ∃ i, e i = j
    · obtain ⟨i, rfl⟩ := h
      rw [hs]; exact Finset.le_sup (Finset.mem_univ i)
    · rw [hout j fun i hi => h ⟨i, hi⟩]; exact bot_le
  · rw [← hs]; exact Finset.le_sup (f := sK) (Finset.mem_univ (e i))

/-- … and a sum of terms that vanish on the extra scores is the same. -/
theorem sum_extend {nK nR : ℕ} (f : Fin nK → EReal) (g : Fin nR → EReal) (e : Fin nR → Fin nK) (he : Function.Injective e)
    (hf : ∀ i, f (e i) = g i) (hout : ∀ j, (∀ i, e i ≠ j) → f j = 0) : ∑ j, f j = ∑ i, g i := by
  refine (Fintype.sum_of_injective e he g f (fun j hj => hout j fun i hi => hj ⟨i, hi⟩) fun i => (hf i).symm).symm

/-- Extra scores of -inf leave the mean as it was. -/
theorem mean_extend {nK nR nC : ℕ} [NeZero nC] (sK : Fin nK → EReal) (sR : Fin nR → EReal) (sC : Fin nC → ℝ) (vK : Fin nK → EReal)
    (vR : Fin nR → EReal) (vC : Fin nC → EReal) (e : Fin nR → Fin nK) (he : Function.Injective e) (hs : ∀ i, sK (e i) = sR i)
    (hv : ∀ i, vK (e i) = vR i) (hout : ∀ j, (∀ i, e i ≠ j) → sK j = ⊥) :
    mean sK (fun j => (sC j : EReal)) vK vC = mean sR (fun j => (sC j : EReal)) vR vC := by
  unfold mean
  rw [fold_extend sK sR e hs hout]
  have hz : ∀ M : EReal, Ideal.exp (⊥ - M) = 0 := fun M => by rw [EReal.bot_sub, Ideal.exp_bot]
  dsimp only
  rw [sum_extend (fun j => Ideal.exp (sK j - _) * vK j) (fun i => Ideal.exp (sR i - _) * vR i) e he
      (fun i => by rw [hs, hv]) (fun j hj => by rw [hout j hj, hz, zero_mul]),
    sum_extend (fun j => Ideal.exp (sK j - _)) (fun i => Ideal.exp (sR i - _)) e he
      (fun i => by rw [hs]) (fun j hj => by rw [hout j hj, hz])]

/-- The reference's form: each weight divided by the total, then the weighted sums. -/
theorem mean_eq {nR nC : ℕ} [NeZero nC] (sR : Fin nR → EReal) (sC : Fin nC → ℝ) (vR : Fin nR → ℝ) (vC : Fin nC → ℝ)
    (hs : ∀ i, sR i ≠ ⊤) (M D : EReal)
    (hM : M = max (Finset.fold max ⊥ sR Finset.univ) (Finset.fold max ⊥ (fun j => (sC j : EReal)) Finset.univ))
    (hD : D = ∑ j, Ideal.exp (sR j - M) + ∑ j, Ideal.exp ((sC j : EReal) - M)) :
    mean sR (fun j => (sC j : EReal)) (fun i => (vR i : EReal)) (fun j => (vC j : EReal))
      = ∑ i, (vR i : EReal) * Ideal.div (Ideal.exp (sR i - M)) D
        + ∑ j, (vC j : EReal) * Ideal.div (Ideal.exp ((sC j : EReal) - M)) D := by
  unfold mean
  obtain ⟨m, hm⟩ := max_real sR sC hs
  dsimp only
  rw [← hM, ← hD]
  rw [hm] at hM
  subst hM
  have hR : ∀ i, Ideal.exp (sR i - (m : EReal)) = (wt m (sR i) : EReal) := fun i => exp_sub_coe m _ (hs i)
  have hC : ∀ j, Ideal.exp ((sC j : EReal) - (m : EReal)) = (wt m (sC j : EReal) : EReal) := fun j =>
    exp_sub_coe m _ (EReal.coe_ne_top _)
  simp only [hR, hC] at hD ⊢
  rw [← coe_sum, ← coe_sum, ← EReal.coe_add] at hD
  have hpos : (0 : ℝ) < ∑ i, wt m (sR i) + ∑ j, wt m (sC j : EReal) :=
    add_pos_of_nonneg_of_pos (Finset.sum_nonneg fun i _ => wt_nonneg m _ (hs i))
      (Finset.sum_pos (fun j _ => wt_pos m _) ⟨0, Finset.mem_univ _⟩)
  subst hD
  simp only [Ideal.div_coe hpos.ne', ← EReal.coe_mul, ← coe_sum, ← EReal.coe_add]
  congr 1
  rw [add_mul, Finset.sum_mul, Finset.sum_mul]
  congr 1 <;> exact Finset.sum_congr rfl fun i _ => by ring

end Cert.Proof.Softmax
end
-- ==== Proof.Body.lean ====
/- What one grid point of the kernel writes: head by head, the mean of the value rows under the window's and the context's scores. -/
module

public import proofs.«01_k».proof.Proof.Gen.NaIdeal.Value
public import proofs.«01_k».proof.Proof.Softmax
public import Idealize.ShloMosaic.Lib.Pipeline.ValueKit
public import Idealize.ShloMosaic.Lib.Pipeline.ReadBack

@[expose] public section

set_option maxRecDepth 16384

noncomputable section

namespace Cert.Proof.NaBody

open Cert.NaIdeal Cert.NaIdeal.Gen Idealize.ShloMosaic Idealize.ShloMosaic.TcCoe Idealize.SL.Sem
open Cert.Proof.Softmax

/-- 1 over the root of the head's width, as both programs round it. -/
def scale : EReal := Ideal.ofBits FTy.f32 1035273459#32

/-- One head of one point, as the body computes it from the blocks it loads. -/
def head (q : Vec Ideal S256x128 .bf16) (k v : Vec Ideal S704x128 .bf16) (b : Vec Ideal S1x1x256x704 .f32)
    (kc vc : Vec Ideal S256x128 .bf16) : FVec Ideal S256x128 .f32 :=
  k0_pay8 v (k0_pay6 q k b kc) (k0_pay7 q k b kc) vc

theorem below_eq : (Named.named κ "below" 4039766730#32 : Ideal .f32) = (⊥ : EReal) := rfl
theorem mask_eq : (Named.named κ "mask" 4048155338#32 : Ideal .f32) = (⊥ : EReal) := rfl
theorem neg_inf : Ideal.ofBits FTy.f32 4286578688#32 = ⊥ := by simp [Ideal.ofBits, Ideal.ieee]

/-- The scores of a query row against the window's keys, -inf where the bias is. -/
theorem win_at (q : Vec Ideal S256x128 .bf16) (k : Vec Ideal S704x128 .bf16) (b : Vec Ideal S1x1x256x704 .f32)
    (x : Fin 256) (j : Fin 704) : k0_pay3 q k b (ix2 x j)
      = if (⊥ : EReal) < b (ix4 0 0 x j) then
          ∑ e : Fin 128, q (ix2 x e) * scale * k (ix2 j e) + b (ix4 0 0 x j) else ⊥ := by
  pointwise [k0_pay3, k0_pay2]
  rw [below_eq, mask_eq]
  rfl

/-- The scores of a query row against the context's keys. -/
theorem ctx_at (q : Vec Ideal S256x128 .bf16) (kc : Vec Ideal S256x128 .bf16) (x : Fin 256) (j : Fin 256) :
    k0_pay4 q kc (ix2 x j) = ∑ e : Fin 128, q (ix2 x e) * scale * kc (ix2 j e) := by
  pointwise [k0_pay4, k0_pay2]
  rfl

theorem max_at (q : Vec Ideal S256x128 .bf16) (k : Vec Ideal S704x128 .bf16) (b : Vec Ideal S1x1x256x704 .f32)
    (kc : Vec Ideal S256x128 .bf16) (x : Fin 256) : k0_pay5 q k b kc (ix2 x 0)
      = max (Finset.fold max ⊥ (fun j : Fin 704 => k0_pay3 q k b (ix2 x j)) Finset.univ)
          (Finset.fold max ⊥ (fun j : Fin 256 => k0_pay4 q kc (ix2 x j)) Finset.univ) := by
  pointwise [k0_pay5]
  rw [neg_inf]

theorem head_at (q : Vec Ideal S256x128 .bf16) (k v : Vec Ideal S704x128 .bf16) (b : Vec Ideal S1x1x256x704 .f32)
    (kc vc : Vec Ideal S256x128 .bf16) (x : Fin 256) (d : Fin 128) : head q k v b kc vc (ix2 x d)
      = mean (fun j : Fin 704 => k0_pay3 q k b (ix2 x j)) (fun j : Fin 256 => k0_pay4 q kc (ix2 x j))
          (fun j => v (ix2 j d)) (fun j => vc (ix2 j d)) := by
  unfold mean
  dsimp only
  rw [← max_at]
  pointwise [head, k0_pay8, k0_pay6, k0_pay7]

/-- What a point leaves at row `x`, head `h`, coordinate `d`, of its blocks: the window's keys are 704 rows of the batch's from
    row `r0` on. -/
def blockMean (X0 : Vec Ideal S256x768 .bf16) (X1 X2 : Vec Ideal S2048x768 .bf16) (X3 X4 : Vec Ideal S256x768 .bf16)
    (X5 : Vec Ideal S1x6x256x704 .f32) (r0 : Fin 1345) (x : Fin 256) (h : Fin 6) (d : Fin 128) : EReal :=
  mean
    (fun j : Fin 704 => if (⊥ : EReal) < X5 (ix4 0 h x j) then
        ∑ e : Fin 128, X0 (ix2 x ⟨128 * h + e, by omega⟩) * scale * X1 (ix2 ⟨r0 + j, by omega⟩ ⟨128 * h + e, by omega⟩) + X5 (ix4 0 h x j) else ⊥)
    (fun j : Fin 256 => ∑ e : Fin 128, X0 (ix2 x ⟨128 * h + e, by omega⟩) * scale * X3 (ix2 j ⟨128 * h + e, by omega⟩))
    (fun j => X2 (ix2 ⟨r0 + j, by omega⟩ ⟨128 * h + d, by omega⟩)) (fun j => X4 (ix2 j ⟨128 * h + d, by omega⟩))

/-- A head computed from its columns of the point's blocks is that mean. -/
theorem head_block (X0 : Vec Ideal S256x768 .bf16) (X1 X2 : Vec Ideal S2048x768 .bf16) (X3 X4 : Vec Ideal S256x768 .bf16)
    (X5 : Vec Ideal S1x6x256x704 .f32) (r0 : Fin 1345) (h : Fin 6)
    (q : Vec Ideal S256x128 .bf16) (k v : Vec Ideal S704x128 .bf16) (b : Vec Ideal S1x1x256x704 .f32) (kc vc : Vec Ideal S256x128 .bf16)
    (hq : ∀ (x : Fin 256) (e : Fin 128), q (ix2 x e) = X0 (ix2 x ⟨128 * h + e, by omega⟩))
    (hk : ∀ (j : Fin 704) (e : Fin 128), k (ix2 j e) = X1 (ix2 ⟨r0 + j, by omega⟩ ⟨128 * h + e, by omega⟩))
    (hv : ∀ (j : Fin 704) (e : Fin 128), v (ix2 j e) = X2 (ix2 ⟨r0 + j, by omega⟩ ⟨128 * h + e, by omega⟩))
    (hb : ∀ (x : Fin 256) (j : Fin 704), b (ix4 0 0 x j) = X5 (ix4 0 h x j))
    (hkc : ∀ (j : Fin 256) (e : Fin 128), kc (ix2 j e) = X3 (ix2 j ⟨128 * h + e, by omega⟩))
    (hvc : ∀ (j : Fin 256) (e : Fin 128), vc (ix2 j e) = X4 (ix2 j ⟨128 * h + e, by omega⟩))
    (x : Fin 256) (d : Fin 128) : head q k v b kc vc (ix2 x d) = blockMean X0 X1 X2 X3 X4 X5 r0 x h d := by
  rw [head_at]
  unfold blockMean
  simp only [win_at, ctx_at, hq, hk, hv, hb, hkc, hvc]

variable (m : (ℓ : Loc nD τ sig) → Buf (Elt Ideal) ℓ)

/-- The first row of a point's window. -/
def row0 (t : Fin grid0.N) : ℕ :=
  BitVec.toNat (Scalar.indexCast (Scalar.muli (Scalar.minsi (21#32) (Scalar.maxsi (0#32)
    (Scalar.subi (Scalar.muli (4#32) (BitVec.ofNat 32 ↑(grid0.coords t 1))) 4#32))) 64#32))

theorem row0_eq : ∀ t : Fin grid0.N, row0 t = 64 * min (4 * (t.val % 8) - 4) 21 := by decide +kernel

theorem row0_lt (t : Fin grid0.N) : row0 t < 1345 := by rw [row0_eq]; omega

/-- One point's block. -/
def block (c : Dev nD) (t : Fin cfg0.N) : Vec Ideal S256x768 .f32 := fun y =>
  blockMean (iblk m c 0 t) (X0_1 m c t) (X0_2 m c t) (iblk m c 3 t) (iblk m c 4 t) (iblk m c 5 t) ⟨row0 t, row0_lt t⟩ (y 0)
    ⟨(y 1).val / 128, by have := (y 1).isLt; change (y 1).val < 768 at this; omega⟩ ⟨(y 1).val % 128, by omega⟩

theorem block_head (c : Dev nD) (t : Fin cfg0.N) (h : Fin 6) (off : ℕ) (hoff : off = 128 * h.val) (inb) (x : (Rect.unit (s := S256x768) ![0, off] ![256, 128] inb).shape.Idx) :
    block m c t ((Rect.unit (s := S256x768) ![0, off] ![256, 128] inb).emb x)
      = blockMean (iblk m c 0 t) (X0_1 m c t) (X0_2 m c t) (iblk m c 3 t) (iblk m c 4 t) (iblk m c 5 t) ⟨row0 t, row0_lt t⟩ (x 0) h (x 1) := by
  have e0 : ((Rect.unit (s := S256x768) ![0, off] ![256, 128] inb).emb x) 0 = (x 0 : Fin 256) := Fin.ext (by
    show 0 + 1 * (x 0).val = (x 0).val; omega)
  have e1 : (((Rect.unit (s := S256x768) ![0, off] ![256, 128] inb).emb x) 1).val = off + (x 1).val := by
    show off + 1 * (x 1).val = _; omega
  have hx : (x 1).val < 128 := (x 1).isLt
  unfold block
  rw [e0]
  congr 1
  · exact Fin.ext (by show _ / 128 = _; rw [e1]; omega)
  · exact Fin.ext (by show _ % 128 = _; rw [e1]; omega)

theorem q_inb (h : Fin 6) : ∀ a, (![0, 128 * h.val] : Fin 2 → ℕ) a + (![256, 128] : Fin 2 → ℕ) a ≤ S256x768.size a := by
  decide +revert
theorem k_inb (t : Fin grid0.N) (h : Fin 6) : ∀ a, (![row0 t, 128 * h.val] : Fin 2 → ℕ) a + (![704, 128] : Fin 2 → ℕ) a ≤ S2048x768.size a := by
  have h1 := row0_lt t
  have h2 := h.isLt
  intro a
  match a with
  | ⟨0, _⟩ => show row0 t + 704 ≤ 2048; omega
  | ⟨1, _⟩ => show 128 * h.val + 128 ≤ 768; omega
theorem b_inb (h : Fin 6) : ∀ a, (![0, h.val, 0, 0] : Fin 4 → ℕ) a + (![1, 1, 256, 704] : Fin 4 → ℕ) a ≤ S1x6x256x704.size a := by
  decide +revert

/-- Head `h`'s columns of a block of 256 rows, -/
def qld (X : Vec Ideal S256x768 .bf16) (h : Fin 6) : Vec Ideal S256x128 .bf16 :=
  View.ld X (Rect.unit (s := S256x768) ![0, 128 * h.val] ![256, 128] (q_inb h))
/-- of a window's rows, -/
def kld (X : Vec Ideal S2048x768 .bf16) (t : Fin grid0.N) (h : Fin 6) : Vec Ideal S704x128 .bf16 :=
  View.ld X (Rect.unit (s := S2048x768) ![row0 t, 128 * h.val] ![704, 128] (k_inb t h))
/-- and its plane of the bias. -/
def bld (X : Vec Ideal S1x6x256x704 .f32) (h : Fin 6) : Vec Ideal S1x1x256x704 .f32 :=
  View.ld X (Rect.unit (s := S1x6x256x704) ![0, h.val, 0, 0] ![1, 1, 256, 704] (b_inb h))

theorem qld_at (X : Vec Ideal S256x768 .bf16) (h : Fin 6) (x : Fin 256) (e : Fin 128) :
    qld X h (ix2 x e) = X (ix2 x ⟨128 * h + e, by omega⟩) :=
  View.ld_unit_apply_of _ _ _ _ _ _ fun a => match a with
    | ⟨0, _⟩ => (Nat.zero_add _).symm
    | ⟨1, _⟩ => rfl
theorem kld_at (X : Vec Ideal S2048x768 .bf16) (t : Fin grid0.N) (h : Fin 6) (j : Fin 704) (e : Fin 128) :
    kld X t h (ix2 j e) = X (ix2 ⟨row0 t + j, by have := row0_lt t; omega⟩ ⟨128 * h + e, by omega⟩) :=
  View.ld_unit_apply_of _ _ _ _ _ _ fun a => match a with
    | ⟨0, _⟩ => rfl
    | ⟨1, _⟩ => rfl
theorem bld_at (X : Vec Ideal S1x6x256x704 .f32) (h : Fin 6) (x : Fin 256) (j : Fin 704) :
    bld X h (ix4 0 0 x j) = X (ix4 0 h x j) :=
  View.ld_unit_apply_of _ _ _ _ _ _ fun a => match a with
    | ⟨0, _⟩ => rfl
    | ⟨1, _⟩ => rfl
    | ⟨2, _⟩ => (Nat.zero_add _).symm
    | ⟨3, _⟩ => (Nat.zero_add _).symm

/-- A head's piece of the point's block: computed from its columns, it is the block at the piece's places. -/
theorem piece (c : Dev nD) (t : Fin cfg0.N) (h : Fin 6) (off : ℕ) (hoff : off = 128 * h.val) (inb)
    (x : (Rect.unit (s := S256x768) ![0, off] ![256, 128] inb).shape.Idx) :
    head (qld (iblk m c 0 t) h) (kld (X0_1 m c t) t h) (kld (X0_2 m c t) t h) (bld (iblk m c 5 t) h) (qld (iblk m c 3 t) h) (qld (iblk m c 4 t) h) x
      = block m c t ((Rect.unit (s := S256x768) ![0, off] ![256, 128] inb).emb x) := by
  rw [block_head m c t h off hoff]
  refine (congrArg (head _ _ _ _ _ _) (eq_ix2 (n0 := 256) (n1 := 128) x)).trans ?_
  exact head_block _ _ _ _ _ _ ⟨row0 t, row0_lt t⟩ h _ _ _ _ _ _ (qld_at _ h) (kld_at _ t h) (kld_at _ t h) (bld_at _ h) (qld_at _ h) (qld_at _ h) (x 0) (x 1)

theorem pieces_cons {G : Vec Ideal S256x768 .f32} {p : View.Piece (Elt Ideal) S256x768 .f32} {L : List (View.Piece (Elt Ideal) S256x768 .f32)}
    (hp : ∀ x : p.1.shape.Idx, p.2 x = G (p.1.emb x)) (hL : View.PiecesOf G L) : View.PiecesOf G (p :: L) := ⟨hp, hL⟩

set_option maxHeartbeats 4000000 in
theorem outs_eq (c : Dev nD) (t : Fin cfg0.N) (y : S256x768.Idx) : outsAt0 m c t y = block m c t y := by
  unfold outsAt0 out0_A_6
  rw [View.read_writes_eq_canon _ _ _ (cover0_A_6 c _ _ _ _ _ _ _ _ _ _ _ _ _ _ _ _ _ _ _ _ _)]
  refine View.canon_apply_of_pieces (Val := Elt Ideal) (block m c t) _ ?_ y
    (cover0_A_6 c _ _ _ _ _ _ _ _ _ _ _ _ _ _ _ _ _ _ _ _ _ y)
  refine View.PiecesOf.mem ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  refine pieces_cons ?_ <| pieces_cons ?_ <| pieces_cons ?_ <| pieces_cons ?_ <| pieces_cons ?_ <| pieces_cons ?_ <| trivial
  · exact piece m c t 5 640 rfl (by decide)
  · exact piece m c t 4 512 rfl (by decide)
  · exact piece m c t 3 384 rfl (by decide)
  · exact piece m c t 2 256 rfl (by decide)
  · exact piece m c t 1 128 rfl (by decide)
  · exact piece m c t 0 0 rfl (by decide)

end Cert.Proof.NaBody
end
-- ==== Proof.Blocks.lean ====
/- The blocks that a grid point reads, as places of the projected columns and of the bias table. -/
module

public import proofs.«01_k».proof.Proof.Body

@[expose] public section

set_option maxRecDepth 16384

noncomputable section

namespace Cert.Proof.NaBlocks

open Cert.NaIdeal Cert.NaIdeal.Gen Idealize.ShloMosaic Idealize.ShloMosaic.TcCoe Idealize.SL.Sem
open Cert.Proof.Softmax Cert.Proof.NaBody

variable (m : (ℓ : Loc nD τ sig) → Buf (Elt Ideal) ℓ)

theorem idx : ∀ t : Fin grid0.N, win0_0.index t = ![t.val, 2] ∧ win0_1.index t = ![t.val / 8, 3] ∧ win0_2.index t = ![t.val / 8, 4]
    ∧ win0_3.index t = ![32 + t.val / 8, 3] ∧ win0_4.index t = ![32 + t.val / 8, 4] ∧ win0_5.index t = ![t.val % 8, 0, 0, 0]
    ∧ win0_6.index t = ![t.val, 0] := by decide +kernel

theorem q_at (c : Dev nD) (t : Fin grid0.N) (x : Fin 256) (y : Fin 768) :
    iblk m c 0 t (ix2 x y) = V m c main_arg0 (ix2 ⟨2048 * (t / 8) + 256 * (t % 8) + x, by have : t.val < 32 := t.isLt; omega⟩ ⟨1536 + y, by omega⟩) := by
  blk_ext [iblk, idx t]
theorem k_at (c : Dev nD) (t : Fin grid0.N) (x : Fin 2048) (y : Fin 768) :
    X0_1 m c t (ix2 x y) = V m c main_arg0 (ix2 ⟨2048 * (t / 8) + x, by have : t.val < 32 := t.isLt; omega⟩ ⟨2304 + y, by omega⟩) := by
  unfold X0_1 Pipeline.Window.fill
  rw [dif_pos (moved0_1 t _)]
  blk_ext [iblk, idx t]
theorem v_at (c : Dev nD) (t : Fin grid0.N) (x : Fin 2048) (y : Fin 768) :
    X0_2 m c t (ix2 x y) = V m c main_arg0 (ix2 ⟨2048 * (t / 8) + x, by have : t.val < 32 := t.isLt; omega⟩ ⟨3072 + y, by omega⟩) := by
  unfold X0_2 Pipeline.Window.fill
  rw [dif_pos (moved0_2 t _)]
  blk_ext [iblk, idx t]
theorem kc_at (c : Dev nD) (t : Fin grid0.N) (x : Fin 256) (y : Fin 768) :
    iblk m c 3 t (ix2 x y) = V m c main_arg0 (ix2 ⟨8192 + 256 * (t / 8) + x, by have : t.val < 32 := t.isLt; omega⟩ ⟨2304 + y, by omega⟩) := by
  blk_ext [iblk, idx t]
theorem vc_at (c : Dev nD) (t : Fin grid0.N) (x : Fin 256) (y : Fin 768) :
    iblk m c 4 t (ix2 x y) = V m c main_arg0 (ix2 ⟨8192 + 256 * (t / 8) + x, by have : t.val < 32 := t.isLt; omega⟩ ⟨3072 + y, by omega⟩) := by
  blk_ext [iblk, idx t]
theorem b_at (c : Dev nD) (t : Fin grid0.N) (h : Fin 6) (x : Fin 256) (y : Fin 704) :
    iblk m c 5 t (ix4 0 h x y) = V m c main_v91 (ix4 ⟨t % 8, by omega⟩ h x y) := by
  blk_ext [iblk, idx t]

end Cert.Proof.NaBlocks
end
-- ==== Proof.Array.lean ====
/- The kernel's result array: every row's head is the mean over its window of the batch's rows and over the batch's context. -/
module

public import proofs.«01_k».proof.Proof.Blocks

@[expose] public section

set_option maxRecDepth 16384

noncomputable section

namespace Cert.Proof.NaArray

open Cert.NaIdeal Cert.NaIdeal.Gen Idealize.ShloMosaic Idealize.ShloMosaic.TcCoe Idealize.SL.Sem
open Cert.Proof.Softmax Cert.Proof.NaBody Cert.Proof.NaBlocks

variable (m : (ℓ : Loc nD τ sig) → Buf (Elt Ideal) ℓ)

/-- The mean that row `x` of block `r` of batch `b` takes at coordinate `d` of head `h`: of the columns `p` and the bias table `T`. -/
def rowMean (p : Vec Ideal S9216x6144 .bf16) (T : Vec Ideal S8x6x256x704 .f32) (b : Fin 4) (r : Fin 8) (x : Fin 256) (h : Fin 6) (d : Fin 128) : EReal :=
  mean
    (fun j : Fin 704 => if (⊥ : EReal) < T (ix4 r h x j) then
        ∑ e : Fin 128, p (ix2 ⟨2048 * b + 256 * r + x, by omega⟩ ⟨1536 + (128 * h + e), by omega⟩) * scale
          * p (ix2 ⟨2048 * b + (64 * min (4 * r.val - 4) 21 + j), by omega⟩ ⟨2304 + (128 * h + e), by omega⟩) + T (ix4 r h x j) else ⊥)
    (fun j : Fin 256 => ∑ e : Fin 128, p (ix2 ⟨2048 * b + 256 * r + x, by omega⟩ ⟨1536 + (128 * h + e), by omega⟩) * scale
          * p (ix2 ⟨8192 + 256 * b + j, by omega⟩ ⟨2304 + (128 * h + e), by omega⟩))
    (fun j => p (ix2 ⟨2048 * b + (64 * min (4 * r.val - 4) 21 + j), by omega⟩ ⟨3072 + (128 * h + d), by omega⟩))
    (fun j => p (ix2 ⟨8192 + 256 * b + j, by omega⟩ ⟨3072 + (128 * h + d), by omega⟩))

theorem blockMean_eq (p : Vec Ideal S9216x6144 .bf16) (T : Vec Ideal S8x6x256x704 .f32) (b : Fin 4) (r : Fin 8) (r0 : Fin 1345) (hr : r0.val = 64 * min (4 * r.val - 4) 21)
    (X0 : Vec Ideal S256x768 .bf16) (X1 X2 : Vec Ideal S2048x768 .bf16) (X3 X4 : Vec Ideal S256x768 .bf16) (X5 : Vec Ideal S1x6x256x704 .f32)
    (h0 : ∀ (x : Fin 256) (y : Fin 768), X0 (ix2 x y) = p (ix2 ⟨2048 * b + 256 * r + x, by omega⟩ ⟨1536 + y, by omega⟩))
    (h1 : ∀ (x : Fin 2048) (y : Fin 768), X1 (ix2 x y) = p (ix2 ⟨2048 * b + x, by omega⟩ ⟨2304 + y, by omega⟩))
    (h2 : ∀ (x : Fin 2048) (y : Fin 768), X2 (ix2 x y) = p (ix2 ⟨2048 * b + x, by omega⟩ ⟨3072 + y, by omega⟩))
    (h3 : ∀ (x : Fin 256) (y : Fin 768), X3 (ix2 x y) = p (ix2 ⟨8192 + 256 * b + x, by omega⟩ ⟨2304 + y, by omega⟩))
    (h4 : ∀ (x : Fin 256) (y : Fin 768), X4 (ix2 x y) = p (ix2 ⟨8192 + 256 * b + x, by omega⟩ ⟨3072 + y, by omega⟩))
    (h5 : ∀ (h : Fin 6) (x : Fin 256) (y : Fin 704), X5 (ix4 0 h x y) = T (ix4 r h x y))
    (x : Fin 256) (h : Fin 6) (d : Fin 128) : blockMean X0 X1 X2 X3 X4 X5 r0 x h d = rowMean p T b r x h d := by
  unfold blockMean rowMean
  simp only [h0, h1, h2, h3, h4, h5, hr]

theorem block_at (c : Dev nD) (t : Fin cfg0.N) (x : Fin 256) (h : Fin 6) (d : Fin 128) :
    blockMean (iblk m c 0 t) (X0_1 m c t) (X0_2 m c t) (iblk m c 3 t) (iblk m c 4 t) (iblk m c 5 t) ⟨row0 t, row0_lt t⟩ x h d
      = rowMean (V m c main_arg0) (V m c main_v91) ⟨t / 8, by have : t.val < 32 := t.isLt; omega⟩ ⟨t % 8, by omega⟩ x h d := by
  refine blockMean_eq (V m c main_arg0) (V m c main_v91) ⟨t.val / 8, _⟩ ⟨t.val % 8, _⟩ ⟨row0 t, row0_lt t⟩ ?_ (iblk m c 0 t) (X0_1 m c t) (X0_2 m c t) (iblk m c 3 t) (iblk m c 4 t) (iblk m c 5 t) ?_ ?_ ?_ ?_ ?_ ?_ x h d
  · exact row0_eq t
  · exact q_at m c t
  · exact k_at m c t
  · exact v_at m c t
  · exact kc_at m c t
  · exact vc_at m c t
  · exact b_at m c t

/-- The result array, place by place. -/
def result (c : Dev nD) : Vec Ideal S8192x768 .f32 := fun i =>
  rowMean (V m c main_arg0) (V m c main_v91) ⟨(i 0).val / 2048, by have : (i 0).val < 8192 := (i 0).isLt; omega⟩
    ⟨(i 0).val / 256 % 8, by omega⟩ ⟨(i 0).val % 256, by omega⟩ ⟨(i 1).val / 128, by have : (i 1).val < 768 := (i 1).isLt; omega⟩ ⟨(i 1).val % 128, by omega⟩

theorem result_at (c : Dev nD) (i : S8192x768.Idx) (t x y : ℕ) (ht : t < 32) (hx : x < 256) (hy : y < 768)
    (h0 : (i 0).val = 256 * t + x) (h1 : (i 1).val = y) :
    result m c i = rowMean (V m c main_arg0) (V m c main_v91) ⟨t / 8, by omega⟩ ⟨t % 8, by omega⟩ ⟨x, hx⟩ ⟨y / 128, by omega⟩ ⟨y % 128, by omega⟩ := by
  unfold result
  congr 1
  · exact Fin.ext (by show (i 0).val / 2048 = t / 8; omega)
  · exact Fin.ext (by show (i 0).val / 256 % 8 = t % 8; omega)
  · exact Fin.ext (by show (i 0).val % 256 = x; omega)
  · exact Fin.ext (by show (i 1).val / 128 = y / 128; omega)
  · exact Fin.ext (by show (i 1).val % 128 = y % 128; omega)

theorem arr_eq (c : Dev nD) : (dats m 0 c).arrAt 6 (cfgs 0).N = result m c := by
  refine (dats m 0 c).arrAt_eq_of_covers 6 _ (by decide +kernel) fun t hf y => ?_
  have e0 : ((((cfg0.win 6).blk t).view.emb y) 0 : ℕ) = 256 * t.val + (y 0).val := by
    blk_simp [idx t]; omega
  have e1 : ((((cfg0.win 6).blk t).view.emb y) 1 : ℕ) = (y 1).val := by
    blk_simp [idx t]
  blk_simp
  rw [after0_6]
  refine (outs_eq m c t _).trans ?_
  unfold block
  exact (block_at m c t (y 0) ⟨_, _⟩ ⟨_, _⟩).trans (result_at m c _ t.val (y 0).val (y 1).val t.isLt (y 0).isLt (y 1).isLt e0 e1).symm

end Cert.Proof.NaArray
end
-- ==== Proof.Gather.lean ====
/- What the lookups of bias entries and of key rows read. -/
module

public import proofs.«01_k».proof.Proof.Gen.NaIdeal
public import proofs.«01_k».proof.Proof.Gen.NaRefIdeal
public import Idealize.ShloMosaic.Lib.Pointwise

@[expose] public section

set_option maxRecDepth 16384

noncomputable section

namespace Cert.Proof.NaGather

open Idealize.ShloMosaic

theorem gather_table {α : Type} (x : Cert.NaIdeal.S6x15x31.Idx → α) (idx : IVec Cert.NaIdeal.S8x4x64x11x64x2 32)
    (h : Fin 6) (rb : Fin 8) (i : Fin 4) (qc : Fin 64) (kr : Fin 11) (kc : Fin 64) :
    Host.gather Cert.NaIdeal.gather_S6x15x31_S8x4x64x11x64x2_S6x8x4x64x11x64_0_12_n_n_12_5_611 x idx (ix6 h rb i qc kr kc)
      = x (ix3 h ⟨min (idx (ix6 rb i qc kr kc (0 : Fin 2))).toInt.toNat 14, by omega⟩
            ⟨min (idx (ix6 rb i qc kr kc (1 : Fin 2))).toInt.toNat 30, by omega⟩) := by
  unfold Host.gather
  refine congrArg x (funext fun a => Fin.ext ?_)
  match a with
  | ⟨0, _⟩ => exact (Nat.zero_add _)
  | ⟨1, _⟩ =>
    show min (idx _).toInt.toNat 14 + 0 + 0 = _
    refine congrArg (fun z => min (idx z).toInt.toNat 14) (funext fun b => Fin.ext ?_)
    match b with
    | ⟨0, _⟩ => rfl
    | ⟨1, _⟩ => rfl
    | ⟨2, _⟩ => rfl
    | ⟨3, _⟩ => rfl
    | ⟨4, _⟩ => rfl
    | ⟨5, _⟩ => rfl
  | ⟨2, _⟩ =>
    show min (idx _).toInt.toNat 30 + 0 + 0 = _
    refine congrArg (fun z => min (idx z).toInt.toNat 30) (funext fun b => Fin.ext ?_)
    match b with
    | ⟨0, _⟩ => rfl
    | ⟨1, _⟩ => rfl
    | ⟨2, _⟩ => rfl
    | ⟨3, _⟩ => rfl
    | ⟨4, _⟩ => rfl
    | ⟨5, _⟩ => rfl

theorem gather_bias {α : Type} (x : Cert.NaRefIdeal.S6x15x31.Idx → α) (idx : IVec Cert.NaRefIdeal.S32x64x8x64x2 32)
    (h : Fin 6) (r : Fin 32) (q : Fin 64) (i : Fin 8) (k : Fin 64) :
    Host.gather Cert.NaRefIdeal.gather_S6x15x31_S32x64x8x64x2_S6x32x64x8x64_0_12_n_n_12_4_611 x idx (ix5 h r q i k)
      = x (ix3 h ⟨min (idx (ix5 r q i k (0 : Fin 2))).toInt.toNat 14, by omega⟩
            ⟨min (idx (ix5 r q i k (1 : Fin 2))).toInt.toNat 30, by omega⟩) := by
  unfold Host.gather
  refine congrArg x (funext fun a => Fin.ext ?_)
  match a with
  | ⟨0, _⟩ => exact (Nat.zero_add _)
  | ⟨1, _⟩ =>
    show min (idx _).toInt.toNat 14 + 0 + 0 = _
    refine congrArg (fun z => min (idx z).toInt.toNat 14) (funext fun b => Fin.ext ?_)
    match b with
    | ⟨0, _⟩ => rfl
    | ⟨1, _⟩ => rfl
    | ⟨2, _⟩ => rfl
    | ⟨3, _⟩ => rfl
    | ⟨4, _⟩ => rfl
  | ⟨2, _⟩ =>
    show min (idx _).toInt.toNat 30 + 0 + 0 = _
    refine congrArg (fun z => min (idx z).toInt.toNat 30) (funext fun b => Fin.ext ?_)
    match b with
    | ⟨0, _⟩ => rfl
    | ⟨1, _⟩ => rfl
    | ⟨2, _⟩ => rfl
    | ⟨3, _⟩ => rfl
    | ⟨4, _⟩ => rfl

theorem gather_rows {α : Type} (x : Cert.NaRefIdeal.S4x32x64x6x128.Idx → α) (idx : IVec Cert.NaRefIdeal.S32x8x1 32)
    (b : Fin 4) (r : Fin 32) (i : Fin 8) (k : Fin 64) (h : Fin 6) (e : Fin 128) :
    Host.gather Cert.NaRefIdeal.gather_S4x32x64x6x128_S32x8x1_S4x32x8x64x6x128_0345_1_n_n_1_2_41646128 x idx (ix6 b r i k h e)
      = x (ix5 b ⟨min (idx (ix3 r i (0 : Fin 1))).toInt.toNat 31, by omega⟩ k h e) := by
  unfold Host.gather
  refine congrArg x (funext fun a => Fin.ext ?_)
  match a with
  | ⟨0, _⟩ => exact (Nat.zero_add _)
  | ⟨1, _⟩ =>
    show min (idx _).toInt.toNat 31 + 0 + 0 = _
    refine congrArg (fun z => min (idx z).toInt.toNat 31) (funext fun b => Fin.ext ?_)
    match b with
    | ⟨0, _⟩ => rfl
    | ⟨1, _⟩ => rfl
    | ⟨2, _⟩ => rfl
  | ⟨2, _⟩ => exact (Nat.zero_add _)
  | ⟨3, _⟩ => exact (Nat.zero_add _)
  | ⟨4, _⟩ => exact (Nat.zero_add _)

end Cert.Proof.NaGather
end
-- ==== Proof.Table.lean ====
/- The bias table of the kernel: at a place of a key inside the query's window the bias of their distance, -inf outside it. -/
module

public import proofs.«01_k».proof.Proof.Body
public import proofs.«01_k».proof.Proof.Gather
public import Idealize.ShloMosaic.Lib.StableHlo.ReadAt

@[expose] public section

set_option maxRecDepth 16384

noncomputable section

namespace Cert.Proof.NaTable

open Cert.NaIdeal Cert.NaIdeal.Gen Idealize.ShloMosaic Idealize.ShloMosaic.TcCoe Idealize.SL.Sem

variable (m : (ℓ : Loc nD τ sig) → Buf (Elt Ideal) ℓ)

/-- Whether the key at `k` is among the `w` keys from the window's first on: the window of a query at `q` begins `w / 2` before it,
    moved into the `n` places there are. -/
abbrev Near (n w q k : ℕ) : Prop := min (q - w / 2) (n - w) ≤ k ∧ k < min (q - w / 2) (n - w) + w

/-- The key row of row `k` of block `r`'s eleven. -/
abbrev keyRow (r k : ℕ) : ℕ := min (4 * r - 4) 21 + k

/-- The word of that row. -/
abbrev keyWord (r k : ℕ) : BitVec 32 :=
  IntOp.addi (IntOp.minsi 21#32 (IntOp.maxsi 0#32 (IntOp.subi (IntOp.muli 4#32 (BitVec.ofNat 32 r)) 4#32))) (BitVec.ofNat 32 k)
/-- The word of the first of the `w` places near a query, -/
abbrev firstWord (q half last : BitVec 32) : BitVec 32 := IntOp.minsi last (IntOp.maxsi 0#32 (IntOp.subi q half))
/-- of the query's row, -/
abbrev rowWord (r i : ℕ) : BitVec 32 := IntOp.addi (IntOp.muli 4#32 (BitVec.ofNat 32 r)) (BitVec.ofNat 32 i)
/-- of a distance, moved up by `s` and into `0 … n`, -/
abbrev distWord (k q s n : BitVec 32) : BitVec 32 := IntOp.minsi n (IntOp.maxsi 0#32 (IntOp.addi (IntOp.subi k q) s))
/-- and of an index, a negative one counted from the end. -/
abbrev indexWord (d n : BitVec 32) : BitVec 32 := Scalar.select (IntOp.cmpi .slt d 0#32) (IntOp.addi d n) d

theorem near_row : ∀ (r : Fin 8) (i : Fin 4) (k : Fin 11),
    IntOp.andi (IntOp.cmpi .sge (keyWord r k) (firstWord (rowWord r i) 4#32 24#32))
        (IntOp.cmpi .slt (keyWord r k) (IntOp.addi (firstWord (rowWord r i) 4#32 24#32) 8#32))
      = if Near 32 8 (4 * r.val + i.val) (keyRow r k) then 1#1 else 0#1 := by decide +kernel

theorem near_col : ∀ (q k : Fin 64),
    IntOp.andi (IntOp.cmpi .sge (BitVec.ofNat 32 k) (firstWord (BitVec.ofNat 32 q) 8#32 48#32))
        (IntOp.cmpi .slt (BitVec.ofNat 32 k) (IntOp.addi (firstWord (BitVec.ofNat 32 q) 8#32 48#32) 16#32))
      = if Near 64 16 q k then 1#1 else 0#1 := by decide +kernel

theorem dist_row : ∀ (r : Fin 8) (i : Fin 4) (k : Fin 11),
    min (indexWord (distWord (keyWord r k) (rowWord r i) 7#32 14#32) 15#32).toInt.toNat 14
      = min (keyRow r k + 7 - (4 * r.val + i.val)) 14 := by decide +kernel

theorem dist_col : ∀ (q k : Fin 64),
    min (indexWord (distWord (BitVec.ofNat 32 k) (BitVec.ofNat 32 q) 15#32 30#32) 31#32).toInt.toNat 30
      = min (k.val + 15 - q.val) 30 := by decide +kernel

theorem select_and {α : Type} (P Q : Prop) [Decidable P] [Decidable Q] (a b : α) :
    Scalar.select (IntOp.andi (if P then 1#1 else 0#1) (if Q then 1#1 else 0#1)) a b = if P ∧ Q then a else b := by
  by_cases hP : P <;> by_cases hQ : Q <;> simp only [hP, hQ, if_true, if_false, and_true, and_false, true_and, false_and] <;> rfl

theorem entry_congr {n a b : ℕ} (h : a = b) (ha : a < n) (hb : b < n) : (⟨a, ha⟩ : Fin n) = ⟨b, hb⟩ := Fin.ext h

/-- The table's entry for the query at column `x % 64` of row `x / 64` of block `r`'s four and the key at column `y % 64` of row
    `y / 64` of its eleven. -/
def entry (rpb : Vec Ideal S6x15x31 .f32) (r : Fin 8) (h : Fin 6) (x : Fin 256) (y : Fin 704) : EReal :=
  if Near 32 8 (4 * r.val + x.val / 64) (keyRow r (y.val / 64)) ∧ Near 64 16 (x.val % 64) (y.val % 64) then
    rpb (ix3 h ⟨min (keyRow r (y.val / 64) + 7 - (4 * r.val + x.val / 64)) 14, by omega⟩ ⟨min (y.val % 64 + 15 - x.val % 64) 30, by omega⟩)
  else ⊥

set_option maxHeartbeats 4000000 in
theorem table_at (c : Dev nD) (r : Fin 8) (h : Fin 6) (x : Fin 256) (y : Fin 704) :
    V m c main_v91 (ix4 r h x y) = entry (m (c, Proc.tc.devRef main_arg1)) r h x y := by
  have hx : x.val / 64 < 4 := by omega
  have hy : y.val / 64 < 11 := by omega
  have n1 := near_row r ⟨x.val / 64, hx⟩ ⟨y.val / 64, hy⟩
  have n2 := near_col ⟨x.val % 64, by omega⟩ ⟨y.val % 64, by omega⟩
  have d1 := dist_row r ⟨x.val / 64, hx⟩ ⟨y.val / 64, hy⟩
  have d2 := dist_col ⟨x.val % 64, by omega⟩ ⟨y.val % 64, by omega⟩
  unfold entry
  unfold V
  after_reads_at
  rw [NaGather.gather_table]
  after_reads_at
  have e : ∀ w : BitVec 32, id (constantI S_ 32 w) ix0 = w := fun _ => rfl
  simp only [e]
  refine (congrArg (fun w => Scalar.select w _ _) (congr (congrArg IntOp.andi n1) n2)).trans ?_
  refine (select_and _ _ _ _).trans ?_
  refine if_congr Iff.rfl ?_ NaBody.neg_inf
  exact congrArg₂ (fun a b => m (c, Proc.tc.devRef main_arg1) (ix3 h a b)) (Fin.ext d1) (Fin.ext d2)

end Cert.Proof.NaTable
end
-- ==== Proof.RefRead.lean ====
/- The reference's stages, place by place: the rows and entries it looks up, its scores, its weights and its sums. -/
module

public import proofs.«01_k».proof.Proof.Gen.NaRefIdeal.Read
public import proofs.«01_k».proof.Proof.Table
public import Idealize.ShloMosaic.Lib.Pointwise

@[expose] public section

set_option maxRecDepth 16384

noncomputable section

namespace Cert.Proof.NaRef

open Cert.NaRefIdeal Cert.NaRefIdeal.Read Idealize.ShloMosaic Idealize.ShloMosaic.TcCoe Idealize.SL.Sem
open Cert.Proof.NaTable
open Cert.Proof.NaBody (scale neg_inf)

variable (p : (⟨S9216x6144, .bf16⟩ : BufTy).Contents (Elt Ideal)) (rpb : (⟨S6x15x31, .f32⟩ : BufTy).Contents (Elt Ideal))

/-- The `i`-th of the eight key rows near row `r`. -/
def near (r : Fin 32) (i : Fin 8) : Fin 32 := ⟨min (r.val - 4) 24 + i.val, by omega⟩

theorem row_word : ∀ (r : Fin 32) (i : Fin 8),
    min (indexWord (IntOp.addi (firstWord (BitVec.ofNat 32 r) 4#32 24#32) (BitVec.ofNat 32 i)) 32#32).toInt.toNat 31
      = (near r i).val := by decide +kernel

theorem dist_word : ∀ (r : Fin 32) (i : Fin 8),
    min (indexWord (IntOp.addi (IntOp.subi (IntOp.addi (firstWord (BitVec.ofNat 32 r) 4#32 24#32) (BitVec.ofNat 32 i)) (BitVec.ofNat 32 r)) 7#32) 15#32).toInt.toNat 14
      = min ((near r i).val + 7 - r.val) 14 := by decide +kernel

theorem first_row (r : Fin 32) : val_main_v20 (F := Ideal) (ix1 r) = firstWord (BitVec.ofNat 32 r) 4#32 24#32 := by
  pointwise [val_main_v20, val_main_call0_v4, val_main_call0_v3, val_main_call0_v2, val_main_call0_v1, val_main_call0_v0, val_main_v19, val_main_v18, val_main_v17]
  rfl

theorem first_col (q : Fin 64) : val_main_v30 (F := Ideal) (ix1 q) = firstWord (BitVec.ofNat 32 q) 8#32 48#32 := by
  pointwise [val_main_v30, val_main_call1_v4, val_main_call1_v3, val_main_call1_v2, val_main_call1_v1, val_main_call1_v0, val_main_v29, val_main_v28, val_main_v27]
  rfl

theorem dist_col_word (q k : Fin 64) : val_main_v71 (F := Ideal) (ix2 q k) = distWord (BitVec.ofNat 32 k) (BitVec.ofNat 32 q) 15#32 30#32 := by
  pointwise [val_main_v71, val_main_call2_v4, val_main_call2_v3, val_main_call2_v2, val_main_call2_v1, val_main_call2_v0, val_main_v70, val_main_v69, val_main_v68, val_main_v67, val_main_v66, val_main_v65, val_main_v64, val_main_v27]
  rfl

theorem rows_at (r : Fin 32) (i : Fin 8) : val_main_v26 (F := Ideal) (ix2 r i)
    = IntOp.addi (firstWord (BitVec.ofNat 32 r) 4#32 24#32) (BitVec.ofNat 32 i) := by
  pointwise [val_main_v26, val_main_v25, val_main_v24, val_main_v23, val_main_v22, val_main_v21]
  rw [first_row]

theorem q_at (b : Fin 4) (r : Fin 32) (h : Fin 6) (e : Fin 128) (q : Fin 64) :
    val_main_v12 (F := Ideal) p (ix5 b r q h e) = p (ix2 ⟨2048 * b + (64 * r + q), by omega⟩ ⟨1536 + (128 * h + e), by omega⟩) * scale := by
  pointwise [val_main_v12, val_main_v11, val_main_cst, val_main_v10, val_main_v5, val_main_v2, val_main_v1, val_main_v0]
  refine congrArg (· * scale) (congrArg p ?_)
  congr 1 <;> exact Fin.ext (by dsimp only; omega)

theorem kc_at (b : Fin 4) (j : Fin 256) (h : Fin 6) (e : Fin 128) :
    val_main_v15 (F := Ideal) p (ix4 b j h e) = p (ix2 ⟨8192 + (256 * b + j), by omega⟩ ⟨2304 + (128 * h + e), by omega⟩) := by
  pointwise [val_main_v15, val_main_v8, val_main_v4, val_main_v3, val_main_v0]
  refine congrArg p ?_
  congr 1 <;> exact Fin.ext (by dsimp only; omega)

theorem vc_at (b : Fin 4) (j : Fin 256) (h : Fin 6) (e : Fin 128) :
    val_main_v16 (F := Ideal) p (ix4 b j h e) = p (ix2 ⟨8192 + (256 * b + j), by omega⟩ ⟨3072 + (128 * h + e), by omega⟩) := by
  pointwise [val_main_v16, val_main_v9, val_main_v4, val_main_v3, val_main_v0]
  refine congrArg p ?_
  congr 1 <;> exact Fin.ext (by dsimp only; omega)

theorem k_row (b : Fin 4) (r : Fin 32) (k : Fin 64) (h : Fin 6) (e : Fin 128) :
    val_main_v13 (F := Ideal) p (ix5 b r k h e) = p (ix2 ⟨2048 * b + (64 * r + k), by omega⟩ ⟨2304 + (128 * h + e), by omega⟩) := by
  pointwise [val_main_v13, val_main_v6, val_main_v2, val_main_v1, val_main_v0]
  refine congrArg p ?_
  congr 1 <;> exact Fin.ext (by dsimp only; omega)

theorem v_row (b : Fin 4) (r : Fin 32) (k : Fin 64) (h : Fin 6) (e : Fin 128) :
    val_main_v14 (F := Ideal) p (ix5 b r k h e) = p (ix2 ⟨2048 * b + (64 * r + k), by omega⟩ ⟨3072 + (128 * h + e), by omega⟩) := by
  pointwise [val_main_v14, val_main_v7, val_main_v2, val_main_v1, val_main_v0]
  refine congrArg p ?_
  congr 1 <;> exact Fin.ext (by dsimp only; omega)

theorem key_index (r : Fin 32) (i : Fin 8) : min (val_main_v49 (F := Ideal) (ix3 r i 0)).toInt.toNat 31 = (near r i).val := by
  refine Eq.trans ?_ (row_word r i)
  pointwise [val_main_v49, val_main_v48, val_main_v47, val_main_v46, val_main_v45, val_main_v44]
  rw [rows_at]
  rfl

theorem value_index (r : Fin 32) (i : Fin 8) : min (val_main_v56 (F := Ideal) (ix3 r i 0)).toInt.toNat 31 = (near r i).val := by
  refine Eq.trans ?_ (row_word r i)
  pointwise [val_main_v56, val_main_v55, val_main_v54, val_main_v53, val_main_v52, val_main_v51]
  rw [rows_at]
  rfl

theorem k_at (b : Fin 4) (r : Fin 32) (i : Fin 8) (k : Fin 64) (h : Fin 6) (e : Fin 128) :
    val_main_v50 (F := Ideal) p (ix6 b r i k h e)
      = p (ix2 ⟨2048 * b + (64 * (near r i).val + k), by omega⟩ ⟨2304 + (128 * h + e), by omega⟩) := by
  unfold val_main_v50
  rw [NaGather.gather_rows, k_row]
  refine congrArg p ?_
  congr 1
  exact Fin.ext (by dsimp only; rw [key_index])

theorem v_at (b : Fin 4) (r : Fin 32) (i : Fin 8) (k : Fin 64) (h : Fin 6) (e : Fin 128) :
    val_main_v57 (F := Ideal) p (ix6 b r i k h e)
      = p (ix2 ⟨2048 * b + (64 * (near r i).val + k), by omega⟩ ⟨3072 + (128 * h + e), by omega⟩) := by
  unfold val_main_v57
  rw [NaGather.gather_rows, v_row]
  refine congrArg p ?_
  congr 1
  exact Fin.ext (by dsimp only; rw [value_index])

theorem mask_at (q k : Fin 64) : val_main_v43 (F := Ideal) (ix2 q k) = if Near 64 16 q k then 1#1 else 0#1 := by
  refine Eq.trans ?_ (near_col q k)
  pointwise [val_main_v43,val_main_v42,val_main_v41,val_main_v40,val_main_v39,val_main_v38,val_main_v37,val_main_v36,val_main_v35,val_main_v34,val_main_v33,val_main_v32,val_main_v31,val_main_v27]
  rw [first_col]
  rfl

theorem row_index (r : Fin 32) (q : Fin 64) (i : Fin 8) (k : Fin 64) :
    min (val_main_v88 (F := Ideal) (ix5 r q i k 0)).toInt.toNat 14 = min ((near r i).val + 7 - r.val) 14 := by
  refine Eq.trans ?_ (dist_word r i)
  pointwise [val_main_v88, val_main_v86, val_main_v84, val_main_v78, val_main_v77, val_main_v76, val_main_v75, val_main_v74, val_main_v72, val_main_v63, val_main_v62, val_main_v61, val_main_v60, val_main_v59, val_main_v17]
  rw [rows_at]
  rfl

theorem col_index (r : Fin 32) (q : Fin 64) (i : Fin 8) (k : Fin 64) :
    min (val_main_v88 (F := Ideal) (ix5 r q i k 1)).toInt.toNat 30 = min (k.val + 15 - q.val) 30 := by
  refine Eq.trans ?_ (dist_col q k)
  pointwise [val_main_v88, val_main_v87, val_main_v85, val_main_v83, val_main_v82, val_main_v81, val_main_v80, val_main_v79, val_main_v73]
  rw [dist_col_word]
  rfl

theorem bias_at (h : Fin 6) (r : Fin 32) (q : Fin 64) (i : Fin 8) (k : Fin 64) :
    val_main_v89 (F := Ideal) rpb (ix5 h r q i k)
      = rpb (ix3 h ⟨min ((near r i).val + 7 - r.val) 14, by omega⟩ ⟨min (k.val + 15 - q.val) 30, by omega⟩) := by
  unfold val_main_v89
  rw [NaGather.gather_bias]
  exact congrArg₂ (fun a b => rpb (ix3 h a b)) (Fin.ext (row_index r q i k)) (Fin.ext (col_index r q i k))

/-- The score of the query at column `q` of row `r` against the key at column `k` of the `i`-th row near it. -/
def score (b : Fin 4) (h : Fin 6) (r : Fin 32) (q : Fin 64) (i : Fin 8) (k : Fin 64) : EReal :=
  if Near 64 16 q k then
    ∑ e : Fin 128, p (ix2 ⟨2048 * b + (64 * r + q), by omega⟩ ⟨1536 + (128 * h + e), by omega⟩) * scale
        * p (ix2 ⟨2048 * b + (64 * (near r i).val + k), by omega⟩ ⟨2304 + (128 * h + e), by omega⟩)
      + rpb (ix3 h ⟨min ((near r i).val + 7 - r.val) 14, by omega⟩ ⟨min (k.val + 15 - q.val) 30, by omega⟩)
  else ⊥

/-- The score of that query against the context's key `j`. -/
def scoreCtx (b : Fin 4) (h : Fin 6) (r : Fin 32) (q : Fin 64) (j : Fin 256) : EReal :=
  ∑ e : Fin 128, p (ix2 ⟨2048 * b + (64 * r + q), by omega⟩ ⟨1536 + (128 * h + e), by omega⟩) * scale
    * p (ix2 ⟨8192 + (256 * b + j), by omega⟩ ⟨2304 + (128 * h + e), by omega⟩)

theorem select_if {α : Type} (P : Prop) [Decidable P] (a b : α) : Scalar.select (if P then 1#1 else 0#1) a b = if P then a else b := by
  by_cases h : P <;> simp only [h, if_true, if_false] <;> rfl

theorem out_value : val_main_call3_v0 (F := Ideal) ix0 = (⊥ : EReal) := neg_inf

theorem s_at (b : Fin 4) (h : Fin 6) (r : Fin 32) (q : Fin 64) (i : Fin 8) (k : Fin 64) :
    val_main_v94 (F := Ideal) p rpb (ix6 b h r q i k) = score p rpb b h r q i k := by
  pointwise [val_main_v94, val_main_v93, val_main_v92, val_main_v91, val_main_v90, val_main_v58, val_main_call3_v1, val_main_call3_v2]
  rw [mask_at, select_if, bias_at]
  unfold score
  simp only [q_at, k_at]
  rw [out_value]

theorem c_at (b : Fin 4) (h : Fin 6) (r : Fin 32) (q : Fin 64) (j : Fin 256) :
    val_main_v96 (F := Ideal) p (ix5 b h r q j) = scoreCtx p b h r q j := by
  pointwise [val_main_v96]
  unfold scoreCtx
  simp only [q_at, kc_at]

theorem all_at (b : Fin 4) (h : Fin 6) (r : Fin 32) (q : Fin 64) (i : Fin 768) :
    val_main_v97 (F := Ideal) p rpb (ix5 b h r q i)
      = if hi : i.val < 512 then score p rpb b h r q ⟨i / 64, by omega⟩ ⟨i % 64, by omega⟩ else scoreCtx p b h r q ⟨i - 512, by omega⟩ := by
  pointwise [val_main_v97, val_main_v95]
  simp only [s_at, c_at]

theorem max_at (b : Fin 4) (h : Fin 6) (r : Fin 32) (q : Fin 64) :
    val_main_v98 (F := Ideal) p rpb (ix4 b h r q) = Finset.fold max ⊥ (fun x : Fin 768 => val_main_v97 (F := Ideal) p rpb (ix5 b h r q x)) Finset.univ := by
  pointwise [val_main_v98]
  exact congrArg (fun z => Finset.fold max z _ _) neg_inf

theorem low_at (i : S_.Idx) : val_main_cst_20 (F := Ideal) i = (⊥ : EReal) := (val_main_cst_20_apply i).trans neg_inf

theorem top_at (b : Fin 4) (h : Fin 6) (r : Fin 32) (q : Fin 64) (i : Fin 768) :
    val_main_v102 (F := Ideal) p rpb (ix5 b h r q i) = val_main_v98 (F := Ideal) p rpb (ix4 b h r q) := by
  have e : idx_main_v101 (idx_main_v102 (ix5 b h r q i)) = ix4 b h r q := funext fun a => match a with
    | ⟨0, _⟩ => rfl
    | ⟨1, _⟩ => rfl
    | ⟨2, _⟩ => rfl
    | ⟨3, _⟩ => rfl
  rw [val_main_v102_apply, val_main_v101_apply, val_main_v100_apply, val_main_v99_apply, low_at, e]
  generalize val_main_v98 (F := Ideal) p rpb (ix4 b h r q) = z
  exact max_eq_right (a := (⊥ : EReal)) bot_le

theorem exp_at (b : Fin 4) (h : Fin 6) (r : Fin 32) (q : Fin 64) (i : Fin 768) :
    val_main_v104 (F := Ideal) p rpb (ix5 b h r q i)
      = Ideal.exp (val_main_v97 (F := Ideal) p rpb (ix5 b h r q i) - val_main_v98 (F := Ideal) p rpb (ix4 b h r q)) := by
  rw [← top_at p rpb b h r q i]
  pointwise [val_main_v104, val_main_v103]

theorem zero_bits : Ideal.ofBits FTy.f32 0#32 = 0 := by simp [Ideal.ofBits, Ideal.ieee]

theorem zero_at (i : S_.Idx) : val_main_cst_21 (F := Ideal) i = (0 : EReal) := (val_main_cst_21_apply i).trans zero_bits

theorem sum_at (b : Fin 4) (h : Fin 6) (r : Fin 32) (q : Fin 64) :
    val_main_v105 (F := Ideal) p rpb (ix4 b h r q)
      = ∑ x : Fin 768, Ideal.exp (val_main_v97 (F := Ideal) p rpb (ix5 b h r q x) - val_main_v98 (F := Ideal) p rpb (ix4 b h r q)) := by
  rw [val_main_v105_apply, zero_at, zero_add]
  refine Finset.sum_congr rfl fun x _ => ?_
  rw [eq_ix5 (n0 := 4) (n1 := 6) (n2 := 32) (n3 := 64) (n4 := 768) (idx_main_v105 (ix4 b h r q) x)]
  exact exp_at p rpb b h r q x

theorem total_at (b : Fin 4) (h : Fin 6) (r : Fin 32) (q : Fin 64) (i : Fin 768) :
    val_main_v107 (F := Ideal) p rpb (ix5 b h r q i)
      = ∑ x : Fin 768, Ideal.exp (val_main_v97 (F := Ideal) p rpb (ix5 b h r q x) - val_main_v98 (F := Ideal) p rpb (ix4 b h r q)) := by
  rw [← sum_at]
  pointwise [val_main_v107, val_main_v106]

theorem out_at (b : Fin 4) (h : Fin 6) (r : Fin 32) (q : Fin 64) (d : Fin 128) :
    val_main_v116 (F := Ideal) p rpb (ix5 b r q h d)
      = ∑ i : Fin 8, ∑ k : Fin 64, p (ix2 ⟨2048 * b + (64 * (near r i).val + k), by omega⟩ ⟨3072 + (128 * h + d), by omega⟩)
          * val_main_v108 (F := Ideal) p rpb (ix5 b h r q ⟨i * 64 + k, by omega⟩)
        + ∑ j : Fin 256, p (ix2 ⟨8192 + (256 * b + j), by omega⟩ ⟨3072 + (128 * h + d), by omega⟩)
          * val_main_v108 (F := Ideal) p rpb (ix5 b h r q ⟨512 + j, by omega⟩) := by
  pointwise [val_main_v116, val_main_v115, val_main_v114, val_main_v113, val_main_v112, val_main_v111, val_main_v110, val_main_v109]
  simp only [v_at, vc_at]

theorem weight_at (b : Fin 4) (h : Fin 6) (r : Fin 32) (q : Fin 64) (i : Fin 768) :
    val_main_v108 (F := Ideal) p rpb (ix5 b h r q i)
      = Ideal.div (Ideal.exp (val_main_v97 (F := Ideal) p rpb (ix5 b h r q i) - val_main_v98 (F := Ideal) p rpb (ix4 b h r q)))
          (∑ x : Fin 768, Ideal.exp (val_main_v97 (F := Ideal) p rpb (ix5 b h r q x) - val_main_v98 (F := Ideal) p rpb (ix4 b h r q))) := by
  rw [← total_at p rpb b h r q i, ← exp_at p rpb b h r q i]
  exact val_main_v108_apply p rpb _

end Cert.Proof.NaRef
end
-- ==== Proof.Split.lean ====
/- Sums and maxima over 768 places, taken as 512 and 256, and over 512 places, taken as 8 rows of 64. -/
module

public import proofs.«01_k».proof.Proof.Softmax

@[expose] public section

set_option maxRecDepth 16384

noncomputable section

namespace Cert.Proof.Split

open Idealize.ShloMosaic

theorem sum_split (f : Fin 768 → EReal) :
    ∑ x, f x = ∑ i : Fin 512, f ⟨i, by omega⟩ + ∑ j : Fin 256, f ⟨512 + j, by omega⟩ := by
  refine (Fin.sum_univ_add (a := 512) (b := 256) f).trans ?_
  rfl

theorem fold_split (f : Fin 768 → EReal) :
    Finset.fold max ⊥ f Finset.univ = max (Finset.fold max ⊥ (fun i : Fin 512 => f ⟨i, by omega⟩) Finset.univ)
      (Finset.fold max ⊥ (fun j : Fin 256 => f ⟨512 + j, by omega⟩) Finset.univ) := by
  rw [Softmax.fold_eq_sup, Softmax.fold_eq_sup, Softmax.fold_eq_sup]
  refine le_antisymm (Finset.sup_le fun x _ => ?_) (max_le (Finset.sup_le fun i _ => ?_) (Finset.sup_le fun j _ => ?_))
  · by_cases h : x.val < 512
    · exact le_max_of_le_left (Finset.le_sup (f := fun i : Fin 512 => f ⟨i, by omega⟩) (Finset.mem_univ ⟨x.val, h⟩))
    · refine le_max_of_le_right (le_of_eq_of_le (congrArg f (Fin.ext ?_)) (Finset.le_sup (f := fun j : Fin 256 => f ⟨512 + j, by omega⟩) (Finset.mem_univ ⟨x.val - 512, by omega⟩)))
      show x.val = 512 + (x.val - 512)
      omega
  · exact Finset.le_sup (Finset.mem_univ _)
  · exact Finset.le_sup (Finset.mem_univ _)

theorem sum_rows (g : Fin 512 → EReal) : ∑ i : Fin 8, ∑ k : Fin 64, g ⟨i * 64 + k, by omega⟩ = ∑ j, g j := by
  rw [← Equiv.sum_comp (finProdFinEquiv : Fin 8 × Fin 64 ≃ Fin 512) g, Fintype.sum_prod_type]
  refine Finset.sum_congr rfl fun i _ => Finset.sum_congr rfl fun k _ => congrArg g (Fin.ext ?_)
  show i.val * 64 + k.val = k.val + 64 * i.val
  omega

end Cert.Proof.Split
end
-- ==== Proof.Equal.lean ====
/- The two attentions agree on real columns and biases: the keys that the kernel's window holds beyond the reference's carry no weight. -/
module

public import proofs.«01_k».proof.Proof.Array
public import proofs.«01_k».proof.Proof.RefRead
public import proofs.«01_k».proof.Proof.Split

@[expose] public section

set_option maxRecDepth 16384

noncomputable section

namespace Cert.Proof.NaEqual

open Idealize.ShloMosaic Idealize.ShloMosaic.TcCoe Idealize.SL.Sem
open Cert.NaRefIdeal (S9216x6144 S6x15x31)
open Cert.NaRefIdeal.Read
open Cert.Proof.Softmax Cert.Proof.NaRef Cert.Proof.NaTable
open Cert.Proof.NaBody (scale)
open Cert.Proof.NaArray (rowMean)

variable (p : Vec Ideal S9216x6144 .bf16) (rpb : Vec Ideal S6x15x31 .f32)

/-- The reference's score against the `j`-th of the 512 keys near row `r`, and that key's value. -/
abbrev scoreAt (b : Fin 4) (h : Fin 6) (r : Fin 32) (q : Fin 64) (j : Fin 512) : EReal :=
  score p rpb b h r q ⟨j / 64, by omega⟩ ⟨j % 64, by omega⟩
abbrev valueAt (b : Fin 4) (h : Fin 6) (r : Fin 32) (d : Fin 128) (j : Fin 512) : EReal :=
  p (ix2 ⟨2048 * b + (64 * (near r ⟨j / 64, by omega⟩).val + j % 64), by omega⟩ ⟨3072 + (128 * h + d), by omega⟩)
abbrev valueCtx (b : Fin 4) (h : Fin 6) (d : Fin 128) (j : Fin 256) : EReal :=
  p (ix2 ⟨8192 + (256 * b + j), by omega⟩ ⟨3072 + (128 * h + d), by omega⟩)

theorem all_left (b : Fin 4) (h : Fin 6) (r : Fin 32) (q : Fin 64) (j : Fin 512) :
    val_main_v97 (F := Ideal) p rpb (ix5 b h r q ⟨j, by omega⟩) = scoreAt p rpb b h r q j := by
  rw [all_at]
  exact dif_pos j.isLt

theorem all_right (b : Fin 4) (h : Fin 6) (r : Fin 32) (q : Fin 64) (j : Fin 256) :
    val_main_v97 (F := Ideal) p rpb (ix5 b h r q ⟨512 + j, by omega⟩) = scoreCtx p b h r q j := by
  rw [all_at]
  refine (dif_neg (by dsimp only; omega)).trans (congrArg _ (Fin.ext ?_))
  show 512 + j.val - 512 = j.val
  omega

variable (P : S9216x6144.Idx → ℝ) (B : S6x15x31.Idx → ℝ) (hP : ∀ i, p i = (P i : EReal)) (hB : ∀ i, rpb i = (B i : EReal))

theorem scale_real : ∃ s : ℝ, scale = (s : EReal) := by
  refine ⟨11863283 * ((2 : ℝ) ^ 27)⁻¹, ?_⟩
  unfold scale
  rw [EReal.coe_mul]
  simp [Ideal.ofBits, Ideal.ieee]

include hP in
/-- A score of real columns is real. -/
theorem dot_real (f g : Fin 128 → S9216x6144.Idx) : ∃ s : ℝ, ∑ e : Fin 128, p (f e) * scale * p (g e) = (s : EReal) := by
  obtain ⟨s, hs⟩ := scale_real
  refine ⟨∑ e : Fin 128, P (f e) * s * P (g e), ?_⟩
  rw [coe_sum]
  refine Finset.sum_congr rfl fun e _ => ?_
  rw [hP, hP, hs, EReal.coe_mul, EReal.coe_mul]

include hP hB in
theorem score_ne_top (b : Fin 4) (h : Fin 6) (r : Fin 32) (q : Fin 64) (i : Fin 8) (k : Fin 64) : score p rpb b h r q i k ≠ ⊤ := by
  unfold score
  split
  · obtain ⟨s, hs⟩ := dot_real p P hP (fun e => ix2 ⟨2048 * b + (64 * r + q), by omega⟩ ⟨1536 + (128 * h + e), by omega⟩)
      (fun e => ix2 ⟨2048 * b + (64 * (near r i).val + k), by omega⟩ ⟨2304 + (128 * h + e), by omega⟩)
    rw [hs, hB, ← EReal.coe_add]
    exact EReal.coe_ne_top _
  · exact bot_ne_top

include hP hB in
/-- The reference's place, as the mean over its keys. -/
theorem ref_mean (b : Fin 4) (h : Fin 6) (r : Fin 32) (q : Fin 64) (d : Fin 128) :
    val_main_v116 (F := Ideal) p rpb (ix5 b r q h d)
      = mean (scoreAt p rpb b h r q) (scoreCtx p b h r q) (valueAt p b h r d) (valueCtx p b h d) := by
  have hc : ∀ j, ∃ s : ℝ, scoreCtx p b h r q j = (s : EReal) := fun j => dot_real p P hP _ _
  choose sC hsC using hc
  have e1 : scoreCtx p b h r q = fun j => (sC j : EReal) := funext hsC
  have hM : val_main_v98 (F := Ideal) p rpb (ix4 b h r q)
      = max (Finset.fold max ⊥ (scoreAt p rpb b h r q) Finset.univ) (Finset.fold max ⊥ (fun j => (sC j : EReal)) Finset.univ) := by
    rw [max_at, Split.fold_split]
    simp only [all_left, all_right, hsC]
  generalize hMg : val_main_v98 (F := Ideal) p rpb (ix4 b h r q) = M at hM
  have hD : ∑ x : Fin 768, Ideal.exp (val_main_v97 (F := Ideal) p rpb (ix5 b h r q x) - M)
      = ∑ j, Ideal.exp (scoreAt p rpb b h r q j - M) + ∑ j, Ideal.exp ((sC j : EReal) - M) := by
    rw [Split.sum_split]
    simp only [all_left, all_right, hsC]
  have key := mean_eq (scoreAt p rpb b h r q) sC
    (fun j => P (ix2 ⟨2048 * b + (64 * (near r ⟨j / 64, by omega⟩).val + j % 64), by omega⟩ ⟨3072 + (128 * h + d), by omega⟩))
    (fun j => P (ix2 ⟨8192 + (256 * b + j), by omega⟩ ⟨3072 + (128 * h + d), by omega⟩))
    (fun j => score_ne_top p rpb P B hP hB b h r q _ _) M _ hM hD
  rw [e1]
  have e2 : valueAt p b h r d = fun j : Fin 512 => (P (ix2 ⟨2048 * b + (64 * (near r ⟨j / 64, by omega⟩).val + j % 64), by omega⟩ ⟨3072 + (128 * h + d), by omega⟩) : EReal) :=
    funext fun j => hP _
  have e3 : valueCtx p b h d = fun j : Fin 256 => (P (ix2 ⟨8192 + (256 * b + j), by omega⟩ ⟨3072 + (128 * h + d), by omega⟩) : EReal) :=
    funext fun j => hP _
  rw [e2, e3, key, out_at]
  refine congrArg₂ (fun a b : EReal => a + b) ?_ ?_
  · rw [← Split.sum_rows]
    refine Finset.sum_congr rfl fun i _ => Finset.sum_congr rfl fun k _ => ?_
    have hi : (⟨(i.val * 64 + k.val) / 64, by omega⟩ : Fin 8) = i := Fin.ext (by dsimp only; omega)
    have hk : (i.val * 64 + k.val) % 64 = k.val := by omega
    rw [weight_at, hMg, ← hP]
    have := all_left p rpb b h r q ⟨i.val * 64 + k.val, by omega⟩
    dsimp only at this ⊢
    rw [this]
    simp only [hi, hk]
  · refine Finset.sum_congr rfl fun j _ => ?_
    rw [weight_at, hMg, ← hP, all_right, hsC]

/-- Where the kernel's window holds the `i`-th of the 512 keys near row `x / 64` of block `rb`'s four. -/
def place (rb : Fin 8) (x : Fin 256) (i : Fin 512) : Fin 704 :=
  ⟨64 * (min (4 * rb.val + x.val / 64 - 4) 24 + i.val / 64 - min (4 * rb.val - 4) 21) + i.val % 64, by omega⟩

theorem place_injective (rb : Fin 8) (x : Fin 256) : Function.Injective (place rb x) := fun i j hij => by
  have h := congrArg Fin.val hij
  unfold place at h
  dsimp only at h
  exact Fin.ext (by omega)

/-- The kernel's score against the key at `j` of its window. -/
abbrev winScore (b : Fin 4) (rb : Fin 8) (x : Fin 256) (h : Fin 6) (j : Fin 704) : EReal :=
  if (⊥ : EReal) < entry rpb rb h x j then
    ∑ e : Fin 128, p (ix2 ⟨2048 * b + 256 * rb + x, by omega⟩ ⟨1536 + (128 * h + e), by omega⟩) * scale
      * p (ix2 ⟨2048 * b + (64 * min (4 * rb.val - 4) 21 + j), by omega⟩ ⟨2304 + (128 * h + e), by omega⟩) + entry rpb rb h x j
  else ⊥

theorem place_congr {a a' : Fin 9216} {c c' : Fin 6144} (ha : a.val = a'.val) (hc : c.val = c'.val) : p (ix2 a c) = p (ix2 a' c') := by
  rw [Fin.ext ha, Fin.ext hc]

include hB in
/-- At such a key the kernel's score is the reference's, -/
theorem score_place (b : Fin 4) (rb : Fin 8) (x : Fin 256) (h : Fin 6) (i : Fin 512) :
    winScore p rpb b rb x h (place rb x i) = scoreAt p rpb b h ⟨4 * rb + x / 64, by omega⟩ ⟨x % 64, by omega⟩ i := by
  have hr : (place rb x i).val / 64 = min (4 * rb.val + x.val / 64 - 4) 24 + i.val / 64 - min (4 * rb.val - 4) 21 := by
    unfold place; dsimp only; omega
  have hc : (place rb x i).val % 64 = i.val % 64 := by unfold place; dsimp only; omega
  have hrow : Near 32 8 (4 * rb.val + x.val / 64) (keyRow rb ((place rb x i).val / 64)) := by
    rw [hr]; unfold Near keyRow; omega
  have hkey : keyRow rb ((place rb x i).val / 64) = (near ⟨4 * rb + x / 64, by omega⟩ ⟨i / 64, by omega⟩).val := by
    rw [hr]; unfold keyRow near; dsimp only; omega
  have he : entry rpb rb h x (place rb x i) = if Near 64 16 (x.val % 64) (i.val % 64) then
      rpb (ix3 h ⟨min ((near ⟨4 * rb + x / 64, by omega⟩ ⟨i / 64, by omega⟩).val + 7 - (4 * rb.val + x.val / 64)) 14, by omega⟩
        ⟨min (i.val % 64 + 15 - x.val % 64) 30, by omega⟩) else ⊥ := by
    unfold entry
    simp only [hc]
    refine if_congr (and_iff_right hrow) ?_ rfl
    simp only [hkey]
  unfold winScore scoreAt score
  rw [he]
  by_cases hn : Near 64 16 (x.val % 64) (i.val % 64)
  · rw [if_pos hn, if_pos hn, hB, if_pos (EReal.bot_lt_coe _)]
    refine congrArg (· + _) (Finset.sum_congr rfl fun e _ => ?_)
    refine congr (congrArg HMul.hMul (congrArg (· * scale) (place_congr p ?_ rfl))) (place_congr p ?_ rfl)
    · dsimp only; omega
    · unfold place near; dsimp only; omega
  · rw [if_neg hn, if_neg hn, if_neg (lt_irrefl _)]

/-- and everywhere else it is -inf. -/
theorem score_outside (b : Fin 4) (rb : Fin 8) (x : Fin 256) (h : Fin 6) (j : Fin 704) (hj : ∀ i, place rb x i ≠ j) :
    winScore p rpb b rb x h j = ⊥ := by
  have hn : ¬ Near 32 8 (4 * rb.val + x.val / 64) (keyRow rb (j.val / 64)) := fun hn => by
    unfold Near keyRow at hn
    refine hj ⟨64 * (min (4 * rb.val - 4) 21 + j.val / 64 - min (4 * rb.val + x.val / 64 - 4) 24) + j.val % 64, by omega⟩ (Fin.ext ?_)
    unfold place
    dsimp only
    omega
  have he : entry rpb rb h x j = ⊥ := by
    unfold entry
    exact if_neg fun hh => hn hh.1
  unfold winScore
  rw [he, if_neg (lt_irrefl _)]

include hP hB in
theorem equal (b : Fin 4) (rb : Fin 8) (x : Fin 256) (h : Fin 6) (d : Fin 128) (T : Vec Ideal Cert.NaIdeal.S8x6x256x704 .f32)
    (hT : ∀ y : Fin 704, T (ix4 rb h x y) = entry rpb rb h x y) :
    rowMean p T b rb x h d = val_main_v116 (F := Ideal) p rpb (ix5 b ⟨4 * rb + x / 64, by omega⟩ ⟨x % 64, by omega⟩ h d) := by
  rw [ref_mean p rpb P B hP hB]
  have hc : ∀ j, ∃ s : ℝ, scoreCtx p b h ⟨4 * rb + x / 64, by omega⟩ ⟨x % 64, by omega⟩ j = (s : EReal) := fun j => dot_real p P hP _ _
  choose sC hsC using hc
  rw [show scoreCtx p b h ⟨4 * rb + x / 64, by omega⟩ ⟨x % 64, by omega⟩ = fun j => (sC j : EReal) from funext hsC]
  rw [← mean_extend (winScore p rpb b rb x h) _ sC
    (fun j => p (ix2 ⟨2048 * b + (64 * min (4 * rb.val - 4) 21 + j), by omega⟩ ⟨3072 + (128 * h + d), by omega⟩)) _ (valueCtx p b h d)
    (place rb x) (place_injective rb x) (score_place p rpb B hB b rb x h)
    (fun i => place_congr p (by unfold place near; dsimp only; omega) rfl) (score_outside p rpb b rb x h)]
  unfold rowMean
  simp only [hT]
  refine congr (congr (congrArg (mean _) (funext fun j => ?_)) rfl) (funext fun j => place_congr p (by dsimp only; omega) rfl)
  rw [← hsC]
  unfold scoreCtx
  refine Finset.sum_congr rfl fun e _ => ?_
  refine congr (congrArg HMul.hMul (congrArg (· * scale) (place_congr p ?_ rfl))) (place_congr p ?_ rfl)
  · dsimp only; omega
  · dsimp only; omega

end Cert.Proof.NaEqual
end
-- ==== Proof.Final.lean ====
/- The two programs leave the same array: the precondition makes every column and every bias a real number, and the two attentions agree on those. -/
module

public import proofs.«01_k».proof.Proof.Equal
public import proofs.«01_k».proof.Defs
public import proofs.«01_k».proof.Proof.Gen.NaIdeal.Value
public import proofs.«01_k».proof.Proof.Gen.NaRefIdeal.Run
public import proofs.«01_k».proof.Proof.Gen.NaRefIdeal.Read
public import proofs.«01_k».proof.Proof.Gen.Pre_finite
public import Idealize.ShloMosaic.Lib.ReduceAll
public import Idealize.ShloMosaic.Lib.Quiescent

@[expose] public section

set_option maxRecDepth 16384

noncomputable section

namespace Cert.Proof.NaFinal

open Idealize.ShloMosaic Idealize.ShloMosaic.TcCoe Idealize.SL.Sem
open Cert.Proof.NaArray Cert.Proof.NaTable

theorem top_bits : Ideal.ofBits FTy.f32 0x7F800000#32 = ⊤ := by simp [Ideal.ofBits, Ideal.ieee]

/-- A value whose magnitude compares below infinity is a real number. -/
theorem real_of_below (x : EReal) (h : Ideal.cmp .olt (max x (-x)) (Ideal.ofBits FTy.f32 0x7F800000#32) = 1#1) : ∃ r : ℝ, x = (r : EReal) := by
  rw [top_bits] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe r => exact ⟨r, rfl⟩
  | top => simp at hlt

/-- The precondition says that every element of both arguments is a real number. -/
theorem real_args (p : Vec Ideal Cert.Pre_finite.S9216x6144 .bf16) (rpb : Vec Ideal Cert.Pre_finite.S6x15x31 .f32)
    (h : Cert.Pre_finite.fn (F := Ideal) p rpb = fun _ => 1#1) :
    (∀ i, ∃ r : ℝ, p i = (r : EReal)) ∧ ∀ i, ∃ r : ℝ, rpb i = (r : EReal) := by
  dsimp only [Cert.Pre_finite.fn] at h
  have h0 := congrFun h (fun d => d.elim0)
  obtain ⟨hp, hb⟩ := IntOp.andi_eq_one.mp h0
  have : Subsingleton Cert.Pre_finite.S_.Idx := ⟨fun a b => funext fun d => d.elim0⟩
  exact ⟨fun i => real_of_below _ (Host.reduce_andi_all _ _ _ _ _ hp i), fun i => real_of_below _ (Host.reduce_andi_all _ _ _ _ _ hb i)⟩

/-- The kernel's array, over real arguments, is the reference's. -/
theorem result_eq (m : (ℓ : Loc Cert.NaIdeal.nD Cert.NaIdeal.τ Cert.NaIdeal.sig) → Buf (Elt Ideal) ℓ) (c : Dev Cert.NaIdeal.nD)
    (h : Cert.Pre_finite.fn (F := Ideal) (m ((c.tc : Thread Cert.NaIdeal.nD Cert.NaIdeal.τ).loc Cert.NaIdeal.main_arg0))
      (m ((c.tc : Thread Cert.NaIdeal.nD Cert.NaIdeal.τ).loc Cert.NaIdeal.main_arg1)) = fun _ => 1#1) :
    result m c = Cert.NaRefIdeal.Read.val_main_v117 (F := Ideal) (m ((c.tc : Thread Cert.NaIdeal.nD Cert.NaIdeal.τ).loc Cert.NaIdeal.main_arg0))
      (m ((c.tc : Thread Cert.NaIdeal.nD Cert.NaIdeal.τ).loc Cert.NaIdeal.main_arg1)) := by
  obtain ⟨hp, hb⟩ := real_args _ _ h
  choose P hP using hp
  choose B hB using hb
  refine funext fun i => ?_
  rw [Cert.NaRefIdeal.Read.val_main_v117_apply]
  unfold result
  rw [Cert.NaIdeal.Gen.V_main_arg0]
  have h0 : (i 0).val < 8192 := (i 0).isLt
  have h1 : (i 1).val < 768 := (i 1).isLt
  refine (NaEqual.equal _ _ P B hP hB _ _ _ _ _ _ fun y => table_at m c _ _ _ y).trans ?_
  refine congrArg _ (funext fun d => Fin.ext ?_)
  fin_cases d <;> (simp [Cert.NaRefIdeal.Read.idx_main_v117, ix5]; try omega)

theorem algebraic : @Cert.algebraic_NaIdeal_NaRefIdeal_pre_finite Cert.NaIdeal.Gen.facts Cert.NaRefIdeal.Gen.facts Cert.Pre_finite.Gen.facts := by
  intro m g m' g' hpre hagree
  refine ⟨fun c => result m c, ?_, ?_⟩
  · refine (θ_run Cert.NaIdeal.defs _ _).mono (fun r hr c => ?_) (Cert.NaIdeal.Value.run_blocks m g)
    obtain ⟨hv, h0, h1⟩ := hr c
    exact ⟨hv.trans (arr_eq m c), h0, h1⟩
  · refine (θ_run Cert.NaRefIdeal.defs _ _).mono (fun r hr c => ?_) (Cert.NaRefIdeal.Value.run m' g')
    obtain ⟨hv, h0, h1⟩ := hr c
    refine ⟨hv.trans ?_, h0, h1⟩
    rw [Cert.NaRefIdeal.Read.val_main_v117_eq, (hagree c).1, (hagree c).2]
    exact (result_eq m c (hpre c)).symm

/-- The reference's frame: its run read at the arguments; it declares no semaphore. -/
theorem frame_ref : @Cert.quiescent_NaRefIdeal Cert.NaRefIdeal.Gen.facts := fun m g _ =>
  (θ_run Cert.NaRefIdeal.defs _ _).mono (fun r h => ⟨fun c => (h c).2, sem_eq_zero_of_no_sems (by decide) r.2⟩) (Cert.NaRefIdeal.Value.run m g)

end Cert.Proof.NaFinal
end
-- ==== Proof.MoeRun.lean ====
/- The body of the expert kernel, run once per case of its two table words: which pieces it leaves in the output
   block and in the two buffers that keep an expert's weights. -/
module

public import proofs.«01_k».proof.Proof.Gen.MoeIdeal.Launch
public import proofs.«01_k».proof.Proof.Gen.MoeIdeal.Skeleton
public import Idealize.ShloMosaic.Lib.Pipeline.Frame
public import Idealize.ShloMosaic.Lib.Pipeline.FrameBody
public import Idealize.ShloMosaic.Lib.Exec
public import Idealize.ShloMosaic.Lib.Claim

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of the program logic, at this program's devices and buffers. -/
abbrev Asrt (F : FTy → Type) := sProp (MT nD τ sig Unit (Elt F) ℕ (UR sig nD τ) ℕ)

/-- The four tables as the body is handed them, and the two buffers that keep the weights. -/
abbrev T0 : Memref sig .tc .smem S104 .i32 := Memref.whole main_v49
abbrev T1 : Memref sig .tc .smem S104 .i32 := Memref.whole main_v36
abbrev T2 : Memref sig .tc .smem S104 .i32 := Memref.whole main_v64
abbrev T3 : Memref sig .tc .smem S1 .i32 := Memref.whole main_v68
abbrev K0 : Memref sig .tc .vmem S2048x1024 .bf16 := Memref.whole cc0_scratch0
abbrev K1 : Memref sig .tc .vmem S512x2048 .bf16 := Memref.whole cc0_scratch1

/-- A table held at half the full share: the pipeline keeps the other half. -/
abbrev heldT (c : Dev nD) {S : Shape} {e : EltTy} (M : Memref sig .tc .smem S e) (f : Buf (Elt F) (M.view.loc (c : Thread nD τ))) : Asrt F :=
  M.view.loc (c : Thread nD τ) ↦{fullShare.right} f

/-- The word a table holds at the offset `off`. -/
abbrev word (c : Dev nD) (M : Memref sig .tc .smem S104 .i32) (f : Buf (Elt F) (M.view.loc (c : Thread nD τ))) (off : Fin 1 → Nat)
    (h : ∀ a, off a + S1.size a ≤ S104.size a) : BitVec 32 :=
  M.view.readAt (Elt F) (Rect.unit (s := S104) off S1.size h) f (Shape.Idx.first (numel1_S1.symm ▸ Nat.one_pos))

set_option maxHeartbeats 4000000 in
/-- A tile whose row is used and whose expert is new: the weights are kept anew and the output written. -/
def runNew (c : Dev nD) (i : grid0.Coords)
    (arg5 : Memref sig .tc .vmem S4096x128 .f32) (harg5 : arg5.IsWhole) (arg6 : Memref sig .tc .vmem S1x1x1x2048x1024 .f32) (harg6 : arg6.IsWhole)
    (arg7 : Memref sig .tc .vmem S1x1x1x512x2048 .f32) (harg7 : arg7.IsWhole) (arg8 : Memref sig .tc .vmem S4096x128 .f32) (harg8 : arg8.IsWhole)
    (arg9 : Memref sig .tc .vmem S2048x1024 .bf16) (harg9 : arg9.IsWhole) (arg10 : Memref sig .tc .vmem S512x2048 .bf16) (harg10 : arg10.IsWhole)
    (t1 : Buf (Elt F) (T1.view.loc (c : Thread nD τ))) (t2 : Buf (Elt F) (T2.view.loc (c : Thread nD τ)))
    (x5 : Vec F S4096x128 .f32) (x6 : Vec F S1x1x1x2048x1024 .f32) (x7 : Vec F S1x1x1x512x2048 .f32)
    (h1 : k0_cond1 (word c T1 t1 (k0_off1 i) (k0_off1_inb i)) = 1#1)
    (h2 : Scalar.cmpi .ne (Scalar.extui (Scalar.cmpi .eq (word c T2 t2 (k0_off2 i) (k0_off2_inb i)) 1#32)) (0#32) = 1#1)
    (h3 : ¬ k0_cond3 (word c T1 t1 (k0_off3 i) (k0_off3_inb i)) = 1#1) :
    { L : List (View.Piece (Elt F) S4096x128 .f32) × List (View.Piece (Elt F) S2048x1024 .bf16) × List (View.Piece (Elt F) S512x2048 .bf16) //
      ∀ (E : Set ℕ) (K : PUnit → Asrt F),
        iprop(heldT c T1 t1 ∗ heldT c T2 t2 ∗ owns (c : Thread nD τ) arg5 fullShare x5 ∗ owns (c : Thread nD τ) arg6 fullShare x6
            ∗ owns (c : Thread nD τ) arg7 fullShare x7 ∗ (∃ d, owns (c : Thread nD τ) arg8 fullShare d)
            ∗ (∃ d, owns (c : Thread nD τ) arg9 fullShare d) ∗ (∃ d, owns (c : Thread nD τ) arg10 fullShare d)
            ∗ (iprop(heldT c T1 t1 ∗ heldT c T2 t2 ∗ owns (c : Thread nD τ) arg5 fullShare x5 ∗ owns (c : Thread nD τ) arg6 fullShare x6
                ∗ owns (c : Thread nD τ) arg7 fullShare x7
                ∗ (∃ e, arg8.view.loc (c : Thread nD τ) ↦[arg8.view.set]{fullShare} arg8.view.writes (Elt F) e L.1)
                ∗ (∃ e, arg9.view.loc (c : Thread nD τ) ↦[arg9.view.set]{fullShare} arg9.view.writes (Elt F) e L.2.1)
                ∗ (∃ e, arg10.view.loc (c : Thread nD τ) ↦[arg10.view.set]{fullShare} arg10.view.writes (Elt F) e L.2.2)) -∗ K ⟨⟩))
          ⊢ wp frame (wpE (defs₀ (F := F)) Variants.none c none) E
              (cc0_moe_ffn_9216 i T0 (Memref.isWhole_whole _) T1 (Memref.isWhole_whole _) T2 (Memref.isWhole_whole _) T3 (Memref.isWhole_whole _)
                arg5 harg5 arg6 harg6 arg7 harg7 arg8 harg8 arg9 harg9 arg10 harg10) K } := by
  refine ⟨⟨?_, ?_, ?_⟩, fun E K => ?run⟩
  case run =>
    simp only [cc0_moe_ffn_9216_eq_skeleton]; unfold cc0_moe_ffn_9216_skel
    simp only [k0_part1_eq_skeleton, k0_part2_eq_skeleton, k0_part3_eq_skeleton, k0_part4_eq_skeleton]
    unfold owns
    iintro ⟨HT1, HT2, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg5.eq_unread hf5; obtain rfl := harg6.eq_unread hf6; obtain rfl := harg7.eq_unread hf7
    sl_exec
    sl_step
    iapply Hk
    isplitl [HT1]; · iexact HT1
    isplitl [HT2]; · iexact HT2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    iexists _; iexact H10

set_option maxHeartbeats 4000000 in
/-- A tile whose row is used and whose expert is the last tile's: the kept weights are read and the output written. -/
def runKept (c : Dev nD) (i : grid0.Coords)
    (arg5 : Memref sig .tc .vmem S4096x128 .f32) (harg5 : arg5.IsWhole) (arg6 : Memref sig .tc .vmem S1x1x1x2048x1024 .f32) (harg6 : arg6.IsWhole)
    (arg7 : Memref sig .tc .vmem S1x1x1x512x2048 .f32) (harg7 : arg7.IsWhole) (arg8 : Memref sig .tc .vmem S4096x128 .f32) (harg8 : arg8.IsWhole)
    (arg9 : Memref sig .tc .vmem S2048x1024 .bf16) (harg9 : arg9.IsWhole) (arg10 : Memref sig .tc .vmem S512x2048 .bf16) (harg10 : arg10.IsWhole)
    (t1 : Buf (Elt F) (T1.view.loc (c : Thread nD τ))) (t2 : Buf (Elt F) (T2.view.loc (c : Thread nD τ)))
    (x5 : Vec F S4096x128 .f32) (x6 : Vec F S1x1x1x2048x1024 .f32) (x7 : Vec F S1x1x1x512x2048 .f32) (x9 : Vec F S2048x1024 .bf16) (x10 : Vec F S512x2048 .bf16)
    (h1 : k0_cond1 (word c T1 t1 (k0_off1 i) (k0_off1_inb i)) = 1#1)
    (h2 : ¬ Scalar.cmpi .ne (Scalar.extui (Scalar.cmpi .eq (word c T2 t2 (k0_off2 i) (k0_off2_inb i)) 1#32)) (0#32) = 1#1)
    (h3 : ¬ k0_cond3 (word c T1 t1 (k0_off3 i) (k0_off3_inb i)) = 1#1) :
    { L : List (View.Piece (Elt F) S4096x128 .f32) //
      ∀ (E : Set ℕ) (K : PUnit → Asrt F),
        iprop(heldT c T1 t1 ∗ heldT c T2 t2 ∗ owns (c : Thread nD τ) arg5 fullShare x5 ∗ owns (c : Thread nD τ) arg6 fullShare x6
            ∗ owns (c : Thread nD τ) arg7 fullShare x7 ∗ (∃ d, owns (c : Thread nD τ) arg8 fullShare d)
            ∗ owns (c : Thread nD τ) arg9 fullShare x9 ∗ owns (c : Thread nD τ) arg10 fullShare x10
            ∗ (iprop(heldT c T1 t1 ∗ heldT c T2 t2 ∗ owns (c : Thread nD τ) arg5 fullShare x5 ∗ owns (c : Thread nD τ) arg6 fullShare x6
                ∗ owns (c : Thread nD τ) arg7 fullShare x7
                ∗ (∃ e, arg8.view.loc (c : Thread nD τ) ↦[arg8.view.set]{fullShare} arg8.view.writes (Elt F) e L)
                ∗ owns (c : Thread nD τ) arg9 fullShare x9
                ∗ owns (c : Thread nD τ) arg10 fullShare x10) -∗ K ⟨⟩))
          ⊢ wp frame (wpE (defs₀ (F := F)) Variants.none c none) E
              (cc0_moe_ffn_9216 i T0 (Memref.isWhole_whole _) T1 (Memref.isWhole_whole _) T2 (Memref.isWhole_whole _) T3 (Memref.isWhole_whole _)
                arg5 harg5 arg6 harg6 arg7 harg7 arg8 harg8 arg9 harg9 arg10 harg10) K } := by
  refine ⟨?_, fun E K => ?run⟩
  case run =>
    simp only [cc0_moe_ffn_9216_eq_skeleton]; unfold cc0_moe_ffn_9216_skel
    simp only [k0_part1_eq_skeleton, k0_part2_eq_skeleton, k0_part3_eq_skeleton, k0_part4_eq_skeleton]
    unfold owns
    iintro ⟨HT1, HT2, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg5.eq_unread hf5; obtain rfl := harg6.eq_unread hf6; obtain rfl := harg7.eq_unread hf7; obtain rfl := harg9.eq_unread hf9; obtain rfl := harg10.eq_unread hf10
    sl_exec
    sl_step
    iapply Hk
    isplitl [HT1]; · iexact HT1
    isplitl [HT2]; · iexact HT2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    iexists _; isplitr; · ipureintro; exact harg10.read_unread _
    iexact H10

set_option maxHeartbeats 4000000 in
/-- A tile whose row is not used: zeros are written. -/
def runUnused (c : Dev nD) (i : grid0.Coords)
    (arg5 : Memref sig .tc .vmem S4096x128 .f32) (harg5 : arg5.IsWhole) (arg6 : Memref sig .tc .vmem S1x1x1x2048x1024 .f32) (harg6 : arg6.IsWhole)
    (arg7 : Memref sig .tc .vmem S1x1x1x512x2048 .f32) (harg7 : arg7.IsWhole) (arg8 : Memref sig .tc .vmem S4096x128 .f32) (harg8 : arg8.IsWhole)
    (arg9 : Memref sig .tc .vmem S2048x1024 .bf16) (harg9 : arg9.IsWhole) (arg10 : Memref sig .tc .vmem S512x2048 .bf16) (harg10 : arg10.IsWhole)
    (t1 : Buf (Elt F) (T1.view.loc (c : Thread nD τ)))
    (h1 : ¬ k0_cond1 (word c T1 t1 (k0_off1 i) (k0_off1_inb i)) = 1#1)
    (h3 : k0_cond3 (word c T1 t1 (k0_off3 i) (k0_off3_inb i)) = 1#1) :
    { L : List (View.Piece (Elt F) S4096x128 .f32) //
      ∀ (E : Set ℕ) (K : PUnit → Asrt F),
        iprop(heldT c T1 t1 ∗ (∃ d, owns (c : Thread nD τ) arg8 fullShare d)
            ∗ (iprop(heldT c T1 t1
                ∗ (∃ e, arg8.view.loc (c : Thread nD τ) ↦[arg8.view.set]{fullShare} arg8.view.writes (Elt F) e L)) -∗ K ⟨⟩))
          ⊢ wp frame (wpE (defs₀ (F := F)) Variants.none c none) E
              (cc0_moe_ffn_9216 i T0 (Memref.isWhole_whole _) T1 (Memref.isWhole_whole _) T2 (Memref.isWhole_whole _) T3 (Memref.isWhole_whole _)
                arg5 harg5 arg6 harg6 arg7 harg7 arg8 harg8 arg9 harg9 arg10 harg10) K } := by
  refine ⟨?_, fun E K => ?run⟩
  case run =>
    simp only [cc0_moe_ffn_9216_eq_skeleton]; unfold cc0_moe_ffn_9216_skel
    simp only [k0_part1_eq_skeleton, k0_part2_eq_skeleton, k0_part3_eq_skeleton, k0_part4_eq_skeleton]
    unfold owns
    iintro ⟨HT1, ⟨%d8, %f8, -, H8⟩, Hk⟩
    sl_exec
    sl_step
    iapply Hk
    isplitl [HT1]; · iexact HT1
    iexists _; iexact H8

end Cert.Proof.Moe

end
-- ==== Proof.MoeBody.lean ====
/- What the body of the expert kernel leaves, per case of its two table words: the expert's weights kept, rounded, and the
   tile's rows through the expert's layer. -/
module

public import proofs.«01_k».proof.Proof.MoeRun
public import Idealize.ShloMosaic.Lib.WholeRead
public import Idealize.ShloMosaic.Lib.Ring
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The layer of one expert on one tile -/

/-- An expert's two stacked projections as they are kept: each entry rounded. -/
def upOf (x : Vec F S1x1x1x2048x1024 .f32) : Vec F S2048x1024 .bf16 :=
  fun y => FloatOps.truncf .bf16 bitsLt_bf16_f32 (x (ix5 0 0 0 (y 0 : Fin 2048) (y 1 : Fin 1024)))
/-- and its last projection. -/
def downOf (x : Vec F S1x1x1x512x2048 .f32) : Vec F S512x2048 .bf16 :=
  fun y => FloatOps.truncf .bf16 bitsLt_bf16_f32 (x (ix5 0 0 0 (y 0 : Fin 512) (y 1 : Fin 2048)))

/-- Every sixteenth row of a tile's block, from row `k` on: columns `128 k` to `128 k + 127` of the tile's 256 rows. -/
def rowsOf (x : Vec F S4096x128 .f32) (k : Fin 16) : Vec F S256x128 .f32 :=
  fun y => x (ix2 ⟨16 * (y 0).val + k.val, by have h : (y 0).val < 256 := (y 0).isLt; have := k.isLt; omega⟩ (y 1 : Fin 128))

/-- A tile's 256 rows, rounded. -/
def tileOf (x : Vec F S4096x128 .f32) : FVec F S256x2048 .bf16 :=
  k0_pay21 (rowsOf x 0) (rowsOf x 1) (rowsOf x 2) (rowsOf x 3) (rowsOf x 4) (rowsOf x 5) (rowsOf x 6) (rowsOf x 7)
    (rowsOf x 8) (rowsOf x 9) (rowsOf x 10) (rowsOf x 11) (rowsOf x 12) (rowsOf x 13) (rowsOf x 14) (rowsOf x 15)

/-- A block of 4096 rows of 128 from 256 rows of 2048. -/
def lay (v : FVec F S256x2048 .f32) : Vec F S4096x128 .f32 := fun y =>
  v (ix2 ⟨(y 0).val / 16, by have h : (y 0).val < 4096 := (y 0).isLt; omega⟩ ⟨128 * ((y 0).val % 16) + (y 1).val, by have h : (y 1).val < 128 := (y 1).isLt; omega⟩)

/-- What a used tile's point leaves: the tile's rows through the layer of the kept weights. -/
def outOf (x : Vec F S4096x128 .f32) (u : Vec F S2048x1024 .bf16) (d : Vec F S512x2048 .bf16) : Vec F S4096x128 .f32 :=
  lay (k0_pay22 (tileOf x) u d)

/-- What an unused tile's point leaves. -/
def zerosOf : Vec F S4096x128 .f32 := k0_pay9

/-! ## The pieces a run leaves agree with these -/

theorem pieces_cons {S : Shape} {e : EltTy} {G : S.Idx → Elt F e} {p : View.Piece (Elt F) S e} {L : List (View.Piece (Elt F) S e)}
    (hp : ∀ x : p.1.shape.Idx, p.2 x = G (p.1.emb x)) (hL : View.PiecesOf G L) : View.PiecesOf G (p :: L) := ⟨hp, hL⟩

theorem up_piece (x : Vec F S1x1x1x2048x1024 .f32) (o : ℕ) (inb) (inb') (p : Vec F S1x1x1x256x1024 .f32 → FVec F S256x1024 .bf16)
    (hp : ∀ v (a : Fin 256) (b : Fin 1024), p v (ix2 a b) = FloatOps.truncf .bf16 bitsLt_bf16_f32 (v (ix5 0 0 0 a b)))
    (y : (Rect.unit (s := S2048x1024) ![o, 0] S256x1024.size inb).shape.Idx) :
    p (View.ld x (Rect.unit (s := S1x1x1x2048x1024) ![0, 0, 0, o, 0] S1x1x1x256x1024.size inb')) y
      = upOf x ((Rect.unit (s := S2048x1024) ![o, 0] S256x1024.size inb).emb y) := by
  refine (congrArg (p _) (eq_ix2 (n0 := 256) (n1 := 1024) y)).trans ((hp _ _ _).trans ?_)
  unfold upOf
  refine congrArg (fun z => FloatOps.truncf .bf16 bitsLt_bf16_f32 (x z)) (funext fun a => Fin.ext ?_)
  match a with
  | ⟨0, _⟩ => rfl
  | ⟨1, _⟩ => rfl
  | ⟨2, _⟩ => rfl
  | ⟨3, _⟩ => rfl
  | ⟨4, _⟩ => rfl

theorem down_piece (x : Vec F S1x1x1x512x2048 .f32) (o : ℕ) (inb) (inb') (p : Vec F S1x1x1x256x2048 .f32 → FVec F S256x2048 .bf16)
    (hp : ∀ v (a : Fin 256) (b : Fin 2048), p v (ix2 a b) = FloatOps.truncf .bf16 bitsLt_bf16_f32 (v (ix5 0 0 0 a b)))
    (y : (Rect.unit (s := S512x2048) ![o, 0] S256x2048.size inb).shape.Idx) :
    p (View.ld x (Rect.unit (s := S1x1x1x512x2048) ![0, 0, 0, o, 0] S1x1x1x256x2048.size inb')) y
      = downOf x ((Rect.unit (s := S512x2048) ![o, 0] S256x2048.size inb).emb y) := by
  refine (congrArg (p _) (eq_ix2 (n0 := 256) (n1 := 2048) y)).trans ((hp _ _ _).trans ?_)
  unfold downOf
  refine congrArg (fun z => FloatOps.truncf .bf16 bitsLt_bf16_f32 (x z)) (funext fun a => Fin.ext ?_)
  match a with
  | ⟨0, _⟩ => rfl
  | ⟨1, _⟩ => rfl
  | ⟨2, _⟩ => rfl
  | ⟨3, _⟩ => rfl
  | ⟨4, _⟩ => rfl

/-- The rows that one strided store writes. -/
theorem mem_rows (k : Fin 16) (inb) (pos) (y : S4096x128.Idx) :
    y ∈ (⟨⟨![k.val, 0], ![256, 128], ![16, 1], inb⟩, pos⟩ : Rect S4096x128).set ↔ (y 0).val % 16 = k.val := by
  have h0 : (y 0).val < 4096 := (y 0).isLt
  have h1 : (y 1).val < 128 := (y 1).isLt
  have hk := k.isLt
  rw [LoadRect.mem_set]
  constructor
  · rintro h
    obtain ⟨j, hj, e⟩ := h 0
    change (y 0).val = k.val + 16 * j at e
    change (y 0).val % 16 = k.val
    omega
  · intro h
    change (y 0).val % 16 = k.val at h
    intro a
    match a with
    | ⟨0, _⟩ => exact ⟨(y 0).val / 16, by show _ < 256; omega, by show (y 0).val = k.val + 16 * _; omega⟩
    | ⟨1, _⟩ => exact ⟨(y 1).val, h1, by show (y 1).val = 0 + 1 * _; omega⟩

theorem out_piece (v : FVec F S256x2048 .f32) (k : Fin 16) (inb) (pos) (p : FVec F S256x128 .f32)
    (hp : ∀ (a : Fin 256) (b : Fin 128), p (ix2 a b) = v (ix2 a ⟨128 * k.val + b.val, by omega⟩))
    (y : (⟨⟨![k.val, 0], ![256, 128], ![16, 1], inb⟩, pos⟩ : Rect S4096x128).shape.Idx) :
    p y = lay v ((⟨⟨![k.val, 0], ![256, 128], ![16, 1], inb⟩, pos⟩ : Rect S4096x128).emb y) := by
  have h0 : (y 0).val < 256 := (y 0).isLt
  have hk := k.isLt
  have e0 : ((⟨⟨![k.val, 0], ![256, 128], ![16, 1], inb⟩, pos⟩ : Rect S4096x128).emb y 0).val = k.val + 16 * (y 0).val := rfl
  have e1 : ((⟨⟨![k.val, 0], ![256, 128], ![16, 1], inb⟩, pos⟩ : Rect S4096x128).emb y 1).val = 0 + 1 * (y 1).val := rfl
  refine (congrArg p (eq_ix2 (n0 := 256) (n1 := 128) y)).trans ((hp _ _).trans ?_)
  unfold lay
  refine congrArg v (congrArg₂ ix2 (Fin.ext ?_) (Fin.ext ?_)) <;> dsimp only <;> rw [e0]
  · omega
  · rw [e1]; omega

theorem off_zero : (![0, 0] : Fin 2 → ℕ) = fun _ => 0 := by decide

/-- The sixteen strided stores reach every row of the block. -/
theorem out_cover (L : List (View.Piece (Elt F) S4096x128 .f32))
    (h : ∀ k : Fin 16, ∃ p ∈ L, ∃ inb pos, p.1 = ⟨⟨![k.val, 0], ![256, 128], ![16, 1], inb⟩, pos⟩) (y : S4096x128.Idx) : ∃ p ∈ L, y ∈ p.1.set := by
  obtain ⟨p, hp, inb, pos, e⟩ := h ⟨(y 0).val % 16, by omega⟩
  exact ⟨p, hp, by rw [e]; exact (mem_rows _ inb pos y).mpr rfl⟩

/-- The sixteen stores of one layer's rows, last first. -/
def outPieces (a : FVec F S256x2048 .bf16) (u : Vec F S2048x1024 .bf16) (d : Vec F S512x2048 .bf16) : List (View.Piece (Elt F) S4096x128 .f32) :=
  [⟨⟨⟨![15, 0], S256x128.size, ![16, 1], inb_S4096x128_S256x128_15_0_s_16_1⟩, spos_16_1⟩, k0_pay8 (k0_pay22 a u d)⟩,
   ⟨⟨⟨![14, 0], S256x128.size, ![16, 1], inb_S4096x128_S256x128_14_0_s_16_1⟩, spos_16_1⟩, k0_pay7 (k0_pay22 a u d)⟩,
   ⟨⟨⟨![13, 0], S256x128.size, ![16, 1], inb_S4096x128_S256x128_13_0_s_16_1⟩, spos_16_1⟩, k0_pay6 (k0_pay22 a u d)⟩,
   ⟨⟨⟨![12, 0], S256x128.size, ![16, 1], inb_S4096x128_S256x128_12_0_s_16_1⟩, spos_16_1⟩, k0_pay5 (k0_pay22 a u d)⟩,
   ⟨⟨⟨![11, 0], S256x128.size, ![16, 1], inb_S4096x128_S256x128_11_0_s_16_1⟩, spos_16_1⟩, k0_pay4 (k0_pay22 a u d)⟩,
   ⟨⟨⟨![10, 0], S256x128.size, ![16, 1], inb_S4096x128_S256x128_10_0_s_16_1⟩, spos_16_1⟩, k0_pay3 (k0_pay22 a u d)⟩,
   ⟨⟨⟨![9, 0], S256x128.size, ![16, 1], inb_S4096x128_S256x128_9_0_s_16_1⟩, spos_16_1⟩, k0_pay2 (k0_pay22 a u d)⟩,
   ⟨⟨⟨![8, 0], S256x128.size, ![16, 1], inb_S4096x128_S256x128_8_0_s_16_1⟩, spos_16_1⟩, k0_pay1 (k0_pay22 a u d)⟩,
   ⟨⟨⟨![7, 0], S256x128.size, ![16, 1], inb_S4096x128_S256x128_7_0_s_16_1⟩, spos_16_1⟩, k0_pay30 a u d⟩,
   ⟨⟨⟨![6, 0], S256x128.size, ![16, 1], inb_S4096x128_S256x128_6_0_s_16_1⟩, spos_16_1⟩, k0_pay29 a u d⟩,
   ⟨⟨⟨![5, 0], S256x128.size, ![16, 1], inb_S4096x128_S256x128_5_0_s_16_1⟩, spos_16_1⟩, k0_pay28 a u d⟩,
   ⟨⟨⟨![4, 0], S256x128.size, ![16, 1], inb_S4096x128_S256x128_4_0_s_16_1⟩, spos_16_1⟩, k0_pay27 a u d⟩,
   ⟨⟨⟨![3, 0], S256x128.size, ![16, 1], inb_S4096x128_S256x128_3_0_s_16_1⟩, spos_16_1⟩, k0_pay26 a u d⟩,
   ⟨⟨⟨![2, 0], S256x128.size, ![16, 1], inb_S4096x128_S256x128_2_0_s_16_1⟩, spos_16_1⟩, k0_pay25 a u d⟩,
   ⟨⟨⟨![1, 0], S256x128.size, ![16, 1], inb_S4096x128_S256x128_1_0_s_16_1⟩, spos_16_1⟩, k0_pay24 a u d⟩,
   ⟨⟨⟨![0, 0], S256x128.size, ![16, 1], inb_S4096x128_S256x128_0_0_s_16_1⟩, spos_16_1⟩, k0_pay23 a u d⟩]

theorem outPieces_cover (a : FVec F S256x2048 .bf16) (u : Vec F S2048x1024 .bf16) (d : Vec F S512x2048 .bf16) (y : S4096x128.Idx) :
    ∃ p ∈ outPieces a u d, y ∈ p.1.set := by
  refine out_cover _ (fun k => ?_) y
  unfold outPieces
  fin_cases k
  · exact ⟨_, .tail _ <| .tail _ <| .tail _ <| .tail _ <| .tail _ <| .tail _ <| .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .tail _ <| .head _, _, _, rfl⟩
  · exact ⟨_, .tail _ <| .tail _ <| .tail _ <| .tail _ <| .tail _ <| .tail _ <| .tail _ <| .head _, _, _, rfl⟩
  · exact ⟨_, .tail _ <| .tail _ <| .tail _ <| .tail _ <| .tail _ <| .tail _ <| .head _, _, _, rfl⟩
  · exact ⟨_, .tail _ <| .tail _ <| .tail _ <| .tail _ <| .tail _ <| .head _, _, _, rfl⟩
  · exact ⟨_, .tail _ <| .tail _ <| .tail _ <| .tail _ <| .head _, _, _, rfl⟩
  · exact ⟨_, .tail _ <| .tail _ <| .tail _ <| .head _, _, _, rfl⟩
  · exact ⟨_, .tail _ <| .tail _ <| .head _, _, _, rfl⟩
  · exact ⟨_, .tail _ <| .head _, _, _, rfl⟩
  · exact ⟨_, .head _, _, _, rfl⟩

/-- Read back, they are the layer's rows. -/
theorem read_outPieces (arg8 : Memref sig .tc .vmem S4096x128 .f32) (f : arg8.view.ty.Contents (Elt F))
    (a : FVec F S256x2048 .bf16) (u : Vec F S2048x1024 .bf16) (d : Vec F S512x2048 .bf16) :
    arg8.view.read (Elt F) (arg8.view.writes (Elt F) f (outPieces a u d)) = lay (k0_pay22 a u d) := by
  rw [View.read_writes_eq_canon _ _ _ (outPieces_cover a u d)]
  funext y
  refine View.canon_apply_of_pieces (Val := Elt F) _ _ ?_ y (outPieces_cover a u d y)
  refine View.PiecesOf.mem ?_
  unfold outPieces
  refine pieces_cons ?_ <| pieces_cons ?_ <| pieces_cons ?_ <| pieces_cons ?_ <| pieces_cons ?_ <| pieces_cons ?_ <| pieces_cons ?_ <| pieces_cons ?_ <| pieces_cons ?_ <| pieces_cons ?_ <| pieces_cons ?_ <| pieces_cons ?_ <| pieces_cons ?_ <| pieces_cons ?_ <| pieces_cons ?_ <| pieces_cons ?_ <| trivial
  · exact out_piece _ 15 _ _ _ (fun a b => by pointwise [k0_pay8])
  · exact out_piece _ 14 _ _ _ (fun a b => by pointwise [k0_pay7])
  · exact out_piece _ 13 _ _ _ (fun a b => by pointwise [k0_pay6])
  · exact out_piece _ 12 _ _ _ (fun a b => by pointwise [k0_pay5])
  · exact out_piece _ 11 _ _ _ (fun a b => by pointwise [k0_pay4])
  · exact out_piece _ 10 _ _ _ (fun a b => by pointwise [k0_pay3])
  · exact out_piece _ 9 _ _ _ (fun a b => by pointwise [k0_pay2])
  · exact out_piece _ 8 _ _ _ (fun a b => by pointwise [k0_pay1])
  · exact out_piece _ 7 _ _ _ (fun a b => by pointwise [k0_pay30])
  · exact out_piece _ 6 _ _ _ (fun a b => by pointwise [k0_pay29])
  · exact out_piece _ 5 _ _ _ (fun a b => by pointwise [k0_pay28])
  · exact out_piece _ 4 _ _ _ (fun a b => by pointwise [k0_pay27])
  · exact out_piece _ 3 _ _ _ (fun a b => by pointwise [k0_pay26])
  · exact out_piece _ 2 _ _ _ (fun a b => by pointwise [k0_pay25])
  · exact out_piece _ 1 _ _ _ (fun a b => by pointwise [k0_pay24])
  · exact out_piece _ 0 _ _ _ (fun a b => by pointwise [k0_pay23])

section New

variable (c : Dev nD) (i : grid0.Coords)
    (arg5 : Memref sig .tc .vmem S4096x128 .f32) (harg5 : arg5.IsWhole) (arg6 : Memref sig .tc .vmem S1x1x1x2048x1024 .f32) (harg6 : arg6.IsWhole)
    (arg7 : Memref sig .tc .vmem S1x1x1x512x2048 .f32) (harg7 : arg7.IsWhole) (arg8 : Memref sig .tc .vmem S4096x128 .f32) (harg8 : arg8.IsWhole)
    (arg9 : Memref sig .tc .vmem S2048x1024 .bf16) (harg9 : arg9.IsWhole) (arg10 : Memref sig .tc .vmem S512x2048 .bf16) (harg10 : arg10.IsWhole)
    (t1 : Buf (Elt F) (T1.view.loc (c : Thread nD τ))) (t2 : Buf (Elt F) (T2.view.loc (c : Thread nD τ)))
    (x5 : Vec F S4096x128 .f32) (x6 : Vec F S1x1x1x2048x1024 .f32) (x7 : Vec F S1x1x1x512x2048 .f32)
    (h1 : k0_cond1 (word c T1 t1 (k0_off1 i) (k0_off1_inb i)) = 1#1)
    (h2 : Scalar.cmpi .ne (Scalar.extui (Scalar.cmpi .eq (word c T2 t2 (k0_off2 i) (k0_off2_inb i)) 1#32)) (0#32) = 1#1)
    (h3 : ¬ k0_cond3 (word c T1 t1 (k0_off3 i) (k0_off3_inb i)) = 1#1)

theorem new_up_cover (y : S2048x1024.Idx) : ∃ p ∈ (runNew c i arg5 harg5 arg6 harg6 arg7 harg7 arg8 harg8 arg9 harg9 arg10 harg10 t1 t2 x5 x6 x7 h1 h2 h3).1.2.1, y ∈ p.1.set :=
  View.cover_of_tiledL (runNew c i arg5 harg5 arg6 harg6 arg7 harg7 arg8 harg8 arg9 harg9 arg10 harg10 t1 t2 x5 x6 x7 h1 h2 h3).1.2.1 S256x1024.size (by sl_kernel_rfl) y
theorem new_down_cover (y : S512x2048.Idx) : ∃ p ∈ (runNew c i arg5 harg5 arg6 harg6 arg7 harg7 arg8 harg8 arg9 harg9 arg10 harg10 t1 t2 x5 x6 x7 h1 h2 h3).1.2.2, y ∈ p.1.set :=
  View.cover_of_tiledL (runNew c i arg5 harg5 arg6 harg6 arg7 harg7 arg8 harg8 arg9 harg9 arg10 harg10 t1 t2 x5 x6 x7 h1 h2 h3).1.2.2 S256x2048.size (by sl_kernel_rfl) y

theorem new_up : View.canon (runNew c i arg5 harg5 arg6 harg6 arg7 harg7 arg8 harg8 arg9 harg9 arg10 harg10 t1 t2 x5 x6 x7 h1 h2 h3).1.2.1 = upOf x6 := by
  funext y
  refine View.canon_apply_of_pieces (Val := Elt F) (upOf x6) _ ?_ y (new_up_cover c i arg5 harg5 arg6 harg6 arg7 harg7 arg8 harg8 arg9 harg9 arg10 harg10 t1 t2 x5 x6 x7 h1 h2 h3 y)
  refine View.PiecesOf.mem ?_
  unfold runNew
  dsimp only
  sl_unfold_words
  simp only [View.readAt_eq_ld, harg6.read_unread]
  refine pieces_cons ?_ <| pieces_cons ?_ <| pieces_cons ?_ <| pieces_cons ?_ <| pieces_cons ?_ <| pieces_cons ?_ <| pieces_cons ?_ <| pieces_cons ?_ <| trivial
  · exact up_piece x6 1792 inb_S2048x1024_S256x1024_1792_0 inb_S1x1x1x2048x1024_S1x1x1x256x1024_0_0_0_1792_0 k0_pay17 (fun v a b => by pointwise [k0_pay17])
  · exact up_piece x6 1536 inb_S2048x1024_S256x1024_1536_0 inb_S1x1x1x2048x1024_S1x1x1x256x1024_0_0_0_1536_0 k0_pay16 (fun v a b => by pointwise [k0_pay16])
  · exact up_piece x6 1280 inb_S2048x1024_S256x1024_1280_0 inb_S1x1x1x2048x1024_S1x1x1x256x1024_0_0_0_1280_0 k0_pay15 (fun v a b => by pointwise [k0_pay15])
  · exact up_piece x6 1024 inb_S2048x1024_S256x1024_1024_0 inb_S1x1x1x2048x1024_S1x1x1x256x1024_0_0_0_1024_0 k0_pay14 (fun v a b => by pointwise [k0_pay14])
  · exact up_piece x6 768 inb_S2048x1024_S256x1024_768_0 inb_S1x1x1x2048x1024_S1x1x1x256x1024_0_0_0_768_0 k0_pay13 (fun v a b => by pointwise [k0_pay13])
  · exact up_piece x6 512 inb_S2048x1024_S256x1024_512_0 inb_S1x1x1x2048x1024_S1x1x1x256x1024_0_0_0_512_0 k0_pay12 (fun v a b => by pointwise [k0_pay12])
  · exact up_piece x6 256 inb_S2048x1024_S256x1024_256_0 inb_S1x1x1x2048x1024_S1x1x1x256x1024_0_0_0_256_0 k0_pay11 (fun v a b => by pointwise [k0_pay11])
  · exact up_piece x6 0 inb_S2048x1024_S256x1024_0_0 inb_S1x1x1x2048x1024_S1x1x1x256x1024_0_0_0_0_0 k0_pay10 (fun v a b => by pointwise [k0_pay10])

theorem new_down : View.canon (runNew c i arg5 harg5 arg6 harg6 arg7 harg7 arg8 harg8 arg9 harg9 arg10 harg10 t1 t2 x5 x6 x7 h1 h2 h3).1.2.2 = downOf x7 := by
  funext y
  refine View.canon_apply_of_pieces (Val := Elt F) (downOf x7) _ ?_ y (new_down_cover c i arg5 harg5 arg6 harg6 arg7 harg7 arg8 harg8 arg9 harg9 arg10 harg10 t1 t2 x5 x6 x7 h1 h2 h3 y)
  refine View.PiecesOf.mem ?_
  unfold runNew
  dsimp only
  sl_unfold_words
  simp only [View.readAt_eq_ld, harg7.read_unread]
  refine pieces_cons ?_ <| pieces_cons ?_ <| trivial
  · exact down_piece x7 256 inb_S512x2048_S256x2048_256_0 inb_S1x1x1x512x2048_S1x1x1x256x2048_0_0_0_256_0 k0_pay20 (fun v a b => by pointwise [k0_pay20])
  · exact down_piece x7 0 inb_S512x2048_S256x2048_0_0 inb_S1x1x1x512x2048_S1x1x1x256x2048_0_0_0_0_0 (fun v => k0_pay19 (k0_pay18 v)) (fun v a b => by pointwise [k0_pay19, k0_pay18])

theorem read_rows (k : Fin 16) (inb) :
    View.readAt (Elt F) arg5.view ⟨![k.val, 0], S256x128.size, ![16, 1], inb⟩ (harg5.unread x5) = rowsOf x5 k := by
  funext y
  rw [harg5.readAt_unread]
  unfold rowsOf
  refine congrArg x5 (funext fun a => Fin.ext ?_)
  match a with
  | ⟨0, _⟩ => exact Nat.add_comm _ _
  | ⟨1, _⟩ => exact (Nat.zero_add _).trans (Nat.one_mul _)

theorem new_out : (runNew c i arg5 harg5 arg6 harg6 arg7 harg7 arg8 harg8 arg9 harg9 arg10 harg10 t1 t2 x5 x6 x7 h1 h2 h3).1.1 = outPieces (tileOf x5) (upOf x6) (downOf x7) := by
  have hu : runNew.sl.v33 c arg6 harg6 arg9 x6 = upOf x6 := by
    unfold runNew.sl.v33
    refine (View.readCov_eq_canon_ld _ (runNew c i arg5 harg5 arg6 harg6 arg7 harg7 arg8 harg8 arg9 harg9 arg10 harg10 t1 t2 x5 x6 x7 h1 h2 h3).1.2.1 _ (new_up_cover c i arg5 harg5 arg6 harg6 arg7 harg7 arg8 harg8 arg9 harg9 arg10 harg10 t1 t2 x5 x6 x7 h1 h2 h3)).trans ((View.ld_unit_zero off_zero _ _).trans ?_)
    exact new_up c i arg5 harg5 arg6 harg6 arg7 harg7 arg8 harg8 arg9 harg9 arg10 harg10 t1 t2 x5 x6 x7 h1 h2 h3
  have hd : runNew.sl.v45 c arg7 harg7 arg10 x7 = downOf x7 := by
    unfold runNew.sl.v45
    refine (View.readCov_eq_canon_ld _ (runNew c i arg5 harg5 arg6 harg6 arg7 harg7 arg8 harg8 arg9 harg9 arg10 harg10 t1 t2 x5 x6 x7 h1 h2 h3).1.2.2 _ (new_down_cover c i arg5 harg5 arg6 harg6 arg7 harg7 arg8 harg8 arg9 harg9 arg10 harg10 t1 t2 x5 x6 x7 h1 h2 h3)).trans ((View.ld_unit_zero off_zero _ _).trans ?_)
    exact new_down c i arg5 harg5 arg6 harg6 arg7 harg7 arg8 harg8 arg9 harg9 arg10 harg10 t1 t2 x5 x6 x7 h1 h2 h3
  have hx : runNew.sl.r_3 c arg5 harg5 x5 = tileOf x5 := by
    unfold runNew.sl.r_3 tileOf
    congr 1
    exacts [read_rows arg5 harg5 x5 0 _, read_rows arg5 harg5 x5 1 _, read_rows arg5 harg5 x5 2 _, read_rows arg5 harg5 x5 3 _, read_rows arg5 harg5 x5 4 _, read_rows arg5 harg5 x5 5 _, read_rows arg5 harg5 x5 6 _, read_rows arg5 harg5 x5 7 _, read_rows arg5 harg5 x5 8 _, read_rows arg5 harg5 x5 9 _, read_rows arg5 harg5 x5 10 _, read_rows arg5 harg5 x5 11 _, read_rows arg5 harg5 x5 12 _, read_rows arg5 harg5 x5 13 _, read_rows arg5 harg5 x5 14 _, read_rows arg5 harg5 x5 15 _]
  show outPieces (runNew.sl.r_3 c arg5 harg5 x5) (runNew.sl.v33 c arg6 harg6 arg9 x6) (runNew.sl.v45 c arg7 harg7 arg10 x7) = _
  rw [hx, hu, hd]

include h1 h2 h3 in
/-- A used tile of a new expert: the expert's weights are kept, and the tile goes through them. -/
theorem new_wp (E : Set ℕ) (K : PUnit → Asrt F) :
    iprop(heldT c T1 t1 ∗ heldT c T2 t2 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (∃ d, owns (c : Thread nD τ) arg9 fullShare d) ∗ (∃ d, owns (c : Thread nD τ) arg10 fullShare d)
        ∗ (iprop(heldT c T1 t1 ∗ heldT c T2 t2 ∗ owns (c : Thread nD τ) arg5 fullShare x5 ∗ owns (c : Thread nD τ) arg6 fullShare x6
            ∗ owns (c : Thread nD τ) arg7 fullShare x7 ∗ owns (c : Thread nD τ) arg8 fullShare (outOf x5 (upOf x6) (downOf x7))
            ∗ owns (c : Thread nD τ) arg9 fullShare (upOf x6) ∗ owns (c : Thread nD τ) arg10 fullShare (downOf x7)) -∗ K ⟨⟩))
      ⊢ wp frame (wpE (defs₀ (F := F)) Variants.none c none) E
          (cc0_moe_ffn_9216 i T0 (Memref.isWhole_whole _) T1 (Memref.isWhole_whole _) T2 (Memref.isWhole_whole _) T3 (Memref.isWhole_whole _)
            arg5 harg5 arg6 harg6 arg7 harg7 arg8 harg8 arg9 harg9 arg10 harg10) K := by
  iintro ⟨HT1, HT2, H5, H6, H7, H8, H9, H10, Hk⟩
  iapply (runNew c i arg5 harg5 arg6 harg6 arg7 harg7 arg8 harg8 arg9 harg9 arg10 harg10 t1 t2 x5 x6 x7 h1 h2 h3).2 E K
  isplitl [HT1]; · iexact HT1
  isplitl [HT2]; · iexact HT2
  isplitl [H5]; · iexact H5
  isplitl [H6]; · iexact H6
  isplitl [H7]; · iexact H7
  isplitl [H8]; · iexact H8
  isplitl [H9]; · iexact H9
  isplitl [H10]; · iexact H10
  iintro ⟨HT1, HT2, H5, H6, H7, ⟨%e8, H8⟩, ⟨%e9, H9⟩, ⟨%e10, H10⟩⟩
  iapply Hk
  isplitl [HT1]; · iexact HT1
  isplitl [HT2]; · iexact HT2
  isplitl [H5]; · iexact H5
  isplitl [H6]; · iexact H6
  isplitl [H7]; · iexact H7
  isplitl [H8]
  · unfold owns; iexists _; isplitr
    swap; · iexact H8
    ipureintro
    rw [new_out]; exact read_outPieces _ _ _ _ _
  isplitl [H9]
  · unfold owns; iexists _; isplitr
    swap; · iexact H9
    ipureintro
    rw [View.read_writes_eq_canon _ _ _ (new_up_cover c i arg5 harg5 arg6 harg6 arg7 harg7 arg8 harg8 arg9 harg9 arg10 harg10 t1 t2 x5 x6 x7 h1 h2 h3), new_up]
  · unfold owns; iexists _; isplitr
    swap; · iexact H10
    ipureintro
    rw [View.read_writes_eq_canon _ _ _ (new_down_cover c i arg5 harg5 arg6 harg6 arg7 harg7 arg8 harg8 arg9 harg9 arg10 harg10 t1 t2 x5 x6 x7 h1 h2 h3), new_down]

end New

section Kept

variable (c : Dev nD) (i : grid0.Coords)
    (arg5 : Memref sig .tc .vmem S4096x128 .f32) (harg5 : arg5.IsWhole) (arg6 : Memref sig .tc .vmem S1x1x1x2048x1024 .f32) (harg6 : arg6.IsWhole)
    (arg7 : Memref sig .tc .vmem S1x1x1x512x2048 .f32) (harg7 : arg7.IsWhole) (arg8 : Memref sig .tc .vmem S4096x128 .f32) (harg8 : arg8.IsWhole)
    (arg9 : Memref sig .tc .vmem S2048x1024 .bf16) (harg9 : arg9.IsWhole) (arg10 : Memref sig .tc .vmem S512x2048 .bf16) (harg10 : arg10.IsWhole)
    (t1 : Buf (Elt F) (T1.view.loc (c : Thread nD τ))) (t2 : Buf (Elt F) (T2.view.loc (c : Thread nD τ)))
    (x5 : Vec F S4096x128 .f32) (x6 : Vec F S1x1x1x2048x1024 .f32) (x7 : Vec F S1x1x1x512x2048 .f32)
    (x9 : Vec F S2048x1024 .bf16) (x10 : Vec F S512x2048 .bf16)
    (h1 : k0_cond1 (word c T1 t1 (k0_off1 i) (k0_off1_inb i)) = 1#1)
    (h2 : ¬ Scalar.cmpi .ne (Scalar.extui (Scalar.cmpi .eq (word c T2 t2 (k0_off2 i) (k0_off2_inb i)) 1#32)) (0#32) = 1#1)
    (h3 : ¬ k0_cond3 (word c T1 t1 (k0_off3 i) (k0_off3_inb i)) = 1#1)

theorem kept_out : (runKept c i arg5 harg5 arg6 harg6 arg7 harg7 arg8 harg8 arg9 harg9 arg10 harg10 t1 t2 x5 x6 x7 x9 x10 h1 h2 h3).1 = outPieces (tileOf x5) x9 x10 := by
  have hx : runKept.sl.r_2 c arg5 harg5 x5 = tileOf x5 := by
    unfold runKept.sl.r_2 tileOf
    congr 1
    exacts [read_rows arg5 harg5 x5 0 _, read_rows arg5 harg5 x5 1 _, read_rows arg5 harg5 x5 2 _, read_rows arg5 harg5 x5 3 _, read_rows arg5 harg5 x5 4 _, read_rows arg5 harg5 x5 5 _, read_rows arg5 harg5 x5 6 _, read_rows arg5 harg5 x5 7 _, read_rows arg5 harg5 x5 8 _, read_rows arg5 harg5 x5 9 _, read_rows arg5 harg5 x5 10 _, read_rows arg5 harg5 x5 11 _, read_rows arg5 harg5 x5 12 _, read_rows arg5 harg5 x5 13 _, read_rows arg5 harg5 x5 14 _, read_rows arg5 harg5 x5 15 _]
  have h9 : View.readAt (Elt F) arg9.view (Rect.unit ![0, 0] S2048x1024.size inb_S2048x1024_S2048x1024_0_0).toLoadRect (harg9.unread x9) = x9 := by
    rw [View.readAt_eq_ld, harg9.read_unread, View.ld_unit_zero off_zero]
  have h10 : View.readAt (Elt F) arg10.view (Rect.unit ![0, 0] S512x2048.size inb_S512x2048_S512x2048_0_0).toLoadRect (harg10.unread x10) = x10 := by
    rw [View.readAt_eq_ld, harg10.read_unread, View.ld_unit_zero off_zero]
  show outPieces (runKept.sl.r_2 c arg5 harg5 x5)
    (View.readAt (Elt F) arg9.view (Rect.unit ![0, 0] S2048x1024.size inb_S2048x1024_S2048x1024_0_0).toLoadRect (harg9.unread x9))
    (View.readAt (Elt F) arg10.view (Rect.unit ![0, 0] S512x2048.size inb_S512x2048_S512x2048_0_0).toLoadRect (harg10.unread x10)) = _
  rw [hx, h9, h10]

include h1 h2 h3 in
/-- A used tile of the last tile's expert: the tile goes through the kept weights. -/
theorem kept_wp (E : Set ℕ) (K : PUnit → Asrt F) :
    iprop(heldT c T1 t1 ∗ heldT c T2 t2 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ owns (c : Thread nD τ) arg9 fullShare x9 ∗ owns (c : Thread nD τ) arg10 fullShare x10
        ∗ (iprop(heldT c T1 t1 ∗ heldT c T2 t2 ∗ owns (c : Thread nD τ) arg5 fullShare x5 ∗ owns (c : Thread nD τ) arg6 fullShare x6
            ∗ owns (c : Thread nD τ) arg7 fullShare x7 ∗ owns (c : Thread nD τ) arg8 fullShare (outOf x5 x9 x10)
            ∗ owns (c : Thread nD τ) arg9 fullShare x9 ∗ owns (c : Thread nD τ) arg10 fullShare x10) -∗ K ⟨⟩))
      ⊢ wp frame (wpE (defs₀ (F := F)) Variants.none c none) E
          (cc0_moe_ffn_9216 i T0 (Memref.isWhole_whole _) T1 (Memref.isWhole_whole _) T2 (Memref.isWhole_whole _) T3 (Memref.isWhole_whole _)
            arg5 harg5 arg6 harg6 arg7 harg7 arg8 harg8 arg9 harg9 arg10 harg10) K := by
  iintro ⟨HT1, HT2, H5, H6, H7, H8, H9, H10, Hk⟩
  iapply (runKept c i arg5 harg5 arg6 harg6 arg7 harg7 arg8 harg8 arg9 harg9 arg10 harg10 t1 t2 x5 x6 x7 x9 x10 h1 h2 h3).2 E K
  isplitl [HT1]; · iexact HT1
  isplitl [HT2]; · iexact HT2
  isplitl [H5]; · iexact H5
  isplitl [H6]; · iexact H6
  isplitl [H7]; · iexact H7
  isplitl [H8]; · iexact H8
  isplitl [H9]; · iexact H9
  isplitl [H10]; · iexact H10
  iintro ⟨HT1, HT2, H5, H6, H7, ⟨%e8, H8⟩, H9, H10⟩
  iapply Hk
  isplitl [HT1]; · iexact HT1
  isplitl [HT2]; · iexact HT2
  isplitl [H5]; · iexact H5
  isplitl [H6]; · iexact H6
  isplitl [H7]; · iexact H7
  isplitl [H8]
  · unfold owns; iexists _; isplitr
    swap; · iexact H8
    ipureintro
    rw [kept_out]; exact read_outPieces _ _ _ _ _
  isplitl [H9]; · iexact H9
  iexact H10

end Kept

/-- A tile that is not used: zeros. -/
theorem unused_wp (c : Dev nD) (i : grid0.Coords)
    (arg5 : Memref sig .tc .vmem S4096x128 .f32) (harg5 : arg5.IsWhole) (arg6 : Memref sig .tc .vmem S1x1x1x2048x1024 .f32) (harg6 : arg6.IsWhole)
    (arg7 : Memref sig .tc .vmem S1x1x1x512x2048 .f32) (harg7 : arg7.IsWhole) (arg8 : Memref sig .tc .vmem S4096x128 .f32) (harg8 : arg8.IsWhole)
    (arg9 : Memref sig .tc .vmem S2048x1024 .bf16) (harg9 : arg9.IsWhole) (arg10 : Memref sig .tc .vmem S512x2048 .bf16) (harg10 : arg10.IsWhole)
    (t1 : Buf (Elt F) (T1.view.loc (c : Thread nD τ)))
    (h1 : ¬ k0_cond1 (word c T1 t1 (k0_off1 i) (k0_off1_inb i)) = 1#1)
    (h3 : k0_cond3 (word c T1 t1 (k0_off3 i) (k0_off3_inb i)) = 1#1)
    (E : Set ℕ) (K : PUnit → Asrt F) :
    iprop(heldT c T1 t1 ∗ (∃ d, owns (c : Thread nD τ) arg8 fullShare d)
        ∗ (iprop(heldT c T1 t1 ∗ owns (c : Thread nD τ) arg8 fullShare zerosOf) -∗ K ⟨⟩))
      ⊢ wp frame (wpE (defs₀ (F := F)) Variants.none c none) E
          (cc0_moe_ffn_9216 i T0 (Memref.isWhole_whole _) T1 (Memref.isWhole_whole _) T2 (Memref.isWhole_whole _) T3 (Memref.isWhole_whole _)
            arg5 harg5 arg6 harg6 arg7 harg7 arg8 harg8 arg9 harg9 arg10 harg10) K := by
  iintro ⟨HT1, H8, Hk⟩
  iapply (runUnused c i arg5 harg5 arg6 harg6 arg7 harg7 arg8 harg8 arg9 harg9 arg10 harg10 t1 h1 h3).2 E K
  isplitl [HT1]; · iexact HT1
  isplitl [H8]; · iexact H8
  iintro ⟨HT1, ⟨%e8, H8⟩⟩
  iapply Hk
  isplitl [HT1]; · iexact HT1
  unfold owns; iexists _; isplitr
  swap; · iexact H8
  ipureintro
  refine (View.read_writes_eq_canon _ _ _ fun y => ⟨_, .head _, View.mem_set_unit_zero off_zero inb_S4096x128_S4096x128_0_0 y⟩).trans ?_
  exact View.canon_unit_zero off_zero _ _

end Cert.Proof.Moe

end
-- ==== Proof.MoeTables.lean ====
/- The four tables of the expert kernel: what the kernel needs of them, and the blocks, the stored tiles and the
   branches they choose at each tile. -/
module

public import proofs.«01_k».proof.Proof.MoeBody

@[expose] public section

set_option maxRecDepth 16384

noncomputable section

namespace Cert.Proof.Moe

open Cert.MoeIdeal Cert.MoeIdeal.Gen
open Idealize.ShloMosaic Idealize.ShloMosaic.TcCoe Idealize.ShloMosaic.Tactic

variable {F : FTy → Type} [FloatOps F]

/-- A tile as an index of a table. -/
abbrev at104 (k : Fin 104) : S104.Idx := fun | ⟨0, _⟩ => k

/-- The one index of the count's table. -/
abbrev at1 : S1.Idx := fun | ⟨0, _⟩ => (0 : Fin 1)

/-- The tables' words: the tile's expert, whether its rows are used, whether its expert is new, and how many tiles are used. -/
abbrev teW (pf : pre0.Contents (Elt F)) (k : Fin 104) : BitVec 32 := pf 0 (at104 k)
abbrev tvW (pf : pre0.Contents (Elt F)) (k : Fin 104) : BitVec 32 := pf 1 (at104 k)
abbrev tfW (pf : pre0.Contents (Elt F)) (k : Fin 104) : BitVec 32 := pf 2 (at104 k)
abbrev nvW (pf : pre0.Contents (Elt F)) : BitVec 32 := pf 3 at1

/-- What the kernel needs of the tables, `n` tiles being used. -/
structure Good (pf : pre0.Contents (Elt F)) (n : ℕ) : Prop where
  pos : 1 ≤ n
  le : n ≤ 104
  nv : nvW pf = BitVec.ofNat 32 n
  te : ∀ k, (teW pf k).toNat < 32
  tv : ∀ k, tvW pf k = if k.val < n then 1#32 else 0#32
  first : tfW pf 0 = 1#32
  turn : ∀ k k' : Fin 104, k.val = k'.val + 1 → k.val < n → teW pf k ≠ teW pf k' → tfW pf k = 1#32

/-- The row block a tile reads: its own while used, the last used after. -/
theorem rows_min : ∀ (i : Fin 104) (n : Fin 105), 1 ≤ n.val →
    (Scalar.minsi (BitVec.ofNat 32 i.val) (Scalar.subi (BitVec.ofNat 32 n.val) 1#32)).toNat = min i.val (n.val - 1) := by decide +kernel

theorem rows_index {pf : pre0.Contents (Elt F)} {n : ℕ} (G : Good pf n) (inb) (num) (i : grid0.Coords) :
    cc0_transform_0 inb num pf i = ![min (i 0).val (n - 1), 0] := by
  have h3 : pf.at 3 (Rect.unit (s := S1) ![0] S1.size inb) num = BitVec.ofNat 32 n := by
    rw [← G.nv]
    exact congrArg (pf 3) (funext fun a => match a with | ⟨0, _⟩ => Subsingleton.elim (α := Fin 1) _ _)
  unfold cc0_transform_0
  rw [h3]
  have := rows_min (i 0) ⟨n, by have := G.le; omega⟩ G.pos
  dsimp only at this ⊢
  rw [this]; rfl

/-- The point a table is read at is the tile's. -/
theorem word_point (i : grid0.Coords) (off : Fin 1 → ℕ) (ho : off = ![(i 0).val]) (h : ∀ a, off a + S1.size a ≤ S104.size a) (num) :
    (Rect.unit (s := S104) off S1.size h).emb (Shape.Idx.first num) = at104 (i 0) := by
  subst ho
  funext a
  match a with
  | ⟨0, _⟩ =>
    apply Fin.ext
    rw [Rect.emb_apply]
    have h1 : ((Shape.Idx.first num : S1.Idx) 0).val < 1 := ((Shape.Idx.first num : S1.Idx) 0).isLt
    show (i 0).val + 1 * ((Shape.Idx.first num : S1.Idx) 0).val = (i 0).val
    omega

theorem expert_index1 {pf : pre0.Contents (Elt F)} (i : grid0.Coords) (hte : (teW pf (i 0)).toNat < 32) (inb) (num) :
    cc0_transform_1 inb num pf i = ![0, (teW pf (i 0)).toNat / 8, (teW pf (i 0)).toNat % 8, 0, 0] := by
  have h0 : pf.at 0 (Rect.unit (s := S104) ![(Scalar.indexCast (BitVec.ofNat 32 (i 0).val)).toNat] S1.size (inb i)) num = teW pf (i 0) :=
    congrArg (pf 0) (word_point i _ (k0_off1_eq i) _ _)
  unfold cc0_transform_1
  dsimp only
  rw [h0]
  revert hte
  generalize teW pf (i 0) = e
  intro he
  obtain ⟨k, rfl⟩ : ∃ k : Fin 32, e = BitVec.ofNat 32 k.val := ⟨⟨e.toNat, he⟩, by simp⟩
  clear he h0
  revert k
  decide +kernel

theorem expert_index2 {pf : pre0.Contents (Elt F)} (i : grid0.Coords) (inb) (num) :
    cc0_transform_2 inb num pf i = cc0_transform_1 inb num pf i := rfl

theorem ok_of_good {pf : pre0.Contents (Elt F)} {n : ℕ} (G : Good pf n) : ok0 pf := by
  refine ⟨fun i => ⟨fun a => ?_, .inl rfl⟩, fun i => ⟨fun a => ?_, .inl rfl⟩, fun i => ⟨fun a => ?_, .inl rfl⟩⟩
  · rw [rows_index G]
    have hi : (i 0).val < 104 := (i 0).isLt
    have := G.pos; have := G.le
    match a with
    | ⟨0, _⟩ => show (min (i 0).val (n - 1) + 1) * 4096 ≤ 425984; omega
    | ⟨1, _⟩ => show (0 + 1) * 128 ≤ 128; omega
  · rw [expert_index1 i (G.te _)]
    have := G.te (i 0)
    match a with
    | ⟨0, _⟩ => show (0 + 1) * 1 ≤ 2; omega
    | ⟨1, _⟩ => show ((teW pf (i 0)).toNat / 8 + 1) * 1 ≤ 4; omega
    | ⟨2, _⟩ => show ((teW pf (i 0)).toNat % 8 + 1) * 1 ≤ 8; omega
    | ⟨3, _⟩ => show (0 + 1) * 2048 ≤ 2048; omega
    | ⟨4, _⟩ => show (0 + 1) * 1024 ≤ 1024; omega
  · rw [expert_index2, expert_index1 i (G.te _)]
    have := G.te (i 0)
    match a with
    | ⟨0, _⟩ => show (0 + 1) * 1 ≤ 2; omega
    | ⟨1, _⟩ => show ((teW pf (i 0)).toNat / 8 + 1) * 1 ≤ 4; omega
    | ⟨2, _⟩ => show ((teW pf (i 0)).toNat % 8 + 1) * 1 ≤ 8; omega
    | ⟨3, _⟩ => show (0 + 1) * 512 ≤ 512; omega
    | ⟨4, _⟩ => show (0 + 1) * 2048 ≤ 2048; omega

/-- A load of a table's word, at the tile. -/
theorem word1 (c : Dev nD) (t : Buf (Elt F) (T1.view.loc (c : Thread nD τ))) (i : grid0.Coords) (off) (ho : off = ![(i 0).val]) (h) :
    word c T1 t off h = t (at104 (i 0)) :=
  congrArg t (word_point i off ho h _)
theorem word2 (c : Dev nD) (t : Buf (Elt F) (T2.view.loc (c : Thread nD τ))) (i : grid0.Coords) (off) (ho : off = ![(i 0).val]) (h) :
    word c T2 t off h = t (at104 (i 0)) :=
  congrArg t (word_point i off ho h _)

theorem cond1_one : k0_cond1 1#32 = 1#1 := by decide
theorem cond1_zero : ¬ k0_cond1 0#32 = 1#1 := by decide
theorem cond3_zero : k0_cond3 0#32 = 1#1 := by decide
theorem cond3_one : ¬ k0_cond3 1#32 = 1#1 := by decide
theorem cond2_iff (w : BitVec 32) : Scalar.cmpi .ne (Scalar.extui (Scalar.cmpi .eq w 1#32)) (0#32) = 1#1 ↔ w = 1#32 := by
  by_cases h : w = 1#32
  · subst h; decide
  · have : Scalar.cmpi .eq w 1#32 = 0#1 := by
      show BitVec.ofBool (w == 1#32) = 0#1
      rw [beq_eq_false_iff_ne.mpr h]; rfl
    rw [this]
    exact ⟨fun h' => absurd h' (by decide), fun h' => absurd h' h⟩

/-- No tile leaves its output block unwritten. -/
theorem not_idle {pf : pre0.Contents (Elt F)} {n : ℕ} (G : Good pf n) (i : grid0.Coords) : idle0 pf 3 i = false := by
  have hw (off) (ho : off = ![(i 0).val]) : pf.atD 1 off = tvW pf (i 0) := by
    subst ho
    unfold Pipeline.Prefetch.Contents.atD
    rw [dif_pos (fun a => match a with | ⟨0, _⟩ => (i 0).isLt)]
    exact congrArg (pf 1) (funext fun a => match a with | ⟨0, _⟩ => rfl)
  show (!(k0_cond1 (pf.atD 1 (k0_off1 i)) == 1#1) && !(k0_cond3 (pf.atD 1 (k0_off3 i)) == 1#1)) = false
  rw [hw _ (k0_off1_eq i), hw _ (k0_off3_eq i)]
  have h : tvW pf (i 0) = 1#32 ∨ tvW pf (i 0) = 0#32 := by
    rw [G.tv (i 0)]; split
    · exact .inl rfl
    · exact .inr rfl
  rcases h with h | h <;> rw [h] <;> decide

end Cert.Proof.Moe

end
-- ==== Proof.MoeFrame.lean ====
/- The expert kernel's run: what it keeps from tile to tile, what each tile leaves, and that the arguments end as they
   began. -/
module

public import proofs.«01_k».proof.Proof.MoeTables
public import Idealize.ShloMosaic.Lib.StableHlo.RunRead

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The plan's host operations, stretch by stretch. -/
abbrev planOps : List (List (HloOp τ sig (Elt F))) :=
  [hostOps0, hostOps0_1, hostOps0_2, hostOps0_3, hostOps0_4, hostOps0_5, hostOps0_6, hostOps0_7, hostOps0_8, hostOps0_9, hostOps0_10]

theorem planOps_sub : (planOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
theorem planOps_fresh : (planOps : List (List (HloOp τ sig (Elt F)))).Forall fun ops => ops.Forall fun op => op.fresh = ∅ := by
  simp only [List.Forall]; repeat' constructor

/-- A core's buffers when the pipeline starts: the launch's, after the plan's operations. -/
@[irreducible] def V (c : Dev nD) (b : Ref sig .tc) : Buf (Elt F) ((c : Thread nD τ).loc b) :=
  StableHlo.after planOps.flatten (fun b => m (c, b)) b

/-- The buffers the plan's operations write, in order. -/
abbrev planned : List (Ref sig .tc) :=
  [main_v0, main_v1, main_v2, main_v3, main_v4, main_v5, main_v6, main_v7, main_call0_call0_c, main_call0_call0_v0, main_v8,
   main_v9, main_c, main_v10, main_c_0, main_v11, main_v12, main_v13, main_v14, main_c_1, main_v15, main_v16, main_c_2, main_v17,
   main_v18, main_c_3, main_call1_v0, main_call1_v1, main_call1_v2, main_call1_v3, main_call1_v4, main_call1_v5, main_call1_v6,
   main_call1_v7, main_call1_v8, main_call1_c, main_call1_v9, main_call1_v10, main_call1_v11, main_call1_c_0, main_call1_v12,
   main_call1_v13, main_v19, main_c_4, main_v20, main_v21, main_call2_call0_c, main_call2_call0_v0, main_v22, main_v23, main_v24,
   main_v25, main_v26, main_c_5, main_v27, main_v28, main_v29, main_c_6, main_v30, main_v31, main_v32, main_v33, main_v34,
   main_v35, main_v36, main_v37, main_v38, main_v39, main_v40, main_v41, main_v42, main_c_7, main_v43, main_c_8, main_v44,
   main_v45, main_c_9, main_call3_v0, main_call3_v1, main_v46, main_c_10, main_v47, main_v48, main_v49, main_v50, main_v51,
   main_v52, main_v53, main_v54, main_v55, main_c_11, main_v56, main_v57, main_v58, main_v59, main_v60, main_c_12, main_v61,
   main_c_13, main_v62, main_v63, main_v64, main_v65, main_v66, main_c_14, main_call4_v0, main_call4_v1, main_call4_v2,
   main_call4_v3, main_call4_v4, main_call4_v5, main_call4_c, main_call4_v6, main_call4_v7, main_call4_c_0, main_call4_v8,
   main_v67, main_v68]
/-- The plan's operations write no argument. -/
theorem V_arg0 (c : Dev nD) : V m c main_arg0 = m ((c.tc : Thread nD τ).loc main_arg0) := by
  unfold V
  exact StableHlo.after_unwritten planned rfl (by decide) _
theorem V_arg1 (c : Dev nD) : V m c main_arg1 = m ((c.tc : Thread nD τ).loc main_arg1) := by
  unfold V
  exact StableHlo.after_unwritten planned rfl (by decide) _
theorem V_arg2 (c : Dev nD) : V m c main_arg2 = m ((c.tc : Thread nD τ).loc main_arg2) := by
  unfold V
  exact StableHlo.after_unwritten planned rfl (by decide) _
theorem V_arg3 (c : Dev nD) : V m c main_arg3 = m ((c.tc : Thread nD τ).loc main_arg3) := by
  unfold V
  exact StableHlo.after_unwritten planned rfl (by decide) _

/-- The tables when the pipeline starts. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

theorem PhiT_eq (c : Dev nD) : (Pipeline.ΦT pre0 (tbl m) c : Asrt F)
    = iprop(heldT c T0 (tbl m 0) ∗ heldT c T1 (tbl m 1) ∗ heldT c T2 (tbl m 2) ∗ heldT c T3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

variable {m} {n : ℕ} (G : Good (tbl m) n)

/-- The pipeline at the launch's tables. -/
abbrev adm : (pcfg0 (F := F)).Adm := ⟨tbl m, ok_of_good G⟩
abbrev cfgM : Pipeline.Cfg sig Λ₀ := cfg0 (adm G)

theorem coord0 (t : Fin grid0.N) : (grid0.coords t 0).val = t.val := by
  revert t; decide +kernel

/-- A tile of the grid as an index of the tables. -/
abbrev tileIx (t : Fin grid0.N) : Fin 104 := ⟨t.val, N_0 ▸ t.isLt⟩
theorem coord_eq (t : Fin grid0.N) : grid0.coords t 0 = tileIx t := Fin.ext (coord0 t)

/-- A window's block at a tile. -/
def iblk (c : Dev nD) (w : Fin 4) (t : Fin grid0.N) : (((cfgM G).win w).xblock (grid0.coords t)).Idx → Elt F ((cfgM G).win w).elt :=
  (((cfgM G).win w).blk t).view.read (Elt F) (V m c (Pipeline.arrRef spec0 w))

/-- The tile's rows, and its expert's two weights. -/
abbrev xsB (c : Dev nD) (t : Fin grid0.N) : Vec F S4096x128 .f32 := iblk G c 0 t
abbrev upB (c : Dev nD) (t : Fin grid0.N) : Vec F S1x1x1x2048x1024 .f32 := iblk G c 1 t
abbrev downB (c : Dev nD) (t : Fin grid0.N) : Vec F S1x1x1x512x2048 .f32 := iblk G c 2 t

theorem idx0 (t : Fin grid0.N) : ((pcfg0 (F := F)).win (adm G) 0).index t = ![min t.val (n - 1), 0] := by
  refine (rows_index G _ _ (grid0.coords t)).trans ?_
  rw [coord0]
theorem idx1 (t : Fin grid0.N) : ((pcfg0 (F := F)).win (adm G) 1).index t = ![0, (teW (tbl m) (tileIx t)).toNat / 8, (teW (tbl m) (tileIx t)).toNat % 8, 0, 0] := by
  rw [← coord_eq]
  exact expert_index1 (grid0.coords t) (G.te _) _ _
theorem idx2 (t : Fin grid0.N) : ((pcfg0 (F := F)).win (adm G) 2).index t = ![0, (teW (tbl m) (tileIx t)).toNat / 8, (teW (tbl m) (tileIx t)).toNat % 8, 0, 0] := by
  rw [← coord_eq]
  exact (expert_index2 (grid0.coords t) _ _).trans (expert_index1 (grid0.coords t) (G.te _) _ _)
theorem idx3 (t : Fin grid0.N) : ((pcfg0 (F := F)).win (adm G) 3).index t = ![t.val, 0] := by
  have : ∀ t : Fin grid0.N, cc0_transform_3 (grid0.coords t) = ![t.val, 0] := by decide +kernel
  exact this t

theorem up_at (c : Dev nD) (t : Fin grid0.N) (x : Fin 2048) (y : Fin 1024) :
    upB G c t (ix5 0 0 0 x y) = V m c main_arg2 (ix5 0 ⟨(teW (tbl m) (tileIx t)).toNat / 8, by have := G.te (tileIx t); omega⟩ ⟨(teW (tbl m) (tileIx t)).toNat % 8, by omega⟩ x y) := by
  have e : ∀ k : Fin 5, ((pcfg0 (F := F)).win (adm G) 1).index t k = _ := congrFun (idx1 G t)
  blk_ext [iblk]
  · exact congrArg (· + 0) (e 0)
  · exact congrArg (· + 0) (e 1)
  · exact congrArg (· + 0) (e 2)
  · exact (congrArg (· * 2048 + x.val) (e 3)).trans (by show 0 * 2048 + x.val = x.val; omega)
  · exact (congrArg (· * 1024 + y.val) (e 4)).trans (by show 0 * 1024 + y.val = y.val; omega)
theorem down_at (c : Dev nD) (t : Fin grid0.N) (x : Fin 512) (y : Fin 2048) :
    downB G c t (ix5 0 0 0 x y) = V m c main_arg3 (ix5 0 ⟨(teW (tbl m) (tileIx t)).toNat / 8, by have := G.te (tileIx t); omega⟩ ⟨(teW (tbl m) (tileIx t)).toNat % 8, by omega⟩ x y) := by
  have e : ∀ k : Fin 5, ((pcfg0 (F := F)).win (adm G) 2).index t k = _ := congrFun (idx2 G t)
  blk_ext [iblk]
  · exact congrArg (· + 0) (e 0)
  · exact congrArg (· + 0) (e 1)
  · exact congrArg (· + 0) (e 2)
  · exact (congrArg (· * 512 + x.val) (e 3)).trans (by show 0 * 512 + x.val = x.val; omega)
  · exact (congrArg (· * 2048 + y.val) (e 4)).trans (by show 0 * 2048 + y.val = y.val; omega)
theorem xs_at (c : Dev nD) (t : Fin grid0.N) (x : Fin 4096) (y : Fin 128) :
    xsB G c t (ix2 x y) = V m c main_arg1 (ix2 ⟨min t.val (n - 1) * 4096 + x, by have := G.le; have := G.pos; omega⟩ y) := by
  have e : ∀ k : Fin 2, ((pcfg0 (F := F)).win (adm G) 0).index t k = _ := congrFun (idx0 G t)
  blk_ext [iblk]
  · exact congrArg (· * 4096 + x.val) (e 0)
  · exact (congrArg (· * 128 + y.val) (e 1)).trans (by show 0 * 128 + y.val = y.val; omega)

/-- Two tiles of one expert read one block of each weight. -/
theorem upB_eq (c : Dev nD) (t t' : Fin grid0.N) (h : teW (tbl m) (tileIx t) = teW (tbl m) (tileIx t')) : upOf (upB G c t) = upOf (upB G c t') := by
  funext y
  refine congrArg (FloatOps.truncf .bf16 bitsLt_bf16_f32) ((up_at G c t _ _).trans (Eq.trans ?_ (up_at G c t' _ _).symm))
  simp only [h]
theorem downB_eq (c : Dev nD) (t t' : Fin grid0.N) (h : teW (tbl m) (tileIx t) = teW (tbl m) (tileIx t')) : downOf (downB G c t) = downOf (downB G c t') := by
  funext y
  refine congrArg (FloatOps.truncf .bf16 bitsLt_bf16_f32) ((down_at G c t _ _).trans (Eq.trans ?_ (down_at G c t' _ _).symm))
  simp only [h]

/-- What a tile leaves in its output block: its rows through its expert's layer while used, zeros after. -/
def outB (c : Dev nD) (t : Fin grid0.N) : Vec F S4096x128 .f32 :=
  if t.val < n then outOf (xsB G c t) (upOf (upB G c t)) (downOf (downB G c t)) else zerosOf

include G in
/-- A used tile whose expert is not new has the last tile's expert. -/
theorem expert_stays (t : Fin grid0.N) (h : t.val < n) (hn : tfW (tbl m) (tileIx t) ≠ 1#32) :
    ∃ t' : Fin grid0.N, t.val = t'.val + 1 ∧ teW (tbl m) (tileIx t) = teW (tbl m) (tileIx t') := by
  have h0 : t.val ≠ 0 := fun h0 => hn (by rw [show tileIx t = 0 from Fin.ext h0]; exact G.first)
  refine ⟨⟨t.val - 1, by have := t.isLt; omega⟩, by show t.val = t.val - 1 + 1; omega, ?_⟩
  by_contra hne
  exact hn (G.turn _ _ (by show t.val = t.val - 1 + 1; omega) h hne)

/-- What the two kept buffers hold before tile `s`: the last used tile's expert's weights, rounded; at the start and
    after the used tiles, anything. -/
def kept (c : Dev nD) (s : ℕ) : Asrt F :=
  if h : 0 < s ∧ s ≤ n then
    iprop(owns (c : Thread nD τ) K0 fullShare (upOf (upB G c ⟨s - 1, by have := G.le; have := N_0; omega⟩))
      ∗ owns (c : Thread nD τ) K1 fullShare (downOf (downB G c ⟨s - 1, by have := G.le; have := N_0; omega⟩)))
  else iprop((∃ d, owns (c : Thread nD τ) K0 fullShare d) ∗ (∃ d, owns (c : Thread nD τ) K1 fullShare d))

theorem kept_any (c : Dev nD) (s : ℕ) :
    kept G c s ⊢ iprop((∃ d, owns (c : Thread nD τ) K0 fullShare d) ∗ (∃ d, owns (c : Thread nD τ) K1 fullShare d)) := by
  unfold kept
  split
  · iintro ⟨H0, H1⟩
    isplitl [H0]; · iexists _; iexact H0
    iexists _; iexact H1
  · exact .rfl
theorem kept_of_any (c : Dev nD) (s : ℕ) (h : ¬ (0 < s ∧ s ≤ n)) :
    iprop((∃ d, owns (c : Thread nD τ) K0 fullShare d) ∗ (∃ d, owns (c : Thread nD τ) K1 fullShare d)) ⊢ kept G c s := by
  unfold kept
  rw [dif_neg h]
theorem kept_used (c : Dev nD) (t : Fin grid0.N) (h : t.val < n) :
    kept G c (t.val + 1) = iprop(owns (c : Thread nD τ) K0 fullShare (upOf (upB G c t)) ∗ owns (c : Thread nD τ) K1 fullShare (downOf (downB G c t))) := by
  unfold kept
  rw [dif_pos ⟨by omega, by omega⟩]
  rfl

/-- The pipeline's proof data: the arrays as launched; after a tile each input's block in place and the output's at
    `outB`; between tiles the tables, the generator's register and the kept weights. -/
def dats (_ : Fin 1) (c : Dev nD) : Dat τ (Elt F) Unit ℕ (UR sig nD τ) ℕ (cfgM G) c where
  A w := V m c (Pipeline.arrRef spec0 w)
  after w t := match w with
    | ⟨0, _⟩ => xsB G c t
    | ⟨1, _⟩ => upB G c t
    | ⟨2, _⟩ => downB G c t
    | ⟨3, _⟩ => outB G c t
  Φ t := iprop((heldT c T0 (tbl m 0) ∗ heldT c T1 (tbl m 1) ∗ heldT c T2 (tbl m 2) ∗ heldT c T3 (tbl m 3)) ∗ (∃ r, prngReg c r) ∗ kept G c t.val)
  q _ := fullShare
  owed _ := 0

theorem A_eq (c : Dev nD) (w : Fin 4) : (dats G 0 c).A w = V m c (Pipeline.arrRef spec0 w) := by dsimp only [dats]
theorem after_0 (c : Dev nD) (t : Fin grid0.N) : (dats G 0 c).after 0 t = xsB G c t := rfl
theorem after_1 (c : Dev nD) (t : Fin grid0.N) : (dats G 0 c).after 1 t = upB G c t := rfl
theorem after_2 (c : Dev nD) (t : Fin grid0.N) : (dats G 0 c).after 2 t = downB G c t := rfl
theorem after_3 (c : Dev nD) (t : Fin grid0.N) : (dats G 0 c).after 3 t = outB G c t := rfl

/-- Each input's staging buffer holds its block at every tile. -/
theorem before_0 (c : Dev nD) (t : Fin grid0.N) (d) : (dats G 0 c).before 0 t d = xsB G c t :=
  ((dats G 0 c).before_in_eq_fetched 0 rfl (fun _ => rfl) (fun _ _ _ => rfl) (fun t => by rw [after_0]; rfl) t d).trans rfl
theorem before_1 (c : Dev nD) (t : Fin grid0.N) (d) : (dats G 0 c).before 1 t d = upB G c t :=
  ((dats G 0 c).before_in_eq_fetched 1 rfl (fun _ => rfl) (fun _ _ _ => rfl) (fun t => by rw [after_1]; rfl) t d).trans rfl
theorem before_2 (c : Dev nD) (t : Fin grid0.N) (d) : (dats G 0 c).before 2 t d = downB G c t :=
  ((dats G 0 c).before_in_eq_fetched 2 rfl (fun _ => rfl) (fun _ _ _ => rfl) (fun t => by rw [after_2]; rfl) t d).trans rfl

/-- Each window's current staging buffer at a tile. -/
abbrev ms0 (t : Fin grid0.N) : Memref sig .tc .vmem S4096x128 .f32 := spec0_0.stage ((cfgM G).slots t 0)
abbrev ms1 (t : Fin grid0.N) : Memref sig .tc .vmem S1x1x1x2048x1024 .f32 := spec0_1.stage ((cfgM G).slots t 1)
abbrev ms2 (t : Fin grid0.N) : Memref sig .tc .vmem S1x1x1x512x2048 .f32 := spec0_2.stage ((cfgM G).slots t 2)
abbrev ms3 (t : Fin grid0.N) : Memref sig .tc .vmem S4096x128 .f32 := spec0_3.stage ((cfgM G).slots t 3)

/-- The body at a tile. -/
abbrev bodyAt (t : Fin grid0.N) :=
  cc0_moe_ffn_9216 (F := F) (grid0.coords t) T0 (Memref.isWhole_whole _) T1 (Memref.isWhole_whole _) T2 (Memref.isWhole_whole _) T3 (Memref.isWhole_whole _)
    (ms0 G t) (hstage0_0 (((cfgM G).slots t 0).cast nbuf0_0)) (ms1 G t) (hstage0_1 (((cfgM G).slots t 1).cast nbuf0_1))
    (ms2 G t) (hstage0_2 (((cfgM G).slots t 2).cast nbuf0_2)) (ms3 G t) (hstage0_3 (((cfgM G).slots t 3).cast nbuf0_3))
    K0 (Memref.isWhole_whole _) K1 (Memref.isWhole_whole _)

theorem defs₀_row (t : Fin grid0.N) :
    defs₀ (F := F) .tc (cfgM G).body ((cfgM G).bodyArgs t ((cfgM G).slots t)) = bodyAt G t := by
  unfold defs₀; rw [Defs.onTc_tc]

include G in
/-- The three tables' words at a tile decide its case. -/
theorem case_used (c : Dev nD) (t : Fin grid0.N) (h : t.val < n) :
    k0_cond1 (word c T1 (tbl m 1) (k0_off1 (grid0.coords t)) (k0_off1_inb _)) = 1#1
      ∧ ¬ k0_cond3 (word c T1 (tbl m 1) (k0_off3 (grid0.coords t)) (k0_off3_inb _)) = 1#1 := by
  have e : tbl m 1 (at104 (grid0.coords t 0)) = 1#32 := by
    rw [coord_eq]; exact (G.tv (tileIx t)).trans (if_pos h)
  rw [word1 c (tbl m 1) _ _ (k0_off1_eq _), word1 c (tbl m 1) _ _ (k0_off3_eq _), e]
  exact ⟨cond1_one, cond3_one⟩
include G in
theorem case_unused (c : Dev nD) (t : Fin grid0.N) (h : ¬ t.val < n) :
    ¬ k0_cond1 (word c T1 (tbl m 1) (k0_off1 (grid0.coords t)) (k0_off1_inb _)) = 1#1
      ∧ k0_cond3 (word c T1 (tbl m 1) (k0_off3 (grid0.coords t)) (k0_off3_inb _)) = 1#1 := by
  have e : tbl m 1 (at104 (grid0.coords t 0)) = 0#32 := by
    rw [coord_eq]; exact (G.tv (tileIx t)).trans (if_neg h)
  rw [word1 c (tbl m 1) _ _ (k0_off1_eq _), word1 c (tbl m 1) _ _ (k0_off3_eq _), e]
  exact ⟨cond1_zero, cond3_zero⟩
theorem case_new (c : Dev nD) (t : Fin grid0.N) :
    Scalar.cmpi .ne (Scalar.extui (Scalar.cmpi .eq (word c T2 (tbl m 2) (k0_off2 (grid0.coords t)) (k0_off2_inb _)) 1#32)) (0#32) = 1#1
      ↔ tfW (tbl m) (tileIx t) = 1#32 := by
  rw [cond2_iff, word2 c (tbl m 2) _ _ (k0_off2_eq _), coord_eq]

def bodyPre (c : Dev nD) (t : Fin grid0.N) : Asrt F :=
  iprop((dats G 0 c).Φ t.castSucc ∗ (dats G 0 c).owesAt () t.castSucc
    ∗ (∃ d, owns (c : Thread nD τ) (ms0 G t) fullShare ((dats G 0 c).before 0 t d))
    ∗ (∃ d, owns (c : Thread nD τ) (ms1 G t) fullShare ((dats G 0 c).before 1 t d))
    ∗ (∃ d, owns (c : Thread nD τ) (ms2 G t) fullShare ((dats G 0 c).before 2 t d))
    ∗ (∃ d, owns (c : Thread nD τ) (ms3 G t) fullShare ((dats G 0 c).before 3 t d)))
def bodyPost (c : Dev nD) (t : Fin grid0.N) : Asrt F :=
  iprop((dats G 0 c).Φ t.succ ∗ (dats G 0 c).owesAt () t.succ
    ∗ owns (c : Thread nD τ) (ms0 G t) fullShare ((dats G 0 c).after 0 t)
    ∗ owns (c : Thread nD τ) (ms1 G t) fullShare ((dats G 0 c).after 1 t)
    ∗ owns (c : Thread nD τ) (ms2 G t) fullShare ((dats G 0 c).after 2 t)
    ∗ owns (c : Thread nD τ) (ms3 G t) fullShare ((dats G 0 c).after 3 t))

theorem Phi_castSucc (c : Dev nD) (t : Fin grid0.N) : (dats G 0 c).Φ t.castSucc
    = iprop((heldT c T0 (tbl m 0) ∗ heldT c T1 (tbl m 1) ∗ heldT c T2 (tbl m 2) ∗ heldT c T3 (tbl m 3)) ∗ (∃ r, prngReg c r) ∗ kept G c t.val) := rfl
theorem Phi_succ (c : Dev nD) (t : Fin grid0.N) : (dats G 0 c).Φ t.succ
    = iprop((heldT c T0 (tbl m 0) ∗ heldT c T1 (tbl m 1) ∗ heldT c T2 (tbl m 2) ∗ heldT c T3 (tbl m 3)) ∗ (∃ r, prngReg c r) ∗ kept G c (t.val + 1)) := rfl

theorem sound_body (c : Dev nD) (t : Fin grid0.N) :
    bodyPre G c t ⊢ wp frame (wpE (defs₀ (F := F)) Variants.none c none) Set.univ (bodyAt G t) (fun _ => bodyPost G c t) := by
  unfold bodyPre bodyPost bodyAt
  simp only [before_0, before_1, before_2]
  rw [Phi_castSucc, Phi_succ, show (dats G 0 c).owesAt () t.succ = (dats G 0 c).owesAt () t.castSucc from rfl,
    after_0, after_1, after_2, after_3]
  by_cases hu : t.val < n
  · obtain ⟨h1, h3⟩ := case_used G c t hu
    by_cases hn : tfW (tbl m) (tileIx t) = 1#32
    · have h2 := (case_new c t).mpr hn
      unfold outB
      rw [if_pos hu, kept_used G c t hu]
      iintro ⟨⟨⟨HT0, HT1, HT2, HT3⟩, Hp, Hk⟩, Ho, ⟨%d0, H0⟩, ⟨%d1, H1⟩, ⟨%d2, H2⟩, ⟨%d3, H3⟩⟩
      ihave Hk' := (kept_any G c t.val) $$ Hk
      icases Hk' with ⟨Hk0, Hk1⟩
      iapply (new_wp c (grid0.coords t) _ _ _ _ _ _ _ _ _ _ _ _ (tbl m 1) (tbl m 2) (xsB G c t) (upB G c t) (downB G c t) h1 h2 h3 Set.univ _)
      isplitl [HT1]; · iexact HT1
      isplitl [HT2]; · iexact HT2
      isplitl [H0]; · iexact H0
      isplitl [H1]; · iexact H1
      isplitl [H2]; · iexact H2
      isplitl [H3]; · iexists _; iexact H3
      isplitl [Hk0]; · iexact Hk0
      isplitl [Hk1]; · iexact Hk1
      iintro ⟨HT1, HT2, H0, H1, H2, H3, Hk0, Hk1⟩
      isplitl [HT0 HT1 HT2 HT3 Hp Hk0 Hk1]
      · isplitl [HT0 HT1 HT2 HT3]
        · isplitl [HT0]; · iexact HT0
          isplitl [HT1]; · iexact HT1
          isplitl [HT2]; · iexact HT2
          iexact HT3
        isplitl [Hp]; · iexact Hp
        isplitl [Hk0]; · iexact Hk0
        iexact Hk1
      isplitl [Ho]; · iexact Ho
      isplitl [H0]; · iexact H0
      isplitl [H1]; · iexact H1
      isplitl [H2]; · iexact H2
      iexact H3
    · have h2 := fun h => hn ((case_new c t).mp h)
      obtain ⟨t', ht', he⟩ := expert_stays G t hu hn
      unfold outB
      rw [if_pos hu, kept_used G c t hu, ht', kept_used G c t' (by omega), upB_eq G c t' t he.symm, downB_eq G c t' t he.symm]
      iintro ⟨⟨⟨HT0, HT1, HT2, HT3⟩, Hp, Hk0, Hk1⟩, Ho, ⟨%d0, H0⟩, ⟨%d1, H1⟩, ⟨%d2, H2⟩, ⟨%d3, H3⟩⟩
      iapply (kept_wp c (grid0.coords t) _ _ _ _ _ _ _ _ _ _ _ _ (tbl m 1) (tbl m 2) (xsB G c t) (upB G c t) (downB G c t)
        (upOf (upB G c t)) (downOf (downB G c t)) h1 h2 h3 Set.univ _)
      isplitl [HT1]; · iexact HT1
      isplitl [HT2]; · iexact HT2
      isplitl [H0]; · iexact H0
      isplitl [H1]; · iexact H1
      isplitl [H2]; · iexact H2
      isplitl [H3]; · iexists _; iexact H3
      isplitl [Hk0]; · iexact Hk0
      isplitl [Hk1]; · iexact Hk1
      iintro ⟨HT1, HT2, H0, H1, H2, H3, Hk0, Hk1⟩
      isplitl [HT0 HT1 HT2 HT3 Hp Hk0 Hk1]
      · isplitl [HT0 HT1 HT2 HT3]
        · isplitl [HT0]; · iexact HT0
          isplitl [HT1]; · iexact HT1
          isplitl [HT2]; · iexact HT2
          iexact HT3
        isplitl [Hp]; · iexact Hp
        isplitl [Hk0]; · iexact Hk0
        iexact Hk1
      isplitl [Ho]; · iexact Ho
      isplitl [H0]; · iexact H0
      isplitl [H1]; · iexact H1
      isplitl [H2]; · iexact H2
      iexact H3
  · obtain ⟨h1, h3⟩ := case_unused G c t hu
    unfold outB
    rw [if_neg hu]
    iintro ⟨⟨⟨HT0, HT1, HT2, HT3⟩, Hp, Hk⟩, Ho, ⟨%d0, H0⟩, ⟨%d1, H1⟩, ⟨%d2, H2⟩, ⟨%d3, H3⟩⟩
    ihave Hk' := ((kept_any G c t.val).trans (kept_of_any G c (t.val + 1) (by omega))) $$ Hk
    iapply (unused_wp c (grid0.coords t) _ _ _ _ _ _ _ _ _ _ _ _ (tbl m 1) h1 h3 Set.univ _)
    isplitl [HT1]; · iexact HT1
    isplitl [H3]; · iexists _; iexact H3
    iintro ⟨HT1, H3⟩
    isplitl [HT0 HT1 HT2 HT3 Hp Hk']
    · isplitl [HT0 HT1 HT2 HT3]
      · isplitl [HT0]; · iexact HT0
        isplitl [HT1]; · iexact HT1
        isplitl [HT2]; · iexact HT2
        iexact HT3
      isplitl [Hp]; · iexact Hp
      iexact Hk'
    isplitl [Ho]; · iexact Ho
    isplitl [H0]; · iexact H0
    isplitl [H1]; · iexact H1
    isplitl [H2]; · iexact H2
    iexact H3

theorem body_obligation (c : Dev nD) : BodyObligation (dats (F := F) G 0 c) (defs₀ (F := F)) Variants.none () Set.univ := fun t => by
  rw [bigSep_W0, bigSep_W0, defs₀_row]
  have hi : idle0 (tbl m) 3 (((pcfg0 (F := F)).gridAt (tbl m)).coords t) = false := not_idle G _
  refine triple_restated (sound_body G c t) rfl .rfl fun _ => ?_
  simp only [hi]
  exact (BIBase.Entails.rfl : bodyPost G c t ⊢ bodyPost G c t)

/-- A kept buffer whole at some contents, as its memref owned at some contents, and back. -/
theorem any_owns (c : Dev nD) :
    (iprop((∃ d, owns (c : Thread nD τ) K0 fullShare d) ∗ (∃ d, owns (c : Thread nD τ) K1 fullShare d)) : Asrt F)
      = iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) := by
  have h0 : ∀ d : Vec F S2048x1024 .bf16, (owns (c : Thread nD τ) K0 fullShare d : Asrt F) = (((c : Thread nD τ).loc cc0_scratch0) ↦{fullShare} d) :=
    fun d => owns_whole (c : Thread nD τ) cc0_scratch0 fullShare d
  have h1 : ∀ d : Vec F S512x2048 .bf16, (owns (c : Thread nD τ) K1 fullShare d : Asrt F) = (((c : Thread nD τ).loc cc0_scratch1) ↦{fullShare} d) :=
    fun d => owns_whole (c : Thread nD τ) cc0_scratch1 fullShare d
  simp only [h0, h1]
  rfl

theorem enter (c : Dev nD) : iprop(Pipeline.ΦA spec0 c ∗ Pipeline.ΦT pre0 (tbl m) c) ⊢ (dats G 0 c).Φ 0 := by
  rw [show (dats G 0 c).Φ 0 = iprop((heldT c T0 (tbl m 0) ∗ heldT c T1 (tbl m 1) ∗ heldT c T2 (tbl m 2) ∗ heldT c T3 (tbl m 3)) ∗ (∃ r, prngReg c r) ∗ kept G c 0) from rfl]
  unfold Pipeline.ΦA
  rw [scopedRest0_eq, PhiT_eq, ← any_owns]
  iintro ⟨⟨Hk, Hp⟩, HT⟩
  isplitl [HT]; · iexact HT
  isplitl [Hp]; · iexact Hp
  iapply (kept_of_any G c 0 (by omega))
  iexact Hk
theorem leave (c : Dev nD) : (dats G 0 c).Φ (Fin.last (cfgM G).N) ⊢ Pipeline.ΦA spec0 c := by
  rw [show (dats G 0 c).Φ (Fin.last (cfgM G).N) = iprop((heldT c T0 (tbl m 0) ∗ heldT c T1 (tbl m 1) ∗ heldT c T2 (tbl m 2) ∗ heldT c T3 (tbl m 3)) ∗ (∃ r, prngReg c r) ∗ kept G c (Fin.last (cfgM G).N).val) from rfl]
  unfold Pipeline.ΦA
  rw [scopedRest0_eq, ← any_owns]
  iintro ⟨HT, Hp, Hk⟩
  isplitl [Hk]
  · iapply (kept_any G c _)
    iexact Hk
  iexact Hp

end Cert.Proof.Moe

end
-- ==== Proof.MoeMath.lean ====
/- The layer of one expert at the extended reals: a token's hidden row through the expert's two stacked projections, the
   gated product of the two halves, and its last projection. -/
module

public import Idealize.ShloMosaic.PureOps.Ideal
public import Idealize.ShloMosaic.PureOps.Ideal.Laws
public import Idealize.ShloMosaic.Lib.Pointwise
public import Idealize.ShloMosaic.Lib.IdealHost

@[expose] public section

noncomputable section

namespace Cert.Proof.MoeMath

open Idealize.ShloMosaic

/-- The tokens as they are given: sixteen rows of 128 to a token. -/
abbrev Tokens := FVec Ideal ⟨2, ![425984, 128]⟩ .f32
/-- The experts' stacked projections: layer, group, expert, entry. -/
abbrev Ups := FVec Ideal ⟨5, ![2, 4, 8, 2048, 1024]⟩ .f32
/-- The experts' last projections. -/
abbrev Downs := FVec Ideal ⟨5, ![2, 4, 8, 512, 2048]⟩ .f32

/-- Entry `d` of token `r`. -/
def hid (x : Tokens) (r : Fin 26624) (d : Fin 2048) : EReal :=
  x (ix2 ⟨r.val * 16 + d.val / 128, by omega⟩ ⟨d.val % 128, by omega⟩)

/-- Entry `f` of token `r` through the stacked projections of expert `e` of group `g`. -/
def proj (x : Tokens) (u : Ups) (r : Fin 26624) (g : Fin 4) (e : Fin 8) (f : Fin 1024) : EReal :=
  ∑ d : Fin 2048, hid x r d * u (ix5 0 g e d f)

/-- The gate's curve. -/
def silu (a : EReal) : EReal := a * (1 + Ideal.exp (-a))⁻¹

/-- The product of the two halves, the first through the curve. -/
def act (x : Tokens) (u : Ups) (r : Fin 26624) (g : Fin 4) (e : Fin 8) (f : Fin 512) : EReal :=
  silu (proj x u r g e ⟨f.val, by omega⟩) * proj x u r g e ⟨512 + f.val, by omega⟩

/-- Column `c` of token `r` through the whole expert. -/
def expert (x : Tokens) (u : Ups) (w : Downs) (r : Fin 26624) (g : Fin 4) (e : Fin 8) (c : Fin 2048) : EReal :=
  ∑ f : Fin 512, act x u r g e f * w (ix5 0 g e f c)

theorem exp_nonneg (a : EReal) : 0 ≤ Ideal.exp a := by
  induction a with
  | bot => simp
  | coe r => rw [Ideal.exp_coe]; exact EReal.coe_nonneg.2 (Real.exp_pos _).le
  | top => simp

theorem one_add_exp_ne (a : EReal) : 1 + Ideal.exp a ≠ 0 :=
  (lt_of_lt_of_le zero_lt_one (le_add_of_nonneg_right (exp_nonneg a))).ne'

/-- The curve as one division. -/
theorem silu_div (a : EReal) : Ideal.div a (1 + Ideal.exp (0 - a)) = silu a := by
  unfold Ideal.div silu
  rw [if_neg (one_add_exp_ne _), zero_sub]

/-- and as a product with a reciprocal. -/
theorem silu_recip (a : EReal) : a * Ideal.div 1 (1 + Ideal.exp (-a)) = silu a := by
  unfold Ideal.div silu
  rw [if_neg (one_add_exp_ne _), one_mul]

/-- An expert's layer with every product weighted by one number that is 1 or 0. -/
theorem expert_gated (x : Tokens) (u : Ups) (w : Downs) (r : Fin 26624) (g : Fin 4) (e : Fin 8) (c : Fin 2048) (p : Prop) [Decidable p] :
    ∑ f : Fin 512, (act x u r g e f * if p then 1 else 0) * w (ix5 0 g e f c) = if p then expert x u w r g e c else 0 := by
  by_cases hp : p
  · simp only [if_pos hp, mul_one]; rfl
  · simp only [if_neg hp, mul_zero, zero_mul, Finset.sum_const_zero]

/-- The sum over all groups and experts of terms that vanish but for one. -/
theorem sum_one (t : Fin 4 → Fin 8 → EReal) (g : Fin 4) (e : Fin 8) :
    ∑ g' : Fin 4, ∑ e' : Fin 8, (if g' = g ∧ e' = e then t g' e' else 0) = t g e := by
  rw [Finset.sum_eq_single g, Finset.sum_eq_single e]
  · rw [if_pos ⟨rfl, rfl⟩]
  · exact fun e' _ h => if_neg fun k => h k.2
  · exact fun h => absurd (Finset.mem_univ _) h
  · exact fun g' _ h => Finset.sum_eq_zero fun e' _ => if_neg fun k => h k.1
  · exact fun h => absurd (Finset.mem_univ _) h

end Cert.Proof.MoeMath
end
-- ==== Proof.MoeValue.lean ====
/- The expert kernel's array, place by place: on a used tile the layer of the tile's expert on the tile's tokens, on an unused
   tile zero. -/
module

public import proofs.«01_k».proof.Proof.MoeFrame
public import proofs.«01_k».proof.Proof.MoeMath
public import Idealize.ShloMosaic.Lib.Pointwise
public import Idealize.ShloMosaic.Lib.MatmulPlain

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL.Sem
open Cert.Proof.MoeMath

/-! ## Pieces of one width laid side by side -/

/-- Where a position falls among pieces of one width. -/
theorem locate_replicate (n : ℕ) : ∀ (ns : List ℕ) (hn : ∀ k ∈ ns, k = n) (c : ℕ) (h : c < ns.sum),
    ((locate ns c h).1.val = c / n) ∧ ((locate ns c h).2.val = c % n)
  | [], _, c, h => absurd h (Nat.not_lt_zero _)
  | k :: ns, hn, c, h => by
    obtain rfl : k = n := hn k (List.mem_cons_self ..)
    by_cases hc : c < k
    · rw [locate, dif_pos hc]
      exact ⟨(Nat.div_eq_of_lt hc).symm, (Nat.mod_eq_of_lt hc).symm⟩
    · have hk : 0 < k := by
        rcases Nat.eq_zero_or_pos k with rfl | hp
        · have h0 : ((0 : ℕ) :: ns).sum = 0 := List.sum_eq_zero hn
          omega
        · exact hp
      obtain ⟨a, b⟩ := locate_replicate k ns (fun x hx => hn x (List.mem_cons_of_mem _ hx)) (c - k) (by rw [List.sum_cons] at h; omega)
      rw [locate, dif_neg hc]
      refine ⟨?_, ?_⟩
      · show (locate ns (c - k) _).1.val + 1 = c / k
        rw [a, Nat.div_eq_sub_div hk (Nat.le_of_not_lt hc)]
      · show (locate ns (c - k) _).2.val = c % k
        rw [b, ← Nat.mod_eq_sub_mod (Nat.le_of_not_lt hc)]

/-- Pieces of width `n` side by side, at a place: the value is any `v` that the piece the place falls in has there. -/
theorem concatenate_even {α : Type} {t : Shape} (a : Fin t.rank) (n : ℕ) (xs : List ((s : Shape) × (s.Idx → α))) (h) (j : t.Idx) (v : α)
    (hn : ∀ s ∈ xs.map (·.1), ∀ hr : s.rank = t.rank, s.size (a.cast hr.symm) = n)
    (H : ∀ p, xs[(j a).val / n]? = some p → ∀ (hr : p.1.rank = t.rank) (i : p.1.Idx),
      (∀ b, b.cast hr = a → (i b).val = (j a).val % n) → (∀ b, b.cast hr ≠ a → (i b).val = (j (b.cast hr)).val) → p.2 i = v) :
    concatenate t a xs h j = v := by
  have hs : ∀ k ∈ (xs.map (·.1)).map (fun s => if h : s.rank = t.rank then s.size (a.cast h.symm) else 0), k = n := fun k hk => by
    obtain ⟨s, hs, rfl⟩ := List.mem_map.1 hk
    have hr := (h.2.1 s hs).1
    rw [dif_pos hr]
    exact hn s hs hr
  have hL := locate_replicate n _ hs (j a).val (by rw [h.2.2]; exact (j a).isLt)
  have hk : (locate _ (j a).val (by rw [h.2.2]; exact (j a).isLt)).1.val < xs.length :=
    lt_of_lt_of_eq (locate _ (j a).val (by rw [h.2.2]; exact (j a).isLt)).1.isLt (by rw [List.length_map, List.length_map])
  unfold concatenate
  refine H _ (by rw [← hL.1]; exact List.getElem?_eq_getElem hk) (h.2.1 _ (List.mem_map.2 ⟨_, List.getElem_mem hk, rfl⟩)).1 _ (fun b hb => ?_) (fun b hb => ?_)
  · rw [dif_pos hb]
    exact hL.2
  · rw [dif_neg hb]
    rfl

/-- A tile's rows, at a place. -/
theorem tileOf_at (x : Vec Ideal S4096x128 .f32) (r : Fin 256) (d : Fin 2048) :
    tileOf (F := Ideal) x (ix2 r d) = x (ix2 ⟨16 * r.val + d.val / 128, by omega⟩ ⟨d.val % 128, by omega⟩) := by
  have piece : ∀ (k : Fin 16), d.val / 128 = k.val → ∀ i : S256x128.Idx, (i 1).val = d.val % 128 → (i 0).val = r.val →
      rowsOf (F := Ideal) x k i = x (ix2 ⟨16 * r.val + d.val / 128, by omega⟩ ⟨d.val % 128, by omega⟩) := fun k hk i h1 h0 => by
    unfold rowsOf
    exact congrArg x (congrArg₂ ix2 (Fin.ext (by dsimp only; rw [h0, hk])) (Fin.ext h1))
  generalize x (ix2 ⟨16 * r.val + d.val / 128, by omega⟩ ⟨d.val % 128, by omega⟩) = v at piece ⊢
  unfold tileOf k0_pay21
  refine concatenate_even (α := EReal) (t := S256x2048) 1 128 (List.ofFn fun k : Fin 16 => ⟨S256x128, rowsOf (F := Ideal) x k⟩)
    concatenates_S256x128_S256x128_S256x128_S256x128_S256x128_S256x128_S256x128_S256x128_S256x128_S256x128_S256x128_S256x128_S256x128_S256x128_S256x128_S256x128_S256x2048_d1
    (ix2 r d) v (fun s hs hr => ?_) (fun p hp => ?_)
  · have hs' : s ∈ (List.ofFn fun k : Fin 16 => S256x128) := hs
    obtain ⟨k, rfl⟩ := List.mem_ofFn.1 hs'
    rfl
  · have hp' : (List.ofFn fun k : Fin 16 => (⟨S256x128, rowsOf (F := Ideal) x k⟩ : (s : Shape) × (s.Idx → EReal)))[d.val / 128]? = some p := hp
    rw [List.getElem?_ofFn, dif_pos (show d.val / 128 < 16 by omega)] at hp'
    obtain rfl := Option.some.inj hp'
    exact fun hr i h1 h0 => piece ⟨d.val / 128, by omega⟩ rfl i (h1 1 rfl) (h0 0 fun h => absurd (congrArg Fin.val h) (show ¬(0 : ℕ) = 1 by decide))

/-! ## The layer on a tile -/

theorem zeros_at (s : Shape) (j : s.Idx) : constant (F := Ideal) s .f32 0x00000000#32 j = (0 : EReal) := by pointwise []

/-- A product added to zeros, at a place. -/
theorem product_at {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant (F := Ideal) ⟨2, ![M, N]⟩ .f32 0x00000000#32) (ix2 r c)
      = ∑ k : Fin K, (lhs (ix2 r k) : EReal) * rhs (ix2 k c) := by
  refine (Ideal.matmul_plain_apply none lhs rhs _ r c).trans ?_
  refine (congrArg (fun z : EReal => z + _) (zeros_at _ _)).trans (zero_add _)

/-- The layer's two products and the curve between them, at a place. -/
theorem pay22_at (t : FVec Ideal S256x2048 .bf16) (u : Vec Ideal S2048x1024 .bf16) (d : Vec Ideal S512x2048 .bf16) (r : Fin 256) (c : Fin 2048) :
    k0_pay22 (F := Ideal) t u d (ix2 r c)
      = ∑ f : Fin 512, (silu (∑ k : Fin 2048, t (ix2 r k) * u (ix2 k ⟨f.val, by omega⟩)) * ∑ k : Fin 2048, t (ix2 r k) * u (ix2 k ⟨512 + f.val, by omega⟩)) * d (ix2 f c) := by
  have first : ∀ f : Fin 1024, matmul (F := Ideal) (φ₁ := .bf16) (φ₂ := .bf16) dot_S256x2048_S2048x1024_S256x1024_1_0_0_1_n_n none t u (constant S256x1024 .f32 0x00000000#32) (ix2 r f)
      = ∑ k : Fin 2048, (t (ix2 r k) : EReal) * u (ix2 k f) := fun f => product_at (φ₁ := .bf16) (φ₂ := .bf16) t u r f
  unfold k0_pay22
  generalize matmul (F := Ideal) (φ₁ := .bf16) (φ₂ := .bf16) dot_S256x2048_S2048x1024_S256x1024_1_0_0_1_n_n none t u (constant S256x1024 .f32 0x00000000#32) = y at first ⊢
  refine (product_at (φ₁ := .bf16) (φ₂ := .bf16) _ d r c).trans (Finset.sum_congr rfl fun f _ => congrArg (fun z : EReal => z * d (ix2 f c)) ?_)
  rw [← first, ← first, ← silu_div]
  pointwise []

/-! ## The array -/

variable {m : (ℓ : Loc nD τ sig) → Buf (Elt Ideal) ℓ} {n : ℕ} (G : Good (tbl m) n)

/-- What a tile's point leaves, at a place: on a used tile the tile's expert's layer. -/
theorem outB_at (c : Dev nD) (t : Fin grid0.N) (y0 : Fin 4096) (y1 : Fin 128) :
    outB G c t (ix2 y0 y1) = if t.val < n then
      expert (V m c main_arg1) (V m c main_arg2) (V m c main_arg3) ⟨t.val * 256 + y0.val / 16, by have := t.isLt; have := N_0; omega⟩
        ⟨(teW (tbl m) (tileIx t)).toNat / 8, by have := G.te (tileIx t); omega⟩ ⟨(teW (tbl m) (tileIx t)).toNat % 8, by omega⟩
        ⟨128 * (y0.val % 16) + y1.val, by omega⟩ else 0 := by
  unfold outB
  by_cases h : t.val < n
  · rw [if_pos h, if_pos h]
    unfold outOf lay
    refine (pay22_at _ _ _ ⟨y0.val / 16, by omega⟩ ⟨128 * (y0.val % 16) + y1.val, by omega⟩).trans ?_
    have tile : ∀ k : Fin 2048, tileOf (F := Ideal) (xsB G c t) (ix2 ⟨y0.val / 16, by omega⟩ k)
        = hid (V m c main_arg1) ⟨t.val * 256 + y0.val / 16, by have := t.isLt; have := N_0; omega⟩ k := fun k => by
      rw [tileOf_at]
      refine (xs_at G c t _ _).trans ?_
      unfold hid
      exact congrArg (V m c main_arg1) (congrArg₂ ix2 (Fin.ext (by dsimp only; rw [min_eq_left (by omega)]; omega)) rfl)
    have up : ∀ (k : Fin 2048) (f : Fin 1024), upOf (F := Ideal) (upB G c t) (ix2 k f) = V m c main_arg2 (ix5 0 _ _ k f) := fun k f => up_at G c t k f
    have down : ∀ (f : Fin 512) (k : Fin 2048), downOf (F := Ideal) (downB G c t) (ix2 f k) = V m c main_arg3 (ix5 0 _ _ f k) := fun f k => down_at G c t f k
    unfold expert act proj
    simp only [tile, up, down]
  · rw [if_neg h, if_neg h]
    unfold zerosOf
    pointwise [k0_pay9]

/-- The kernel's array. -/
def result (c : Dev nD) : Vec Ideal S425984x128 .f32 := fun i =>
  if (i 0).val / 4096 < n then
    expert (V m c main_arg1) (V m c main_arg2) (V m c main_arg3) ⟨(i 0).val / 16, by have h : (i 0).val < 425984 := (i 0).isLt; omega⟩
      ⟨(teW (tbl m) ⟨(i 0).val / 4096, by have h : (i 0).val < 425984 := (i 0).isLt; omega⟩).toNat / 8, by have := G.te ⟨(i 0).val / 4096, by have h : (i 0).val < 425984 := (i 0).isLt; omega⟩; omega⟩
      ⟨(teW (tbl m) ⟨(i 0).val / 4096, by have h : (i 0).val < 425984 := (i 0).isLt; omega⟩).toNat % 8, by omega⟩
      ⟨128 * ((i 0).val % 16) + (i 1).val, by have h : (i 1).val < 128 := (i 1).isLt; omega⟩ else 0

theorem result_at (c : Dev nD) (t : Fin grid0.N) (y0 : Fin 4096) (y1 : Fin 128) (i : S425984x128.Idx)
    (h0 : (i 0).val = t.val * 4096 + y0.val) (h1 : (i 1).val = y1.val) : result G c i = outB G c t (ix2 y0 y1) := by
  rw [outB_at]
  have hd : (i 0).val / 4096 = t.val := by omega
  have ht : ∀ h, (⟨(i 0).val / 4096, h⟩ : Fin 104) = tileIx t := fun h => Fin.ext hd
  unfold result
  simp only [hd, h1, ht]
  have e : (i 0).val / 16 = t.val * 256 + y0.val / 16 := by omega
  have e' : (i 0).val % 16 = y0.val % 16 := by omega
  simp only [e, e']

theorem flush3 : ∀ t : Fin grid0.N, Pipeline.Window.flushOf grid0 true cc0_transform_3 t = true := by decide +kernel

theorem covers3 : ((cfgM G).win 3).Covers := by
  refine ⟨fun a => ?_, fun β => ?_⟩
  · match a with
    | ⟨0, _⟩ => exact (by decide : 0 < 4096)
    | ⟨1, _⟩ => exact (by decide : 0 < 128)
  · have h0 : (β (0 : Fin 2)).val < 104 := (β (0 : Fin 2)).isLt.trans_eq (by decide : (425984 + 4096 - 1) / 4096 = 104)
    have h1 : (β (1 : Fin 2)).val < 1 := (β (1 : Fin 2)).isLt.trans_eq (by decide : (128 + 128 - 1) / 128 = 1)
    have e := idx3 G ⟨(β (0 : Fin 2)).val, by rw [N_0]; exact h0⟩
    refine ⟨⟨(β (0 : Fin 2)).val, by rw [N_0]; exact h0⟩, flush3 _, fun a => ⟨?_, Or.inl ?_⟩⟩
    · refine (congrFun e a).trans ?_
      match a with
      | ⟨0, _⟩ => rfl
      | ⟨1, _⟩ => show 0 = (β (1 : Fin 2)).val; omega
    · match a with
      | ⟨0, _⟩ => rfl
      | ⟨1, _⟩ => rfl

theorem arr_eq (c : Dev nD) : (dats G 0 c).arrAt 3 (cfgM G).N = result G c := by
  refine (dats G 0 c).arrAt_eq_of_covers 3 _ (covers3 G) fun t hf y => ?_
  have e : ∀ k : Fin 2, ((pcfg0 (F := Ideal)).win (adm G) 3).index t k = _ := congrFun (idx3 G t)
  have e0 : (((((cfgM G).win 3).blk t).view.emb y) (0 : Fin 2)).val = t.val * 4096 + (y (0 : Fin 2)).val := by
    blk_simp
    exact congrArg (· * 4096 + (y (0 : Fin 2)).val) (e (0 : Fin 2))
  have e1 : (((((cfgM G).win 3).blk t).view.emb y) (1 : Fin 2)).val = (y (1 : Fin 2)).val := by
    blk_simp
    exact (congrArg (· * 128 + (y (1 : Fin 2)).val) (e (1 : Fin 2))).trans (by show 0 * 128 + _ = _; omega)
  refine ((result_at G c t (y (0 : Fin 2) : Fin 4096) (y (1 : Fin 2) : Fin 128) _ e0 e1).trans ?_).symm
  exact congrArg (outB G c t) (eq_ix2 (n0 := 4096) (n1 := 128) y).symm

end Cert.Proof.Moe
end
-- ==== Proof.MoePlan.lean ====
/- Tiles of 256 rows shared out among 32 experts in order: where an expert's tiles start, which expert a tile belongs to,
   and when the expert is a new one. All of it on natural numbers. -/
module

public import Idealize.ShloMosaic.Lib.Routing.OpsOne

@[expose] public section

noncomputable section

namespace Cert.Proof.Plan

open Idealize.ShloMosaic.Routing

variable (T : ℕ → ℕ)

/-- The tiles of the first `k` experts, where expert `e` has `T e`. -/
abbrev tilesTo (k : ℕ) : ℕ := ((List.range k).map T).sum

/-- The expert of a tile: how many experts' tiles end at it or before it. -/
abbrev owner (k : ℕ) : ℕ := Nat.count (fun e => tilesTo T (e + 1) ≤ k) 32

theorem tilesTo_succ (k : ℕ) : tilesTo T (k + 1) = tilesTo T k + T k := by
  simp [tilesTo, List.range_succ]

theorem tilesTo_mono {a b : ℕ} (h : a ≤ b) : tilesTo T a ≤ tilesTo T b := by
  induction b, h using Nat.le_induction with
  | base => rfl
  | succ b _ ih => exact ih.trans (by rw [tilesTo_succ]; omega)

theorem ends_iff {k e : ℕ} (he : e < 32) : tilesTo T (e + 1) ≤ k ↔ e < owner T k :=
  lt_count_iff (Q := fun e => tilesTo T (e + 1) ≤ k) (fun _ _ hab _ hb => (tilesTo_mono T (by omega)).trans hb) he

theorem owner_le (k : ℕ) : owner T k ≤ 32 := Nat.count_le _

theorem owner_lt {k : ℕ} (h : k < tilesTo T 32) : owner T k < 32 := by
  by_contra hc
  have h1 : owner T k = 32 := le_antisymm (owner_le T k) (by omega)
  have := (ends_iff T (k := k) (e := 31) (by omega)).2 (by omega)
  exact absurd this (by simpa using h)

theorem lt_end {k : ℕ} (h : k < tilesTo T 32) : k < tilesTo T (owner T k + 1) := by
  by_contra hc
  exact absurd ((ends_iff T (owner_lt T h)).1 (by omega)) (lt_irrefl _)

theorem start_le (k : ℕ) : tilesTo T (owner T k) ≤ k := by
  rcases Nat.eq_zero_or_pos (owner T k) with h | h
  · rw [h]; simp [tilesTo]
  · have h1 := (ends_iff T (k := k) (e := owner T k - 1) (by have := owner_le T k; omega)).2 (by omega)
    rwa [show owner T k - 1 + 1 = owner T k by omega] at h1

/-- The expert of a used tile has a tile. -/
theorem owner_pos {k : ℕ} (h : k < tilesTo T 32) : 0 < T (owner T k) := by
  have h1 := lt_end T h
  have h2 := start_le T k
  rw [tilesTo_succ] at h1
  omega

/-- A tile past the last used one belongs to no expert. -/
theorem owner_unused {k : ℕ} (h : tilesTo T 32 ≤ k) : owner T k = 32 := by
  have := (ends_iff T (k := k) (e := 31) (by omega)).1 h
  have := owner_le T k
  omega

/-- The first tile starts its expert. -/
theorem start_zero : tilesTo T (owner T 0) = 0 := Nat.le_zero.1 (start_le T 0)

/-- A tile with another expert than the one before it starts its expert. -/
theorem start_turn {k : ℕ} (h : k + 1 < tilesTo T 32) (ht : owner T (k + 1) ≠ owner T k) : tilesTo T (owner T (k + 1)) = k + 1 := by
  have h1 : owner T k ≤ owner T (k + 1) := by
    by_contra hc
    have := owner_le T k
    have h2 := (ends_iff T (k := k) (e := owner T (k + 1)) (by omega)).2 (by omega)
    have h3 := (ends_iff T (k := k + 1) (e := owner T (k + 1)) (by omega)).1 (by omega)
    omega
  have h2 := lt_end T (k := k) (by omega)
  have h3 := start_le T (k + 1)
  have h4 := tilesTo_mono T (show owner T k + 1 ≤ owner T (k + 1) by omega)
  omega

/-- A row's expert is its tile's, where the tiles are of 256 rows. -/
theorem owner_row (r : ℕ) : Nat.count (fun e => 256 * tilesTo T (e + 1) ≤ r) 32 = owner T (r / 256) :=
  count_congr_of_lt 32 fun e _ => by
    show 256 * tilesTo T (e + 1) ≤ r ↔ tilesTo T (e + 1) ≤ r / 256
    omega

/-- The sums of the tiles times 256 are the tiles' sums times 256. -/
theorem rows_sum (k : ℕ) : ((List.range k).map fun e => 256 * T e).sum = 256 * tilesTo T k := by
  induction k with
  | zero => rfl
  | succ k ih => rw [List.range_succ, List.map_append, List.sum_append, ih, tilesTo_succ]; simp [Nat.mul_add]

end Cert.Proof.Plan

end
-- ==== Proof.MoeWords.lean ====
/- The dispatch plan of the expert kernel: the four tables as the plan's operations compute them from the experts of the
   rows, and the natural numbers their words hold. -/
module

public import proofs.«01_k».proof.Proof.MoePlan
public import proofs.«01_k».proof.Proof.Gen.MoeIdeal.Launch
public import Idealize.ShloMosaic.Lib.Routing.OpsOne
public import Idealize.ShloMosaic.Lib.Routing.OpsSearch
public import Idealize.ShloMosaic.Lib.Routing.Model
public import Idealize.ShloMosaic.Lib.SortNet.Extract

@[expose] public section

set_option maxRecDepth 16384

noncomputable section

namespace Cert.Proof.Plan

open Cert.MoeIdeal hiding ix0
open Cert.MoeIdeal.Gen
open Idealize.ShloMosaic Idealize.ShloMosaic.Routing Idealize.ShloMosaic.ValueIdx
open Idealize.ShloMosaic.WordCmp (cmpi_at select_at constantI_at andi_at extui_at)

variable (x : IVec S2x9216 32)

/-! ## The stages, as the plan's operations compute them -/

/-- A number at every entry of a vector of 32. -/
abbrev all32 (b : BitVec 32) : IVec S32 32 := broadcastInDim S32 ![] bcast_S_S32 (constantI S_ 32 b)
/-- A vector of 32 along every one of the 104 tiles. -/
abbrev cols (v : IVec S32 32) : IVec S104x32 32 :=
  broadcastInDim S104x32 ![0, 1] bcast_S1x32_S104x32_0_1 (broadcastInDim S1x32 ![1] bcast_S32_S1x32_1 v)
/-- A vector of 104 along every one of the 32 experts. -/
abbrev rows (v : IVec S104 32) : IVec S104x32 32 :=
  broadcastInDim S104x32 ![0, 1] bcast_S104x1_S104x32_0_1 (broadcastInDim S104x1 ![0] bcast_S104_S104x1_0 v)

/-- The experts of the rows, in one vector. -/
def eidV : IVec S18432 32 := shapeCast S18432 x shapeCasts_S2x9216_S18432
/-- Whether a row's expert is the column. -/
def matchV : IVec S18432x32 1 :=
  cmpi .eq (broadcastInDim S18432x32 ![0, 1] bcast_S18432x1_S18432x32_0_1 (broadcastInDim S18432x1 ![0] bcast_S18432_S18432x1_0 (eidV x)))
    (broadcastInDim S18432x32 ![0, 1] bcast_S1x32_S18432x32_0_1 (broadcastInDim S1x32 ![1] bcast_S32_S1x32_1 (iotaInDim S32 32 0)))
/-- How many rows up to this one have the column as expert. -/
def runV : IVec S18432x32 32 :=
  Host.reduceWindow IntOp.addi ![18432, 1] ![1, 1] ![18431, 0] ![0, 0] (extui 32 (matchV x) natLt_1_32)
    (broadcastInDim S_ ![] bcast_S_S_ (constantI S_ 32 0#32)) reduceWindows_S18432x32_S18432x32_w18432s1p18431_0_w1s1p0_0 h_S_
/-- How many rows an expert has. -/
def cntV : IVec S32 32 := shapeCast S32 (extractStridedSlice S1x32 ![18431, 0] (runV x) slices_S18432x32_S1x32_18431_0) shapeCasts_S1x32_S32
/-- An expert's rows, filled up to whole tiles. -/
def roomV : IVec S32 32 := muli (pyDiv bcast_S_S32 (subi (addi (cntV x) (all32 256#32)) (all32 1#32)) (constantI S_ 32 256#32)) (all32 256#32)
/-- Where an expert's rows end. -/
def endV : IVec S32 32 :=
  Host.reduceWindow IntOp.addi ![32] ![1] ![31] ![0] (roomV x) (broadcastInDim S_ ![] bcast_S_S_ (constantI S_ 32 0#32)) reduceWindows_S32_S32_w32s1p31_0 h_S_
/-- Where an expert's rows start. -/
def startV : IVec S32 32 := subi (endV x) (roomV x)
/-- The first row of a tile. -/
def rowV : IVec S104 32 := muli (iotaInDim S104 32 0) (broadcastInDim S104 ![] bcast_S_S104 (constantI S_ 32 256#32))
/-- Where the last expert's rows end. -/
def lastV : IVec S_ 32 := shapeCast S_ (extractStridedSlice S1 ![31] (endV x) slices_S32_S1_31) shapeCasts_S1_S_
/-- Whether a tile is used. -/
def usedV : IVec S104 32 := extui 32 (cmpi .slt rowV (broadcastInDim S104 ![] bcast_S_S104 (lastV x))) natLt_1_32
/-- How many experts' rows end before a tile. -/
def pastV : IVec S104 32 :=
  Host.reduce IntOp.addi (extui 32 (cmpi .sle (cols (endV x)) (rows rowV)) natLt_1_32) (constantI S_ 32 0#32) reducesTo_S104x32_S104_d1 h_S_
/-- The last expert with a row. -/
def topV : IVec S_ 32 :=
  Host.reduce IntOp.maxsi (select (cmpi .sgt (cntV x) (all32 0#32)) (iotaInDim S32 32 0) (all32 0#32)) (constantI S_ 32 2147483648#32) reducesTo_S32_S_d0 h_S_
/-- The expert of a tile. -/
def expertV : IVec S104 32 := minsi (pastV x) (broadcastInDim S104 ![] bcast_S_S104 (topV x))
/-- Whether an expert with a tile starts at a tile. -/
def startsV : IVec S104x32 1 :=
  andi (cmpi .eq (cols (startV x)) (rows rowV)) (broadcastInDim S104x32 ![0, 1] bcast_S1x32_S104x32_0_1
    (cmpi .sgt (broadcastInDim S1x32 ![1] bcast_S32_S1x32_1 (roomV x)) (broadcastInDim S1x32 ![] bcast_S_S1x32 (constantI S_ 32 0#32))))
/-- Whether a tile is used and its expert new. -/
def newV : IVec S104 32 :=
  muli (minsi (Host.reduce IntOp.addi (extui 32 (startsV x) natLt_1_32) (constantI S_ 32 0#32) reducesTo_S104x32_S104_d1 h_S_)
    (broadcastInDim S104 ![] bcast_S_S104 (constantI S_ 32 1#32))) (usedV x)
/-- How many tiles are used. -/
def numV : IVec S1 32 := shapeCast S1 (pyDiv0 (lastV x) (constantI S_ 32 256#32)) shapeCasts_S_S1

/-! ## The numbers the stages hold -/

/-- How many rows have expert `e`. -/
def cnt (e : ℕ) : ℕ := (Finset.univ.filter fun r : Fin 18432 => eidV x (ix1 r) = BitVec.ofNat 32 e).card
/-- How many tiles expert `e` has. -/
def tiles (e : ℕ) : ℕ := (cnt x e + 255) / 256

theorem cnt_le (e : ℕ) : cnt x e ≤ 18432 := (Finset.card_le_univ _).trans (by simp)

theorem cnt_sum : ∑ e ∈ Finset.range 32, cnt x e ≤ 18432 := by
  have h1 : ∀ r : Fin 18432, (∑ e ∈ Finset.range 32, if eidV x (ix1 r) = BitVec.ofNat 32 e then 1 else 0) ≤ 1 := fun r => by
    rw [← Finset.card_filter]
    refine Finset.card_le_one.2 fun a ha b hb => ?_
    simp only [Finset.mem_filter, Finset.mem_range] at ha hb
    have h := congrArg BitVec.toNat (ha.2.symm.trans hb.2)
    simp only [BitVec.toNat_ofNat] at h
    omega
  calc ∑ e ∈ Finset.range 32, cnt x e = ∑ e ∈ Finset.range 32, ∑ r : Fin 18432, if eidV x (ix1 r) = BitVec.ofNat 32 e then 1 else 0 := by
        refine Finset.sum_congr rfl fun e _ => ?_
        rw [cnt, Finset.card_filter]
    _ = ∑ r : Fin 18432, ∑ e ∈ Finset.range 32, if eidV x (ix1 r) = BitVec.ofNat 32 e then 1 else 0 := Finset.sum_comm
    _ ≤ ∑ _r : Fin 18432, 1 := Finset.sum_le_sum fun r _ => h1 r
    _ = 18432 := by simp

theorem tiles_sum (k : ℕ) : 256 * tilesTo (tiles x) k ≤ (∑ e ∈ Finset.range k, cnt x e) + 255 * k := by
  induction k with
  | zero => simp [tilesTo]
  | succ k ih =>
    have h := Finset.sum_range_succ (cnt x) k
    have h2 := tilesTo_succ (tiles x) k
    have h3 : tiles x k = (cnt x k + 255) / 256 := rfl
    omega

theorem tiles_bound {k : ℕ} (hk : k ≤ 32) : tilesTo (tiles x) k ≤ 103 := by
  have h1 := tiles_sum x 32
  have h2 := cnt_sum x
  have h3 := tilesTo_mono (tiles x) hk
  omega

theorem tiles_pos {e : ℕ} : 0 < tiles x e ↔ 0 < cnt x e := by
  unfold tiles
  omega

theorem sum_range_fin (N : ℕ) (f : ℕ → ℕ) : ((List.range N).map f).sum = ∑ r : Fin N, f r.val := by
  rw [← Finset.sum_range]
  induction N with
  | zero => rfl
  | succ N ih => rw [List.range_succ, List.map_append, List.sum_append, ih, Finset.sum_range_succ]; simp

theorem one_point {m n : ℕ} (a : Fin m) (b : Fin n) (hm : m = 1) (hn : n = 1) : a.val = b.val := by
  have := a.isLt
  have := b.isLt
  omega

theorem cols_at (v : IVec S32 32) (k : Fin 104) (e : Fin 32) : cols v (ix2 k e) = v (ix1 e) := bcCols _ _ v k e
theorem rows_at (v : IVec S104 32) (k : Fin 104) (e : Fin 32) : rows v (ix2 k e) = v (ix1 k) := bcRows _ _ v k e

theorem cmp_eq_word (a b : BitVec 32) : IntOp.cmpi .eq a b = BitVec.ofBool (decide (a = b)) := by
  show BitVec.ofBool (a == b) = _
  rw [beq_eq_decide]

theorem matchV_at (r : Fin 18432) (e : Fin 32) : matchV x (ix2 r e) = BitVec.ofBool (decide (eidV x (ix1 r) = BitVec.ofNat 32 e.val)) := by
  unfold matchV
  rw [cmpi_at, bcRows, bcCols, cmp_eq_word]
  rfl

theorem cntV_at (e : Fin 32) : cntV x (ix1 e) = BitVec.ofNat 32 (cnt x e.val) := by
  unfold cntV
  rw [cast21 _ _ (0 : Fin 1) e e (by simp)]
  have h1 : extractStridedSlice S1x32 ![18431, 0] (runV x) slices_S18432x32_S1x32_18431_0 (ix2 (0 : Fin 1) e) = runV x (ix2 (⟨18431, by omega⟩ : Fin 18432) e) := by
    unfold extractStridedSlice
    refine congrArg (runV x) (funext fun a => Fin.ext ?_)
    match a with
    | ⟨0, _⟩ => rfl
    | ⟨1, _⟩ => exact Nat.zero_add _
  rw [h1]
  unfold runV
  refine (cumsum_rows (R := 18432) (Rm1 := 18431) (C := 32) rfl _
    (fun i c => if h : i < 18432 then (if eidV x (ix1 ⟨i, h⟩) = BitVec.ofNat 32 c then 1 else 0) else 0) (fun i c => ?_) _ ?_ _ _ _ e).trans ?_
  · rw [extui_at, matchV_at, setWidth_ofBool, dif_pos i.isLt]
  · rw [bc0]; rfl
  · refine congrArg (BitVec.ofNat 32) ((sum_range_fin _ _).trans ?_)
    rw [cnt, Finset.card_filter]
    refine Finset.sum_congr rfl fun r _ => ?_
    exact dif_pos r.isLt

theorem roomV_at (e : Fin 32) : roomV x (ix1 e) = BitVec.ofNat 32 (256 * tiles x e.val) := by
  have hc := cnt_le x e.val
  have h1 : subi (addi (cntV x) (all32 256#32)) (all32 1#32) (ix1 e) = BitVec.ofNat 32 (cnt x e.val + 255) := by
    show cntV x (ix1 e) + BitVec.ofNat 32 256 - BitVec.ofNat 32 1 = _
    rw [cntV_at, ← BitVec.ofNat_add]
    exact ofNat32_sub (by omega)
  unfold roomV
  rw [muli_ap, show all32 256#32 (ix1 e) = BitVec.ofNat 32 256 from rfl, pyDiv_ap bcast_S_S32 _ _ (ix1 e) h1 (b := 256) rfl (by omega) (by omega) (by omega), ← BitVec.ofNat_mul, Nat.mul_comm]
  rfl

theorem endV_at (e : Fin 32) : endV x (ix1 e) = BitVec.ofNat 32 (256 * tilesTo (tiles x) (e.val + 1)) := by
  unfold endV
  rw [← rows_sum]
  refine cumsum1 (N := 32) (Nm1 := 31) rfl _ (fun e => 256 * tiles x e) (fun i => roomV_at x i) _ ?_ _ _ e
  rw [bc0]; rfl

theorem startV_at (e : Fin 32) : startV x (ix1 e) = BitVec.ofNat 32 (256 * tilesTo (tiles x) e.val) := by
  unfold startV
  rw [subi_ap, endV_at, roomV_at, tilesTo_succ, ofNat32_sub (by omega)]
  exact congrArg _ (by omega)

theorem rowV_at (k : Fin 104) : rowV (ix1 k) = BitVec.ofNat 32 (256 * k.val) := by
  unfold rowV
  rw [muli_ap, bc0, constantI_at, iota1_ap, ← BitVec.ofNat_mul, Nat.mul_comm]

theorem lastV_at : lastV x ix0 = BitVec.ofNat 32 (256 * tilesTo (tiles x) 32) := by
  unfold lastV
  refine (shapeCast_apply _ _ ix0 (ix1 (0 : Fin 1)) (one_point _ _ rfl rfl)).trans ?_
  refine (slice1 31 _ _ (0 : Fin 1) (by omega)).trans ?_
  exact endV_at x ⟨31, by omega⟩

theorem usedV_at (k : Fin 104) : usedV x (ix1 k) = if k.val < tilesTo (tiles x) 32 then 1#32 else 0#32 := by
  have hb := tiles_bound x (k := 32) le_rfl
  have hk := k.isLt
  unfold usedV
  rw [extui_at, cmpi_at, bc0, rowV_at, lastV_at]
  show (BitVec.ofBool ((BitVec.ofNat 32 _).slt (BitVec.ofNat 32 _))).setWidth 32 = _
  rw [slt_ofNat32 (by omega) (by omega), setWidth_ofBool]
  split <;> split <;> first | rfl | omega

theorem pastV_at (k : Fin 104) : pastV x (ix1 k) = BitVec.ofNat 32 (owner (tiles x) k.val) := by
  have hk := k.isLt
  unfold pastV
  refine reduce_count (n := 104) (m := 32) (by omega) _ _ _ _ k _ fun e => ?_
  have hb := tiles_bound x (k := e.val + 1) (by omega)
  rw [cmpi_at, cols_at, rows_at, endV_at, rowV_at]
  show BitVec.ofBool ((BitVec.ofNat 32 _).sle (BitVec.ofNat 32 _)) = 1#1 ↔ _
  rw [sle_ofNat32 (by omega) (by omega)]
  by_cases h : tilesTo (tiles x) (e.val + 1) ≤ k.val
  · simp [h]
  · simp [h]

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · simp [h, min_eq_left h.le]
  · simp [h, min_eq_right (not_lt.1 h)]

theorem topV_at : ∃ t : ℕ, t < 32 ∧ topV x ix0 = BitVec.ofNat 32 t ∧ ∀ e : ℕ, e < 32 → 0 < cnt x e → e ≤ t := by
  have hv : ∀ e : Fin 32, select (cmpi .sgt (cntV x) (all32 0#32)) (iotaInDim S32 32 0) (all32 0#32) (ix1 e)
      = BitVec.ofNat 32 (if 0 < cnt x e.val then e.val else 0) := fun e => by
    have hc := cnt_le x e.val
    rw [select_at, cmpi_at, show all32 0#32 (ix1 e) = 0#32 from rfl, cntV_at, iota1_ap]
    show Scalar.select (BitVec.ofBool ((0#32).slt (BitVec.ofNat 32 _))) _ _ = _
    rw [show (0#32 : BitVec 32) = BitVec.ofNat 32 0 from rfl, slt_ofNat32 (by omega) (by omega)]
    by_cases h : 0 < cnt x e.val
    · simp [h, Scalar.select]
    · simp [h, Scalar.select]
  unfold topV
  rw [Host.reduce_eq_fold]
  generalize select (cmpi .sgt (cntV x) (all32 0#32)) (iotaInDim S32 32 0) (all32 0#32) = v at hv ⊢
  have hI : ∀ i : S32.Idx, ∃ e : Fin 32, i = ix1 e := fun i => ⟨i 0, funext fun a => match a with | ⟨0, _⟩ => rfl⟩
  have hn : ∀ a : ℕ, a < 32 → (BitVec.ofNat 32 a).toInt = a := fun a ha => by
    rw [BitVec.toInt_eq_toNat_of_lt (by rw [BitVec.toNat_ofNat]; omega), BitVec.toNat_ofNat]; omega
  obtain ⟨-, h2, h3⟩ := SortNet.fold_maxsi_spec v (Finset.univ.filter fun i => reducesTo_S32_S_d0.drop i = ix0) (constantI S_ 32 2147483648#32 (Shape.Idx.first h_S_))
  have hmem : ∀ e : Fin 32, (ix1 e : S32.Idx) ∈ Finset.univ.filter fun i => reducesTo_S32_S_d0.drop i = ix0 := fun e =>
    Finset.mem_filter.2 ⟨Finset.mem_univ _, funext fun a => a.elim0⟩
  generalize Finset.fold IntOp.maxsi _ v _ = m at h2 h3 ⊢
  have h0 : (0 : ℤ) ≤ m.toInt := by
    refine le_trans ?_ (h2 _ (hmem 0))
    rw [hv, hn _ (by split <;> omega)]
    omega
  rcases h3 with h3 | ⟨i, -, h3⟩
  · rw [h3] at h0
    exact absurd h0 (by decide)
  · obtain ⟨e, rfl⟩ := hI i
    refine ⟨if 0 < cnt x e.val then e.val else 0, by split <;> omega, by rw [h3, hv], fun f hf hc => ?_⟩
    have h4 := h2 _ (hmem ⟨f, hf⟩)
    rw [h3, hv, hv, hn _ (by split <;> omega), hn _ (by split <;> omega)] at h4
    rw [if_pos hc] at h4
    exact_mod_cast h4

theorem expertV_lt (k : Fin 104) : (expertV x (ix1 k)).toNat < 32 := by
  obtain ⟨t, ht, h, -⟩ := topV_at x
  have ho := owner_le (tiles x) k.val
  unfold expertV
  show (IntOp.minsi (pastV x (ix1 k)) _).toNat < 32
  rw [bc0, h, pastV_at, minsi_word (by omega) (by omega), BitVec.toNat_ofNat]
  omega

/-- A used tile's expert is the one whose rows the tile holds. -/
theorem expertV_at (k : Fin 104) (hk : k.val < tilesTo (tiles x) 32) : expertV x (ix1 k) = BitVec.ofNat 32 (owner (tiles x) k.val) := by
  obtain ⟨t, ht, h, h2⟩ := topV_at x
  have ho := owner_lt (tiles x) hk
  have h3 := h2 _ ho ((tiles_pos x).1 (owner_pos (tiles x) hk))
  unfold expertV
  show IntOp.minsi (pastV x (ix1 k)) _ = _
  rw [bc0, h, pastV_at, minsi_word (by omega) (by omega), min_eq_left h3]

/-- At a used tile where its expert starts, the expert is new. -/
theorem newV_at (k : Fin 104) (hk : k.val < tilesTo (tiles x) 32) (hs : tilesTo (tiles x) (owner (tiles x) k.val) = k.val) :
    newV x (ix1 k) = 1#32 := by
  have hb := tiles_bound x (k := 32) le_rfl
  unfold newV
  rw [muli_ap, usedV_at, if_pos hk]
  have hr : Host.reduce IntOp.addi (extui 32 (startsV x) natLt_1_32) (constantI S_ 32 0#32) reducesTo_S104x32_S104_d1 h_S_ (ix1 k)
      = BitVec.ofNat 32 (Nat.count (fun e => tilesTo (tiles x) e = k.val ∧ 0 < tiles x e) 32) := by
    refine reduce_count (n := 104) (m := 32) (by omega) _ _ _ _ k _ fun e => ?_
    have hb := tiles_bound x (k := e.val) (by omega)
    have hb' := tiles_bound x (k := e.val + 1) (by omega)
    rw [tilesTo_succ] at hb'
    unfold startsV
    have h1 : broadcastInDim S104x32 ![0, 1] bcast_S1x32_S104x32_0_1 (cmpi .sgt (broadcastInDim S1x32 ![1] bcast_S32_S1x32_1 (roomV x))
        (broadcastInDim S1x32 ![] bcast_S_S1x32 (constantI S_ 32 0#32))) (ix2 k e) = BitVec.ofBool (decide (0 < tiles x e.val)) := by
      refine (broadcastInDim_apply _ _ _ _ (ix2 (0 : Fin 1) e) fun a => ?_).trans ?_
      · match a with
        | ⟨0, _⟩ => rfl
        | ⟨1, _⟩ => rfl
      · rw [cmpi_at, bc0, constantI_at, broadcastInDim_apply _ _ _ _ (ix1 e) (fun a => match a with | ⟨0, _⟩ => rfl), roomV_at]
        show BitVec.ofBool ((BitVec.ofNat 32 0).slt (BitVec.ofNat 32 _)) = _
        rw [slt_ofNat32 (by omega) (by omega)]
        exact congrArg _ (decide_eq_decide.2 (by omega))
    rw [andi_at, h1, cmpi_at, cols_at, rows_at, startV_at, rowV_at, cmp_eq_word]
    have h2 : BitVec.ofNat 32 (256 * tilesTo (tiles x) e.val) = BitVec.ofNat 32 (256 * k.val) ↔ tilesTo (tiles x) e.val = k.val := by
      refine ⟨fun h => ?_, fun h => by rw [h]⟩
      have h := congrArg BitVec.toNat h
      have hk' := k.isLt
      simp only [BitVec.toNat_ofNat] at h
      omega
    rw [show decide (BitVec.ofNat 32 (256 * tilesTo (tiles x) e.val) = BitVec.ofNat 32 (256 * k.val)) = decide (tilesTo (tiles x) e.val = k.val) from decide_eq_decide.2 h2]
    by_cases ha : tilesTo (tiles x) e.val = k.val <;> by_cases hc : 0 < tiles x e.val <;> simp [ha, hc, IntOp.andi]
  have hp : 0 < Nat.count (fun e => tilesTo (tiles x) e = k.val ∧ 0 < tiles x e) 32 :=
    Nat.pos_of_ne_zero fun h0 => (Nat.count_iff_forall_not.1 h0 _ (owner_lt (tiles x) hk)) ⟨hs, owner_pos (tiles x) hk⟩
  have hle : Nat.count (fun e => tilesTo (tiles x) e = k.val ∧ 0 < tiles x e) 32 ≤ 32 := Nat.count_le _
  show IntOp.minsi _ _ * 1#32 = 1#32
  rw [hr, bc0, constantI_at, show (1#32 : BitVec 32) = BitVec.ofNat 32 1 from rfl, minsi_word (by omega) (by omega), min_eq_right (by omega)]
  rfl

theorem numV_at : numV x (ix1 (0 : Fin 1)) = BitVec.ofNat 32 (tilesTo (tiles x) 32) := by
  have hb := tiles_bound x (k := 32) le_rfl
  unfold numV
  refine (shapeCast_apply _ _ (ix1 (0 : Fin 1)) ix0 (one_point _ _ rfl rfl)).trans ?_
  rw [pyDiv0_ap _ _ (lastV_at x) (b := 256) rfl (by omega) (by omega) (by omega)]
  exact congrArg _ (by omega)

end Cert.Proof.Plan

end
-- ==== Proof.MoeHost.lean ====
/- What the plan's operations leave in the four tables. -/
module

public import proofs.«01_k».proof.Proof.MoeFrame
public import proofs.«01_k».proof.Proof.MoeWords

@[expose] public section

set_option maxRecDepth 200000

noncomputable section

namespace Cert.Proof.Moe

open Cert.MoeIdeal Cert.MoeIdeal.Gen
open Idealize.ShloMosaic Idealize.ShloMosaic.TcCoe Idealize.ShloMosaic.Tactic
open Cert.Proof.Plan

variable {F : FTy → Type} [FloatOps F]
variable (m : (ℓ : Loc nD τ sig) → Buf (Elt F) ℓ) (c : Dev nD)

/-- The experts of the rows, as they stand in the memory. -/
abbrev eids : IVec S2x9216 32 := m (c, Proc.devRef .tc main_arg0)

theorem read_expert : V m c main_v49 = expertV (eids m c) := by
  unfold V
  after_reads_simp
  simp -implicitDefEqProofs only [StableHlo.TRef.toBuf, StableHlo.TRef.ofBuf, cast_cast, cast_eq]
  rfl

theorem read_used : V m c main_v36 = usedV (eids m c) := by
  unfold V
  after_reads_simp
  simp -implicitDefEqProofs only [StableHlo.TRef.toBuf, StableHlo.TRef.ofBuf, cast_cast, cast_eq]
  rfl

theorem read_new : V m c main_v64 = newV (eids m c) := by
  unfold V
  after_reads_simp
  simp -implicitDefEqProofs only [StableHlo.TRef.toBuf, StableHlo.TRef.ofBuf, cast_cast, cast_eq]
  rfl

theorem read_num : V m c main_v68 = numV (eids m c) := by
  unfold V
  after_reads_simp
  simp -implicitDefEqProofs only [StableHlo.TRef.toBuf, StableHlo.TRef.ofBuf, cast_cast, cast_eq]
  rfl

end Cert.Proof.Moe

end
-- ==== Proof.MoePre.lean ====
/- The precondition of the expert kernel, read off its one word: every row's expert is one of the 32. With it the plan's
   tables are good ones. -/
module

public import proofs.«01_k».proof.Proof.MoeHost
public import proofs.«01_k».proof.Proof.Gen.Pre_experts
public import Idealize.ShloMosaic.Lib.ReduceAll
public import Idealize.ShloMosaic.Lib.Affine

@[expose] public section

set_option maxRecDepth 16384

noncomputable section

namespace Cert.Proof.Moe

open Cert.MoeIdeal Cert.MoeIdeal.Gen
open Idealize.ShloMosaic Idealize.ShloMosaic.TcCoe
open Cert.Proof.Plan

variable {F : FTy → Type} [FloatOps F]

/-- The precondition's word at one says that each entry is at least 0 and below 32. -/
theorem in_range {a0 : IVec Pre_experts.S2x9216 32} {a1 : FVec F Pre_experts.S425984x128 .f32} {a2 : FVec F Pre_experts.S2x4x8x2048x1024 .f32}
    {a3 : FVec F Pre_experts.S2x4x8x512x2048 .f32} (h : Pre_experts.fn (F := F) a0 a1 a2 a3 = fun _ => 1#1) (i : Pre_experts.S2x9216.Idx) :
    0 ≤ (a0 i).toInt ∧ (a0 i).toInt < 32 := by
  obtain ⟨ha, hb⟩ := IntOp.andi_eq_one.1 (Host.reduce_andi_all _ _ _ _ _ (congrFun h (fun a => a.elim0)) i)
  exact ⟨IntOp.cmpi_sge.1 ha, IntOp.cmpi_slt.1 hb⟩

/-- With the experts in range there is a used tile. -/
theorem some_tile (x : IVec S2x9216 32) (h : ∀ i, 0 ≤ (x i).toInt ∧ (x i).toInt < 32) : 1 ≤ tilesTo (tiles x) 32 := by
  have hr : ∃ i, eidV x (ValueIdx.ix1 (0 : Fin 18432)) = x i := ⟨_, rfl⟩
  obtain ⟨i, hi⟩ := hr
  obtain ⟨h0, h1⟩ := h i
  have hlt : (x i).toNat < 32 := by
    rw [BitVec.toInt_eq_toNat_cond] at h0 h1
    have := (x i).isLt
    split at h1 <;> rename_i hc
    · omega
    · rw [if_neg hc] at h0; omega
  have hc : 0 < cnt x (x i).toNat := Finset.card_pos.2 ⟨0, Finset.mem_filter.2 ⟨Finset.mem_univ _, by
    rw [hi]; exact BitVec.eq_of_toNat_eq (by rw [BitVec.toNat_ofNat]; omega)⟩⟩
  have h2 := tilesTo_succ (tiles x) (x i).toNat
  have h3 := (tiles_pos x).2 hc
  have h4 := tilesTo_mono (tiles x) (show (x i).toNat + 1 ≤ 32 by omega)
  omega

variable (m : (ℓ : Loc nD τ sig) → Buf (Elt F) ℓ)

/-- How many tiles the rows take. -/
abbrev used : ℕ := tilesTo (tiles (eids m 0)) 32

theorem at104_eq (k : Fin 104) : at104 k = ValueIdx.ix1 k := funext fun a => match a with | ⟨0, _⟩ => rfl

theorem te_eq (k : Fin 104) : teW (tbl m) k = expertV (eids m 0) (ValueIdx.ix1 k) :=
  (congrFun (read_expert m 0) (at104 k)).trans (congrArg _ (at104_eq k))
theorem tv_eq (k : Fin 104) : tvW (tbl m) k = usedV (eids m 0) (ValueIdx.ix1 k) :=
  (congrFun (read_used m 0) (at104 k)).trans (congrArg _ (at104_eq k))
theorem tf_eq (k : Fin 104) : tfW (tbl m) k = newV (eids m 0) (ValueIdx.ix1 k) :=
  (congrFun (read_new m 0) (at104 k)).trans (congrArg _ (at104_eq k))

/-- The plan's tables are good, for the number of tiles the rows take. -/
theorem good_of_pre {a1 : FVec F Pre_experts.S425984x128 .f32} {a2 : FVec F Pre_experts.S2x4x8x2048x1024 .f32} {a3 : FVec F Pre_experts.S2x4x8x512x2048 .f32}
    (h : Pre_experts.fn (F := F) (eids m 0) a1 a2 a3 = fun _ => 1#1) : Good (tbl m) (used m) where
  pos := some_tile _ (in_range h)
  le := (tiles_bound (eids m 0) le_rfl).trans (by omega)
  nv := (congrFun (read_num m 0) at1).trans ((congrArg _ (funext fun a => match a with | ⟨0, _⟩ => rfl)).trans (numV_at (eids m 0)))
  te := fun k => by rw [te_eq]; exact expertV_lt _ k
  tv := fun k => by rw [tv_eq]; exact usedV_at _ k
  first := by
    rw [tf_eq]
    exact newV_at _ 0 (some_tile _ (in_range h)) (start_zero _)
  turn := fun k k' hk hu hne => by
    have hu' : k.val < tilesTo (tiles (eids m 0)) 32 := hu
    rw [tf_eq]
    rw [te_eq, te_eq, expertV_at _ k hu, expertV_at _ k' (by omega), hk] at hne
    refine newV_at _ k hu ?_
    rw [hk]
    exact start_turn _ (by omega) fun h => hne (by rw [h])

end Cert.Proof.Moe

end
-- ==== Proof.MoeLaunch.lean ====
/- The expert kernel's launch: its plan's host operations run, then the pipeline. -/
module

public import proofs.«01_k».proof.Proof.MoeFrame

@[expose] public section

set_option maxRecDepth 16384

noncomputable section

namespace Cert.Proof.Moe

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

variable {n : ℕ} (G : Good (tbl m) n)

/-- The program is the plan's operations, then the pipeline on the buffers they leave. -/
theorem plan_hmain : Pipeline.HMainP (Ix := Unit) (Name := ℕ) (U := UR sig nD τ) (Lvl := ℕ) (pcfgs (F := F)) 0 defs₀ Variants.none m main (V m) := by
  have h := Pipeline.hmainP_prefixes (Ix := Unit) (Name := ℕ) (U := UR sig nD τ) (Lvl := ℕ) (pcfgs (F := F)) 0 defs₀ Variants.none m main planOps planOps_sub planOps_fresh (fun c => main_chain c)
  rwa [show (fun (c : Dev nD) (b : Ref sig .tc) => StableHlo.after planOps.flatten (fun b => m (c, b)) b) = V m from by funext c b; unfold V; rfl] at h

set_option backward.isDefEq.respectTransparency.types false in
/-- The launch: every run ends, the arrays at what the proof data say and every counter at zero. -/
theorem run_main_quiescent : θ_run defs (onTc (τ := τ) (main (F := F))) (s₀ m ρ)
    (fun r => (Pipeline.FramePost (Pipeline.pin (pcfgs (F := F)) (fun _ => adm G)) (dats G) 0 (V m)) r ∧ r.2.sem = fun _ => 0) :=
  Pipeline.θ_run_frameP_track (Q' := _) pcfgs (fun _ => adm G) (dats G) (0 : Fin 1) launch0 defs₀ Variants.none m ρ main
    (hbody := fun c => (body_obligation G c).loose) (hshare := fun c w => by unfold Dat.share; split <;> rfl)
    (howed := fun _ _ => rfl) (V := V m)
    (hmain := plan_hmain m)
    (hA := A_eq G) (hpf := V_pre m)
    (hin := enter G) (hout := leave G)

theorem frame_good : θ_run defs (onTc (τ := τ) (main (F := F))) ⟨m, fun _ => 0, ρ⟩ (fun r => (∀ c : Dev nD,
      r.2.mem ((c.tc : Thread nD τ).loc main_v69) = (dats G 0 c).arrAt 3 (cfgM G).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ (h : _ ∧ _) => ⟨fun c => ⟨(h.1 c).1 3,
      ((h.1 c).2 main_arg0 (Pipeline.mem_restRefs_of main_arg0 (by decide) (show ∀ w : Fin 4, (spec0 w).arr.view.ref ≠ main_arg0 from by decide))).trans (V_arg0 m c),
      (((h.1 c).1 0).trans (((dats G 0 c).arrAt_in 0 rfl _).trans (A_eq G c 0))).trans (V_arg1 m c),
      (((h.1 c).1 1).trans (((dats G 0 c).arrAt_in 1 rfl _).trans (A_eq G c 1))).trans (V_arg2 m c),
      (((h.1 c).1 2).trans (((dats G 0 c).arrAt_in 2 rfl _).trans (A_eq G c 2))).trans (V_arg3 m c)⟩, h.2⟩)
    (run_main_quiescent m ρ G)

end Cert.Proof.Moe

end
-- ==== Proof.MoeSame.lean ====
/- The expert kernel as printed for its own floats and as printed for exact ones are the same program: what the one's run
   leaves, the other's does. -/
module

public import proofs.«01_k».proof.Proof.MoeLaunch
public import proofs.«01_k».proof.Proof.Gen.Moe.Launch

@[expose] public section

set_option maxRecDepth 16384
set_option maxHeartbeats 2000000

noncomputable section

namespace Cert.Proof.Moe

open Idealize.ShloMosaic Idealize.ShloMosaic.TcCoe Idealize.SL.Sem

/-- The two kernels' body tables agree at every label. -/
theorem bodies_same : Cert.Moe.defs₀ (F := Bits) = Cert.MoeIdeal.defs₀ (F := Bits) := by
  funext k l a
  cases k with
  | tc =>
    match l, a with
    | ⟨0, _⟩, (t, s) => rfl
  | scScalar _ => rfl
  | scVector _ _ => rfl

/- The stretches of host operations before the launch are the same lists. -/
theorem host_same : Cert.Moe.Gen.hostOps0 (F := Bits) = Cert.MoeIdeal.Gen.hostOps0 (F := Bits) := (rfl)
theorem host_same_1 : Cert.Moe.Gen.hostOps0_1 (F := Bits) = Cert.MoeIdeal.Gen.hostOps0_1 (F := Bits) := (rfl)
theorem host_same_2 : Cert.Moe.Gen.hostOps0_2 (F := Bits) = Cert.MoeIdeal.Gen.hostOps0_2 (F := Bits) := (rfl)
theorem host_same_3 : Cert.Moe.Gen.hostOps0_3 (F := Bits) = Cert.MoeIdeal.Gen.hostOps0_3 (F := Bits) := (rfl)
theorem host_same_4 : Cert.Moe.Gen.hostOps0_4 (F := Bits) = Cert.MoeIdeal.Gen.hostOps0_4 (F := Bits) := (rfl)
theorem host_same_5 : Cert.Moe.Gen.hostOps0_5 (F := Bits) = Cert.MoeIdeal.Gen.hostOps0_5 (F := Bits) := (rfl)
theorem host_same_6 : Cert.Moe.Gen.hostOps0_6 (F := Bits) = Cert.MoeIdeal.Gen.hostOps0_6 (F := Bits) := (rfl)
theorem host_same_7 : Cert.Moe.Gen.hostOps0_7 (F := Bits) = Cert.MoeIdeal.Gen.hostOps0_7 (F := Bits) := (rfl)
theorem host_same_8 : Cert.Moe.Gen.hostOps0_8 (F := Bits) = Cert.MoeIdeal.Gen.hostOps0_8 (F := Bits) := (rfl)
theorem host_same_9 : Cert.Moe.Gen.hostOps0_9 (F := Bits) = Cert.MoeIdeal.Gen.hostOps0_9 (F := Bits) := (rfl)
theorem host_same_10 : Cert.Moe.Gen.hostOps0_10 (F := Bits) = Cert.MoeIdeal.Gen.hostOps0_10 (F := Bits) := (rfl)

/-- A main program of stretches of host operations and then the launch. -/
def line (ls : List (List (HloOp Cert.Moe.τ Cert.Moe.sig (Elt Bits)))) :
    Prog (TpuEff Cert.Moe.nD Cert.Moe.τ Cert.Moe.sig (Elt Bits) (Pipeline.Sig Cert.Moe.Λ₀ (Fin 1) fun p => (Cert.Moe.pcfgs (F := Bits) p).Adm) .tc) PUnit :=
  Pipeline.chain (ls.map StableHlo.seq ++ [Prog.lift (.customCall (Pipeline.entry 0) ())])

/-- The two programs' stretches agree. -/
theorem stretches_same :
    [Cert.Moe.Gen.hostOps0 (F := Bits), Cert.Moe.Gen.hostOps0_1 (F := Bits), Cert.Moe.Gen.hostOps0_2 (F := Bits), Cert.Moe.Gen.hostOps0_3 (F := Bits),
      Cert.Moe.Gen.hostOps0_4 (F := Bits), Cert.Moe.Gen.hostOps0_5 (F := Bits), Cert.Moe.Gen.hostOps0_6 (F := Bits), Cert.Moe.Gen.hostOps0_7 (F := Bits),
      Cert.Moe.Gen.hostOps0_8 (F := Bits), Cert.Moe.Gen.hostOps0_9 (F := Bits), Cert.Moe.Gen.hostOps0_10 (F := Bits)] =
    ([Cert.MoeIdeal.Gen.hostOps0 (F := Bits), Cert.MoeIdeal.Gen.hostOps0_1 (F := Bits), Cert.MoeIdeal.Gen.hostOps0_2 (F := Bits), Cert.MoeIdeal.Gen.hostOps0_3 (F := Bits),
      Cert.MoeIdeal.Gen.hostOps0_4 (F := Bits), Cert.MoeIdeal.Gen.hostOps0_5 (F := Bits), Cert.MoeIdeal.Gen.hostOps0_6 (F := Bits), Cert.MoeIdeal.Gen.hostOps0_7 (F := Bits),
      Cert.MoeIdeal.Gen.hostOps0_8 (F := Bits), Cert.MoeIdeal.Gen.hostOps0_9 (F := Bits), Cert.MoeIdeal.Gen.hostOps0_10 (F := Bits)] :
      List (List (HloOp Cert.Moe.τ Cert.Moe.sig (Elt Bits)))) := by
  rw [host_same, host_same_1, host_same_2, host_same_3, host_same_4, host_same_5, host_same_6, host_same_7, host_same_8, host_same_9, host_same_10]

/-- The expert kernel's main program is its stretches, then the launch. -/
theorem main_line (c : Dev Cert.Moe.nD) : Cert.Moe.main (F := Bits) c =
    line [Cert.Moe.Gen.hostOps0 (F := Bits), Cert.Moe.Gen.hostOps0_1 (F := Bits), Cert.Moe.Gen.hostOps0_2 (F := Bits), Cert.Moe.Gen.hostOps0_3 (F := Bits),
      Cert.Moe.Gen.hostOps0_4 (F := Bits), Cert.Moe.Gen.hostOps0_5 (F := Bits), Cert.Moe.Gen.hostOps0_6 (F := Bits), Cert.Moe.Gen.hostOps0_7 (F := Bits),
      Cert.Moe.Gen.hostOps0_8 (F := Bits), Cert.Moe.Gen.hostOps0_9 (F := Bits), Cert.Moe.Gen.hostOps0_10 (F := Bits)] :=
  Cert.Moe.Gen.main_chain (F := Bits) c

/-- The same stretches as printed for exact floats, then the launch, are that main program. -/
theorem main_line' (c : Dev Cert.Moe.nD) :
    line [Cert.MoeIdeal.Gen.hostOps0 (F := Bits), Cert.MoeIdeal.Gen.hostOps0_1 (F := Bits), Cert.MoeIdeal.Gen.hostOps0_2 (F := Bits), Cert.MoeIdeal.Gen.hostOps0_3 (F := Bits),
      Cert.MoeIdeal.Gen.hostOps0_4 (F := Bits), Cert.MoeIdeal.Gen.hostOps0_5 (F := Bits), Cert.MoeIdeal.Gen.hostOps0_6 (F := Bits), Cert.MoeIdeal.Gen.hostOps0_7 (F := Bits),
      Cert.MoeIdeal.Gen.hostOps0_8 (F := Bits), Cert.MoeIdeal.Gen.hostOps0_9 (F := Bits), Cert.MoeIdeal.Gen.hostOps0_10 (F := Bits)] = Cert.MoeIdeal.main (F := Bits) c :=
  (Cert.MoeIdeal.Gen.main_chain (F := Bits) c).symm

/-- The two main programs agree: the same stretches of host operations, then the same launch. -/
theorem main_same (c : Dev Cert.Moe.nD) : Cert.Moe.main (F := Bits) c = Cert.MoeIdeal.main (F := Bits) c :=
  (main_line c).trans ((congrArg line stretches_same).trans (main_line' c))

/-- What a good run leaves, of the kernel as printed for its own floats. -/
theorem frame_bits (m : (ℓ : Loc Cert.Moe.nD Cert.Moe.τ Cert.Moe.sig) → Buf (Elt Bits) ℓ) (ρ : Dev Cert.Moe.nD → PrngReg) {n : ℕ}
    (G : Good (F := Bits) (tbl (F := Bits) m) n) :
    θ_run (Cert.Moe.defs (F := Bits)) (onTc (τ := Cert.Moe.τ) (Cert.Moe.main (F := Bits))) ⟨m, fun _ => 0, ρ⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3))
      ∧ r.2.sem = fun _ => 0) := by
  unfold Cert.Moe.defs
  rw [bodies_same, show Cert.Moe.main (F := Bits) = Cert.MoeIdeal.main (F := Bits) from funext main_same]
  exact (θ_run (Cert.MoeIdeal.defs (F := Bits)) _ _).mono (fun _ (h : _ ∧ _) => ⟨fun c => (h.1 c).2, h.2⟩) (frame_good (F := Bits) m ρ G)

end Cert.Proof.Moe

end
-- ==== Proof.MoeRef.lean ====
/- The reference's array, place by place: each of the four groups adds, for every one of its eight experts, the expert's layer
   weighted by whether the token has that expert. -/
module

public import proofs.«01_k».proof.Proof.Gen.MoeRefIdeal.Read
public import proofs.«01_k».proof.Proof.MoeMath
public import Idealize.ShloMosaic.Lib.Pointwise
public import Idealize.ShloMosaic.Lib.TwoAxisContraction

@[expose] public section

set_option maxRecDepth 16384

noncomputable section

namespace Cert.Proof.MoeRef

open Cert.MoeRefIdeal Cert.MoeRefIdeal.Gen Cert.MoeRefIdeal.Read Idealize.ShloMosaic Idealize.ShloMosaic.TcCoe Idealize.SL.Sem
open Cert.Proof.MoeMath

/-- The experts of the rows. -/
abbrev Ids := (⟨S2x9216, .i32⟩ : BufTy).Contents (Elt Ideal)

variable (ids : Ids) (x : Tokens) (u : Ups) (w : Downs)

/-! ## One group's pieces, the group's number left open -/

variable (o : ℕ) (hu : S4x8x2048x1024.Slices ![o, 0, 0, 0] S1x8x2048x1024) (hg : S26624x4x8.Slices ![0, o, 0] S26624x1x8)
  (hd : S4x8x512x2048.Slices ![o, 0, 0, 0] S1x8x512x2048)

/-- The group's stacked projections. -/
def ups : FVec Ideal S8x2048x1024 .f32 :=
  shapeCast S8x2048x1024 (extractStridedSlice S1x8x2048x1024 ![o, 0, 0, 0] (val_main_v27 (F := Ideal) u) hu) shapeCasts_S1x8x2048x1024_S8x2048x1024
/-- The group's last projections. -/
def downs : FVec Ideal S8x512x2048 .f32 :=
  shapeCast S8x512x2048 (extractStridedSlice S1x8x512x2048 ![o, 0, 0, 0] (val_main_v29 (F := Ideal) w) hd) shapeCasts_S1x8x512x2048_S8x512x2048
/-- The group's weights of its experts, token by token. -/
def gates : FVec Ideal S26624x8x512 .f32 :=
  broadcastInDim S26624x8x512 ![0, 1, 2] bcast_S26624x8x1_S26624x8x512_0_1_2 (broadcastInDim S26624x8x1 ![0, 1] bcast_S26624x8_S26624x8x1_0_1
    (shapeCast S26624x8 (extractStridedSlice S26624x1x8 ![0, o, 0] (val_main_v25 (F := Ideal) ids) hg) shapeCasts_S26624x1x8_S26624x8))
/-- All tokens through the group's stacked projections. -/
def projs : FVec Ideal S26624x8x1024 .f32 :=
  Host.dotGeneral (φ₁ := .f32) (φ₂ := .f32) dot_S26624x2048_S8x2048x1024_S26624x8x1024_1_1_0_02_n_n none (val_main_v0 (F := Ideal) x) (ups u o hu)
/-- The first halves, -/
def firsts : FVec Ideal S26624x8x512 .f32 :=
  extractStridedSlice S26624x8x512 ![0, 0, 0] (projs x u o hu) slices_S26624x8x1024_S26624x8x512_0_0_0
/-- the first halves through the curve, times the second halves, -/
def acts : FVec Ideal S26624x8x512 .f32 :=
  mulf (mulf (firsts x u o hu) (Host.divf (val_main_call3_v4 (F := Ideal)) (addf (val_main_call3_v2 (F := Ideal)) (Host.exp (Host.negf (firsts x u o hu))))))
    (extractStridedSlice S26624x8x512 ![0, 0, 512] (projs x u o hu) slices_S26624x8x1024_S26624x8x512_0_0_512)
/-- and what the group adds. -/
def group : FVec Ideal S26624x2048 .f32 :=
  Host.dotGeneral (φ₁ := .f32) (φ₂ := .f32) dot_S26624x8x512_S8x512x2048_S26624x2048_12_01_0_2_n_n none (mulf (acts x u o hu) (gates ids o hg)) (downs w o hd)

theorem group_0 : val_main_v45 (F := Ideal) ids x u w = group ids x u w 0 slices_S4x8x2048x1024_S1x8x2048x1024_0_0_0_0 slices_S26624x4x8_S26624x1x8_0_0_0 slices_S4x8x512x2048_S1x8x512x2048_0_0_0_0 := by
  unfold val_main_v45 val_main_v44 val_main_v43 val_main_v42 val_main_v41 val_main_v40 val_main_v39 val_main_v38 val_main_v37 val_main_v36 val_main_v35 val_main_v34 val_main_v33 val_main_v32 val_main_v31 val_main_call3_v5 val_main_call3_v4 val_main_call3_v3 val_main_call3_v2 val_main_call3_v1 val_main_call3_v0 val_main_call3_cst val_main_call3_cst_0 group downs gates acts firsts projs ups
  rfl
theorem group_1 : val_main_v61 (F := Ideal) ids x u w = group ids x u w 1 slices_S4x8x2048x1024_S1x8x2048x1024_1_0_0_0 slices_S26624x4x8_S26624x1x8_0_1_0 slices_S4x8x512x2048_S1x8x512x2048_1_0_0_0 := by
  unfold val_main_v61 val_main_v60 val_main_v59 val_main_v58 val_main_v57 val_main_v56 val_main_v55 val_main_v54 val_main_v53 val_main_v52 val_main_v51 val_main_v50 val_main_v49 val_main_v48 val_main_v47 val_main_call4_v5 val_main_call4_v4 val_main_call4_v3 val_main_call4_v2 val_main_call4_v1 val_main_call4_v0 val_main_call4_cst val_main_call4_cst_0 group downs gates acts firsts projs ups val_main_call3_v4 val_main_call3_v2 val_main_call3_cst val_main_call3_cst_0
  rfl
theorem group_2 : val_main_v77 (F := Ideal) ids x u w = group ids x u w 2 slices_S4x8x2048x1024_S1x8x2048x1024_2_0_0_0 slices_S26624x4x8_S26624x1x8_0_2_0 slices_S4x8x512x2048_S1x8x512x2048_2_0_0_0 := by
  unfold val_main_v77 val_main_v76 val_main_v75 val_main_v74 val_main_v73 val_main_v72 val_main_v71 val_main_v70 val_main_v69 val_main_v68 val_main_v67 val_main_v66 val_main_v65 val_main_v64 val_main_v63 val_main_call5_v5 val_main_call5_v4 val_main_call5_v3 val_main_call5_v2 val_main_call5_v1 val_main_call5_v0 val_main_call5_cst val_main_call5_cst_0 group downs gates acts firsts projs ups val_main_call3_v4 val_main_call3_v2 val_main_call3_cst val_main_call3_cst_0
  rfl
theorem group_3 : val_main_v93 (F := Ideal) ids x u w = group ids x u w 3 slices_S4x8x2048x1024_S1x8x2048x1024_3_0_0_0 slices_S26624x4x8_S26624x1x8_0_3_0 slices_S4x8x512x2048_S1x8x512x2048_3_0_0_0 := by
  unfold val_main_v93 val_main_v92 val_main_v91 val_main_v90 val_main_v89 val_main_v88 val_main_v87 val_main_v86 val_main_v85 val_main_v84 val_main_v83 val_main_v82 val_main_v81 val_main_v80 val_main_v79 val_main_call6_v5 val_main_call6_v4 val_main_call6_v3 val_main_call6_v2 val_main_call6_v1 val_main_call6_v0 val_main_call6_cst val_main_call6_cst_0 group downs gates acts firsts projs ups val_main_call3_v4 val_main_call3_v2 val_main_call3_cst val_main_call3_cst_0
  rfl

/-! ## The pieces at a place -/

theorem ups_at (e : Fin 8) (d : Fin 2048) (f : Fin 1024) (ho : o < 4) : ups u o hu (ix3 e d f) = u (ix5 0 ⟨o, ho⟩ e d f) := by
  pointwise [ups, val_main_v27, val_main_v26]

theorem downs_at (e : Fin 8) (f : Fin 512) (c : Fin 2048) (ho : o < 4) : downs w o hd (ix3 e f c) = w (ix5 0 ⟨o, ho⟩ e f c) := by
  pointwise [downs, val_main_v29, val_main_v28]

theorem tokens_at (r : Fin 26624) (d : Fin 2048) : val_main_v0 (F := Ideal) x (ix2 r d) = hid x r d := by
  pointwise [val_main_v0]
  rfl

theorem gates_at (r : Fin 26624) (e : Fin 8) (f : Fin 512) (ho : o < 4) : gates ids o hg (ix3 r e f)
    = FloatOps.uitofp (F := Ideal) .f32 (IntOp.cmpi .eq (val_main_v23 (F := Ideal) ids (ix1 r)) (BitVec.ofNat 32 (o * 8 + e.val))) := by
  pointwise [gates, val_main_v25, val_main_v24, val_main_call2_v4, val_main_call2_v3, val_main_call2_v2, val_main_call2_v1, val_main_call2_v0]

theorem projs_at (r : Fin 26624) (e : Fin 8) (f : Fin 1024) (ho : o < 4) : projs x u o hu (ix3 r e f) = proj x u r ⟨o, ho⟩ e f := by
  have tok : ∀ d, val_main_v0 (F := Ideal) x (ix2 r d) = hid x r d := tokens_at x r
  have up : ∀ d, ups u o hu (ix3 e d f) = u (ix5 0 ⟨o, ho⟩ e d f) := fun d => ups_at u o hu e d f ho
  unfold projs proj
  generalize val_main_v0 (F := Ideal) x = y0 at tok ⊢
  generalize ups u o hu = y1 at up ⊢
  simp only [Host.dotGeneral]
  rw [Ideal.dotGeneral_apply, ← Equiv.sum_comp (ValueIdx.contrEquiv1 dot_S26624x2048_S8x2048x1024_S26624x8x1024_1_1_0_02_n_n 2048 rfl rfl).symm]
  refine Finset.sum_congr rfl fun d _ => ?_
  have hk := ValueIdx.contrEquiv1_symm_val dot_S26624x2048_S8x2048x1024_S26624x8x1024_1_1_0_02_n_n 2048 rfl rfl d
  rw [← tok, ← up]
  refine congrArg₂ (· * ·) (congrArg y0 (funext fun a => Fin.ext ?_)) (congrArg y1 (funext fun a => Fin.ext ?_))
  · match a with
    | ⟨0, _⟩ => exact lhs_main_v33_0 _ _
    | ⟨1, _⟩ => exact (lhs_main_v33_1 _ _).trans hk
  · match a with
    | ⟨0, _⟩ => exact rhs_main_v33_0 _ _
    | ⟨1, _⟩ => exact (rhs_main_v33_1 _ _).trans hk
    | ⟨2, _⟩ => exact rhs_main_v33_2 _ _

theorem acts_at (r : Fin 26624) (e : Fin 8) (f : Fin 512) (ho : o < 4) : acts x u o hu (ix3 r e f) = act x u r ⟨o, ho⟩ e f := by
  have pr : ∀ f, projs x u o hu (ix3 r e f) = proj x u r ⟨o, ho⟩ e f := fun f => projs_at x u o hu r e f ho
  unfold acts firsts act
  generalize projs x u o hu = y at pr ⊢
  pointwise [val_main_call3_v4, val_main_call3_v2, val_main_call3_cst, val_main_call3_cst_0]
  rw [pr, pr, silu_recip]

theorem group_at (r : Fin 26624) (c : Fin 2048) (ho : o < 4) : group ids x u w o hu hg hd (ix2 r c)
    = ∑ e : Fin 8, ∑ f : Fin 512, (act x u r ⟨o, ho⟩ e f * gates ids o hg (ix3 r e f)) * w (ix5 0 ⟨o, ho⟩ e f c) := by
  have pa : ∀ e f, acts x u o hu (ix3 r e f) = act x u r ⟨o, ho⟩ e f := fun e f => acts_at x u o hu r e f ho
  have pw : ∀ e f, downs w o hd (ix3 e f c) = w (ix5 0 ⟨o, ho⟩ e f c) := fun e f => downs_at w o hd e f c ho
  unfold group
  generalize acts x u o hu = ya at pa ⊢
  generalize gates ids o hg = yg
  generalize downs w o hd = yw at pw ⊢
  simp only [Host.dotGeneral]
  rw [Ideal.dotGeneral_apply, ValueIdx.sum_contr2 dot_S26624x8x512_S8x512x2048_S26624x2048_12_01_0_2_n_n 8 512 rfl rfl rfl]
  refine Finset.sum_congr rfl fun e _ => Finset.sum_congr rfl fun f _ => ?_
  have h0 := ValueIdx.contrEquiv2_symm_val0 dot_S26624x8x512_S8x512x2048_S26624x2048_12_01_0_2_n_n 8 512 rfl rfl rfl (e, f)
  have h1 := ValueIdx.contrEquiv2_symm_val1 dot_S26624x8x512_S8x512x2048_S26624x2048_12_01_0_2_n_n 8 512 rfl rfl rfl (e, f)
  rw [← pa, ← pw]
  generalize (ValueIdx.contrEquiv2 dot_S26624x8x512_S8x512x2048_S26624x2048_12_01_0_2_n_n 8 512 rfl rfl rfl).symm (e, f) = q at h0 h1 ⊢
  have el : dot_S26624x8x512_S8x512x2048_S26624x2048_12_01_0_2_n_n.lhsIdx (ix2 r c) q = ix3 r e f := funext fun a => Fin.ext (by
    match a with
    | ⟨0, _⟩ => rfl
    | ⟨1, _⟩ => exact h0
    | ⟨2, _⟩ => exact h1)
  have er : dot_S26624x8x512_S8x512x2048_S26624x2048_12_01_0_2_n_n.rhsIdx (ix2 r c) q = ix3 e f c := funext fun a => Fin.ext (by
    match a with
    | ⟨0, _⟩ => exact h0
    | ⟨1, _⟩ => exact h1
    | ⟨2, _⟩ => rfl)
  rw [el, er]
  rfl

/-! ## The weights, and the whole array -/

/-- A token's weight of an expert is 1 where the token has that expert, else 0. -/
theorem gate_word (t k : ℕ) (ht : t ≤ 32) (hk : k < 32) :
    (FloatOps.uitofp (F := Ideal) .f32 (IntOp.cmpi .eq (BitVec.ofNat 32 t) (BitVec.ofNat 32 k)) : EReal) = if t = k then 1 else 0 := by
  by_cases h : t = k
  · rw [if_pos h, h, IntOp.cmpi, beq_iff_eq.2 rfl]
    simp [FloatOps.uitofp]
  · have hne : BitVec.ofNat 32 t ≠ BitVec.ofNat 32 k := fun h' => h (by
      have := congrArg BitVec.toNat h'
      simp only [BitVec.toNat_ofNat] at this
      omega)
    rw [if_neg h, IntOp.cmpi, beq_eq_false_iff_ne.2 hne]
    simp [FloatOps.uitofp]

/-- The reference at a place whose token has expert `e` of group `g`, or has none. -/
theorem total_at (r : Fin 26624) (c : Fin 2048) (b : Prop) [Decidable b] (g : Fin 4) (e : Fin 8)
    (ht : val_main_v23 (F := Ideal) ids (ix1 r) = BitVec.ofNat 32 (if b then g.val * 8 + e.val else 32)) :
    val_main_v94 (F := Ideal) ids x u w (ix2 r c) = if b then expert x u w r g e c else 0 := by
  have each' : ∀ (o : Fin 4) hu hg hd, group ids x u w o.val hu hg hd (ix2 r c)
      = ∑ e' : Fin 8, if o = g ∧ e' = e then (if b then expert x u w r o e' c else 0) else 0 := fun o hu hg hd => by
    rw [group_at ids x u w o.val hu hg hd r c o.isLt]
    refine Finset.sum_congr rfl fun e' _ => ?_
    have hgate : ∀ f, gates ids o.val hg (ix3 r e' f) = if b ∧ o = g ∧ e' = e then (1 : EReal) else 0 := fun f => by
      rw [gates_at ids o.val hg r e' f o.isLt, ht, gate_word _ _ (by split <;> omega) (by omega)]
      refine if_congr ?_ rfl rfl
      by_cases hb : b
      · rw [if_pos hb]
        refine ⟨fun h => ⟨hb, Fin.ext (by omega), Fin.ext (by omega)⟩, fun h => ?_⟩
        rw [h.2.1, h.2.2]
      · rw [if_neg hb]
        exact ⟨fun h => by omega, fun h => absurd h.1 hb⟩
    simp only [hgate]
    refine (expert_gated x u w r o e' c _).trans ?_
    by_cases hb : b <;> by_cases h : o = g ∧ e' = e <;> simp [hb, h]
  rw [val_main_v94_apply, val_main_v78_apply, val_main_v62_apply, val_main_v46_apply, group_0, group_1, group_2, group_3]
  have each : ∀ (o : ℕ) (ho : o < 4) hu hg hd, group ids x u w o hu hg hd (ix2 r c)
      = ∑ e' : Fin 8, if (⟨o, ho⟩ : Fin 4) = g ∧ e' = e then (if b then expert x u w r ⟨o, ho⟩ e' c else 0) else 0 :=
    fun o ho => each' ⟨o, ho⟩
  rw [each 0 (by decide), each 1 (by decide), each 2 (by decide), each 3 (by decide)]
  have hz : val_main_v30 (F := Ideal) (ix2 r c) = (0 : EReal) := by
    pointwise [val_main_v30, val_main_cst]
  rw [hz]
  refine Eq.trans ?_ (sum_one (fun g e => if b then expert x u w r g e c else 0) g e)
  rw [Fin.sum_univ_four]
  show (((0 + _) + _) + _) + _ = _
  rw [zero_add]
  rfl

/-- The reference's array at a place. -/
theorem result_at (i : S425984x128.Idx) (b : Prop) [Decidable b] (g : Fin 4) (e : Fin 8)
    (ht : val_main_v23 (F := Ideal) ids (ix1 ⟨(i 0).val / 16, by have h : (i 0).val < 425984 := (i 0).isLt; omega⟩)
      = BitVec.ofNat 32 (if b then g.val * 8 + e.val else 32)) :
    val_main_v95 (F := Ideal) ids x u w i = if b then expert x u w ⟨(i 0).val / 16, by have h : (i 0).val < 425984 := (i 0).isLt; omega⟩ g e
      ⟨128 * ((i 0).val % 16) + (i 1).val, by have h : (i 1).val < 128 := (i 1).isLt; omega⟩ else 0 := by
  have h0 : (i 0).val < 425984 := (i 0).isLt
  have h1 : (i 1).val < 128 := (i 1).isLt
  rw [val_main_v95_apply]
  refine (congrArg _ (?_ : _ = ix2 ⟨(i 0).val / 16, by omega⟩ ⟨128 * ((i 0).val % 16) + (i 1).val, by omega⟩)).trans
    (total_at ids x u w _ _ b g e ht)
  · exact funext fun a => Fin.ext (match a with
      | ⟨0, _⟩ => by show ((i 0).val * 128 + (i 1).val) / 2048 = (i 0).val / 16; omega
      | ⟨1, _⟩ => by show ((i 0).val * 128 + (i 1).val) % 2048 = 128 * ((i 0).val % 16) + (i 1).val; omega)

end Cert.Proof.MoeRef
end
-- ==== Proof.MoeIds.lean ====
/- The expert the reference gives a row: the expert whose tile the row lies in, and none past the used tiles. -/
module

public import proofs.«01_k».proof.Proof.MoeWords
public import proofs.«01_k».proof.Proof.Gen.MoeRefIdeal.Read

@[expose] public section

set_option maxRecDepth 16384

noncomputable section

namespace Cert.Proof.MoeIds

open Cert.MoeRefIdeal Cert.MoeRefIdeal.Gen Cert.MoeRefIdeal.Read Idealize.ShloMosaic Idealize.ShloMosaic.Routing Idealize.ShloMosaic.ValueIdx
open Idealize.ShloMosaic.WordCmp (cmpi_at)
open Cert.Proof.Plan

variable (x : (⟨S2x9216, .i32⟩ : BufTy).Contents (Elt Ideal))

theorem mask_at (r : Fin 18432) (e : Fin 32) : val_main_v7 (F := Ideal) x (ix2 r e) = BitVec.ofBool (decide (eidV x (ix1 r) = BitVec.ofNat 32 e.val)) :=
  matchV_at x r e

theorem counts_at (e : Fin 32) : val_main_v9 (F := Ideal) x (ix1 e) = BitVec.ofNat 32 (cnt x e.val) := by
  have hc := cnt_le x e.val
  apply BitVec.eq_of_toNat_eq
  unfold val_main_v9 val_main_v8 val_main_c
  rw [StableHlo.Predicate.toNat_reduce_count_rows (n := 18432) (m := 32) (by omega), BitVec.toNat_ofNat, Nat.mod_eq_of_lt (by omega), cnt]
  refine congrArg Finset.card (Finset.filter_congr fun r _ => ?_)
  refine (Eq.congr_left (congrArg (val_main_v7 (F := Ideal) x) (ij_eq_ix2 r e))).trans ?_
  rw [mask_at]
  by_cases h : eidV x (ix1 r) = BitVec.ofNat 32 e.val <;> simp [h]

theorem room_at (e : Fin 32) : val_main_v14 (F := Ideal) x (ix1 e) = BitVec.ofNat 32 (256 * tiles x e.val) := by
  have hc := cnt_le x e.val
  have h1 : val_main_v11 (F := Ideal) x (ix1 e) = BitVec.ofNat 32 (cnt x e.val + 255) := by
    show val_main_v9 (F := Ideal) x (ix1 e) + BitVec.ofNat 32 255 = _
    rw [counts_at, ← BitVec.ofNat_add]
  have h2 : val_main_v12 (F := Ideal) x (ix1 e) = BitVec.ofNat 32 ((cnt x e.val + 255) / 256) :=
    pyDiv_ap bcast_S_S32 (val_main_v11 (F := Ideal) x) (constantI S_ 32 256#32) (ix1 e) h1 (b := 256) rfl (by omega) (by omega) (by omega)
  show val_main_v12 (F := Ideal) x (ix1 e) * BitVec.ofNat 32 256 = _
  rw [h2, ← BitVec.ofNat_mul, Nat.mul_comm]
  rfl

theorem ends_at (e : Fin 32) : val_main_v15 (F := Ideal) x (ix1 e) = BitVec.ofNat 32 (256 * tilesTo (tiles x) (e.val + 1)) := by
  unfold val_main_v15
  rw [← rows_sum]
  exact cumsum1 (N := 32) (Nm1 := 31) rfl _ (fun e => 256 * tiles x e) (fun i => room_at x i) _ rfl _ _ e

/-- The expert of a row. -/
theorem expert_at (r : Fin 26624) : val_main_v23 (F := Ideal) x (ix1 r) = BitVec.ofNat 32 (owner (tiles x) (r.val / 256)) := by
  have hr := r.isLt
  rw [← owner_row]
  unfold val_main_v23 val_main_v22 val_main_c_3
  refine reduce_count (n := 26624) (m := 32) (by omega) _ _ _ _ r _ fun e => ?_
  have hb := tiles_bound x (k := e.val + 1) (by omega)
  have h1 : val_main_v19 (F := Ideal) x (ix2 r e) = val_main_v15 (F := Ideal) x (ix1 e) := bcCols (n := 26624) (m := 32) _ _ _ r e
  have h2 : val_main_v20 (F := Ideal) (ix2 r e) = BitVec.ofNat 32 r.val := bcRows (n := 26624) (m := 32) _ _ _ r e
  unfold val_main_v21
  rw [cmpi_at, h1, h2, ends_at]
  show BitVec.ofBool ((BitVec.ofNat 32 _).sle (BitVec.ofNat 32 _)) = 1#1 ↔ _
  rw [sle_ofNat32 (by omega) (by omega)]
  by_cases h : 256 * tilesTo (tiles x) (e.val + 1) ≤ r.val
  · simp [h]
  · simp [h]

end Cert.Proof.MoeIds

end
-- ==== Proof.MoeFinal.lean ====
/- The expert kernel and its reference leave the same array: each tile's rows pass through the tile's expert, and the
   rows past the used tiles are zero. -/
module

public import proofs.«01_k».proof.Proof.MoeValue
public import proofs.«01_k».proof.Proof.MoePre
public import proofs.«01_k».proof.Proof.MoeSame
public import proofs.«01_k».proof.Proof.MoeRef
public import proofs.«01_k».proof.Proof.MoeIds
public import proofs.«01_k».proof.Defs
public import proofs.«01_k».proof.Proof.Gen.MoeRefIdeal.Run
public import proofs.«01_k».proof.Proof.Gen.MoeRefIdeal.Read
public import Idealize.ShloMosaic.Lib.Quiescent

@[expose] public section

set_option maxRecDepth 16384

noncomputable section

namespace Cert.Proof.MoeFinal

open Idealize.ShloMosaic Idealize.ShloMosaic.TcCoe Idealize.SL.Sem
open Cert.Proof.Moe Cert.MoeIdeal

variable {m : (ℓ : Loc nD τ sig) → Buf (Elt Ideal) ℓ}

/-- The kernel's array is the reference's. -/
theorem result_eq (G : Good (tbl m) (used m)) (c : Dev nD) :
    result G c = Cert.MoeRefIdeal.Read.val_main_v95 (F := Ideal) (m ((c.tc : Thread nD τ).loc main_arg0)) (m ((c.tc : Thread nD τ).loc main_arg1))
      (m ((c.tc : Thread nD τ).loc main_arg2)) (m ((c.tc : Thread nD τ).loc main_arg3)) := by
  obtain rfl : c = 0 := Subsingleton.elim _ _
  refine funext fun i => ?_
  have h0 : (i 0).val < 425984 := (i 0).isLt
  let k : Fin 104 := ⟨(i 0).val / 4096, by omega⟩
  have ho := Plan.owner_le (Plan.tiles (eids m 0)) k.val
  have hw : k.val < used m → (teW (tbl m) k).toNat = Plan.owner (Plan.tiles (eids m 0)) k.val := fun h => by
    rw [te_eq, Plan.expertV_at _ k h, BitVec.toNat_ofNat]
    omega
  have hr := Cert.Proof.MoeRef.result_at (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) i ((i 0).val / 4096 < used m)
    ⟨(teW (tbl m) k).toNat / 8, by have := G.te k; omega⟩ ⟨(teW (tbl m) k).toNat % 8, by omega⟩ (by
      refine (MoeIds.expert_at (eids m 0) ⟨(i 0).val / 16, by omega⟩).trans (congrArg (BitVec.ofNat 32) ?_)
      rw [Nat.div_div_eq_div_mul]
      show Plan.owner (Plan.tiles (eids m 0)) k.val = _
      by_cases h : (i 0).val / 4096 < used m
      · rw [if_pos h, ← hw h]
        show _ = (teW (tbl m) k).toNat / 8 * 8 + (teW (tbl m) k).toNat % 8
        omega
      · rw [if_neg h]
        exact Plan.owner_unused _ (not_lt.1 h))
  refine Eq.trans ?_ hr.symm
  unfold result
  rw [V_arg1, V_arg2, V_arg3]

theorem algebraic : @Cert.algebraic_MoeIdeal_MoeRefIdeal Cert.MoeIdeal.Gen.facts Cert.MoeRefIdeal.Gen.facts Cert.Pre_experts.Gen.facts := by
  intro m g m' g' hpre hagree
  have G := good_of_pre m (hpre 0)
  refine ⟨fun c => result G c, ?_, ?_⟩
  · refine (θ_run Cert.MoeIdeal.defs _ _).mono (fun r hr c => ?_) (frame_good m g G)
    obtain ⟨hv, h⟩ := hr.1 c
    exact ⟨hv.trans (arr_eq G c), h⟩
  · refine (θ_run Cert.MoeRefIdeal.defs _ _).mono (fun r hr c => ?_) (Cert.MoeRefIdeal.Value.run m' g')
    obtain ⟨hv, h⟩ := hr c
    refine ⟨hv.trans ?_, h⟩
    obtain ⟨a0, a1, a2, a3⟩ := hagree c
    rw [Cert.MoeRefIdeal.Read.val_main_v95_eq, a0, a1, a2, a3]
    exact (result_eq G c).symm

theorem frame_ideal : @Cert.quiescent_MoeIdeal Cert.MoeIdeal.Gen.facts Cert.Pre_experts.Gen.facts := fun m g hpre =>
  (θ_run Cert.MoeIdeal.defs _ _).mono (fun _ (h : _ ∧ _) => ⟨fun c => (h.1 c).2, h.2⟩) (frame_good m g (good_of_pre m (hpre 0)))

theorem frame : @Cert.quiescent_Moe Cert.Moe.Gen.facts Cert.Pre_experts.Gen.facts := fun m g hpre =>
  frame_bits m g (good_of_pre (F := Bits) m (hpre 0))

/-- The reference's frame: its run read at the arguments; it declares no semaphore. -/
theorem frame_ref : @Cert.quiescent_MoeRefIdeal Cert.MoeRefIdeal.Gen.facts := fun m g _ =>
  (θ_run Cert.MoeRefIdeal.defs _ _).mono (fun r h => ⟨fun c => (h c).2, sem_eq_zero_of_no_sems (by decide) r.2⟩) (Cert.MoeRefIdeal.Value.run m g)

end Cert.Proof.MoeFinal
end
-- ==== Proof.IpRun.lean ====
/- The body of the input projection's kernel, run once per case of its column tile: which pieces it leaves in the two
   output blocks and in the buffer that keeps a row tile's normalized rows. -/
module

public import proofs.«01_k».proof.Proof.Gen.IpIdeal.Launch
public import proofs.«01_k».proof.Proof.Gen.IpIdeal.Skeleton
public import proofs.«01_k».proof.Proof.Gen.IpIdeal.Loops
public import Idealize.ShloMosaic.Lib.Pipeline.Frame
public import Idealize.ShloMosaic.Lib.Pipeline.FrameBody
public import Idealize.ShloMosaic.Lib.Exec
public import Idealize.ShloMosaic.Lib.Claim
public import Idealize.ShloMosaic.Lib.WholeRead
public import Idealize.ShloMosaic.Lib.Ring
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Proof.Ip

open Cert.IpIdeal Cert.IpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The assertions of the program logic, at this program's devices and buffers. -/
abbrev Asrt (F : FTy → Type) := sProp (MT nD τ sig Unit (Elt F) ℕ (UR sig nD τ) ℕ)

set_option maxHeartbeats 4000000 in
/-- A row tile's first column tile: the rows are normalized and kept, and both outputs are written. -/
def runFirst (c : Dev nD) (i : grid0.Coords)
    (arg2 : Memref sig .tc .vmem S1024x2048 .f32) (harg2 : arg2.IsWhole) (arg3 : Memref sig .tc .vmem S1x6x2048 .f32) (harg3 : arg3.IsWhole)
    (arg4 : Memref sig .tc .vmem S2048x512 .bf16) (harg4 : arg4.IsWhole) (arg5 : Memref sig .tc .vmem S2048x32 .bf16) (harg5 : arg5.IsWhole)
    (arg6 : Memref sig .tc .vmem S1024x512 .bf16) (harg6 : arg6.IsWhole) (arg7 : Memref sig .tc .vmem S1024x32 .f32) (harg7 : arg7.IsWhole)
    (arg8 : Memref sig .tc .vmem S1024x2048 .bf16) (harg8 : arg8.IsWhole)
    (x2 : Vec F S1024x2048 .f32) (x3 : Vec F S1x6x2048 .f32) (x4 : Vec F S2048x512 .bf16) (x5 : Vec F S2048x32 .bf16)
    (f8 : BufTy.Contents (Elt F) arg8.view.ty)
    (h1 : k0_cond1 i = 1#1) :
    { L : List (View.Piece (Elt F) S1024x512 .bf16) × List (View.Piece (Elt F) S1024x32 .f32) × List (View.Piece (Elt F) S1024x2048 .bf16) //
      ∀ (E : Set ℕ) (K : PUnit → Asrt F),
        iprop(owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (arg8.view.loc (c : Thread nD τ) ↦[arg8.view.set]{fullShare} f8)
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ e, arg6.view.loc (c : Thread nD τ) ↦[arg6.view.set]{fullShare} arg6.view.writes (Elt F) e L.1)
                ∗ (∃ e, arg7.view.loc (c : Thread nD τ) ↦[arg7.view.set]{fullShare} arg7.view.writes (Elt F) e L.2.1)
                ∗ (arg8.view.loc (c : Thread nD τ) ↦[arg8.view.set]{fullShare} arg8.view.writes (Elt F) f8 L.2.2)) -∗ K ⟨⟩))
          ⊢ wp frame (wpE (defs₀ (F := F)) Variants.none c none) E
              (cc0_inproj i arg2 harg2 arg3 harg3 arg4 harg4 arg5 harg5 arg6 harg6 arg7 harg7 arg8 harg8) K } := by
  refine ⟨⟨?_, ?_, ?_⟩, fun E K => ?run⟩
  case run =>
    simp only [cc0_inproj_eq_skeleton]; unfold cc0_inproj_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, H8, Hk⟩
    obtain rfl := harg2.eq_unread hf2; obtain rfl := harg3.eq_unread hf3; obtain rfl := harg4.eq_unread hf4; obtain rfl := harg5.eq_unread hf5
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexact H8

set_option maxHeartbeats 4000000 in
/-- A later column tile: the kept rows are read and the projection's block written. -/
def runLater (c : Dev nD) (i : grid0.Coords)
    (arg2 : Memref sig .tc .vmem S1024x2048 .f32) (harg2 : arg2.IsWhole) (arg3 : Memref sig .tc .vmem S1x6x2048 .f32) (harg3 : arg3.IsWhole)
    (arg4 : Memref sig .tc .vmem S2048x512 .bf16) (harg4 : arg4.IsWhole) (arg5 : Memref sig .tc .vmem S2048x32 .bf16) (harg5 : arg5.IsWhole)
    (arg6 : Memref sig .tc .vmem S1024x512 .bf16) (harg6 : arg6.IsWhole) (arg7 : Memref sig .tc .vmem S1024x32 .f32) (harg7 : arg7.IsWhole)
    (arg8 : Memref sig .tc .vmem S1024x2048 .bf16) (harg8 : arg8.IsWhole)
    (x4 : Vec F S2048x512 .bf16) (x8 : Vec F S1024x2048 .bf16)
    (h1 : ¬ k0_cond1 i = 1#1) :
    { L : List (View.Piece (Elt F) S1024x512 .bf16) //
      ∀ (E : Set ℕ) (K : PUnit → Asrt F),
        iprop(owns (c : Thread nD τ) arg4 fullShare x4
            ∗ (∃ d, owns (c : Thread nD τ) arg6 fullShare d) ∗ owns (c : Thread nD τ) arg8 fullShare x8
            ∗ (iprop(owns (c : Thread nD τ) arg4 fullShare x4
                ∗ (∃ e, arg6.view.loc (c : Thread nD τ) ↦[arg6.view.set]{fullShare} arg6.view.writes (Elt F) e L)
                ∗ owns (c : Thread nD τ) arg8 fullShare x8) -∗ K ⟨⟩))
          ⊢ wp frame (wpE (defs₀ (F := F)) Variants.none c none) E
              (cc0_inproj i arg2 harg2 arg3 harg3 arg4 harg4 arg5 harg5 arg6 harg6 arg7 harg7 arg8 harg8) K } := by
  refine ⟨?_, fun E K => ?run⟩
  case run =>
    simp only [cc0_inproj_eq_skeleton]; unfold cc0_inproj_skel
    unfold owns
    iintro ⟨⟨%f4, %hf4, H4⟩, ⟨%d6, %f6, -, H6⟩, ⟨%f8, %hf8, H8⟩, Hk⟩
    obtain rfl := harg4.eq_unread hf4; obtain rfl := harg8.eq_unread hf8
    sl_exec
    sl_step
    iapply Hk
    isplitl [H4]
    · iexists _; isplitr; · ipureintro; exact harg4.read_unread _
      iexact H4
    isplitl [H6]; · iexists _; iexact H6
    iexists _; isplitr; · ipureintro; exact harg8.read_unread _
    iexact H8

end Cert.Proof.Ip

end
-- ==== Proof.IpBody.lean ====
/- What the body of the input projection's kernel leaves: the row tile's rows normalized and modulated, and their
   products with the two blocks of the weight. -/
module

public import proofs.«01_k».proof.Proof.IpRun

@[expose] public section

set_option maxRecDepth 16384

noncomputable section

namespace Cert.Proof.Ip

open Cert.IpIdeal Cert.IpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One of the six rows of a modulation block. -/
def modRow (x : Vec F S1x6x2048 .f32) (r : Fin 6) : Vec F S1x1x2048 .f32 := fun y => x (ix3 0 r (y 2 : Fin 2048))
/-- The `k`-th 128 rows of a row tile. -/
def chunk (x : Vec F S1024x2048 .f32) (k : Fin 8) : Vec F S128x2048 .f32 :=
  fun y => x (ix2 ⟨128 * k.val + (y 0).val, by have h : (y 0).val < 128 := (y 0).isLt; omega⟩ (y 1 : Fin 2048))
/-- A row tile normalized and modulated. -/
def hOf (x : Vec F S1024x2048 .f32) (md : Vec F S1x6x2048 .f32) : Vec F S1024x2048 .bf16 := fun y =>
  k0_pay1 (modRow md 0) (modRow md 1) (chunk x ⟨(y 0).val / 128, by have h : (y 0).val < 1024 := (y 0).isLt; omega⟩)
    (ix2 ⟨(y 0).val % 128, by omega⟩ (y 1 : Fin 2048))

theorem off_zero : (![0, 0] : Fin 2 → ℕ) = fun _ => 0 := by decide

theorem off1_eq : ∀ k : Fin k0_t1_loop.trips, k0_off1 k = ![128 * k.val, 0] := by decide +kernel
theorem trips_eq : k0_t1_loop.trips = 8 := by decide +kernel

/-- What the kernel stores of a row tile's kept rows `h`: their product with the first weight block, -/
abbrev pOf (h : Vec F S1024x2048 .bf16) (w : Vec F S2048x512 .bf16) : Vec F S1024x512 .bf16 := k0_pay3 h w
/-- and with the second. -/
abbrev gaOf (h : Vec F S1024x2048 .bf16) (w : Vec F S2048x32 .bf16) : Vec F S1024x32 .f32 := k0_pay2 h w

theorem mem_chunk (k : Fin k0_t1_loop.trips) (inb) (y : S1024x2048.Idx) :
    y ∈ (Rect.unit (s := S1024x2048) (k0_off1 k) S128x2048.size inb).set ↔ (y 0).val / 128 = k.val := by
  have h0 : (y 0).val < 1024 := (y 0).isLt
  have h1 : (y 1).val < 2048 := (y 1).isLt
  have e0 : k0_off1 k 0 = 128 * k.val := congrFun (off1_eq k) 0
  have e1 : k0_off1 k 1 = 0 := congrFun (off1_eq k) 1
  rw [LoadRect.mem_set]
  constructor
  · rintro h
    obtain ⟨j, hj, e⟩ := h 0
    change j < 128 at hj
    change (y 0).val = k0_off1 k 0 + 1 * j at e
    omega
  · intro h a
    match a with
    | ⟨0, _⟩ => exact ⟨(y 0).val % 128, by show _ < 128; omega, by show (y 0).val = k0_off1 k 0 + 1 * _; omega⟩
    | ⟨1, _⟩ => exact ⟨(y 1).val, h1, by show (y 1).val = k0_off1 k 1 + 1 * _; omega⟩

section First

variable (c : Dev nD) (i : grid0.Coords)
    (arg2 : Memref sig .tc .vmem S1024x2048 .f32) (harg2 : arg2.IsWhole) (arg3 : Memref sig .tc .vmem S1x6x2048 .f32) (harg3 : arg3.IsWhole)
    (arg4 : Memref sig .tc .vmem S2048x512 .bf16) (harg4 : arg4.IsWhole) (arg5 : Memref sig .tc .vmem S2048x32 .bf16) (harg5 : arg5.IsWhole)
    (arg6 : Memref sig .tc .vmem S1024x512 .bf16) (harg6 : arg6.IsWhole) (arg7 : Memref sig .tc .vmem S1024x32 .f32) (harg7 : arg7.IsWhole)
    (arg8 : Memref sig .tc .vmem S1024x2048 .bf16) (harg8 : arg8.IsWhole)
    (x2 : Vec F S1024x2048 .f32) (x3 : Vec F S1x6x2048 .f32) (x4 : Vec F S2048x512 .bf16) (x5 : Vec F S2048x32 .bf16)
    (f8 : BufTy.Contents (Elt F) arg8.view.ty)
    (h1 : k0_cond1 i = 1#1)

/-- The one store of a trip of the loop. -/
theorem trip_eq (v9 v11 : Vec F S1x1x2048 .f32) (X : BufTy.Contents (Elt F) arg2.view.ty) (k : Fin k0_t1_loop.trips) :
    tripL_k0_t1 (F := F) Variants.none c none i arg2 harg2 arg3 harg3 arg4 harg4 arg5 harg5 arg6 harg6 arg7 harg7 arg8 harg8 h1 v9 v11 X k
      = [⟨Rect.unit (s := S1024x2048) (k0_off1 k) S128x2048.size (k0_off1_inb i k h1),
          k0_pay1 v9 v11 (View.readAt (Elt F) arg2.view (Rect.unit (s := S1024x2048) (k0_off1 k) S128x2048.size (k0_off1_inb i k h1)).toLoadRect X)⟩] := by
  unfold tripL_k0_t1 trip_k0_t1
  rfl

theorem chunk_piece (k : Fin k0_t1_loop.trips) (inb) (y : (Rect.unit (s := S1024x2048) (k0_off1 k) S128x2048.size inb).shape.Idx) :
    k0_pay1 (modRow x3 0) (modRow x3 1) (View.readAt (Elt F) arg2.view (Rect.unit (s := S1024x2048) (k0_off1 k) S128x2048.size inb).toLoadRect (harg2.unread x2)) y
      = hOf x2 x3 ((Rect.unit (s := S1024x2048) (k0_off1 k) S128x2048.size inb).emb y) := by
  have h0 : (y 0).val < 128 := (y 0).isLt
  have hk : k.val < 8 := trips_eq ▸ k.isLt
  have o0 : k0_off1 k 0 = 128 * k.val := congrFun (off1_eq k) 0
  have o1 : k0_off1 k 1 = 0 := congrFun (off1_eq k) 1
  have e0 : ((Rect.unit (s := S1024x2048) (k0_off1 k) S128x2048.size inb).emb y 0).val = k0_off1 k 0 + 1 * (y 0).val := rfl
  have e1 : ((Rect.unit (s := S1024x2048) (k0_off1 k) S128x2048.size inb).emb y 1).val = k0_off1 k 1 + 1 * (y 1).val := rfl
  have hc : View.readAt (Elt F) arg2.view (Rect.unit (s := S1024x2048) (k0_off1 k) S128x2048.size inb).toLoadRect (harg2.unread x2) = chunk x2 ⟨k.val, hk⟩ := by
    rw [View.readAt_eq_ld, harg2.read_unread]
    funext z
    refine congrArg x2 (funext fun a => Fin.ext ?_)
    match a with
    | ⟨0, _⟩ => show k0_off1 k 0 + 1 * (z 0).val = 128 * k.val + (z 0).val; omega
    | ⟨1, _⟩ => show k0_off1 k 1 + 1 * (z 1).val = (z 1).val; omega
  rw [hc]
  unfold hOf
  rw [show (⟨((Rect.unit (s := S1024x2048) (k0_off1 k) S128x2048.size inb).emb y 0).val / 128, by rw [e0]; omega⟩ : Fin 8) = ⟨k.val, hk⟩ from Fin.ext (by show _ / 128 = k.val; rw [e0]; omega)]
  refine congrArg (k0_pay1 (modRow x3 0) (modRow x3 1) (chunk x2 ⟨k.val, hk⟩)) ((eq_ix2 (n0 := 128) (n1 := 2048) y).trans (congrArg₂ ix2 (Fin.ext ?_) (Fin.ext ?_)))
  · show (y 0).val = _ % 128; rw [e0]; omega
  · show (y 1).val = ((Rect.unit (s := S1024x2048) (k0_off1 k) S128x2048.size inb).emb y 1).val; rw [e1]; omega

/-- The loop's stores, the first `n` trips'. -/
abbrev stored (n : ℕ) : List (View.Piece (Elt F) S1024x2048 .bf16) :=
  pb_k0_t1 Variants.none c none i arg2 harg2 arg3 harg3 arg4 harg4 arg5 harg5 arg6 harg6 arg7 harg7 arg8 harg8 h1 (modRow x3 0) (modRow x3 1) (harg2.unread x2) n

theorem stored_pieces : ∀ n : ℕ, n ≤ k0_t1_loop.trips → ∀ p ∈ stored c i arg2 harg2 arg3 harg3 arg4 harg4 arg5 harg5 arg6 harg6 arg7 harg7 arg8 harg8 x2 x3 h1 n, ∀ y : p.1.shape.Idx, p.2 y = hOf x2 x3 (p.1.emb y)
  | 0, _, p, hp => by rw [stored, pb_k0_t1.eq_1] at hp; exact absurd hp List.not_mem_nil
  | n + 1, hn, p, hp => by
    have e := pb_k0_t1_succ (F := F) Variants.none c none i arg2 harg2 arg3 harg3 arg4 harg4 arg5 harg5 arg6 harg6 arg7 harg7 arg8 harg8 h1 (modRow x3 0) (modRow x3 1) (harg2.unread x2) ⟨n, hn⟩
    rw [stored, e, trip_eq] at hp
    rcases List.mem_append.mp hp with hp | hp
    · obtain rfl := List.mem_singleton.mp hp
      exact fun y => chunk_piece arg2 harg2 x2 x3 ⟨n, hn⟩ _ y
    · exact stored_pieces n (by omega) p hp

theorem stored_cover : ∀ n : ℕ, n ≤ k0_t1_loop.trips → ∀ y : S1024x2048.Idx, (y 0).val / 128 < n → ∃ p ∈ stored c i arg2 harg2 arg3 harg3 arg4 harg4 arg5 harg5 arg6 harg6 arg7 harg7 arg8 harg8 x2 x3 h1 n, y ∈ p.1.set
  | 0, _, y, hy => absurd hy (by omega)
  | n + 1, hn, y, hy => by
    have e := pb_k0_t1_succ (F := F) Variants.none c none i arg2 harg2 arg3 harg3 arg4 harg4 arg5 harg5 arg6 harg6 arg7 harg7 arg8 harg8 h1 (modRow x3 0) (modRow x3 1) (harg2.unread x2) ⟨n, hn⟩
    rw [stored, e, trip_eq]
    by_cases h : (y 0).val / 128 = n
    · exact ⟨⟨Rect.unit (s := S1024x2048) (k0_off1 ⟨n, hn⟩) S128x2048.size (k0_off1_inb i ⟨n, hn⟩ h1), _⟩,
        List.mem_append_left _ (List.mem_singleton_self _), (mem_chunk ⟨n, hn⟩ (k0_off1_inb i ⟨n, hn⟩ h1) y).mpr h⟩
    · obtain ⟨p, hp, hy'⟩ := stored_cover n (by omega) y (by omega)
      exact ⟨p, List.mem_append_right _ hp, hy'⟩

theorem all_cover (y : S1024x2048.Idx) : ∃ p ∈ stored c i arg2 harg2 arg3 harg3 arg4 harg4 arg5 harg5 arg6 harg6 arg7 harg7 arg8 harg8 x2 x3 h1 k0_t1_loop.trips, y ∈ p.1.set :=
  stored_cover c i arg2 harg2 arg3 harg3 arg4 harg4 arg5 harg5 arg6 harg6 arg7 harg7 arg8 harg8 x2 x3 h1 _ le_rfl y (by rw [trips_eq]; have h : (y 0).val < 1024 := (y 0).isLt; omega)

/-- Read back, they are the row tile normalized and modulated. -/
theorem read_stored : arg8.view.read (Elt F) (arg8.view.writes (Elt F) f8 (stored c i arg2 harg2 arg3 harg3 arg4 harg4 arg5 harg5 arg6 harg6 arg7 harg7 arg8 harg8 x2 x3 h1 k0_t1_loop.trips)) = hOf x2 x3 := by
  rw [View.read_writes_eq_canon _ _ _ (all_cover c i arg2 harg2 arg3 harg3 arg4 harg4 arg5 harg5 arg6 harg6 arg7 harg7 arg8 harg8 x2 x3 h1)]
  funext y
  exact View.canon_apply_of_pieces (Val := Elt F) _ _ (stored_pieces c i arg2 harg2 arg3 harg3 arg4 harg4 arg5 harg5 arg6 harg6 arg7 harg7 arg8 harg8 x2 x3 h1 _ le_rfl) y (all_cover c i arg2 harg2 arg3 harg3 arg4 harg4 arg5 harg5 arg6 harg6 arg7 harg7 arg8 harg8 x2 x3 h1 y)

theorem mod_row (r : Fin 6) (inb) :
    View.readAt (Elt F) arg3.view (Rect.unit (s := S1x6x2048) ![0, r.val, 0] S1x1x2048.size inb).toLoadRect (harg3.unread x3) = modRow x3 r := by
  rw [View.readAt_eq_ld, harg3.read_unread]
  funext z
  have hz0 : (z 0).val < 1 := (z 0).isLt
  have hz1 : (z 1).val < 1 := (z 1).isLt
  refine congrArg x3 (funext fun a => Fin.ext ?_)
  match a with
  | ⟨0, _⟩ => show 0 + 1 * (z 0).val = 0; omega
  | ⟨1, _⟩ => show r.val + 1 * (z 1).val = r.val; omega
  | ⟨2, _⟩ => show 0 + 1 * (z 2).val = (z 2).val; omega

theorem first_kept : (runFirst c i arg2 harg2 arg3 harg3 arg4 harg4 arg5 harg5 arg6 harg6 arg7 harg7 arg8 harg8 x2 x3 x4 x5 f8 h1).1.2.2 = stored c i arg2 harg2 arg3 harg3 arg4 harg4 arg5 harg5 arg6 harg6 arg7 harg7 arg8 harg8 x2 x3 h1 k0_t1_loop.trips := by
  unfold stored
  rw [← mod_row arg3 harg3 x3 0 inb_S1x6x2048_S1x1x2048_0_0_0, ← mod_row arg3 harg3 x3 1 inb_S1x6x2048_S1x1x2048_0_1_0]
  rfl

theorem first_p : (runFirst c i arg2 harg2 arg3 harg3 arg4 harg4 arg5 harg5 arg6 harg6 arg7 harg7 arg8 harg8 x2 x3 x4 x5 f8 h1).1.1 = [⟨Rect.unit (s := S1024x512) ![0, 0] S1024x512.size inb_S1024x512_S1024x512_0_0, pOf (hOf x2 x3) x4⟩] := by
  have h4 : View.readAt (Elt F) arg4.view (Rect.unit ![0, 0] S2048x512.size inb_S2048x512_S2048x512_0_0).toLoadRect (harg4.unread x4) = x4 := by
    rw [View.readAt_eq_ld, harg4.read_unread, View.ld_unit_zero off_zero]
  have h8 : View.readAt (Elt F) arg8.view (Rect.unit ![0, 0] S1024x2048.size inb_S1024x2048_S1024x2048_0_0).toLoadRect
      (arg8.view.writes (Elt F) f8 (runFirst c i arg2 harg2 arg3 harg3 arg4 harg4 arg5 harg5 arg6 harg6 arg7 harg7 arg8 harg8 x2 x3 x4 x5 f8 h1).1.2.2) = hOf x2 x3 := by
    rw [View.readAt_eq_ld, first_kept, read_stored, View.ld_unit_zero off_zero]
  show [(⟨Rect.unit (s := S1024x512) ![0, 0] S1024x512.size inb_S1024x512_S1024x512_0_0, pOf (View.readAt (Elt F) arg8.view (Rect.unit ![0, 0] S1024x2048.size inb_S1024x2048_S1024x2048_0_0).toLoadRect
      (arg8.view.writes (Elt F) f8 (runFirst c i arg2 harg2 arg3 harg3 arg4 harg4 arg5 harg5 arg6 harg6 arg7 harg7 arg8 harg8 x2 x3 x4 x5 f8 h1).1.2.2)) (View.readAt (Elt F) arg4.view (Rect.unit ![0, 0] S2048x512.size inb_S2048x512_S2048x512_0_0).toLoadRect (harg4.unread x4))⟩ : View.Piece (Elt F) S1024x512 .bf16)] = _
  rw [h4, h8]

theorem first_ga : (runFirst c i arg2 harg2 arg3 harg3 arg4 harg4 arg5 harg5 arg6 harg6 arg7 harg7 arg8 harg8 x2 x3 x4 x5 f8 h1).1.2.1 = [⟨Rect.unit (s := S1024x32) ![0, 0] S1024x32.size inb_S1024x32_S1024x32_0_0, gaOf (hOf x2 x3) x5⟩] := by
  have h5 : View.readAt (Elt F) arg5.view (Rect.unit ![0, 0] S2048x32.size inb_S2048x32_S2048x32_0_0).toLoadRect (harg5.unread x5) = x5 := by
    rw [View.readAt_eq_ld, harg5.read_unread, View.ld_unit_zero off_zero]
  have h8 : View.readAt (Elt F) arg8.view (Rect.unit ![0, 0] S1024x2048.size inb_S1024x2048_S1024x2048_0_0).toLoadRect
      (arg8.view.writes (Elt F) f8 (runFirst c i arg2 harg2 arg3 harg3 arg4 harg4 arg5 harg5 arg6 harg6 arg7 harg7 arg8 harg8 x2 x3 x4 x5 f8 h1).1.2.2) = hOf x2 x3 := by
    rw [View.readAt_eq_ld, first_kept, read_stored, View.ld_unit_zero off_zero]
  show [(⟨Rect.unit (s := S1024x32) ![0, 0] S1024x32.size inb_S1024x32_S1024x32_0_0, gaOf (View.readAt (Elt F) arg8.view (Rect.unit ![0, 0] S1024x2048.size inb_S1024x2048_S1024x2048_0_0).toLoadRect
      (arg8.view.writes (Elt F) f8 (runFirst c i arg2 harg2 arg3 harg3 arg4 harg4 arg5 harg5 arg6 harg6 arg7 harg7 arg8 harg8 x2 x3 x4 x5 f8 h1).1.2.2)) (View.readAt (Elt F) arg5.view (Rect.unit ![0, 0] S2048x32.size inb_S2048x32_S2048x32_0_0).toLoadRect (harg5.unread x5))⟩ : View.Piece (Elt F) S1024x32 .f32)] = _
  rw [h5, h8]

include h1 in
set_option maxHeartbeats 2000000 in
/-- A row tile's first column tile: its rows are kept, and both outputs written. -/
theorem first_wp (E : Set ℕ) (K : PUnit → Asrt F) :
    iprop(owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (pOf (hOf x2 x3) x4) ∗ owns (c : Thread nD τ) arg7 fullShare (gaOf (hOf x2 x3) x5)
            ∗ owns (c : Thread nD τ) arg8 fullShare (hOf x2 x3)) -∗ K ⟨⟩))
      ⊢ wp frame (wpE (defs₀ (F := F)) Variants.none c none) E
          (cc0_inproj i arg2 harg2 arg3 harg3 arg4 harg4 arg5 harg5 arg6 harg6 arg7 harg7 arg8 harg8) K := by
  iintro ⟨H2, H3, H4, H5, H6, H7, ⟨%d8, H8⟩, Hk⟩
  unfold owns
  icases H8 with ⟨%f8, -, H8⟩
  iapply (runFirst c i arg2 harg2 arg3 harg3 arg4 harg4 arg5 harg5 arg6 harg6 arg7 harg7 arg8 harg8 x2 x3 x4 x5 f8 h1).2 E K
  unfold owns
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, ⟨%e6, H6⟩, ⟨%e7, H7⟩, H8⟩
  iapply Hk
  isplitl [H2]; · iexact H2
  isplitl [H3]; · iexact H3
  isplitl [H4]; · iexact H4
  isplitl [H5]; · iexact H5
  isplitl [H6]
  · iexists _; isplitr
    swap; · iexact H6
    ipureintro
    rw [first_p]
    refine (View.read_writes_eq_canon _ _ _ fun y => ⟨_, .head _, View.mem_set_unit_zero off_zero inb_S1024x512_S1024x512_0_0 y⟩).trans ?_
    exact View.canon_unit_zero off_zero _ _
  isplitl [H7]
  · iexists _; isplitr
    swap; · iexact H7
    ipureintro
    rw [first_ga]
    refine (View.read_writes_eq_canon _ _ _ fun y => ⟨_, .head _, View.mem_set_unit_zero off_zero inb_S1024x32_S1024x32_0_0 y⟩).trans ?_
    exact View.canon_unit_zero off_zero _ _
  · iexists _; isplitr
    swap; · iexact H8
    ipureintro
    rw [first_kept]
    exact read_stored c i arg2 harg2 arg3 harg3 arg4 harg4 arg5 harg5 arg6 harg6 arg7 harg7 arg8 harg8 x2 x3 f8 h1

end First

/-- A later column tile: the kept rows are multiplied with the tile's block of the weight. -/
theorem later_wp (c : Dev nD) (i : grid0.Coords)
    (arg2 : Memref sig .tc .vmem S1024x2048 .f32) (harg2 : arg2.IsWhole) (arg3 : Memref sig .tc .vmem S1x6x2048 .f32) (harg3 : arg3.IsWhole)
    (arg4 : Memref sig .tc .vmem S2048x512 .bf16) (harg4 : arg4.IsWhole) (arg5 : Memref sig .tc .vmem S2048x32 .bf16) (harg5 : arg5.IsWhole)
    (arg6 : Memref sig .tc .vmem S1024x512 .bf16) (harg6 : arg6.IsWhole) (arg7 : Memref sig .tc .vmem S1024x32 .f32) (harg7 : arg7.IsWhole)
    (arg8 : Memref sig .tc .vmem S1024x2048 .bf16) (harg8 : arg8.IsWhole)
    (x4 : Vec F S2048x512 .bf16) (x8 : Vec F S1024x2048 .bf16) (h1 : ¬ k0_cond1 i = 1#1) (E : Set ℕ) (K : PUnit → Asrt F) :
    iprop(owns (c : Thread nD τ) arg4 fullShare x4
        ∗ (∃ d, owns (c : Thread nD τ) arg6 fullShare d) ∗ owns (c : Thread nD τ) arg8 fullShare x8
        ∗ (iprop(owns (c : Thread nD τ) arg4 fullShare x4 ∗ owns (c : Thread nD τ) arg6 fullShare (pOf x8 x4)
            ∗ owns (c : Thread nD τ) arg8 fullShare x8) -∗ K ⟨⟩))
      ⊢ wp frame (wpE (defs₀ (F := F)) Variants.none c none) E
          (cc0_inproj i arg2 harg2 arg3 harg3 arg4 harg4 arg5 harg5 arg6 harg6 arg7 harg7 arg8 harg8) K := by
  have e : (runLater c i arg2 harg2 arg3 harg3 arg4 harg4 arg5 harg5 arg6 harg6 arg7 harg7 arg8 harg8 x4 x8 h1).1 = [⟨Rect.unit (s := S1024x512) ![0, 0] S1024x512.size inb_S1024x512_S1024x512_0_0, pOf x8 x4⟩] := by
    have h4 : View.readAt (Elt F) arg4.view (Rect.unit ![0, 0] S2048x512.size inb_S2048x512_S2048x512_0_0).toLoadRect (harg4.unread x4) = x4 := by
      rw [View.readAt_eq_ld, harg4.read_unread, View.ld_unit_zero off_zero]
    have h8 : View.readAt (Elt F) arg8.view (Rect.unit ![0, 0] S1024x2048.size inb_S1024x2048_S1024x2048_0_0).toLoadRect (harg8.unread x8) = x8 := by
      rw [View.readAt_eq_ld, harg8.read_unread, View.ld_unit_zero off_zero]
    show [(⟨Rect.unit (s := S1024x512) ![0, 0] S1024x512.size inb_S1024x512_S1024x512_0_0, pOf (View.readAt (Elt F) arg8.view (Rect.unit ![0, 0] S1024x2048.size inb_S1024x2048_S1024x2048_0_0).toLoadRect (harg8.unread x8))
      (View.readAt (Elt F) arg4.view (Rect.unit ![0, 0] S2048x512.size inb_S2048x512_S2048x512_0_0).toLoadRect (harg4.unread x4))⟩ : View.Piece (Elt F) S1024x512 .bf16)] = _
    rw [h4, h8]
  iintro ⟨H4, H6, H8, Hk⟩
  iapply (runLater c i arg2 harg2 arg3 harg3 arg4 harg4 arg5 harg5 arg6 harg6 arg7 harg7 arg8 harg8 x4 x8 h1).2 E K
  isplitl [H4]; · iexact H4
  isplitl [H6]; · iexact H6
  isplitl [H8]; · iexact H8
  iintro ⟨H4, ⟨%e6, H6⟩, H8⟩
  iapply Hk
  isplitl [H4]; · iexact H4
  isplitl [H6]
  · unfold owns; iexists _; isplitr
    swap; · iexact H6
    ipureintro
    rw [e]
    refine (View.read_writes_eq_canon _ _ _ fun y => ⟨_, .head _, View.mem_set_unit_zero off_zero inb_S1024x512_S1024x512_0_0 y⟩).trans ?_
    exact View.canon_unit_zero off_zero _ _
  iexact H8

end Cert.Proof.Ip

end
-- ==== Proof.IpFrame.lean ====
/- The input projection's launch: what its pipeline's buffers hold from tile to tile, the body at every tile, and the
   run of the whole program. -/
module

public import proofs.«01_k».proof.Proof.IpBody
public import Idealize.ShloMosaic.Lib.StableHlo.RunRead

@[expose] public section

set_option maxRecDepth 16384

noncomputable section

namespace Cert.Proof.Ip

open Cert.IpIdeal Cert.IpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A core's buffers when the pipeline starts: the launch's, after the weight is cut in two and rounded. -/
@[irreducible] def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The buffers the operations before the pipeline write, in order. -/
abbrev written : List (Ref sig .tc) := [main_v0, main_v1, main_v2, main_v3]
theorem V_arg0 (c : Dev nD) : V m c main_arg0 = m ((c.tc : Thread nD τ).loc main_arg0) := by
  unfold V
  exact StableHlo.after_unwritten written rfl (by decide) _
theorem V_arg1 (c : Dev nD) : V m c main_arg1 = m ((c.tc : Thread nD τ).loc main_arg1) := by
  unfold V
  exact StableHlo.after_unwritten written rfl (by decide) _
theorem V_arg2 (c : Dev nD) : V m c main_arg2 = m ((c.tc : Thread nD τ).loc main_arg2) := by
  unfold V
  exact StableHlo.after_unwritten written rfl (by decide) _

theorem ip_hmain : Pipeline.HMain (Ix := Unit) (Name := ℕ) (U := UR sig nD τ) (Lvl := ℕ) cfgs 0 defs₀ Variants.none m (main (F := F)) (V m) := by
  have h := Pipeline.hmain_prefix (Ix := Unit) (Name := ℕ) (U := UR sig nD τ) (Lvl := ℕ) cfgs 0 defs₀ Variants.none m (main (F := F)) hostOps0 hostOps0_sub hostOps0_fresh main_chain
  rwa [show (fun (c : Dev nD) (b : Ref sig .tc) => StableHlo.after hostOps0 (fun b => m (c, b)) b) = V m from by funext c b; unfold V; rfl] at h

/-- A window's block at a tile. -/
def iblk (c : Dev nD) (w : Fin 6) (t : Fin grid0.N) : ((cfg0.win w).xblock (grid0.coords t)).Idx → Elt F (cfg0.win w).elt :=
  ((cfg0.win w).blk t).view.read (Elt F) (V m c (Pipeline.arrRef spec0 w))

/-- The row tile's rows, its modulation, the column tile's block of the weight, and the weight's last columns. -/
abbrev xB (c : Dev nD) (t : Fin grid0.N) : Vec F S1024x2048 .f32 := iblk m c 0 t
abbrev mB (c : Dev nD) (t : Fin grid0.N) : Vec F S1x6x2048 .f32 := iblk m c 1 t
abbrev wB (c : Dev nD) (t : Fin grid0.N) : Vec F S2048x512 .bf16 := iblk m c 2 t
abbrev gB (c : Dev nD) (t : Fin grid0.N) : Vec F S2048x32 .bf16 := iblk m c 3 t

theorem idx0 (t : Fin grid0.N) : (cfg0.win 0).index t = ![t.val / 12, 0] := by
  have : ∀ t : Fin grid0.N, cc0_transform_0 (grid0.coords t) = ![t.val / 12, 0] := by decide +kernel
  exact this t
theorem idx1 (t : Fin grid0.N) : (cfg0.win 1).index t = ![min (t.val / 24) 4, 0, 0] := by
  have : ∀ t : Fin grid0.N, cc0_transform_1 (grid0.coords t) = ![min (t.val / 24) 4, 0, 0] := by decide +kernel
  exact this t
theorem idx2 (t : Fin grid0.N) : (cfg0.win 2).index t = ![0, t.val % 12] := by
  have : ∀ t : Fin grid0.N, cc0_transform_2 (grid0.coords t) = ![0, t.val % 12] := by decide +kernel
  exact this t
theorem idx3 (t : Fin grid0.N) : (cfg0.win 3).index t = ![0, 0] := by
  have : ∀ t : Fin grid0.N, cc0_transform_3 (grid0.coords t) = ![0, 0] := by decide +kernel
  exact this t
theorem idx4 (t : Fin grid0.N) : (cfg0.win 4).index t = ![t.val / 12, t.val % 12] := by
  have : ∀ t : Fin grid0.N, cc0_transform_4 (grid0.coords t) = ![t.val / 12, t.val % 12] := by decide +kernel
  exact this t
theorem idx5 (t : Fin grid0.N) : (cfg0.win 5).index t = ![t.val / 12, 0] := by
  have : ∀ t : Fin grid0.N, cc0_transform_5 (grid0.coords t) = ![t.val / 12, 0] := by decide +kernel
  exact this t

theorem lt_N (t : Fin grid0.N) : t.val < 108 := N_0 ▸ t.isLt

theorem x_at (c : Dev nD) (t : Fin grid0.N) (x : Fin 1024) (y : Fin 2048) :
    xB m c t (ix2 x y) = V m c main_arg0 (ix2 ⟨t.val / 12 * 1024 + x.val, by have := lt_N t; omega⟩ y) := by
  have e : ∀ k : Fin 2, (cfg0.win 0).index t k = _ := congrFun (idx0 t)
  blk_ext [iblk]
  · exact congrArg (· * 1024 + x.val) (e 0)
  · exact (congrArg (· * 2048 + y.val) (e 1)).trans (by show 0 * 2048 + y.val = y.val; omega)
theorem m_at (c : Dev nD) (t : Fin grid0.N) (x : Fin 6) (y : Fin 2048) :
    mB m c t (ix3 0 x y) = V m c main_arg1 (ix3 ⟨min (t.val / 24) 4, by omega⟩ x y) := by
  have e : ∀ k : Fin 3, (cfg0.win 1).index t k = _ := congrFun (idx1 t)
  blk_ext [iblk]
  · exact congrArg (· + 0) (e 0)
  · exact (congrArg (· * 6 + x.val) (e 1)).trans (by show 0 * 6 + x.val = x.val; omega)
  · exact (congrArg (· * 2048 + y.val) (e 2)).trans (by show 0 * 2048 + y.val = y.val; omega)
theorem w_at (c : Dev nD) (t : Fin grid0.N) (x : Fin 2048) (y : Fin 512) :
    wB m c t (ix2 x y) = V m c main_v1 (ix2 x ⟨t.val % 12 * 512 + y.val, by omega⟩) := by
  have e : ∀ k : Fin 2, (cfg0.win 2).index t k = _ := congrFun (idx2 t)
  blk_ext [iblk]
  · exact (congrArg (· * 2048 + x.val) (e 0)).trans (by show 0 * 2048 + x.val = x.val; omega)
  · exact congrArg (· * 512 + y.val) (e 1)
theorem g_at (c : Dev nD) (t : Fin grid0.N) (x : Fin 2048) (y : Fin 32) :
    gB m c t (ix2 x y) = V m c main_v3 (ix2 x y) := by
  have e : ∀ k : Fin 2, (cfg0.win 3).index t k = _ := congrFun (idx3 t)
  blk_ext [iblk]
  · exact (congrArg (· * 2048 + x.val) (e 0)).trans (by show 0 * 2048 + x.val = x.val; omega)
  · exact (congrArg (· * 32 + y.val) (e 1)).trans (by show 0 * 32 + y.val = y.val; omega)

/-- A row tile's rows, normalized and modulated. -/
def hB (c : Dev nD) (t : Fin grid0.N) : Vec F S1024x2048 .bf16 := hOf (xB m c t) (mB m c t)

/-- The column tiles of one row tile read one block of the rows and one of the modulation. -/
theorem hB_eq (c : Dev nD) (t t' : Fin grid0.N) (h : t.val / 12 = t'.val / 12) : hB m c t = hB m c t' := by
  have h2 : t.val / 24 = t'.val / 24 := by omega
  have ex : xB m c t = xB m c t' := by
    have e : ∀ (a : Fin 1024) (b : Fin 2048), xB m c t (ix2 a b) = xB m c t' (ix2 a b) := fun a b => by
      rw [x_at, x_at]; simp only [h]
    exact funext fun y => (congrArg (xB m c t) (eq_ix2 (n0 := 1024) (n1 := 2048) y)).trans ((e _ _).trans (congrArg (xB m c t') (eq_ix2 (n0 := 1024) (n1 := 2048) y)).symm)
  have em : ∀ r, modRow (mB m c t) r = modRow (mB m c t') r := fun r => by
    have e : ∀ b : Fin 2048, mB m c t (ix3 0 r b) = mB m c t' (ix3 0 r b) := fun b => by
      rw [m_at, m_at]; simp only [h2]
    exact funext fun y => e (y 2)
  unfold hB hOf
  rw [ex, em, em]

theorem gB_eq (c : Dev nD) (t t' : Fin grid0.N) : gB m c t = gB m c t' := by
  have e : ∀ (a : Fin 2048) (b : Fin 32), gB m c t (ix2 a b) = gB m c t' (ix2 a b) := fun a b => by
    rw [g_at, g_at]
  exact funext fun y => (congrArg (gB m c t) (eq_ix2 (n0 := 2048) (n1 := 32) y)).trans ((e _ _).trans (congrArg (gB m c t') (eq_ix2 (n0 := 2048) (n1 := 32) y)).symm)

/-- What a tile leaves in the two output blocks. -/
def outP (c : Dev nD) (t : Fin grid0.N) : Vec F S1024x512 .bf16 := pOf (hB m c t) (wB m c t)
def outG (c : Dev nD) (t : Fin grid0.N) : Vec F S1024x32 .f32 := gaOf (hB m c t) (gB m c t)

theorem outG_eq (c : Dev nD) (t t' : Fin grid0.N) (h : t.val / 12 = t'.val / 12) : outG m c t = outG m c t' := by
  unfold outG
  rw [hB_eq m c t t' h, gB_eq m c t t']

/-- The buffer that keeps a row tile's rows. -/
abbrev K0 : Memref sig .tc .vmem S1024x2048 .bf16 := Memref.whole cc0_scratch0

/-- What it holds before tile `s`: within a row tile that tile's rows, before a row tile anything. -/
def kept (c : Dev nD) (s : ℕ) : Asrt F :=
  if h : 0 < s % 12 ∧ s < 108 then owns (c : Thread nD τ) K0 fullShare (hB m c ⟨s - 1, by have := N_0; omega⟩)
  else iprop(∃ d, owns (c : Thread nD τ) K0 fullShare d)

theorem kept_any (c : Dev nD) (s : ℕ) : kept m c s ⊢ iprop(∃ d, owns (c : Thread nD τ) K0 fullShare d) := by
  unfold kept
  split
  · iintro H
    iexists _; iexact H
  · exact .rfl
theorem kept_start (c : Dev nD) (s : ℕ) (h : ¬ (0 < s % 12 ∧ s < 108)) : kept m c s = iprop(∃ d, owns (c : Thread nD τ) K0 fullShare d) := by
  unfold kept
  rw [dif_neg h]
theorem kept_within (c : Dev nD) (t : Fin grid0.N) (h : 0 < t.val % 12) : kept m c t.val = owns (c : Thread nD τ) K0 fullShare (hB m c t) := by
  unfold kept
  rw [dif_pos ⟨h, lt_N t⟩]
  exact congrArg _ (hB_eq m c _ t (by show (t.val - 1) / 12 = t.val / 12; omega))
theorem kept_after (c : Dev nD) (t : Fin grid0.N) : owns (c : Thread nD τ) K0 fullShare (hB m c t) ⊢ kept m c (t.val + 1) := by
  unfold kept
  split
  · exact .rfl
  · iintro H
    iexists _; iexact H

/-- The pipeline's proof data: the arrays as launched; after a tile each input's block in place and the outputs' at
    `outP` and `outG`; between tiles the generator's register and the kept rows. -/
def dats (_ : Fin 1) (c : Dev nD) : Dat τ (Elt F) Unit ℕ (UR sig nD τ) ℕ cfg0 c where
  A w := V m c (Pipeline.arrRef spec0 w)
  after w t := match w with
    | ⟨0, _⟩ => xB m c t
    | ⟨1, _⟩ => mB m c t
    | ⟨2, _⟩ => wB m c t
    | ⟨3, _⟩ => gB m c t
    | ⟨4, _⟩ => outP m c t
    | ⟨5, _⟩ => outG m c t
  Φ t := iprop((∃ r, prngReg c r) ∗ kept m c t.val)
  q _ := fullShare
  owed _ := 0

theorem A_eq (c : Dev nD) (w : Fin 6) : (dats m 0 c).A w = V m c (Pipeline.arrRef spec0 w) := by dsimp only [dats]
theorem after_0 (c : Dev nD) (t : Fin grid0.N) : (dats m 0 c).after 0 t = xB m c t := rfl
theorem after_1 (c : Dev nD) (t : Fin grid0.N) : (dats m 0 c).after 1 t = mB m c t := rfl
theorem after_2 (c : Dev nD) (t : Fin grid0.N) : (dats m 0 c).after 2 t = wB m c t := rfl
theorem after_3 (c : Dev nD) (t : Fin grid0.N) : (dats m 0 c).after 3 t = gB m c t := rfl
theorem after_4 (c : Dev nD) (t : Fin grid0.N) : (dats m 0 c).after 4 t = outP m c t := rfl
theorem after_5 (c : Dev nD) (t : Fin grid0.N) : (dats m 0 c).after 5 t = outG m c t := rfl

/-- Each input's staging buffer holds its block at every tile. -/
theorem before_0 (c : Dev nD) (t : Fin grid0.N) (d) : (dats m 0 c).before 0 t d = xB m c t :=
  ((dats m 0 c).before_in_eq_fetched 0 rfl (fun _ => rfl) (fun _ _ _ => rfl) (fun t => by rw [after_0]; rfl) t d).trans rfl
theorem before_1 (c : Dev nD) (t : Fin grid0.N) (d) : (dats m 0 c).before 1 t d = mB m c t :=
  ((dats m 0 c).before_in_eq_fetched 1 rfl (fun _ => rfl) (fun _ _ _ => rfl) (fun t => by rw [after_1]; rfl) t d).trans rfl
theorem before_2 (c : Dev nD) (t : Fin grid0.N) (d) : (dats m 0 c).before 2 t d = wB m c t :=
  ((dats m 0 c).before_in_eq_fetched 2 rfl (fun _ => rfl) (fun _ _ _ => rfl) (fun t => by rw [after_2]; rfl) t d).trans rfl
theorem before_3 (c : Dev nD) (t : Fin grid0.N) (d) : (dats m 0 c).before 3 t d = gB m c t :=
  ((dats m 0 c).before_in_eq_fetched 3 rfl (fun _ => rfl) (fun _ _ _ => rfl) (fun t => by rw [after_3]; rfl) t d).trans rfl

theorem cond1_iff (t : Fin grid0.N) : k0_cond1 (grid0.coords t) = 1#1 ↔ t.val % 12 = 0 := by
  have : ∀ t : Fin grid0.N, k0_cond1 (grid0.coords t) = 1#1 ↔ t.val % 12 = 0 := by decide +kernel
  exact this t
theorem idle5 (t : Fin grid0.N) : cfg0.idle 5 (cfg0.grid.coords t) = !decide (t.val % 12 = 0) := by
  have : ∀ t : Fin grid0.N, (!(k0_cond1 (grid0.coords t) == 1#1)) = !decide (t.val % 12 = 0) := by decide +kernel
  exact this t
theorem flush5 (t : Fin grid0.N) : (cfg0.win 5).flush t = decide (t.val % 12 = 11) := by
  have : ∀ t : Fin grid0.N, Pipeline.Window.flushOf grid0 true cc0_transform_5 t = decide (t.val % 12 = 11) := by decide +kernel
  exact this t

/-- Within a row tile the second output's staging buffer holds what the row tile's first column tile left. -/
theorem before_5 (c : Dev nD) (n : ℕ) : ∀ (t : Fin grid0.N) (d), t.val = n → t.val % 12 ≠ 0 → (dats m 0 c).before 5 t d = outG m c t := by
  induction n with
  | zero => intro t d hn h; omega
  | succ n ih =>
    intro t d hn h
    have hl := lt_N t
    refine ((dats m 0 c).before_of_pos 5 t (by omega) rfl d).trans ?_
    rw [flush5, if_neg (by rw [decide_eq_true_eq]; show ¬ (t.val - 1) % 12 = 11; omega)]
    unfold Dat.left
    by_cases h0 : (t.val - 1) % 12 = 0
    · have hi : cfg0.idle 5 (cfg0.grid.coords ⟨t.val - 1, Nat.lt_of_le_of_lt (Nat.sub_le _ _) t.isLt⟩) = false := by
        rw [idle5]; simp only [h0]; rfl
      rw [hi]
      exact outG_eq m c _ t (by show (t.val - 1) / 12 = t.val / 12; omega)
    · have hi : cfg0.idle 5 (cfg0.grid.coords ⟨t.val - 1, Nat.lt_of_le_of_lt (Nat.sub_le _ _) t.isLt⟩) = true := by
        rw [idle5]; simp only [h0]; rfl
      rw [hi]
      exact (ih ⟨t.val - 1, _⟩ d (by show t.val - 1 = n; omega) h0).trans (outG_eq m c _ t (by show (t.val - 1) / 12 = t.val / 12; omega))

/-- Each window's current staging buffer at a tile. -/
abbrev ms0 (t : Fin grid0.N) : Memref sig .tc .vmem S1024x2048 .f32 := win0_0.stage (cfg0.slots t 0)
abbrev ms1 (t : Fin grid0.N) : Memref sig .tc .vmem S1x6x2048 .f32 := win0_1.stage (cfg0.slots t 1)
abbrev ms2 (t : Fin grid0.N) : Memref sig .tc .vmem S2048x512 .bf16 := win0_2.stage (cfg0.slots t 2)
abbrev ms3 (t : Fin grid0.N) : Memref sig .tc .vmem S2048x32 .bf16 := win0_3.stage (cfg0.slots t 3)
abbrev ms4 (t : Fin grid0.N) : Memref sig .tc .vmem S1024x512 .bf16 := win0_4.stage (cfg0.slots t 4)
abbrev ms5 (t : Fin grid0.N) : Memref sig .tc .vmem S1024x32 .f32 := win0_5.stage (cfg0.slots t 5)

/-- The body at a tile. -/
abbrev bodyAt (t : Fin grid0.N) :=
  cc0_inproj (F := F) (grid0.coords t)
    (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    (ms4 t) (hstage0_4 ((cfg0.slots t 4).cast nbuf0_4)) (ms5 t) (hstage0_5 ((cfg0.slots t 5).cast nbuf0_5))
    K0 (Memref.isWhole_whole _)

theorem defs₀_row (t : Fin grid0.N) :
    defs₀ (F := F) .tc cfg0.body (cfg0.bodyArgs t (cfg0.slots t)) = bodyAt t := by
  unfold defs₀; rw [Defs.onTc_tc]

def bodyPre (c : Dev nD) (t : Fin grid0.N) : Asrt F :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
def bodyPost (c : Dev nD) (t : Fin grid0.N) : Asrt F :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t)

/-- What the second output's staging buffer is to hold after a tile, from what it holds. -/
theorem leaves5 (c : Dev nD) (t : Fin grid0.N) : owns (c : Thread nD τ) (ms5 t) fullShare (outG m c t) ⊢ (dats m 0 c).leavesExact 5 t := by
  unfold Dat.leavesExact
  rw [idle5, flush5]
  by_cases h0 : t.val % 12 = 0
  · simp only [h0]; exact .rfl
  · by_cases h11 : t.val % 12 = 11
    · simp only [h11]; exact .rfl
    · simp only [h0, h11]
      show owns (c : Thread nD τ) (ms5 t) fullShare (outG m c t) ⊢ iprop(∃ d, owns (c : Thread nD τ) (ms5 t) fullShare ((dats m 0 c).before 5 t d))
      iintro H
      iexists (outG m c t)
      rw [before_5 m c t.val t _ rfl h0]
      iexact H

theorem Phi_castSucc (c : Dev nD) (t : Fin grid0.N) : (dats m 0 c).Φ t.castSucc = iprop((∃ r, prngReg c r) ∗ kept m c t.val) := rfl
theorem Phi_succ (c : Dev nD) (t : Fin grid0.N) : (dats m 0 c).Φ t.succ = iprop((∃ r, prngReg c r) ∗ kept m c (t.val + 1)) := rfl

set_option maxHeartbeats 1000000 in
theorem sound_body (c : Dev nD) (t : Fin grid0.N) :
    bodyPre m c t ⊢ wp frame (wpE (defs₀ (F := F)) Variants.none c none) Set.univ (bodyAt t) (fun _ => bodyPost m c t) := by
  unfold bodyPre bodyPost bodyAt
  simp only [before_0, before_1, before_2, before_3]
  rw [Phi_castSucc, Phi_succ, show (dats m 0 c).owesAt () t.succ = (dats m 0 c).owesAt () t.castSucc from rfl,
    after_0, after_1, after_2, after_3, after_4]
  by_cases h0 : t.val % 12 = 0
  · iintro ⟨⟨Hp, Hk⟩, Ho, ⟨%d0, H0⟩, ⟨%d1, H1⟩, ⟨%d2, H2⟩, ⟨%d3, H3⟩, ⟨%d4, H4⟩, ⟨%d5, H5⟩⟩
    ihave Hk' := (kept_any m c t.val) $$ Hk
    iapply (first_wp c (grid0.coords t) _ _ _ _ _ _ _ _ _ _ _ _ _ _ (xB m c t) (mB m c t) (wB m c t) (gB m c t) ((cond1_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hk']; · iexact Hk'
    iintro ⟨H0, H1, H2, H3, H4, H5, Hk⟩
    isplitl [Hp Hk]
    · isplitl [Hp]; · iexact Hp
      iapply (kept_after m c t)
      iexact Hk
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5
  · rw [kept_within m c t (by omega)]
    iintro ⟨⟨Hp, Hk⟩, Ho, ⟨%d0, H0⟩, ⟨%d1, H1⟩, ⟨%d2, H2⟩, ⟨%d3, H3⟩, ⟨%d4, H4⟩, ⟨%d5, H5⟩⟩
    rw [before_5 m c t.val t _ rfl h0]
    iapply (later_wp c (grid0.coords t) _ _ _ _ _ _ _ _ _ _ _ _ _ _ (wB m c t) (hB m c t) (fun h => h0 ((cond1_iff t).mp h)) Set.univ _)
    isplitl [H2]; · iexact H2
    isplitl [H4]; · iexists _; iexact H4
    isplitl [Hk]; · iexact Hk
    iintro ⟨H2, H4, Hk⟩
    isplitl [Hp Hk]
    · isplitl [Hp]; · iexact Hp
      iapply (kept_after m c t)
      iexact Hk
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The kept buffer whole at some contents, as its memref owned at some contents. -/
theorem any_owns (c : Dev nD) :
    (iprop(∃ d, owns (c : Thread nD τ) K0 fullShare d) : Asrt F)
      = iprop(∃ f : Buf (Elt F) ((c : Thread nD τ).loc cc0_scratch0), ((c : Thread nD τ).loc cc0_scratch0) ↦{fullShare} f) := by
  have h0 : ∀ d : Vec F S1024x2048 .bf16, (owns (c : Thread nD τ) K0 fullShare d : Asrt F) = (((c : Thread nD τ).loc cc0_scratch0) ↦{fullShare} d) :=
    fun d => owns_whole (c : Thread nD τ) cc0_scratch0 fullShare d
  simp only [h0]
  rfl

theorem enter (c : Dev nD) : Pipeline.ΦA spec0 c ⊢ (dats m 0 c).Φ 0 := by
  rw [show (dats m 0 c).Φ 0 = iprop((∃ r, prngReg c r) ∗ kept m c 0) from rfl, kept_start m c 0 (by omega)]
  unfold Pipeline.ΦA
  rw [scopedRest0_eq, ← any_owns]
  iintro ⟨Hk, Hp⟩
  isplitl [Hp]; · iexact Hp
  iexact Hk
theorem leave (c : Dev nD) : (dats m 0 c).Φ (Fin.last cfg0.N) ⊢ Pipeline.ΦA spec0 c := by
  rw [show (dats m 0 c).Φ (Fin.last cfg0.N) = iprop((∃ r, prngReg c r) ∗ kept m c (Fin.last cfg0.N).val) from rfl]
  unfold Pipeline.ΦA
  rw [scopedRest0_eq, ← any_owns]
  iintro ⟨Hp, Hk⟩
  isplitl [Hk]
  · iapply (kept_any m c _)
    iexact Hk
  iexact Hp

set_option backward.isDefEq.respectTransparency.types false in
/-- The launch: every run ends, the arrays at what the proof data say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := ip_hmain m)
    (hA := A_eq m) (hin := enter m) (hout := leave m)

/-- Every run ends with the two results at what the proof data say, the arguments as launched and every counter at zero. -/
theorem frame_results : θ_run defs (onTc (τ := τ) (main (F := F))) ⟨m, fun _ => 0, ρ⟩ (fun r => (∀ c : Dev nD,
      (r.2.mem ((c.tc : Thread nD τ).loc main_v4_0) = (dats m 0 c).arrAt 4 cfg0.N
        ∧ r.2.mem ((c.tc : Thread nD τ).loc main_v4_1) = (dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ (h : _ ∧ _) => ⟨fun c => ⟨⟨(h.1 c).1 4, (h.1 c).1 5⟩,
      (((h.1 c).1 0).trans (((dats m 0 c).arrAt_in 0 rfl _).trans (A_eq m c 0))).trans (V_arg0 m c),
      (((h.1 c).1 1).trans (((dats m 0 c).arrAt_in 1 rfl _).trans (A_eq m c 1))).trans (V_arg1 m c),
      ((h.1 c).2 main_arg2 (Pipeline.mem_restRefs_of main_arg2 (by decide) (show ∀ w : Fin 6, (spec0 w).arr.view.ref ≠ main_arg2 from by decide))).trans (V_arg2 m c)⟩, h.2⟩)
    (run_main_quiescent m ρ)

end Cert.Proof.Ip

end
-- ==== Proof.IpMath.lean ====
/- The input projection as mathematics: a token's row, normalized, scaled and shifted by its modulation, through the weight. -/
module

public import Idealize.ShloMosaic.Lib.Pointwise
public import Idealize.ShloMosaic.PureOps.Ideal.Laws

@[expose] public section

noncomputable section

namespace Cert.Proof.IpMath

open Idealize.ShloMosaic

/-- The mean of a row. -/
def mean (f : Fin 2048 → EReal) : EReal := Ideal.div (∑ k, f k) (Ideal.ofBits .f32 0x45000000#32)

/-- A row minus its mean, over the root of its variance, scaled and shifted, at a place. -/
def layer (f : Fin 2048 → EReal) (sh sc : EReal) (d : Fin 2048) : EReal :=
  (f d - mean f) * Ideal.rsqrt (mean (fun k => (f k - mean f) * (f k - mean f)) + Ideal.ofBits .f32 0x358637BD#32)
    * (Ideal.ofBits .f32 0x3F800000#32 + sc) + sh

/-- The tokens, the modulation of the four sequences and of the context, and the weight. -/
abbrev Tokens := (⟨2, ![9216, 2048]⟩ : Shape).Idx → EReal
abbrev Mods := (⟨3, ![8, 6, 2048]⟩ : Shape).Idx → EReal
abbrev Weight := (⟨2, ![2048, 6176]⟩ : Shape).Idx → EReal

/-- The modulation row of a token: its sequence's, or for every context token the fifth. -/
def modOf (r : Fin 9216) : Fin 8 := ⟨min (r.val / 2048) 4, by omega⟩

/-- A token's row after the norm and the modulation. -/
def hid (x : Tokens) (md : Mods) (r : Fin 9216) (d : Fin 2048) : EReal :=
  layer (fun k => x (ix2 r k)) (md (ix3 (modOf r) 0 d)) (md (ix3 (modOf r) 1 d)) d

/-- The projection of a token, at a column of the weight. -/
def proj (x : Tokens) (md : Mods) (w : Weight) (r : Fin 9216) (c : Fin 6176) : EReal := ∑ k : Fin 2048, hid x md r k * w (ix2 k c)

end Cert.Proof.IpMath

end
-- ==== Proof.IpValue.lean ====
/- The input projection's two arrays, place by place. -/
module

public import proofs.«01_k».proof.Proof.IpFrame
public import proofs.«01_k».proof.Proof.IpMath
public import Idealize.ShloMosaic.Lib.Pointwise
public import Idealize.ShloMosaic.Lib.MatmulPlain

@[expose] public section

set_option maxRecDepth 16384

noncomputable section

namespace Cert.Proof.Ip

open Cert.IpIdeal Cert.IpIdeal.Gen
open Idealize.ShloMosaic Idealize.ShloMosaic.TcCoe Idealize.ShloMosaic.Tactic
open Idealize.SL.Sem
open Cert.Proof.IpMath

theorem pay1_at (a b : Vec Ideal S1x1x2048 .f32) (x : Vec Ideal S128x2048 .f32) (r : Fin 128) (d : Fin 2048) :
    k0_pay1 (F := Ideal) a b x (ix2 r d) = layer (fun k => x (ix2 r k)) (a (ix3 0 0 d)) (b (ix3 0 0 d)) d := by
  unfold layer mean
  pointwise [k0_pay1]

theorem zeros_at (s : Shape) (j : s.Idx) : constant (F := Ideal) s .f32 0x00000000#32 j = (0 : EReal) := by pointwise []

/-- A product added to zeros, at a place. -/
theorem product_at {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant (F := Ideal) ⟨2, ![M, N]⟩ .f32 0x00000000#32) (ix2 r c)
      = ∑ k : Fin K, (lhs (ix2 r k) : EReal) * rhs (ix2 k c) := by
  refine (Ideal.matmul_plain_apply none lhs rhs _ r c).trans ?_
  refine (congrArg (fun z : EReal => z + _) (zeros_at _ _)).trans (zero_add _)

variable (m : (ℓ : Loc nD τ sig) → Buf (Elt Ideal) ℓ)

/-- A row tile's rows at a place, from the arguments. -/
theorem hB_at (c : Dev nD) (t : Fin grid0.N) (r : Fin 1024) (d : Fin 2048) :
    hB m c t (ix2 r d) = hid (m ((c.tc : Thread nD τ).loc main_arg0)) (m ((c.tc : Thread nD τ).loc main_arg1)) ⟨t.val / 12 * 1024 + r.val, by have := lt_N t; omega⟩ d := by
  have hr : 128 * (r.val / 128) + r.val % 128 = r.val := by omega
  have e : modOf ⟨t.val / 12 * 1024 + r.val, by have := lt_N t; omega⟩ = ⟨min (t.val / 24) 4, by omega⟩ :=
    Fin.ext (show min ((t.val / 12 * 1024 + r.val) / 2048) 4 = min (t.val / 24) 4 by omega)
  have hx : ∀ k : Fin 2048, chunk (xB m c t) ⟨r.val / 128, by omega⟩ (ix2 (⟨r.val % 128, by omega⟩ : Fin 128) k)
      = m ((c.tc : Thread nD τ).loc main_arg0) (ix2 ⟨t.val / 12 * 1024 + r.val, by have := lt_N t; omega⟩ k) := fun k => by
    refine (x_at m c t ⟨128 * (r.val / 128) + r.val % 128, by omega⟩ k).trans ?_
    rw [V_arg0]
    simp only [hr]
  have hm : ∀ q : Fin 6, modRow (mB m c t) q (ix3 0 0 d) = m ((c.tc : Thread nD τ).loc main_arg1) (ix3 ⟨min (t.val / 24) 4, by omega⟩ q d) := fun q => by
    refine (m_at m c t q d).trans ?_
    rw [V_arg1]
  unfold hid
  rw [e, ← hm 0, ← hm 1]
  simp only [← hx]
  exact pay1_at _ _ _ _ _

/-- The two cuts of the weight. -/
theorem w1_at (c : Dev nD) (k : Fin 2048) (j : Fin 6144) : V m c main_v1 (ix2 k j) = m ((c.tc : Thread nD τ).loc main_arg2) (ix2 k ⟨j.val, by omega⟩) := by
  unfold V
  show truncf (F := Ideal) .bf16 (extractStridedSlice S2048x6144 ![0, 0] (m (c, main_arg2)) slices_S2048x6176_S2048x6144_0_0) bitsLt_bf16_f32 (ix2 k j) = _
  pointwise []
theorem w3_at (c : Dev nD) (k : Fin 2048) (j : Fin 32) : V m c main_v3 (ix2 k j) = m ((c.tc : Thread nD τ).loc main_arg2) (ix2 k ⟨6144 + j.val, by omega⟩) := by
  unfold V
  show truncf (F := Ideal) .bf16 (extractStridedSlice S2048x32 ![0, 6144] (m (c, main_arg2)) slices_S2048x6176_S2048x32_0_6144) bitsLt_bf16_f32 (ix2 k j) = _
  pointwise []

/-! ## The arrays -/

/-- The first result: the first 6144 columns of the projection, -/
def first (c : Dev nD) : Vec Ideal S9216x6144 .bf16 := fun i =>
  proj (m ((c.tc : Thread nD τ).loc main_arg0)) (m ((c.tc : Thread nD τ).loc main_arg1)) (m ((c.tc : Thread nD τ).loc main_arg2)) (i 0 : Fin 9216)
    ⟨(i 1).val, by have h : (i 1).val < 6144 := (i 1).isLt; omega⟩
/-- and the second: the other 32. -/
def rest (c : Dev nD) : Vec Ideal S9216x32 .f32 := fun i =>
  proj (m ((c.tc : Thread nD τ).loc main_arg0)) (m ((c.tc : Thread nD τ).loc main_arg1)) (m ((c.tc : Thread nD τ).loc main_arg2)) (i 0 : Fin 9216)
    ⟨6144 + (i 1).val, by have h : (i 1).val < 32 := (i 1).isLt; omega⟩

theorem outP_at (c : Dev nD) (t : Fin grid0.N) (y0 : Fin 1024) (y1 : Fin 512) :
    outP m c t (ix2 y0 y1) = proj (m ((c.tc : Thread nD τ).loc main_arg0)) (m ((c.tc : Thread nD τ).loc main_arg1)) (m ((c.tc : Thread nD τ).loc main_arg2))
      ⟨t.val / 12 * 1024 + y0.val, by have := lt_N t; omega⟩ ⟨t.val % 12 * 512 + y1.val, by omega⟩ := by
  refine Eq.trans ?_ (Finset.sum_congr rfl fun k _ => congrArg₂ (fun u v : EReal => u * v) (hB_at m c t y0 k) ((w_at m c t k y1).trans (w1_at m c k _)))
  unfold outP pOf k0_pay3
  rw [shapeCast_self]
  exact product_at (φ₁ := .bf16) (φ₂ := .bf16) (hB m c t) (wB m c t) y0 y1
theorem outG_at (c : Dev nD) (t : Fin grid0.N) (y0 : Fin 1024) (y1 : Fin 32) :
    outG m c t (ix2 y0 y1) = proj (m ((c.tc : Thread nD τ).loc main_arg0)) (m ((c.tc : Thread nD τ).loc main_arg1)) (m ((c.tc : Thread nD τ).loc main_arg2))
      ⟨t.val / 12 * 1024 + y0.val, by have := lt_N t; omega⟩ ⟨6144 + y1.val, by omega⟩ := by
  refine Eq.trans ?_ (Finset.sum_congr rfl fun k _ => congrArg₂ (fun u v : EReal => u * v) (hB_at m c t y0 k) ((g_at m c t k y1).trans (w3_at m c k _)))
  unfold outG gaOf k0_pay2
  rw [shapeCast_self]
  exact product_at (φ₁ := .bf16) (φ₂ := .bf16) (hB m c t) (gB m c t) y0 y1

theorem flush4 : ∀ t : Fin grid0.N, Pipeline.Window.flushOf grid0 true cc0_transform_4 t = true := by decide +kernel

theorem covers4 : (cfg0.win 4).Covers := by
  refine ⟨fun a => ?_, fun β => ?_⟩
  · match a with
    | ⟨0, _⟩ => exact (by decide : 0 < 1024)
    | ⟨1, _⟩ => exact (by decide : 0 < 512)
  · have h0 : (β (0 : Fin 2)).val < 9 := (β (0 : Fin 2)).isLt.trans_eq (by decide : (9216 + 1024 - 1) / 1024 = 9)
    have h1 : (β (1 : Fin 2)).val < 12 := (β (1 : Fin 2)).isLt.trans_eq (by decide : (6144 + 512 - 1) / 512 = 12)
    have e := idx4 ⟨(β (0 : Fin 2)).val * 12 + (β (1 : Fin 2)).val, by rw [N_0]; omega⟩
    refine ⟨⟨(β (0 : Fin 2)).val * 12 + (β (1 : Fin 2)).val, by rw [N_0]; omega⟩, flush4 _, fun a => ⟨?_, Or.inl ?_⟩⟩
    · refine (congrFun e a).trans ?_
      match a with
      | ⟨0, _⟩ => show ((β (0 : Fin 2)).val * 12 + (β (1 : Fin 2)).val) / 12 = (β (0 : Fin 2)).val; omega
      | ⟨1, _⟩ => show ((β (0 : Fin 2)).val * 12 + (β (1 : Fin 2)).val) % 12 = (β (1 : Fin 2)).val; omega
    · match a with
      | ⟨0, _⟩ => rfl
      | ⟨1, _⟩ => rfl

theorem covers5 : (cfg0.win 5).Covers := by
  refine ⟨fun a => ?_, fun β => ?_⟩
  · match a with
    | ⟨0, _⟩ => exact (by decide : 0 < 1024)
    | ⟨1, _⟩ => exact (by decide : 0 < 32)
  · have h0 : (β (0 : Fin 2)).val < 9 := (β (0 : Fin 2)).isLt.trans_eq (by decide : (9216 + 1024 - 1) / 1024 = 9)
    have h1 : (β (1 : Fin 2)).val < 1 := (β (1 : Fin 2)).isLt.trans_eq (by decide : (32 + 32 - 1) / 32 = 1)
    have e := idx5 ⟨(β (0 : Fin 2)).val * 12 + 11, by rw [N_0]; omega⟩
    refine ⟨⟨(β (0 : Fin 2)).val * 12 + 11, by rw [N_0]; omega⟩, (flush5 _).trans (decide_eq_true (show ((β (0 : Fin 2)).val * 12 + 11) % 12 = 11 by omega)), fun a => ⟨?_, Or.inl ?_⟩⟩
    · refine (congrFun e a).trans ?_
      match a with
      | ⟨0, _⟩ => show ((β (0 : Fin 2)).val * 12 + 11) / 12 = (β (0 : Fin 2)).val; omega
      | ⟨1, _⟩ => show 0 = (β (1 : Fin 2)).val; omega
    · match a with
      | ⟨0, _⟩ => rfl
      | ⟨1, _⟩ => rfl

theorem first_eq (c : Dev nD) : (dats m 0 c).arrAt 4 cfg0.N = first m c := by
  refine (dats m 0 c).arrAt_eq_of_covers 4 _ covers4 fun t hf y => ?_
  have e : ∀ k : Fin 2, (cfg0.win 4).index t k = _ := congrFun (idx4 t)
  have e0 : ((((cfg0.win 4).blk t).view.emb y) (0 : Fin 2)).val = t.val / 12 * 1024 + (y (0 : Fin 2)).val := by
    blk_simp
    exact congrArg (· * 1024 + (y (0 : Fin 2)).val) (e (0 : Fin 2))
  have e1 : ((((cfg0.win 4).blk t).view.emb y) (1 : Fin 2)).val = t.val % 12 * 512 + (y (1 : Fin 2)).val := by
    blk_simp
    exact congrArg (· * 512 + (y (1 : Fin 2)).val) (e (1 : Fin 2))
  refine ((congrArg (outP m c t) (eq_ix2 (n0 := 1024) (n1 := 512) y)).trans ((outP_at m c t (y (0 : Fin 2) : Fin 1024) (y (1 : Fin 2) : Fin 512)).trans ?_))
  exact congrArg₂ (proj _ _ _) (Fin.ext e0.symm) (Fin.ext e1.symm)

theorem rest_eq (c : Dev nD) : (dats m 0 c).arrAt 5 cfg0.N = rest m c := by
  refine (dats m 0 c).arrAt_eq_of_covers 5 _ covers5 fun t hf y => ?_
  have e : ∀ k : Fin 2, (cfg0.win 5).index t k = _ := congrFun (idx5 t)
  have e0 : ((((cfg0.win 5).blk t).view.emb y) (0 : Fin 2)).val = t.val / 12 * 1024 + (y (0 : Fin 2)).val := by
    blk_simp
    exact congrArg (· * 1024 + (y (0 : Fin 2)).val) (e (0 : Fin 2))
  have e1 : ((((cfg0.win 5).blk t).view.emb y) (1 : Fin 2)).val = (y (1 : Fin 2)).val := by
    blk_simp
    exact (congrArg (· * 32 + (y (1 : Fin 2)).val) (e (1 : Fin 2))).trans (by show 0 * 32 + _ = _; omega)
  refine ((congrArg (outG m c t) (eq_ix2 (n0 := 1024) (n1 := 32) y)).trans ((outG_at m c t (y (0 : Fin 2) : Fin 1024) (y (1 : Fin 2) : Fin 32)).trans ?_))
  exact congrArg₂ (proj _ _ _) (Fin.ext e0.symm) (Fin.ext (congrArg (6144 + ·) e1.symm))

end Cert.Proof.Ip
end
-- ==== Proof.IpSame.lean ====
/- The input projection as printed for its own floats and as printed for exact ones are the same program: what the one's run
   leaves, the other's does. -/
module

public import proofs.«01_k».proof.Proof.IpFrame
public import proofs.«01_k».proof.Proof.Gen.Ip.Launch

@[expose] public section

set_option maxRecDepth 16384
set_option maxHeartbeats 2000000

noncomputable section

namespace Cert.Proof.Ip

open Idealize.ShloMosaic Idealize.ShloMosaic.TcCoe Idealize.SL.Sem

/-- The two programs' body tables agree at every label. -/
theorem bodies_same : Cert.Ip.defs₀ (F := Bits) = Cert.IpIdeal.defs₀ (F := Bits) := by
  funext k l a
  cases k with
  | tc =>
    match l, a with
    | ⟨0, _⟩, (t, s) => rfl
  | scScalar _ => rfl
  | scVector _ _ => rfl

/-- The operations before the launch are the same list. -/
theorem host_same : Cert.Ip.Gen.hostOps0 (F := Bits) = Cert.IpIdeal.Gen.hostOps0 (F := Bits) := (rfl)

/-- A main program of host operations and then the launch. -/
def line (ops : List (HloOp Cert.Ip.τ Cert.Ip.sig (Elt Bits))) :
    Prog (TpuEff Cert.Ip.nD Cert.Ip.τ Cert.Ip.sig (Elt Bits) (Pipeline.Sig Cert.Ip.Λ₀ (Fin 1) fun p => (Cert.Ip.pcfgs (F := Bits) p).Adm) .tc) PUnit :=
  Pipeline.chain [StableHlo.seq ops, Prog.lift (.customCall (Pipeline.entry 0) ())]

theorem main_line (c : Dev Cert.Ip.nD) : Cert.Ip.main (F := Bits) c = line (Cert.Ip.Gen.hostOps0 (F := Bits)) :=
  Cert.Ip.Gen.main_chain (F := Bits) c
theorem main_line' (c : Dev Cert.Ip.nD) : line (Cert.IpIdeal.Gen.hostOps0 (F := Bits)) = Cert.IpIdeal.main (F := Bits) c :=
  (Cert.IpIdeal.Gen.main_chain (F := Bits) c).symm

/-- The two main programs agree. -/
theorem main_same (c : Dev Cert.Ip.nD) : Cert.Ip.main (F := Bits) c = Cert.IpIdeal.main (F := Bits) c :=
  (main_line c).trans ((congrArg line host_same).trans (main_line' c))

/-- What a run leaves, of the program as printed for its own floats. -/
theorem frame_bits (m : (ℓ : Loc Cert.Ip.nD Cert.Ip.τ Cert.Ip.sig) → Buf (Elt Bits) ℓ) (ρ : Dev Cert.Ip.nD → PrngReg) :
    θ_run (Cert.Ip.defs (F := Bits)) (onTc (τ := Cert.Ip.τ) (Cert.Ip.main (F := Bits))) ⟨m, fun _ => 0, ρ⟩ (fun r => (∀ c : Dev Cert.Ip.nD,
      r.2.mem ((c.tc : Thread Cert.Ip.nD Cert.Ip.τ).loc Cert.Ip.main_arg0) = m ((c.tc : Thread Cert.Ip.nD Cert.Ip.τ).loc Cert.Ip.main_arg0)
      ∧ r.2.mem ((c.tc : Thread Cert.Ip.nD Cert.Ip.τ).loc Cert.Ip.main_arg1) = m ((c.tc : Thread Cert.Ip.nD Cert.Ip.τ).loc Cert.Ip.main_arg1)
      ∧ r.2.mem ((c.tc : Thread Cert.Ip.nD Cert.Ip.τ).loc Cert.Ip.main_arg2) = m ((c.tc : Thread Cert.Ip.nD Cert.Ip.τ).loc Cert.Ip.main_arg2))
      ∧ r.2.sem = fun _ => 0) := by
  unfold Cert.Ip.defs
  rw [bodies_same, show Cert.Ip.main (F := Bits) = Cert.IpIdeal.main (F := Bits) from funext main_same]
  exact (θ_run (Cert.IpIdeal.defs (F := Bits)) _ _).mono (fun _ (h : _ ∧ _) => ⟨fun c => (h.1 c).2, h.2⟩) (frame_results (F := Bits) m ρ)

end Cert.Proof.Ip

end
-- ==== Proof.IpRef.lean ====
/- The reference's two arrays, place by place: the tokens of the four sequences and those of the context are normalized and
   modulated apart, go through the same weight and are laid one after the other. -/
module

public import proofs.«01_k».proof.Proof.Gen.IpRefIdeal.Read
public import proofs.«01_k».proof.Proof.IpMath

@[expose] public section

set_option maxRecDepth 16384

noncomputable section

namespace Cert.Proof.IpRef

open Cert.IpRefIdeal Cert.IpRefIdeal.Gen Cert.IpRefIdeal.Read Idealize.ShloMosaic Idealize.ShloMosaic.TcCoe Idealize.SL.Sem
open Cert.Proof.IpMath

variable (x : Tokens) (md : Mods) (w : Weight)

/-! ## The rows and the modulation the two halves read -/

theorem rows_at (a : Fin 4) (b k : Fin 2048) : val_main_v1 (F := Ideal) x (ix3 a b k) = x (ix2 ⟨a.val * 2048 + b.val, by omega⟩ k) := by
  rw [val_main_v1_apply, val_main_v0_apply]
  refine congrArg x (funext fun z => Fin.ext ?_)
  match z with
  | ⟨0, _⟩ => show ((a.val * 2048 + b.val) * 2048 + k.val) / 2048 = a.val * 2048 + b.val; omega
  | ⟨1, _⟩ => show ((a.val * 2048 + b.val) * 2048 + k.val) % 2048 = k.val; omega
theorem ctx_rows_at (a : Fin 4) (b : Fin 256) (k : Fin 2048) : val_main_v3 (F := Ideal) x (ix3 a b k) = x (ix2 ⟨8192 + (a.val * 256 + b.val), by omega⟩ k) := by
  rw [val_main_v3_apply, val_main_v2_apply]
  refine congrArg x (funext fun z => Fin.ext ?_)
  match z with
  | ⟨0, _⟩ => show 8192 + ((a.val * 256 + b.val) * 2048 + k.val) / 2048 = 8192 + (a.val * 256 + b.val); omega
  | ⟨1, _⟩ => show ((a.val * 256 + b.val) * 2048 + k.val) % 2048 = k.val; omega

theorem shift_at (a : Fin 4) (k : Fin 2048) : val_main_v6 (F := Ideal) md (ix3 a 0 k) = md (ix3 ⟨a.val, by omega⟩ 0 k) := by
  rw [val_main_v6_apply, val_main_v5_apply, val_main_v4_apply]
  refine congrArg md (funext fun z => Fin.ext ?_)
  match z with
  | ⟨0, _⟩ => show (a.val * 2048 + k.val) / 2048 = a.val; omega
  | ⟨1, _⟩ => rfl
  | ⟨2, _⟩ => show (a.val * 2048 + k.val) % 2048 = k.val; omega
theorem scale_at (a : Fin 4) (k : Fin 2048) : val_main_v9 (F := Ideal) md (ix3 a 0 k) = md (ix3 ⟨a.val, by omega⟩ 1 k) := by
  rw [val_main_v9_apply, val_main_v8_apply, val_main_v7_apply]
  refine congrArg md (funext fun z => Fin.ext ?_)
  match z with
  | ⟨0, _⟩ => show (a.val * 2048 + k.val) / 2048 = a.val; omega
  | ⟨1, _⟩ => rfl
  | ⟨2, _⟩ => show (a.val * 2048 + k.val) % 2048 = k.val; omega
theorem ctx_shift_at (k : Fin 2048) : val_main_v11 (F := Ideal) md (ix1 k) = md (ix3 4 0 k) := by
  rw [val_main_v11_apply, val_main_v10_apply]
  refine congrArg md (funext fun z => Fin.ext ?_)
  match z with
  | ⟨0, _⟩ => rfl
  | ⟨1, _⟩ => rfl
  | ⟨2, _⟩ => first | rfl | (show k.val % 2048 = k.val; omega)
theorem ctx_scale_at (k : Fin 2048) : val_main_v13 (F := Ideal) md (ix1 k) = md (ix3 4 1 k) := by
  rw [val_main_v13_apply, val_main_v12_apply]
  refine congrArg md (funext fun z => Fin.ext ?_)
  match z with
  | ⟨0, _⟩ => rfl
  | ⟨1, _⟩ => rfl
  | ⟨2, _⟩ => first | rfl | (show k.val % 2048 = k.val; omega)

/-! ## The norm and the modulation -/

theorem at3 {n0 n1 n2 : ℕ} (i : (⟨3, ![n0, n1, n2]⟩ : Shape).Idx) (a : Fin n0) (b : Fin n1) (k : Fin n2)
    (h0 : (i 0).val = a.val) (h1 : (i 1).val = b.val) (h2 : (i 2).val = k.val) : i = ix3 a b k :=
  (eq_ix3 i).trans (congr (congrArg₂ ix3 (Fin.ext h0) (Fin.ext h1)) (Fin.ext h2))

theorem mean_at (a : Fin 4) (b : Fin 2048) : val_main_v17 (F := Ideal) x (ix3 a b 0) = mean fun k => x (ix2 ⟨a.val * 2048 + b.val, by omega⟩ k) := by
  rw [val_main_v17_apply, val_main_v15_apply, val_main_v14_apply, val_main_cst_apply, val_main_v16_apply, val_main_cst_0_apply, Ideal.hostDivf_def,
    Ideal.ofBits_def, Ideal.ofBits_def, Ideal.ofBits_zero_f32, zero_add]
  exact congrArg (Ideal.div · _) (Finset.sum_congr rfl fun k _ => rows_at x a b k)
theorem centred_at (a : Fin 4) (b : Fin 2048) (k : Fin 2048) : val_main_v19 (F := Ideal) x (ix3 a b k)
    = x (ix2 ⟨a.val * 2048 + b.val, by omega⟩ k) - mean fun k => x (ix2 ⟨a.val * 2048 + b.val, by omega⟩ k) := by
  rw [val_main_v19_apply, val_main_v18_apply, rows_at]
  exact congrArg (_ - ·) ((congrArg (val_main_v17 (F := Ideal) x) (at3 _ a b 0 rfl rfl rfl)).trans (mean_at x a b))
theorem variance_at (a : Fin 4) (b : Fin 2048) : val_main_v24 (F := Ideal) x (ix3 a b 0)
    = mean fun k => (x (ix2 ⟨a.val * 2048 + b.val, by omega⟩ k) - mean fun k => x (ix2 ⟨a.val * 2048 + b.val, by omega⟩ k)) * (x (ix2 ⟨a.val * 2048 + b.val, by omega⟩ k) - mean fun k => x (ix2 ⟨a.val * 2048 + b.val, by omega⟩ k)) := by
  rw [val_main_v24_apply, val_main_v22_apply, val_main_v21_apply, val_main_cst_1_apply, val_main_v23_apply, val_main_cst_2_apply, Ideal.hostDivf_def,
    Ideal.ofBits_def, Ideal.ofBits_def, Ideal.ofBits_zero_f32, zero_add]
  refine congrArg (Ideal.div · _) (Finset.sum_congr rfl fun k _ => (val_main_v20_apply (F := Ideal) x _).trans ?_)
  have e := (congrArg (val_main_v19 (F := Ideal) x) (at3 (idx_main_v21 (idx_main_v22 (ix3 a b 0)) k) a b k rfl rfl rfl)).trans (centred_at x a b k)
  exact congrArg₂ (fun u v : EReal => u * v) e e
theorem normed_at (a : Fin 4) (b : Fin 2048) (k : Fin 2048) : val_main_v29 (F := Ideal) x (ix3 a b k)
    = (x (ix2 ⟨a.val * 2048 + b.val, by omega⟩ k) - mean fun k => x (ix2 ⟨a.val * 2048 + b.val, by omega⟩ k))
      * Ideal.rsqrt ((mean fun k => (x (ix2 ⟨a.val * 2048 + b.val, by omega⟩ k) - mean fun k => x (ix2 ⟨a.val * 2048 + b.val, by omega⟩ k)) * (x (ix2 ⟨a.val * 2048 + b.val, by omega⟩ k) - mean fun k => x (ix2 ⟨a.val * 2048 + b.val, by omega⟩ k))) + Ideal.ofBits .f32 0x358637BD#32) := by
  rw [val_main_v29_apply, centred_at, val_main_v28_apply, at3 (idx_main_v28 (ix3 a b k)) a b 0 rfl rfl rfl, val_main_v27_apply, val_main_v26_apply,
    val_main_v25_apply, val_main_cst_3_apply, variance_at]
  rfl

theorem ctx_mean_at (a : Fin 4) (b : Fin 256) : val_main_v39 (F := Ideal) x (ix3 a b 0) = mean fun k => x (ix2 ⟨8192 + (a.val * 256 + b.val), by omega⟩ k) := by
  rw [val_main_v39_apply, val_main_v37_apply, val_main_v36_apply, val_main_cst_5_apply, val_main_v38_apply, val_main_cst_6_apply, Ideal.hostDivf_def,
    Ideal.ofBits_def, Ideal.ofBits_def, Ideal.ofBits_zero_f32, zero_add]
  exact congrArg (Ideal.div · _) (Finset.sum_congr rfl fun k _ => ctx_rows_at x a b k)
theorem ctx_centred_at (a : Fin 4) (b : Fin 256) (k : Fin 2048) : val_main_v41 (F := Ideal) x (ix3 a b k)
    = x (ix2 ⟨8192 + (a.val * 256 + b.val), by omega⟩ k) - mean fun k => x (ix2 ⟨8192 + (a.val * 256 + b.val), by omega⟩ k) := by
  rw [val_main_v41_apply, val_main_v40_apply, ctx_rows_at]
  exact congrArg (_ - ·) ((congrArg (val_main_v39 (F := Ideal) x) (at3 _ a b 0 rfl rfl rfl)).trans (ctx_mean_at x a b))
theorem ctx_variance_at (a : Fin 4) (b : Fin 256) : val_main_v46 (F := Ideal) x (ix3 a b 0)
    = mean fun k => (x (ix2 ⟨8192 + (a.val * 256 + b.val), by omega⟩ k) - mean fun k => x (ix2 ⟨8192 + (a.val * 256 + b.val), by omega⟩ k)) * (x (ix2 ⟨8192 + (a.val * 256 + b.val), by omega⟩ k) - mean fun k => x (ix2 ⟨8192 + (a.val * 256 + b.val), by omega⟩ k)) := by
  rw [val_main_v46_apply, val_main_v44_apply, val_main_v43_apply, val_main_cst_7_apply, val_main_v45_apply, val_main_cst_8_apply, Ideal.hostDivf_def,
    Ideal.ofBits_def, Ideal.ofBits_def, Ideal.ofBits_zero_f32, zero_add]
  refine congrArg (Ideal.div · _) (Finset.sum_congr rfl fun k _ => (val_main_v42_apply (F := Ideal) x _).trans ?_)
  have e := (congrArg (val_main_v41 (F := Ideal) x) (at3 (idx_main_v43 (idx_main_v44 (ix3 a b 0)) k) a b k rfl rfl rfl)).trans (ctx_centred_at x a b k)
  exact congrArg₂ (fun u v : EReal => u * v) e e
theorem ctx_normed_at (a : Fin 4) (b : Fin 256) (k : Fin 2048) : val_main_v51 (F := Ideal) x (ix3 a b k)
    = (x (ix2 ⟨8192 + (a.val * 256 + b.val), by omega⟩ k) - mean fun k => x (ix2 ⟨8192 + (a.val * 256 + b.val), by omega⟩ k))
      * Ideal.rsqrt ((mean fun k => (x (ix2 ⟨8192 + (a.val * 256 + b.val), by omega⟩ k) - mean fun k => x (ix2 ⟨8192 + (a.val * 256 + b.val), by omega⟩ k)) * (x (ix2 ⟨8192 + (a.val * 256 + b.val), by omega⟩ k) - mean fun k => x (ix2 ⟨8192 + (a.val * 256 + b.val), by omega⟩ k))) + Ideal.ofBits .f32 0x358637BD#32) := by
  rw [val_main_v51_apply, ctx_centred_at, val_main_v50_apply, at3 (idx_main_v50 (ix3 a b k)) a b 0 rfl rfl rfl, val_main_v49_apply, val_main_v48_apply,
    val_main_v47_apply, val_main_cst_9_apply, ctx_variance_at]
  rfl

/-- The sequences' tokens after the norm and the modulation, -/
theorem hid_at (a : Fin 4) (b k : Fin 2048) : val_main_v35 (F := Ideal) x md (ix3 a b k) = hid x md ⟨a.val * 2048 + b.val, by omega⟩ k := by
  have e : modOf ⟨a.val * 2048 + b.val, by omega⟩ = ⟨a.val, by omega⟩ := Fin.ext (show min ((a.val * 2048 + b.val) / 2048) 4 = a.val by omega)
  unfold hid
  rw [e]
  rw [val_main_v35_apply, val_main_v33_apply, normed_at, val_main_v32_apply, at3 (idx_main_v32 (ix3 a b k)) a 0 k rfl rfl rfl, val_main_v31_apply, val_main_v30_apply,
    val_main_cst_4_apply, scale_at, val_main_v34_apply, at3 (idx_main_v34 (ix3 a b k)) a 0 k rfl rfl rfl, shift_at]
  rfl
/-- and the context's. -/
theorem ctx_hid_at (a : Fin 4) (b : Fin 256) (k : Fin 2048) : val_main_v59 (F := Ideal) x md (ix3 a b k) = hid x md ⟨8192 + (a.val * 256 + b.val), by omega⟩ k := by
  have e : modOf ⟨8192 + (a.val * 256 + b.val), by omega⟩ = 4 := Fin.ext (show min ((8192 + (a.val * 256 + b.val)) / 2048) 4 = 4 by omega)
  have at1 : ∀ i : S2048.Idx, (i 0).val = k.val → i = ix1 k := fun i h => funext fun z => Fin.ext (by match z with | ⟨0, _⟩ => exact h)
  unfold hid
  rw [e]
  rw [val_main_v59_apply, val_main_v56_apply, ctx_normed_at, val_main_v55_apply, val_main_v54_apply, val_main_v53_apply, val_main_v52_apply,
    val_main_cst_10_apply, at1 (idx_main_v54 (idx_main_v55 (ix3 a b k))) rfl, ctx_scale_at, val_main_v58_apply, val_main_v57_apply, at1 (idx_main_v57 (idx_main_v58 (ix3 a b k))) rfl, ctx_shift_at]
  rfl

/-! ## The products, one after the other -/

theorem at2 {n0 n1 : ℕ} (i : (⟨2, ![n0, n1]⟩ : Shape).Idx) (a : Fin n0) (b : Fin n1) (h0 : (i 0).val = a.val) (h1 : (i 1).val = b.val) : i = ix2 a b :=
  (eq_ix2 i).trans (congrArg₂ ix2 (Fin.ext h0) (Fin.ext h1))

theorem all_at (r : Fin 9216) (c : Fin 6176) : val_main_v64 (F := Ideal) x md w (ix2 r c) = proj x md w r c := by
  unfold val_main_v64
  by_cases h : r.val < 8192
  · refine (concatenate_pair_apply_left (α := EReal) (t := S9216x6176) 0 _ _ concatenates_S8192x6176_S1024x6176_S9216x6176_d0 (ix2 r c) rfl (ix2 (⟨r.val, h⟩ : Fin 8192) c) (fun z => by
      match z with
      | ⟨0, _⟩ => rfl
      | ⟨1, _⟩ => rfl)).trans ?_
    rw [val_main_v61_apply, val_main_v60_apply]
    refine Finset.sum_congr rfl fun k _ => congrArg₂ (fun u v : EReal => u * v) ?_ (congrArg w (at2 _ _ _ rfl ?_))
    · refine (congrArg (val_main_v35 (F := Ideal) x md) (at3 _ ⟨r.val / 2048, by omega⟩ ⟨r.val % 2048, by omega⟩ k ?_ ?_ rfl)).trans ((hid_at x md _ _ k).trans ?_)
      · show (r.val * 6176 + c.val) / 12648448 = r.val / 2048; omega
      · show (r.val * 6176 + c.val) / 6176 % 2048 = r.val % 2048; omega
      · exact congrArg (hid x md · k) (Fin.ext (show r.val / 2048 * 2048 + r.val % 2048 = r.val by omega))
    · show (r.val * 6176 + c.val) % 6176 = c.val; omega
  · refine (concatenate_pair_apply_right (α := EReal) (t := S9216x6176) 0 _ _ concatenates_S8192x6176_S1024x6176_S9216x6176_d0 (ix2 r c) rfl rfl (ix2 (⟨r.val - 8192, by omega⟩ : Fin 1024) c) (fun z hz => by
      match z, hz with
      | ⟨0, _⟩, hz => exact absurd rfl hz
      | ⟨1, _⟩, _ => rfl) (show r.val - 8192 + 8192 = r.val by omega)).trans ?_
    rw [val_main_v63_apply, val_main_v62_apply]
    refine Finset.sum_congr rfl fun k _ => congrArg₂ (fun u v : EReal => u * v) ?_ (congrArg w (at2 _ _ _ rfl ?_))
    · refine (congrArg (val_main_v59 (F := Ideal) x md) (at3 _ ⟨(r.val - 8192) / 256, by omega⟩ ⟨(r.val - 8192) % 256, by omega⟩ k ?_ ?_ rfl)).trans ((ctx_hid_at x md _ _ k).trans ?_)
      · show ((r.val - 8192) * 6176 + c.val) / 1581056 = (r.val - 8192) / 256; omega
      · show ((r.val - 8192) * 6176 + c.val) / 6176 % 256 = (r.val - 8192) % 256; omega
      · exact congrArg (hid x md · k) (Fin.ext (show 8192 + ((r.val - 8192) / 256 * 256 + (r.val - 8192) % 256) = r.val by omega))
    · show ((r.val - 8192) * 6176 + c.val) % 6176 = c.val; omega

/-- The two results: the first 6144 columns, and the other 32. -/
theorem first_at (i : S9216x6144.Idx) : val_main_v66 (F := Ideal) x md w i = proj x md w (i 0 : Fin 9216) ⟨(i 1).val, by have h : (i 1).val < 6144 := (i 1).isLt; omega⟩ := by
  rw [val_main_v66_apply, val_main_v65_apply, Ideal.truncf_def]
  exact (congrArg (val_main_v64 (F := Ideal) x md w) (at2 _ _ _ rfl rfl)).trans (all_at x md w _ _)
theorem rest_at (i : S9216x32.Idx) : val_main_v67 (F := Ideal) x md w i = proj x md w (i 0 : Fin 9216) ⟨6144 + (i 1).val, by have h : (i 1).val < 32 := (i 1).isLt; omega⟩ := by
  rw [val_main_v67_apply]
  exact (congrArg (val_main_v64 (F := Ideal) x md w) (at2 _ _ _ rfl rfl)).trans (all_at x md w _ _)

end Cert.Proof.IpRef

end
-- ==== Proof.IpFinal.lean ====
/- The input projection and its reference leave the same two arrays. -/
module

public import proofs.«01_k».proof.Proof.IpValue
public import proofs.«01_k».proof.Proof.IpSame
public import proofs.«01_k».proof.Proof.IpRef
public import proofs.«01_k».proof.Defs
public import proofs.«01_k».proof.Proof.Gen.IpRefIdeal.Run
public import Idealize.ShloMosaic.Lib.Quiescent

@[expose] public section

set_option maxRecDepth 16384

noncomputable section

namespace Cert.Proof.IpFinal

open Idealize.ShloMosaic Idealize.ShloMosaic.TcCoe Idealize.SL.Sem
open Cert.Proof.Ip

theorem algebraic : @Cert.algebraic_IpIdeal_IpRefIdeal Cert.IpIdeal.Gen.facts Cert.IpRefIdeal.Gen.facts := by
  intro m g m' g' _ hagree
  refine ⟨fun c => first m c, fun c => rest m c, ?_, ?_⟩
  · refine (θ_run Cert.IpIdeal.defs _ _).mono (fun r hr c => ?_) (frame_results m g)
    obtain ⟨⟨h0, h1⟩, h⟩ := hr.1 c
    exact ⟨h0.trans (first_eq m c), h1.trans (rest_eq m c), h⟩
  · refine (θ_run Cert.IpRefIdeal.defs _ _).mono (fun r hr c => ?_) (Cert.IpRefIdeal.Value.run m' g')
    obtain ⟨h0, h1, h⟩ := hr c
    obtain ⟨a0, a1, a2⟩ := hagree c
    refine ⟨h0.trans ?_, h1.trans ?_, h⟩
    · rw [Cert.IpRefIdeal.Read.val_main_v66_eq, a0, a1, a2]
      exact funext fun i => Cert.Proof.IpRef.first_at _ _ _ i
    · rw [Cert.IpRefIdeal.Read.val_main_v67_eq, a0, a1, a2]
      exact funext fun i => Cert.Proof.IpRef.rest_at _ _ _ i

theorem frame_ideal : @Cert.quiescent_IpIdeal Cert.IpIdeal.Gen.facts := fun m g _ =>
  (θ_run Cert.IpIdeal.defs _ _).mono (fun _ (h : _ ∧ _) => ⟨fun c => (h.1 c).2, h.2⟩) (frame_results m g)

theorem frame : @Cert.quiescent_Ip Cert.Ip.Gen.facts := fun m g _ => frame_bits m g

/-- The reference's frame: its run read at the arguments; it declares no semaphore. -/
theorem frame_ref : @Cert.quiescent_IpRefIdeal Cert.IpRefIdeal.Gen.facts := fun m g _ =>
  (θ_run Cert.IpRefIdeal.defs _ _).mono (fun r h => ⟨fun c => (h c).2.2, sem_eq_zero_of_no_sems (by decide) r.2⟩) (Cert.IpRefIdeal.Value.run m g)

end Cert.Proof.IpFinal
end
-- ==== Proof.OpMath.lean ====
/- The output projection as mathematics: a token's three mixer rows, two of them normalized, laid side by side and taken through
   the weight, added by a gate to the token's own row, and the sum normalized. -/
module

public import proofs.«01_k».proof.Proof.IpMath

@[expose] public section

noncomputable section

namespace Cert.Proof.OpMath

open Idealize.ShloMosaic Cert.Proof.IpMath

/-- A row over the root of the mean of its squares, times a weight, at a place; `count` is the row's length as a number's bits. -/
def scaled {n : ℕ} (count : BitVec 32) (f : Fin n → EReal) (w : EReal) (d : Fin n) : EReal :=
  f d * Ideal.rsqrt (Ideal.div (∑ k, f k * f k) (Ideal.ofBits .f32 count) + Ideal.ofBits .f32 0x358637BD#32) * w

/-- The three mixer rows side by side: the first two normalized and weighted, the third as it is. -/
def joined (a wa : Fin 512 → EReal) (b wb e : Fin 768 → EReal) (k : Fin 2048) : EReal :=
  if h : k.val < 512 then scaled 0x44000000#32 a (wa ⟨k.val, h⟩) ⟨k.val, h⟩
  else if h' : k.val < 1280 then scaled 0x44400000#32 b (wb ⟨k.val - 512, by omega⟩) ⟨k.val - 512, by omega⟩
  else e ⟨k.val - 1280, by omega⟩

/-- A token's row and its gated projection, added. -/
def mixed (p : Fin 2048 → EReal) (w : Fin 2048 → Fin 2048 → EReal) (x g : Fin 2048 → EReal) (j : Fin 2048) : EReal :=
  Ideal.ofBits .f32 0x3FB504F3#32 * x j + g j * ∑ k, p k * w k j

/-- A row minus its mean, over the root of its variance, weighted and shifted, at a place. -/
def normed (f : Fin 2048 → EReal) (lg lb : EReal) (d : Fin 2048) : EReal :=
  (f d - mean f) * Ideal.rsqrt (mean (fun k => (f k - mean f) * (f k - mean f)) + Ideal.ofBits .f32 0x358637BD#32) * lg + lb

/-- The projection of the joined rows is the sum of the three rows' own projections, each through its part of the weight. -/
theorem joined_sum (a wa : Fin 512 → EReal) (b wb e : Fin 768 → EReal) (w : Fin 2048 → EReal) :
    ∑ k, joined a wa b wb e k * w k = (∑ k : Fin 512, scaled 0x44000000#32 a (wa k) k * w ⟨k.val, by omega⟩)
      + (∑ k : Fin 768, scaled 0x44400000#32 b (wb k) k * w ⟨512 + k.val, by omega⟩) + ∑ k : Fin 768, e k * w ⟨1280 + k.val, by omega⟩ := by
  refine (Fin.sum_univ_add (a := 1280) (b := 768) fun k => joined a wa b wb e k * w k).trans (congrArg₂ (fun u v : EReal => u + v) ?_ ?_)
  · refine (Fin.sum_univ_add (a := 512) (b := 768) fun k => joined a wa b wb e (Fin.castAdd 768 k) * w (Fin.castAdd 768 k)).trans (congrArg₂ (fun u v : EReal => u + v) ?_ ?_)
    · refine Finset.sum_congr rfl fun k _ => congrArg (fun u : EReal => u * _) ?_
      exact dif_pos k.isLt
    · refine Finset.sum_congr rfl fun k _ => congrArg (fun u : EReal => u * _) ?_
      refine (dif_neg (show ¬ 512 + k.val < 512 by omega)).trans ((dif_pos (show 512 + k.val < 1280 by omega)).trans ?_)
      have h : (⟨512 + k.val - 512, by omega⟩ : Fin 768) = k := Fin.ext (show 512 + k.val - 512 = k.val by omega)
      exact congrArg (fun z => scaled 0x44400000#32 b (wb z) z) h
  · refine Finset.sum_congr rfl fun k _ => congrArg (fun u : EReal => u * _) ?_
    refine (dif_neg (show ¬ 1280 + k.val < 512 by omega)).trans ((dif_neg (show ¬ 1280 + k.val < 1280 by omega)).trans ?_)
    exact congrArg e (Fin.ext (show 1280 + k.val - 1280 = k.val by omega))

/-! ## The arrays -/

/-- The mixers' arrays, the sequences' and the context's, the norms' weights and the weight of the projection. -/
abbrev Rows (n k : ℕ) := (⟨2, ![n, k]⟩ : Shape).Idx → EReal
abbrev Line (k : ℕ) := (⟨1, ![k]⟩ : Shape).Idx → EReal

/-- A token's row of a mixer: the sequences' tokens lie in one array and the context's in another. -/
def pick {k : ℕ} (l : Rows 8192 k) (cx : Rows 1024 k) (r : Fin 9216) (j : Fin k) : EReal :=
  if h : r.val < 8192 then l (ix2 ⟨r.val, h⟩ j) else cx (ix2 ⟨r.val - 8192, by omega⟩ j)

/-- A token's row and its gated projection, before the last norm, -/
def row (ya : Rows 8192 512) (yb yc : Rows 8192 768) (yac : Rows 1024 512) (ybc ycc : Rows 1024 768) (x : Tokens) (md : Mods)
    (wa : Line 512) (wb : Line 768) (w : Rows 2048 2048) (r : Fin 9216) : Fin 2048 → EReal :=
  mixed (joined (pick ya yac r) (fun k => wa (ix1 k)) (pick yb ybc r) (fun k => wb (ix1 k)) (pick yc ycc r)) (fun k j => w (ix2 k j))
    (fun j => x (ix2 r j)) (fun j => md (ix3 (modOf r) 2 j))

/-- and after it: the token's row of the result. -/
def out (ya : Rows 8192 512) (yb yc : Rows 8192 768) (yac : Rows 1024 512) (ybc ycc : Rows 1024 768) (x : Tokens) (md : Mods)
    (wa : Line 512) (wb : Line 768) (w : Rows 2048 2048) (lg lb : Line 2048) (r : Fin 9216) (d : Fin 2048) : EReal :=
  normed (row ya yb yc yac ybc ycc x md wa wb w r) (lg (ix1 d)) (lb (ix1 d)) d

end Cert.Proof.OpMath

end
-- ==== Proof.OpValue.lean ====
/- The output projection's array, place by place. -/
module

public import proofs.«01_k».proof.Proof.Gen.OpIdeal
public import proofs.«01_k».proof.Proof.Gen.OpIdeal.Value
public import proofs.«01_k».proof.Proof.OpMath
public import Idealize.ShloMosaic.Lib.Pointwise
public import Idealize.ShloMosaic.Lib.MatmulPlain
public import Idealize.ShloMosaic.Lib.Pipeline.ValueKit

@[expose] public section

set_option maxRecDepth 16384

noncomputable section

namespace Cert.Proof.Op

open Cert.OpIdeal Cert.OpIdeal.Gen
open Idealize.ShloMosaic Idealize.ShloMosaic.TcCoe Idealize.ShloMosaic.Tactic
open Idealize.SL.Sem
open Cert.Proof.IpMath Cert.Proof.OpMath

/-! ## The body's steps at a place -/

/-- The first mixer's rows: those of the context from the 33rd row tile on. -/
theorem pay2_at (i : grid0.Coords) (u v : Vec Ideal S256x512 .f32) (w : Vec Ideal S1x512 .f32) (x : Fin 256) (d : Fin 512) :
    k0_pay2 (F := Ideal) i u v w (ix2 x d)
      = scaled 0x44000000#32 (fun k => (Scalar.select (Scalar.cmpi .sge (BitVec.ofNat 32 (i 0).val) 32#32) u v : Vec Ideal S256x512 .f32) (ix2 x k)) (w (ix2 0 d)) d := by
  unfold k0_pay2
  generalize (Scalar.select (Scalar.cmpi .sge (BitVec.ofNat 32 (i 0).val) 32#32) u v : Vec Ideal S256x512 .f32) = q
  unfold scaled
  pointwise []
theorem pay3_at (i : grid0.Coords) (u v : Vec Ideal S256x768 .f32) (w : Vec Ideal S1x768 .f32) (x : Fin 256) (d : Fin 768) :
    k0_pay3 (F := Ideal) i u v w (ix2 x d)
      = scaled 0x44400000#32 (fun k => (Scalar.select (Scalar.cmpi .sge (BitVec.ofNat 32 (i 0).val) 32#32) u v : Vec Ideal S256x768 .f32) (ix2 x k)) (w (ix2 0 d)) d := by
  unfold k0_pay3
  generalize (Scalar.select (Scalar.cmpi .sge (BitVec.ofNat 32 (i 0).val) 32#32) u v : Vec Ideal S256x768 .f32) = q
  unfold scaled
  pointwise []

theorem zeros_at (s : Shape) (j : s.Idx) : constant (F := Ideal) s .f32 0x00000000#32 j = (0 : EReal) := by pointwise []

/-- A product added to zeros, at a place. -/
theorem product_at {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant (F := Ideal) ⟨2, ![M, N]⟩ .f32 0x00000000#32) (ix2 r c)
      = ∑ k : Fin K, (lhs (ix2 r k) : EReal) * rhs (ix2 k c) := by
  refine (Ideal.matmul_plain_apply none lhs rhs _ r c).trans ?_
  refine (congrArg (fun z : EReal => z + _) (zeros_at _ _)).trans (zero_add _)

/-- The three products, added. -/
def products (p : FVec Ideal S256x512 .bf16) (q : FVec Ideal S256x768 .bf16) (s : Vec Ideal S256x768 .f32)
    (w0 : Vec Ideal S512x2048 .bf16) (w1 w2 : Vec Ideal S768x2048 .bf16) (x : Fin 256) (j : Fin 2048) : EReal :=
  (∑ k : Fin 512, (p (ix2 x k) : EReal) * w0 (ix2 k j)) + (∑ k : Fin 768, (q (ix2 x k) : EReal) * w1 (ix2 k j)) + ∑ k : Fin 768, (s (ix2 x k) : EReal) * w2 (ix2 k j)

theorem pay4_at (i : BitVec 32) (p : FVec Ideal S256x512 .bf16) (q : FVec Ideal S256x768 .bf16) (u v : Vec Ideal S256x768 .f32)
    (w0 : Vec Ideal S512x2048 .bf16) (w1 w2 : Vec Ideal S768x2048 .bf16) (t : Vec Ideal S256x2048 .f32) (g : Vec Ideal S1x1x2048 .f32) (x : Fin 256) (d : Fin 2048)
    (f : Fin 2048 → EReal) (hf : ∀ j, f j = Ideal.ofBits .f32 0x3FB504F3#32 * t (ix2 x j)
      + g (ix3 0 0 j) * products p q (Scalar.select (Scalar.cmpi .sge i 32#32) u v) w0 w1 w2 x j) :
    k0_pay4 (F := Ideal) i p q 32#32 u v w0 w1 w2 t g (ix2 x d) = f d - mean f := by
  have hY : ∀ j, addf (addf (matmul dot_S256x512_S512x2048_S256x2048_1_0_0_1_n_n none p w0 (constant (F := Ideal) S256x2048 .f32 0x00000000#32))
        (matmul dot_S256x768_S768x2048_S256x2048_1_0_0_1_n_n none q w1 (constant (F := Ideal) S256x2048 .f32 0x00000000#32)))
        (matmul dot_S256x768_S768x2048_S256x2048_1_0_0_1_n_n none
          (truncf .bf16 (Scalar.select (Scalar.cmpi .sge i 32#32) u v : Vec Ideal S256x768 .f32) bitsLt_bf16_f32 : FVec Ideal S256x768 .bf16) w2 (constant (F := Ideal) S256x2048 .f32 0x00000000#32)) (ix2 x j)
      = products p q (Scalar.select (Scalar.cmpi .sge i 32#32) u v) w0 w1 w2 x j := fun j =>
    congrArg₂ (fun u v : EReal => u + v) (congrArg₂ (fun u v : EReal => u + v) (product_at (φ₁ := .bf16) (φ₂ := .bf16) p w0 x j) (product_at (φ₁ := .bf16) (φ₂ := .bf16) q w1 x j))
      (product_at (φ₁ := .bf16) (φ₂ := .bf16) (Scalar.select (Scalar.cmpi .sge i 32#32) u v) w2 x j)
  simp only [← hY] at hf
  unfold k0_pay4
  simp only [shapeCast_self]
  revert hf
  generalize addf (addf (matmul dot_S256x512_S512x2048_S256x2048_1_0_0_1_n_n none p w0 (constant (F := Ideal) S256x2048 .f32 0x00000000#32)) _) _ = Y
  intro hf
  obtain rfl : f = fun j => Ideal.ofBits .f32 0x3FB504F3#32 * t (ix2 x j) + g (ix3 0 0 j) * Y (ix2 x j) := funext hf
  unfold mean
  pointwise []

/-- A row tile's row, normed, weighted and shifted. -/
theorem pay1_at (i : BitVec 32) (p : FVec Ideal S256x512 .bf16) (q : FVec Ideal S256x768 .bf16) (u v : Vec Ideal S256x768 .f32)
    (w0 : Vec Ideal S512x2048 .bf16) (w1 w2 : Vec Ideal S768x2048 .bf16) (t : Vec Ideal S256x2048 .f32) (g : Vec Ideal S1x1x2048 .f32) (lg lb : Vec Ideal S1x2048 .f32)
    (x : Fin 256) (d : Fin 2048) (f : Fin 2048 → EReal) (hf : ∀ j, f j = Ideal.ofBits .f32 0x3FB504F3#32 * t (ix2 x j)
      + g (ix3 0 0 j) * products p q (Scalar.select (Scalar.cmpi .sge i 32#32) u v) w0 w1 w2 x j) :
    k0_pay1 (F := Ideal) (k0_pay4 i p q 32#32 u v w0 w1 w2 t g) (k0_pay5 i p q 32#32 u v w0 w1 w2 t g) k0_pay6 lg lb (ix2 x d)
      = normed f (lg (ix2 0 d)) (lb (ix2 0 d)) d := by
  have h := fun k => pay4_at i p q u v w0 w1 w2 t g x k f hf
  unfold k0_pay5
  revert h
  generalize k0_pay4 (F := Ideal) i p q 32#32 u v w0 w1 w2 t g = Z
  intro h
  unfold normed
  simp only [← h]
  unfold mean
  pointwise [k0_pay1, k0_pay6]

variable (m : (ℓ : Loc nD τ sig) → Buf (Elt Ideal) ℓ)

/-! ## The blocks that a grid point reads -/

theorem lt_N (t : Fin grid0.N) : t.val < 36 := t.isLt

theorem idx : ∀ t : Fin grid0.N, win0_0.index t = ![min t.val 31, 0] ∧ win0_1.index t = ![min t.val 31, 0] ∧ win0_2.index t = ![min t.val 31, 0]
    ∧ win0_3.index t = ![t.val - 32, 0] ∧ win0_4.index t = ![t.val - 32, 0] ∧ win0_5.index t = ![t.val - 32, 0]
    ∧ win0_6.index t = ![t.val, 0] ∧ win0_7.index t = ![min (t.val / 8) 4, 0, 0] ∧ win0_8.index t = ![0, 0] ∧ win0_9.index t = ![0, 0]
    ∧ win0_10.index t = ![0, 0] ∧ win0_11.index t = ![0, 0] ∧ win0_12.index t = ![0, 0] ∧ win0_13.index t = ![t.val, 0] := by decide +kernel

theorem a_at (c : Dev nD) (t : Fin cfg0.N) (x : Fin 256) (k : Fin 512) :
    iblk m c 0 t (ix2 x k) = V m c main_arg0 (ix2 ⟨256 * min t.val 31 + x.val, by omega⟩ k) := by
  blk_ext [iblk, idx t]
theorem b_at (c : Dev nD) (t : Fin cfg0.N) (x : Fin 256) (k : Fin 768) :
    iblk m c 1 t (ix2 x k) = V m c main_arg1 (ix2 ⟨256 * min t.val 31 + x.val, by omega⟩ k) := by
  blk_ext [iblk, idx t]
theorem e_at (c : Dev nD) (t : Fin cfg0.N) (x : Fin 256) (k : Fin 768) :
    iblk m c 2 t (ix2 x k) = V m c main_arg2 (ix2 ⟨256 * min t.val 31 + x.val, by omega⟩ k) := by
  blk_ext [iblk, idx t]
theorem ctx_a_at (c : Dev nD) (t : Fin cfg0.N) (x : Fin 256) (k : Fin 512) :
    iblk m c 3 t (ix2 x k) = V m c main_arg3 (ix2 ⟨256 * (t.val - 32) + x.val, by have := lt_N t; omega⟩ k) := by
  blk_ext [iblk, idx t]
theorem ctx_b_at (c : Dev nD) (t : Fin cfg0.N) (x : Fin 256) (k : Fin 768) :
    iblk m c 4 t (ix2 x k) = V m c main_arg4 (ix2 ⟨256 * (t.val - 32) + x.val, by have := lt_N t; omega⟩ k) := by
  blk_ext [iblk, idx t]
theorem ctx_e_at (c : Dev nD) (t : Fin cfg0.N) (x : Fin 256) (k : Fin 768) :
    iblk m c 5 t (ix2 x k) = V m c main_arg5 (ix2 ⟨256 * (t.val - 32) + x.val, by have := lt_N t; omega⟩ k) := by
  blk_ext [iblk, idx t]
theorem x_at (c : Dev nD) (t : Fin cfg0.N) (x : Fin 256) (k : Fin 2048) :
    iblk m c 6 t (ix2 x k) = V m c main_arg6 (ix2 ⟨256 * t.val + x.val, by have := lt_N t; omega⟩ k) := by
  blk_ext [iblk, idx t]
theorem m_at (c : Dev nD) (t : Fin cfg0.N) (q : Fin 6) (k : Fin 2048) :
    iblk m c 7 t (ix3 0 q k) = V m c main_arg7 (ix3 ⟨min (t.val / 8) 4, by omega⟩ q k) := by
  blk_ext [iblk, idx t]
theorem wa_at (c : Dev nD) (t : Fin cfg0.N) (k : Fin 512) : iblk m c 8 t (ix2 0 k) = V m c main_v0 (ix2 0 k) := by
  blk_ext [iblk, idx t]
theorem wb_at (c : Dev nD) (t : Fin cfg0.N) (k : Fin 768) : iblk m c 9 t (ix2 0 k) = V m c main_v1 (ix2 0 k) := by
  blk_ext [iblk, idx t]
theorem w_at (c : Dev nD) (t : Fin cfg0.N) (x k : Fin 2048) : iblk m c 10 t (ix2 x k) = V m c main_v2 (ix2 x k) := by
  blk_ext [iblk, idx t]
theorem lg_at (c : Dev nD) (t : Fin cfg0.N) (k : Fin 2048) : iblk m c 11 t (ix2 0 k) = V m c main_v3 (ix2 0 k) := by
  blk_ext [iblk, idx t]
theorem lb_at (c : Dev nD) (t : Fin cfg0.N) (k : Fin 2048) : iblk m c 12 t (ix2 0 k) = V m c main_v4 (ix2 0 k) := by
  blk_ext [iblk, idx t]

/-! ## The arrays prepared before the call -/

theorem v0_at (c : Dev nD) (k : Fin 512) : V m c main_v0 (ix2 0 k) = m ((c.tc : Thread nD τ).loc main_arg8) (ix1 k) := by
  unfold V
  show shapeCast S1x512 (m (c, main_arg8)) shapeCasts_S512_S1x512 (ix2 0 k) = _
  pointwise []
theorem v1_at (c : Dev nD) (k : Fin 768) : V m c main_v1 (ix2 0 k) = m ((c.tc : Thread nD τ).loc main_arg9) (ix1 k) := by
  unfold V
  show shapeCast S1x768 (m (c, main_arg9)) shapeCasts_S768_S1x768 (ix2 0 k) = _
  pointwise []
theorem v2_at (c : Dev nD) (x k : Fin 2048) : V m c main_v2 (ix2 x k) = m ((c.tc : Thread nD τ).loc main_arg10) (ix2 x k) := by
  unfold V
  show truncf (F := Ideal) .bf16 (m (c, main_arg10)) bitsLt_bf16_f32 (ix2 x k) = _
  pointwise []
theorem v3_at (c : Dev nD) (k : Fin 2048) : V m c main_v3 (ix2 0 k) = m ((c.tc : Thread nD τ).loc main_arg11) (ix1 k) := by
  unfold V
  show shapeCast S1x2048 (m (c, main_arg11)) shapeCasts_S2048_S1x2048 (ix2 0 k) = _
  pointwise []
theorem v4_at (c : Dev nD) (k : Fin 2048) : V m c main_v4 (ix2 0 k) = m ((c.tc : Thread nD τ).loc main_arg12) (ix1 k) := by
  unfold V
  show shapeCast S1x2048 (m (c, main_arg12)) shapeCasts_S2048_S1x2048 (ix2 0 k) = _
  pointwise []

/-! ## The rows a tile picks -/

theorem side : ∀ t : Fin grid0.N, Scalar.cmpi .sge (BitVec.ofNat 32 (grid0.coords t 0).val) 32#32 = if 32 ≤ t.val then 1#1 else 0#1 := by decide +kernel

theorem pick_at {k : ℕ} (t : Fin grid0.N) (x : Fin 256) (j : Fin k) (u v : Vec Ideal ⟨2, ![256, k]⟩ .f32) (l : Rows 8192 k) (cx : Rows 1024 k)
    (hu : u (ix2 x j) = cx (ix2 ⟨256 * (t.val - 32) + x.val, by have := lt_N t; omega⟩ j)) (hv : v (ix2 x j) = l (ix2 ⟨256 * min t.val 31 + x.val, by omega⟩ j)) :
    (Scalar.select (Scalar.cmpi .sge (BitVec.ofNat 32 (grid0.coords t 0).val) 32#32) u v : Vec Ideal ⟨2, ![256, k]⟩ .f32) (ix2 x j)
      = pick l cx ⟨256 * t.val + x.val, by have := lt_N t; omega⟩ j := by
  rw [side t]
  unfold pick
  by_cases h : 32 ≤ t.val
  · rw [if_pos h, dif_neg (show ¬ 256 * t.val + x.val < 8192 by omega)]
    refine Eq.trans ?_ (hu.trans (congrArg (fun z => cx (ix2 z j)) (Fin.ext (show 256 * (t.val - 32) + x.val = 256 * t.val + x.val - 8192 by omega))))
    rfl
  · rw [if_neg h, dif_pos (show 256 * t.val + x.val < 8192 by omega)]
    refine Eq.trans ?_ (hv.trans (congrArg (fun z => l (ix2 z j)) (Fin.ext (show 256 * min t.val 31 + x.val = 256 * t.val + x.val by omega))))
    rfl

/-! ## The array -/

/-- A place of the result, from the arguments, -/
def outAt (c : Dev nD) : Fin 9216 → Fin 2048 → EReal :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))
/-- and the result. -/
def result (c : Dev nD) : Vec Ideal S9216x2048 .f32 := fun i => outAt m c (i 0 : Fin 9216) (i 1 : Fin 2048)

theorem off_zero : (![0, 0] : Fin 2 → ℕ) = fun _ => 0 := by decide

theorem gate_load (X : Vec Ideal S1x6x2048 .f32) (j : Fin 2048) : View.ld X r0_8 (ix3 0 0 j) = X (ix3 0 2 j) :=
  View.ld_unit_apply_of _ _ _ _ _ _ fun a => match a with
    | ⟨0, _⟩ => rfl
    | ⟨1, _⟩ => rfl
    | ⟨2, _⟩ => (Nat.zero_add _).symm
theorem w0_load (X : Vec Ideal S2048x2048 .bf16) (k : Fin 512) (j : Fin 2048) : View.ld X r0_4 (ix2 k j) = X (ix2 ⟨k.val, by omega⟩ j) :=
  View.ld_unit_apply_of _ _ _ _ _ _ fun a => match a with
    | ⟨0, _⟩ => (Nat.zero_add _).symm
    | ⟨1, _⟩ => (Nat.zero_add _).symm
theorem w1_load (X : Vec Ideal S2048x2048 .bf16) (k : Fin 768) (j : Fin 2048) : View.ld X r0_5 (ix2 k j) = X (ix2 ⟨512 + k.val, by omega⟩ j) :=
  View.ld_unit_apply_of _ _ _ _ _ _ fun a => match a with
    | ⟨0, _⟩ => rfl
    | ⟨1, _⟩ => (Nat.zero_add _).symm
theorem w2_load (X : Vec Ideal S2048x2048 .bf16) (k : Fin 768) (j : Fin 2048) : View.ld X r0_6 (ix2 k j) = X (ix2 ⟨1280 + k.val, by omega⟩ j) :=
  View.ld_unit_apply_of _ _ _ _ _ _ fun a => match a with
    | ⟨0, _⟩ => rfl
    | ⟨1, _⟩ => (Nat.zero_add _).symm

/-- The first mixer's rows of a tile, normalized, and the second's. -/
theorem first_at (c : Dev nD) (t : Fin cfg0.N) (x : Fin 256) (k : Fin 512) :
    k0_pay2 (F := Ideal) (grid0.coords t) (iblk m c 3 t) (iblk m c 0 t) (iblk m c 8 t) (ix2 x k)
      = scaled 0x44000000#32 (pick (m ((c.tc : Thread nD τ).loc main_arg0)) (m ((c.tc : Thread nD τ).loc main_arg3)) ⟨256 * t.val + x.val, by have := lt_N t; omega⟩)
        (m ((c.tc : Thread nD τ).loc main_arg8) (ix1 k)) k := by
  refine (pay2_at _ _ _ _ x k).trans ?_
  rw [wa_at, v0_at]
  refine congrArg (fun f => scaled _ f _ k) (funext fun k => pick_at t x k (iblk m c 3 t) (iblk m c 0 t) _ _ ?_ ?_)
  · rw [ctx_a_at, V_main_arg3]
  · rw [a_at, V_main_arg0]
theorem second_at (c : Dev nD) (t : Fin cfg0.N) (x : Fin 256) (k : Fin 768) :
    k0_pay3 (F := Ideal) (grid0.coords t) (iblk m c 4 t) (iblk m c 1 t) (iblk m c 9 t) (ix2 x k)
      = scaled 0x44400000#32 (pick (m ((c.tc : Thread nD τ).loc main_arg1)) (m ((c.tc : Thread nD τ).loc main_arg4)) ⟨256 * t.val + x.val, by have := lt_N t; omega⟩)
        (m ((c.tc : Thread nD τ).loc main_arg9) (ix1 k)) k := by
  refine (pay3_at _ _ _ _ x k).trans ?_
  rw [wb_at, v1_at]
  refine congrArg (fun f => scaled _ f _ k) (funext fun k => pick_at t x k (iblk m c 4 t) (iblk m c 1 t) _ _ ?_ ?_)
  · rw [ctx_b_at, V_main_arg4]
  · rw [b_at, V_main_arg1]

theorem weight_at (c : Dev nD) (t : Fin cfg0.N) (k j : Fin 2048) : iblk m c 10 t (ix2 k j) = m ((c.tc : Thread nD τ).loc main_arg10) (ix2 k j) :=
  (w_at m c t k j).trans (v2_at m c k j)

theorem products_at (c : Dev nD) (t : Fin cfg0.N) (x : Fin 256) (j : Fin 2048) :
    products (k0_pay2 (F := Ideal) (grid0.coords t) (iblk m c 3 t) (iblk m c 0 t) (iblk m c 8 t)) (k0_pay3 (F := Ideal) (grid0.coords t) (iblk m c 4 t) (iblk m c 1 t) (iblk m c 9 t))
        (Scalar.select (Scalar.cmpi .sge (BitVec.ofNat 32 (grid0.coords t 0).val) 32#32) (iblk m c 5 t) (iblk m c 2 t) : Vec Ideal S256x768 .f32)
        (View.ld (iblk m c 10 t) r0_4) (View.ld (iblk m c 10 t) r0_5) (View.ld (iblk m c 10 t) r0_6) x j
      = (∑ k : Fin 512, scaled 0x44000000#32 (pick (m ((c.tc : Thread nD τ).loc main_arg0)) (m ((c.tc : Thread nD τ).loc main_arg3)) ⟨256 * t.val + x.val, by have := lt_N t; omega⟩)
            (m ((c.tc : Thread nD τ).loc main_arg8) (ix1 k)) k * m ((c.tc : Thread nD τ).loc main_arg10) (ix2 ⟨k.val, by omega⟩ j))
        + (∑ k : Fin 768, scaled 0x44400000#32 (pick (m ((c.tc : Thread nD τ).loc main_arg1)) (m ((c.tc : Thread nD τ).loc main_arg4)) ⟨256 * t.val + x.val, by have := lt_N t; omega⟩)
            (m ((c.tc : Thread nD τ).loc main_arg9) (ix1 k)) k * m ((c.tc : Thread nD τ).loc main_arg10) (ix2 ⟨512 + k.val, by omega⟩ j))
        + ∑ k : Fin 768, pick (m ((c.tc : Thread nD τ).loc main_arg2)) (m ((c.tc : Thread nD τ).loc main_arg5)) ⟨256 * t.val + x.val, by have := lt_N t; omega⟩ k
            * m ((c.tc : Thread nD τ).loc main_arg10) (ix2 ⟨1280 + k.val, by omega⟩ j) := by
  unfold products
  refine congrArg₂ (fun u v : EReal => u + v) (congrArg₂ (fun u v : EReal => u + v)
    (Finset.sum_congr rfl fun k _ => congrArg₂ (fun u v : EReal => u * v) (first_at m c t x k) ((w0_load _ k j).trans (weight_at m c t _ j)))
    (Finset.sum_congr rfl fun k _ => congrArg₂ (fun u v : EReal => u * v) (second_at m c t x k) ((w1_load _ k j).trans (weight_at m c t _ j))))
    (Finset.sum_congr rfl fun k _ => congrArg₂ (fun u v : EReal => u * v) (pick_at t x k (iblk m c 5 t) (iblk m c 2 t) _ _ ?_ ?_) ((w2_load _ k j).trans (weight_at m c t _ j)))
  · rw [ctx_e_at, V_main_arg5]
  · rw [e_at, V_main_arg2]

theorem tile_at (c : Dev nD) (t : Fin cfg0.N) (x : Fin 256) (d : Fin 2048) :
    out0_13 (F := Ideal) (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 x d)
      = outAt m c ⟨256 * t.val + x.val, by have := lt_N t; omega⟩ d := by
  have l0 : ∀ X : Vec Ideal S256x512 .f32, View.ld X r0_0 = X := fun X => View.ld_unit_zero off_zero _ X
  have l1 : ∀ X : Vec Ideal S1x512 .f32, View.ld X r0_1 = X := fun X => View.ld_unit_zero off_zero _ X
  have l2 : ∀ X : Vec Ideal S256x768 .f32, View.ld X r0_2 = X := fun X => View.ld_unit_zero off_zero _ X
  have l3 : ∀ X : Vec Ideal S1x768 .f32, View.ld X r0_3 = X := fun X => View.ld_unit_zero off_zero _ X
  have l7 : ∀ X : Vec Ideal S256x2048 .f32, View.ld X r0_7 = X := fun X => View.ld_unit_zero off_zero _ X
  have l9 : ∀ X : Vec Ideal S1x2048 .f32, View.ld X r0_9 = X := fun X => View.ld_unit_zero off_zero _ X
  unfold_out out0_13
  rw [View.canon_unit_zero off_zero, l0, l0, l1, l2, l2, l2, l2, l3, l7, l9, l9]
  refine (pay1_at _ _ _ _ _ _ _ _ _ _ _ _ x d _ fun j => rfl).trans ?_
  have e : modOf ⟨256 * t.val + x.val, by have := lt_N t; omega⟩ = ⟨min (t.val / 8) 4, by omega⟩ :=
    Fin.ext (show min ((256 * t.val + x.val) / 2048) 4 = min (t.val / 8) 4 by omega)
  unfold outAt out row
  rw [lg_at, lb_at, v3_at, v4_at]
  refine congrArg (fun f => normed f _ _ d) (funext fun j => ?_)
  unfold mixed
  rw [joined_sum, x_at, V_main_arg6, e]
  refine congrArg (fun z : EReal => _ + z) (congrArg₂ (fun u v : EReal => u * v) ?_ ?_)
  · rw [gate_load, m_at, V_main_arg7]
  · exact products_at m c t x j

theorem arr_eq (c : Dev nD) : (dats m 0 c).arrAt 13 cfg0.N = result m c := by
  refine (dats m 0 c).arrAt_eq_of_covers 13 _ (by decide +kernel) fun t hf y => ?_
  have e0 : ((((cfg0.win 13).blk t).view.emb y) (0 : Fin 2)).val = 256 * t.val + (y (0 : Fin 2)).val := by
    blk_simp [idx t]
    try omega
  have e1 : ((((cfg0.win 13).blk t).view.emb y) (1 : Fin 2)).val = (y (1 : Fin 2)).val := by
    blk_simp [idx t]
  blk_simp
  rw [after0_13]
  refine (congrArg _ (eq_ix2 (n0 := 256) (n1 := 2048) y)).trans ((tile_at m c t (y (0 : Fin 2) : Fin 256) (y (1 : Fin 2) : Fin 2048)).trans ?_)
  exact congrArg₂ (outAt m c) (Fin.ext e0.symm) (Fin.ext e1.symm)

end Cert.Proof.Op
end
-- ==== Proof.OpRef.lean ====
/- The reference's array, place by place: the tokens of the four sequences and those of the context are projected, gated and
   normalized apart and laid one after the other. -/
module

public import proofs.«01_k».proof.Proof.Gen.OpRefIdeal
public import proofs.«01_k».proof.Proof.Gen.OpRefIdeal.Read
public import proofs.«01_k».proof.Proof.OpMath

@[expose] public section

set_option maxRecDepth 16384

noncomputable section

namespace Cert.Proof.OpRef

open Cert.OpRefIdeal Cert.OpRefIdeal.Gen Cert.OpRefIdeal.Read Idealize.ShloMosaic Idealize.ShloMosaic.TcCoe Idealize.SL.Sem
open Cert.Proof.IpMath Cert.Proof.OpMath

variable (ya : Rows 8192 512) (yb yc : Rows 8192 768) (yac : Rows 1024 512) (ybc ycc : Rows 1024 768) (x : Tokens) (md : Mods)
variable (wa : Line 512) (wb : Line 768) (w : Rows 2048 2048) (lg lb : Line 2048)

theorem at1 {n0 : ℕ} (i : (⟨1, ![n0]⟩ : Shape).Idx) (a : Fin n0) (h : (i 0).val = a.val) : i = ix1 a :=
  funext fun z => Fin.ext (by match z with | ⟨0, _⟩ => exact h)
theorem at2 {n0 n1 : ℕ} (i : (⟨2, ![n0, n1]⟩ : Shape).Idx) (a : Fin n0) (b : Fin n1) (h0 : (i 0).val = a.val) (h1 : (i 1).val = b.val) : i = ix2 a b :=
  (eq_ix2 i).trans (congrArg₂ ix2 (Fin.ext h0) (Fin.ext h1))
theorem at3 {n0 n1 n2 : ℕ} (i : (⟨3, ![n0, n1, n2]⟩ : Shape).Idx) (a : Fin n0) (b : Fin n1) (k : Fin n2)
    (h0 : (i 0).val = a.val) (h1 : (i 1).val = b.val) (h2 : (i 2).val = k.val) : i = ix3 a b k :=
  (eq_ix3 i).trans (congr (congrArg₂ ix3 (Fin.ext h0) (Fin.ext h1)) (Fin.ext h2))

/-- A token's row of a mixer, in the sequences' array or in the context's. -/
theorem pick_seq {n : ℕ} (l : Rows 8192 n) (cx : Rows 1024 n) (a : Fin 4) (b : Fin 2048) (j : Fin n) :
    pick l cx ⟨a.val * 2048 + b.val, by omega⟩ j = l (ix2 ⟨a.val * 2048 + b.val, by omega⟩ j) :=
  dif_pos (show a.val * 2048 + b.val < 8192 by omega)
theorem pick_ctx {n : ℕ} (l : Rows 8192 n) (cx : Rows 1024 n) (a : Fin 4) (b : Fin 256) (j : Fin n) :
    pick l cx ⟨8192 + (a.val * 256 + b.val), by omega⟩ j = cx (ix2 ⟨a.val * 256 + b.val, by omega⟩ j) :=
  (dif_neg (show ¬ 8192 + (a.val * 256 + b.val) < 8192 by omega)).trans
    (congrArg (fun z => cx (ix2 z j)) (Fin.ext (show 8192 + (a.val * 256 + b.val) - 8192 = a.val * 256 + b.val by omega)))

/-- Three arrays laid side by side along the last axis, at a place. -/
theorem beside_at {N : ℕ} (A : (⟨3, ![4, N, 512]⟩ : Shape).Idx → EReal) (B C : (⟨3, ![4, N, 768]⟩ : Shape).Idx → EReal)
    (hc : Shape.Concatenates [⟨3, ![4, N, 512]⟩, ⟨3, ![4, N, 768]⟩, ⟨3, ![4, N, 768]⟩] ⟨3, ![4, N, 2048]⟩ 2) (a : Fin 4) (b : Fin N) (k : Fin 2048) :
    concatenate ⟨3, ![4, N, 2048]⟩ 2 [⟨⟨3, ![4, N, 512]⟩, A⟩, ⟨⟨3, ![4, N, 768]⟩, B⟩, ⟨⟨3, ![4, N, 768]⟩, C⟩] hc (ix3 a b k)
      = if h : k.val < 512 then A (ix3 a b ⟨k.val, h⟩) else if h' : k.val < 1280 then B (ix3 a b ⟨k.val - 512, by omega⟩) else C (ix3 a b ⟨k.val - 1280, by omega⟩) := by
  have off : ∀ {n : ℕ} (j : Fin n) (z : Fin 3), z ≠ 2 → (ix3 a b j z).val = (ix3 a b k z).val := fun j z hz => by
    match z, hz with
    | ⟨0, _⟩, _ => rfl
    | ⟨1, _⟩, _ => rfl
    | ⟨2, _⟩, hz => exact absurd rfl hz
  by_cases h : k.val < 512
  · rw [dif_pos h]
    exact concatenate_apply_piece (t := ⟨3, ![4, N, 2048]⟩) 2 [⟨⟨3, ![4, N, 512]⟩, A⟩, ⟨⟨3, ![4, N, 768]⟩, B⟩, ⟨⟨3, ![4, N, 768]⟩, C⟩] hc (ix3 a b k) 0 (Nat.zero_lt_succ 2)
      ⟨3, ![4, N, 512]⟩ A rfl rfl 0 rfl (ix3 a b ⟨k.val, h⟩) (off _) (Nat.zero_add _)
  · rw [dif_neg h]
    by_cases h' : k.val < 1280
    · rw [dif_pos h']
      exact concatenate_apply_piece (t := ⟨3, ![4, N, 2048]⟩) 2 [⟨⟨3, ![4, N, 512]⟩, A⟩, ⟨⟨3, ![4, N, 768]⟩, B⟩, ⟨⟨3, ![4, N, 768]⟩, C⟩] hc (ix3 a b k) 1 (show 1 < 3 by decide)
        ⟨3, ![4, N, 768]⟩ B rfl rfl 512 rfl (ix3 a b ⟨k.val - 512, by omega⟩) (off _) (show 512 + (k.val - 512) = k.val by omega)
    · rw [dif_neg h']
      exact concatenate_apply_piece (t := ⟨3, ![4, N, 2048]⟩) 2 [⟨⟨3, ![4, N, 512]⟩, A⟩, ⟨⟨3, ![4, N, 768]⟩, B⟩, ⟨⟨3, ![4, N, 768]⟩, C⟩] hc (ix3 a b k) 2 (show 2 < 3 by decide)
        ⟨3, ![4, N, 768]⟩ C rfl rfl 1280 rfl (ix3 a b ⟨k.val - 1280, by omega⟩) (off _) (show 1280 + (k.val - 1280) = k.val by omega)

/-! ## The sequences' tokens: the mixers' rows -/

theorem rows_a (a : Fin 4) (b : Fin 2048) (k : Fin 512) : val_main_v9 (F := Ideal) ya (ix3 a b k) = pick ya yac ⟨a.val * 2048 + b.val, by omega⟩ k := by
  rw [val_main_v9_apply, pick_seq]
  refine congrArg ya (at2 _ _ _ ?_ ?_)
  · show ((a.val * 2048 + b.val) * 512 + k.val) / 512 = a.val * 2048 + b.val; omega
  · show ((a.val * 2048 + b.val) * 512 + k.val) % 512 = k.val; omega
theorem rows_b (a : Fin 4) (b : Fin 2048) (k : Fin 768) : val_main_v23 (F := Ideal) yb (ix3 a b k) = pick yb ybc ⟨a.val * 2048 + b.val, by omega⟩ k := by
  rw [val_main_v23_apply, pick_seq]
  refine congrArg yb (at2 _ _ _ ?_ ?_)
  · show ((a.val * 2048 + b.val) * 768 + k.val) / 768 = a.val * 2048 + b.val; omega
  · show ((a.val * 2048 + b.val) * 768 + k.val) % 768 = k.val; omega
theorem rows_c (a : Fin 4) (b : Fin 2048) (k : Fin 768) : val_main_v37 (F := Ideal) yc (ix3 a b k) = pick yc ycc ⟨a.val * 2048 + b.val, by omega⟩ k := by
  rw [val_main_v37_apply, pick_seq]
  refine congrArg yc (at2 _ _ _ ?_ ?_)
  · show ((a.val * 2048 + b.val) * 768 + k.val) / 768 = a.val * 2048 + b.val; omega
  · show ((a.val * 2048 + b.val) * 768 + k.val) % 768 = k.val; omega
theorem first_square_at (a : Fin 4) (b : Fin 2048) : val_main_v14 (F := Ideal) ya (ix3 a b 0)
    = Ideal.div (∑ k, pick ya yac ⟨a.val * 2048 + b.val, by omega⟩ k * pick ya yac ⟨a.val * 2048 + b.val, by omega⟩ k) (Ideal.ofBits .f32 0x44000000#32) := by
  rw [val_main_v14_apply, val_main_v12_apply, val_main_v11_apply, val_main_cst_apply, val_main_v13_apply, val_main_cst_0_apply, Ideal.hostDivf_def, Ideal.ofBits_def, Ideal.ofBits_def, Ideal.ofBits_zero_f32, zero_add]
  refine congrArg (Ideal.div · _) (Finset.sum_congr rfl fun k _ => (val_main_v10_apply (F := Ideal) ya _).trans ?_)
  have e := (congrArg (val_main_v9 (F := Ideal) ya) (at3 (idx_main_v11 (idx_main_v12 (ix3 a b 0)) k) a b k rfl rfl rfl)).trans (rows_a ya yac a b k)
  exact congrArg₂ (fun u v : EReal => u * v) e e
theorem first_at (a : Fin 4) (b : Fin 2048) (k : Fin 512) : val_main_v22 (F := Ideal) ya wa (ix3 a b k)
    = scaled 0x44000000#32 (pick ya yac ⟨a.val * 2048 + b.val, by omega⟩) (wa (ix1 k)) k := by
  unfold scaled
  rw [val_main_v22_apply, val_main_v19_apply, rows_a ya yac, val_main_v18_apply, at3 (idx_main_v18 (ix3 a b k)) a b 0 rfl rfl rfl, val_main_v17_apply, val_main_v16_apply,
    val_main_v15_apply, val_main_cst_1_apply, first_square_at ya yac, val_main_v21_apply, val_main_v20_apply, at1 (idx_main_v20 (idx_main_v21 (ix3 a b k))) k rfl]
  rfl
theorem second_square_at (a : Fin 4) (b : Fin 2048) : val_main_v28 (F := Ideal) yb (ix3 a b 0)
    = Ideal.div (∑ k, pick yb ybc ⟨a.val * 2048 + b.val, by omega⟩ k * pick yb ybc ⟨a.val * 2048 + b.val, by omega⟩ k) (Ideal.ofBits .f32 0x44400000#32) := by
  rw [val_main_v28_apply, val_main_v26_apply, val_main_v25_apply, val_main_cst_2_apply, val_main_v27_apply, val_main_cst_3_apply, Ideal.hostDivf_def, Ideal.ofBits_def, Ideal.ofBits_def, Ideal.ofBits_zero_f32, zero_add]
  refine congrArg (Ideal.div · _) (Finset.sum_congr rfl fun k _ => (val_main_v24_apply (F := Ideal) yb _).trans ?_)
  have e := (congrArg (val_main_v23 (F := Ideal) yb) (at3 (idx_main_v25 (idx_main_v26 (ix3 a b 0)) k) a b k rfl rfl rfl)).trans (rows_b yb ybc a b k)
  exact congrArg₂ (fun u v : EReal => u * v) e e
theorem second_at (a : Fin 4) (b : Fin 2048) (k : Fin 768) : val_main_v36 (F := Ideal) yb wb (ix3 a b k)
    = scaled 0x44400000#32 (pick yb ybc ⟨a.val * 2048 + b.val, by omega⟩) (wb (ix1 k)) k := by
  unfold scaled
  rw [val_main_v36_apply, val_main_v33_apply, rows_b yb ybc, val_main_v32_apply, at3 (idx_main_v32 (ix3 a b k)) a b 0 rfl rfl rfl, val_main_v31_apply, val_main_v30_apply,
    val_main_v29_apply, val_main_cst_4_apply, second_square_at yb ybc, val_main_v35_apply, val_main_v34_apply, at1 (idx_main_v34 (idx_main_v35 (ix3 a b k))) k rfl]
  rfl
theorem joined_at (a : Fin 4) (b : Fin 2048) (k : Fin 2048) : val_main_v38 (F := Ideal) ya yb yc wa wb (ix3 a b k)
    = joined (pick ya yac ⟨a.val * 2048 + b.val, by omega⟩) (fun k => wa (ix1 k)) (pick yb ybc ⟨a.val * 2048 + b.val, by omega⟩) (fun k => wb (ix1 k)) (pick yc ycc ⟨a.val * 2048 + b.val, by omega⟩) k := by
  unfold val_main_v38 joined
  refine (beside_at (N := 2048) _ _ _ concatenates_S4x2048x512_S4x2048x768_S4x2048x768_S4x2048x2048_d2 a b k).trans ?_
  simp only [first_at ya yac wa, second_at yb ybc wb, rows_c yc ycc]

/-! ## The sequences' tokens: the gated sum and the last norm -/

theorem tokens_at (a : Fin 4) (b k : Fin 2048) : val_main_v1 (F := Ideal) x (ix3 a b k) = x (ix2 ⟨a.val * 2048 + b.val, by omega⟩ k) := by
  rw [val_main_v1_apply, val_main_v0_apply]
  refine congrArg x (at2 _ _ _ ?_ ?_)
  · show ((a.val * 2048 + b.val) * 2048 + k.val) / 2048 = a.val * 2048 + b.val; omega
  · show ((a.val * 2048 + b.val) * 2048 + k.val) % 2048 = k.val; omega
theorem gate_at (a : Fin 4) (k : Fin 2048) : val_main_v6 (F := Ideal) md (ix3 a 0 k) = md (ix3 ⟨a.val, by omega⟩ 2 k) := by
  rw [val_main_v6_apply, val_main_v5_apply, val_main_v4_apply]
  refine congrArg md (at3 _ _ _ _ ?_ rfl ?_)
  · show (a.val * 2048 + k.val) / 2048 = a.val; omega
  · show (a.val * 2048 + k.val) % 2048 = k.val; omega
theorem product_at (a : Fin 4) (b : Fin 2048) (j : Fin 2048) : val_main_v39 (F := Ideal) ya yb yc wa wb w (ix3 a b j)
    = ∑ k, joined (pick ya yac ⟨a.val * 2048 + b.val, by omega⟩) (fun k => wa (ix1 k)) (pick yb ybc ⟨a.val * 2048 + b.val, by omega⟩) (fun k => wb (ix1 k)) (pick yc ycc ⟨a.val * 2048 + b.val, by omega⟩) k * w (ix2 k j) := by
  rw [val_main_v39_apply]
  refine Finset.sum_congr rfl fun k _ => ?_
  have el : lidx_main_v39 (ix3 a b j) k = ix3 a b k := at3 _ a b k rfl rfl rfl
  have er : ridx_main_v39 (ix3 a b j) k = ix2 k j := at2 _ k j rfl rfl
  rw [el, er, joined_at ya yb yc yac ybc ycc]
theorem row_at (a : Fin 4) (b : Fin 2048) (j : Fin 2048) : val_main_v75 (F := Ideal) ya yb yc x md wa wb w (ix3 a b j) = row ya yb yc yac ybc ycc x md wa wb w ⟨a.val * 2048 + b.val, by omega⟩ j := by
  have e : modOf ⟨a.val * 2048 + b.val, by omega⟩ = ⟨a.val, by omega⟩ := Fin.ext (show min ((a.val * 2048 + b.val) / 2048) 4 = a.val by omega)
  unfold row mixed
  rw [e, val_main_v75_apply, val_main_v72_apply, val_main_v71_apply, val_main_cst_11_apply, tokens_at, val_main_v74_apply, val_main_v73_apply, at3 (idx_main_v73 (ix3 a b j)) a 0 j rfl rfl rfl, gate_at, product_at ya yb yc yac ybc ycc]
  rfl
theorem mean_at (a : Fin 4) (b : Fin 2048) : val_main_v79 (F := Ideal) ya yb yc x md wa wb w (ix3 a b 0) = mean (row ya yb yc yac ybc ycc x md wa wb w ⟨a.val * 2048 + b.val, by omega⟩) := by
  rw [val_main_v79_apply, val_main_v77_apply, val_main_v76_apply, val_main_cst_12_apply, val_main_v78_apply, val_main_cst_13_apply, Ideal.hostDivf_def, Ideal.ofBits_def, Ideal.ofBits_def, Ideal.ofBits_zero_f32, zero_add]
  refine congrArg (Ideal.div · _) (Finset.sum_congr rfl fun k _ => ?_)
  rw [at3 (idx_main_v76 (idx_main_v77 (ix3 a b 0)) k) a b k rfl rfl rfl, row_at ya yb yc yac ybc ycc]
theorem centred_at (a : Fin 4) (b : Fin 2048) (k : Fin 2048) : val_main_v81 (F := Ideal) ya yb yc x md wa wb w (ix3 a b k) = row ya yb yc yac ybc ycc x md wa wb w ⟨a.val * 2048 + b.val, by omega⟩ k - mean (row ya yb yc yac ybc ycc x md wa wb w ⟨a.val * 2048 + b.val, by omega⟩) := by
  rw [val_main_v81_apply, val_main_v80_apply, row_at ya yb yc yac ybc ycc x md wa wb w a b]
  exact congrArg (_ - ·) ((congrArg (val_main_v79 (F := Ideal) ya yb yc x md wa wb w) (at3 _ a b 0 rfl rfl rfl)).trans (mean_at ya yb yc yac ybc ycc x md wa wb w a b))
theorem variance_at (a : Fin 4) (b : Fin 2048) : val_main_v86 (F := Ideal) ya yb yc x md wa wb w (ix3 a b 0)
    = mean fun k => (row ya yb yc yac ybc ycc x md wa wb w ⟨a.val * 2048 + b.val, by omega⟩ k - mean (row ya yb yc yac ybc ycc x md wa wb w ⟨a.val * 2048 + b.val, by omega⟩)) * (row ya yb yc yac ybc ycc x md wa wb w ⟨a.val * 2048 + b.val, by omega⟩ k - mean (row ya yb yc yac ybc ycc x md wa wb w ⟨a.val * 2048 + b.val, by omega⟩)) := by
  rw [val_main_v86_apply, val_main_v84_apply, val_main_v83_apply, val_main_cst_14_apply, val_main_v85_apply, val_main_cst_15_apply, Ideal.hostDivf_def, Ideal.ofBits_def, Ideal.ofBits_def, Ideal.ofBits_zero_f32, zero_add]
  refine congrArg (Ideal.div · _) (Finset.sum_congr rfl fun k _ => (val_main_v82_apply (F := Ideal) ya yb yc x md wa wb w _).trans ?_)
  have e := (congrArg (val_main_v81 (F := Ideal) ya yb yc x md wa wb w) (at3 (idx_main_v83 (idx_main_v84 (ix3 a b 0)) k) a b k rfl rfl rfl)).trans (centred_at ya yb yc yac ybc ycc x md wa wb w a b k)
  exact congrArg₂ (fun u v : EReal => u * v) e e
theorem out_at (a : Fin 4) (b : Fin 2048) (d : Fin 2048) : val_main_v97 (F := Ideal) ya yb yc x md wa wb w lg lb (ix3 a b d) = out ya yb yc yac ybc ycc x md wa wb w lg lb ⟨a.val * 2048 + b.val, by omega⟩ d := by
  unfold out normed
  rw [val_main_v97_apply, val_main_v94_apply, val_main_v91_apply, centred_at ya yb yc yac ybc ycc x md wa wb w, val_main_v90_apply, at3 (idx_main_v90 (ix3 a b d)) a b 0 rfl rfl rfl, val_main_v89_apply, val_main_v88_apply,
    val_main_v87_apply, val_main_cst_16_apply, variance_at ya yb yc yac ybc ycc x md wa wb w, val_main_v93_apply, val_main_v92_apply, at1 (idx_main_v92 (idx_main_v93 (ix3 a b d))) d rfl,
    val_main_v96_apply, val_main_v95_apply, at1 (idx_main_v95 (idx_main_v96 (ix3 a b d))) d rfl]
  rfl

/-! ## The context's tokens, likewise -/

theorem ctx_rows_a (a : Fin 4) (b : Fin 256) (k : Fin 512) : val_main_v40 (F := Ideal) yac (ix3 a b k) = pick ya yac ⟨8192 + (a.val * 256 + b.val), by omega⟩ k := by
  rw [val_main_v40_apply, pick_ctx]
  refine congrArg yac (at2 _ _ _ ?_ ?_)
  · show ((a.val * 256 + b.val) * 512 + k.val) / 512 = a.val * 256 + b.val; omega
  · show ((a.val * 256 + b.val) * 512 + k.val) % 512 = k.val; omega
theorem ctx_rows_b (a : Fin 4) (b : Fin 256) (k : Fin 768) : val_main_v54 (F := Ideal) ybc (ix3 a b k) = pick yb ybc ⟨8192 + (a.val * 256 + b.val), by omega⟩ k := by
  rw [val_main_v54_apply, pick_ctx]
  refine congrArg ybc (at2 _ _ _ ?_ ?_)
  · show ((a.val * 256 + b.val) * 768 + k.val) / 768 = a.val * 256 + b.val; omega
  · show ((a.val * 256 + b.val) * 768 + k.val) % 768 = k.val; omega
theorem ctx_rows_c (a : Fin 4) (b : Fin 256) (k : Fin 768) : val_main_v68 (F := Ideal) ycc (ix3 a b k) = pick yc ycc ⟨8192 + (a.val * 256 + b.val), by omega⟩ k := by
  rw [val_main_v68_apply, pick_ctx]
  refine congrArg ycc (at2 _ _ _ ?_ ?_)
  · show ((a.val * 256 + b.val) * 768 + k.val) / 768 = a.val * 256 + b.val; omega
  · show ((a.val * 256 + b.val) * 768 + k.val) % 768 = k.val; omega
theorem ctx_first_square_at (a : Fin 4) (b : Fin 256) : val_main_v45 (F := Ideal) yac (ix3 a b 0)
    = Ideal.div (∑ k, pick ya yac ⟨8192 + (a.val * 256 + b.val), by omega⟩ k * pick ya yac ⟨8192 + (a.val * 256 + b.val), by omega⟩ k) (Ideal.ofBits .f32 0x44000000#32) := by
  rw [val_main_v45_apply, val_main_v43_apply, val_main_v42_apply, val_main_cst_5_apply, val_main_v44_apply, val_main_cst_6_apply, Ideal.hostDivf_def, Ideal.ofBits_def, Ideal.ofBits_def, Ideal.ofBits_zero_f32, zero_add]
  refine congrArg (Ideal.div · _) (Finset.sum_congr rfl fun k _ => (val_main_v41_apply (F := Ideal) yac _).trans ?_)
  have e := (congrArg (val_main_v40 (F := Ideal) yac) (at3 (idx_main_v42 (idx_main_v43 (ix3 a b 0)) k) a b k rfl rfl rfl)).trans (ctx_rows_a ya yac a b k)
  exact congrArg₂ (fun u v : EReal => u * v) e e
theorem ctx_first_at (a : Fin 4) (b : Fin 256) (k : Fin 512) : val_main_v53 (F := Ideal) yac wa (ix3 a b k)
    = scaled 0x44000000#32 (pick ya yac ⟨8192 + (a.val * 256 + b.val), by omega⟩) (wa (ix1 k)) k := by
  unfold scaled
  rw [val_main_v53_apply, val_main_v50_apply, ctx_rows_a ya yac, val_main_v49_apply, at3 (idx_main_v49 (ix3 a b k)) a b 0 rfl rfl rfl, val_main_v48_apply, val_main_v47_apply,
    val_main_v46_apply, val_main_cst_7_apply, ctx_first_square_at ya yac, val_main_v52_apply, val_main_v51_apply, at1 (idx_main_v51 (idx_main_v52 (ix3 a b k))) k rfl]
  rfl
theorem ctx_second_square_at (a : Fin 4) (b : Fin 256) : val_main_v59 (F := Ideal) ybc (ix3 a b 0)
    = Ideal.div (∑ k, pick yb ybc ⟨8192 + (a.val * 256 + b.val), by omega⟩ k * pick yb ybc ⟨8192 + (a.val * 256 + b.val), by omega⟩ k) (Ideal.ofBits .f32 0x44400000#32) := by
  rw [val_main_v59_apply, val_main_v57_apply, val_main_v56_apply, val_main_cst_8_apply, val_main_v58_apply, val_main_cst_9_apply, Ideal.hostDivf_def, Ideal.ofBits_def, Ideal.ofBits_def, Ideal.ofBits_zero_f32, zero_add]
  refine congrArg (Ideal.div · _) (Finset.sum_congr rfl fun k _ => (val_main_v55_apply (F := Ideal) ybc _).trans ?_)
  have e := (congrArg (val_main_v54 (F := Ideal) ybc) (at3 (idx_main_v56 (idx_main_v57 (ix3 a b 0)) k) a b k rfl rfl rfl)).trans (ctx_rows_b yb ybc a b k)
  exact congrArg₂ (fun u v : EReal => u * v) e e
theorem ctx_second_at (a : Fin 4) (b : Fin 256) (k : Fin 768) : val_main_v67 (F := Ideal) ybc wb (ix3 a b k)
    = scaled 0x44400000#32 (pick yb ybc ⟨8192 + (a.val * 256 + b.val), by omega⟩) (wb (ix1 k)) k := by
  unfold scaled
  rw [val_main_v67_apply, val_main_v64_apply, ctx_rows_b yb ybc, val_main_v63_apply, at3 (idx_main_v63 (ix3 a b k)) a b 0 rfl rfl rfl, val_main_v62_apply, val_main_v61_apply,
    val_main_v60_apply, val_main_cst_10_apply, ctx_second_square_at yb ybc, val_main_v66_apply, val_main_v65_apply, at1 (idx_main_v65 (idx_main_v66 (ix3 a b k))) k rfl]
  rfl
theorem ctx_joined_at (a : Fin 4) (b : Fin 256) (k : Fin 2048) : val_main_v69 (F := Ideal) yac ybc ycc wa wb (ix3 a b k)
    = joined (pick ya yac ⟨8192 + (a.val * 256 + b.val), by omega⟩) (fun k => wa (ix1 k)) (pick yb ybc ⟨8192 + (a.val * 256 + b.val), by omega⟩) (fun k => wb (ix1 k)) (pick yc ycc ⟨8192 + (a.val * 256 + b.val), by omega⟩) k := by
  unfold val_main_v69 joined
  refine (beside_at (N := 256) _ _ _ concatenates_S4x256x512_S4x256x768_S4x256x768_S4x256x2048_d2 a b k).trans ?_
  simp only [ctx_first_at ya yac wa, ctx_second_at yb ybc wb, ctx_rows_c yc ycc]
theorem ctx_tokens_at (a : Fin 4) (b : Fin 256) (k : Fin 2048) : val_main_v3 (F := Ideal) x (ix3 a b k) = x (ix2 ⟨8192 + (a.val * 256 + b.val), by omega⟩ k) := by
  rw [val_main_v3_apply, val_main_v2_apply]
  refine congrArg x (at2 _ _ _ ?_ ?_)
  · show 8192 + ((a.val * 256 + b.val) * 2048 + k.val) / 2048 = 8192 + (a.val * 256 + b.val); omega
  · show ((a.val * 256 + b.val) * 2048 + k.val) % 2048 = k.val; omega
theorem ctx_gate_at (k : Fin 2048) : val_main_v8 (F := Ideal) md (ix1 k) = md (ix3 4 2 k) := by
  rw [val_main_v8_apply, val_main_v7_apply]
  exact congrArg md (at3 _ _ _ _ rfl rfl (by first | rfl | (show k.val % 2048 = k.val; omega)))
theorem ctx_product_at (a : Fin 4) (b : Fin 256) (j : Fin 2048) : val_main_v70 (F := Ideal) yac ybc ycc wa wb w (ix3 a b j)
    = ∑ k, joined (pick ya yac ⟨8192 + (a.val * 256 + b.val), by omega⟩) (fun k => wa (ix1 k)) (pick yb ybc ⟨8192 + (a.val * 256 + b.val), by omega⟩) (fun k => wb (ix1 k)) (pick yc ycc ⟨8192 + (a.val * 256 + b.val), by omega⟩) k * w (ix2 k j) := by
  rw [val_main_v70_apply]
  refine Finset.sum_congr rfl fun k _ => ?_
  have el : lidx_main_v70 (ix3 a b j) k = ix3 a b k := at3 _ a b k rfl rfl rfl
  have er : ridx_main_v70 (ix3 a b j) k = ix2 k j := at2 _ k j rfl rfl
  rw [el, er, ctx_joined_at ya yb yc yac ybc ycc]
theorem ctx_row_at (a : Fin 4) (b : Fin 256) (j : Fin 2048) : val_main_v103 (F := Ideal) yac ybc ycc x md wa wb w (ix3 a b j) = row ya yb yc yac ybc ycc x md wa wb w ⟨8192 + (a.val * 256 + b.val), by omega⟩ j := by
  have e : modOf ⟨8192 + (a.val * 256 + b.val), by omega⟩ = 4 := Fin.ext (show min ((8192 + (a.val * 256 + b.val)) / 2048) 4 = 4 by omega)
  unfold row mixed
  rw [e, val_main_v103_apply, val_main_v99_apply, val_main_v98_apply, val_main_cst_17_apply, ctx_tokens_at, val_main_v102_apply, val_main_v101_apply, val_main_v100_apply, at1 (idx_main_v100 (idx_main_v101 (ix3 a b j))) j rfl, ctx_gate_at, ctx_product_at ya yb yc yac ybc ycc]
  rfl
theorem ctx_mean_at (a : Fin 4) (b : Fin 256) : val_main_v107 (F := Ideal) yac ybc ycc x md wa wb w (ix3 a b 0) = mean (row ya yb yc yac ybc ycc x md wa wb w ⟨8192 + (a.val * 256 + b.val), by omega⟩) := by
  rw [val_main_v107_apply, val_main_v105_apply, val_main_v104_apply, val_main_cst_18_apply, val_main_v106_apply, val_main_cst_19_apply, Ideal.hostDivf_def, Ideal.ofBits_def, Ideal.ofBits_def, Ideal.ofBits_zero_f32, zero_add]
  refine congrArg (Ideal.div · _) (Finset.sum_congr rfl fun k _ => ?_)
  rw [at3 (idx_main_v104 (idx_main_v105 (ix3 a b 0)) k) a b k rfl rfl rfl, ctx_row_at ya yb yc yac ybc ycc]
theorem ctx_centred_at (a : Fin 4) (b : Fin 256) (k : Fin 2048) : val_main_v109 (F := Ideal) yac ybc ycc x md wa wb w (ix3 a b k) = row ya yb yc yac ybc ycc x md wa wb w ⟨8192 + (a.val * 256 + b.val), by omega⟩ k - mean (row ya yb yc yac ybc ycc x md wa wb w ⟨8192 + (a.val * 256 + b.val), by omega⟩) := by
  rw [val_main_v109_apply, val_main_v108_apply, ctx_row_at ya yb yc yac ybc ycc x md wa wb w a b]
  exact congrArg (_ - ·) ((congrArg (val_main_v107 (F := Ideal) yac ybc ycc x md wa wb w) (at3 _ a b 0 rfl rfl rfl)).trans (ctx_mean_at ya yb yc yac ybc ycc x md wa wb w a b))
theorem ctx_variance_at (a : Fin 4) (b : Fin 256) : val_main_v114 (F := Ideal) yac ybc ycc x md wa wb w (ix3 a b 0)
    = mean fun k => (row ya yb yc yac ybc ycc x md wa wb w ⟨8192 + (a.val * 256 + b.val), by omega⟩ k - mean (row ya yb yc yac ybc ycc x md wa wb w ⟨8192 + (a.val * 256 + b.val), by omega⟩)) * (row ya yb yc yac ybc ycc x md wa wb w ⟨8192 + (a.val * 256 + b.val), by omega⟩ k - mean (row ya yb yc yac ybc ycc x md wa wb w ⟨8192 + (a.val * 256 + b.val), by omega⟩)) := by
  rw [val_main_v114_apply, val_main_v112_apply, val_main_v111_apply, val_main_cst_20_apply, val_main_v113_apply, val_main_cst_21_apply, Ideal.hostDivf_def, Ideal.ofBits_def, Ideal.ofBits_def, Ideal.ofBits_zero_f32, zero_add]
  refine congrArg (Ideal.div · _) (Finset.sum_congr rfl fun k _ => (val_main_v110_apply (F := Ideal) yac ybc ycc x md wa wb w _).trans ?_)
  have e := (congrArg (val_main_v109 (F := Ideal) yac ybc ycc x md wa wb w) (at3 (idx_main_v111 (idx_main_v112 (ix3 a b 0)) k) a b k rfl rfl rfl)).trans (ctx_centred_at ya yb yc yac ybc ycc x md wa wb w a b k)
  exact congrArg₂ (fun u v : EReal => u * v) e e
theorem ctx_out_at (a : Fin 4) (b : Fin 256) (d : Fin 2048) : val_main_v125 (F := Ideal) yac ybc ycc x md wa wb w lg lb (ix3 a b d) = out ya yb yc yac ybc ycc x md wa wb w lg lb ⟨8192 + (a.val * 256 + b.val), by omega⟩ d := by
  unfold out normed
  rw [val_main_v125_apply, val_main_v122_apply, val_main_v119_apply, ctx_centred_at ya yb yc yac ybc ycc x md wa wb w, val_main_v118_apply, at3 (idx_main_v118 (ix3 a b d)) a b 0 rfl rfl rfl, val_main_v117_apply, val_main_v116_apply,
    val_main_v115_apply, val_main_cst_22_apply, ctx_variance_at ya yb yc yac ybc ycc x md wa wb w, val_main_v121_apply, val_main_v120_apply, at1 (idx_main_v120 (idx_main_v121 (ix3 a b d))) d rfl,
    val_main_v124_apply, val_main_v123_apply, at1 (idx_main_v123 (idx_main_v124 (ix3 a b d))) d rfl]
  rfl

/-! ## One after the other -/

theorem all_at (i : S9216x2048.Idx) : val_main_v128 (F := Ideal) ya yb yc yac ybc ycc x md wa wb w lg lb i
    = out ya yb yc yac ybc ycc x md wa wb w lg lb (i 0 : Fin 9216) (i 1 : Fin 2048) := by
  suffices h : ∀ (r : Fin 9216) (d : Fin 2048), val_main_v128 (F := Ideal) ya yb yc yac ybc ycc x md wa wb w lg lb (ix2 r d) = out ya yb yc yac ybc ycc x md wa wb w lg lb r d from
    (congrArg (val_main_v128 (F := Ideal) ya yb yc yac ybc ycc x md wa wb w lg lb) (eq_ix2 (n0 := 9216) (n1 := 2048) i)).trans (h _ _)
  intro r d
  unfold val_main_v128
  by_cases h : r.val < 8192
  · refine (concatenate_pair_apply_left (α := EReal) (t := S9216x2048) 0 _ _ concatenates_S8192x2048_S1024x2048_S9216x2048_d0 (ix2 r d) rfl (ix2 (⟨r.val, h⟩ : Fin 8192) d) (fun z => by
      match z with
      | ⟨0, _⟩ => rfl
      | ⟨1, _⟩ => rfl)).trans ?_
    rw [val_main_v126_apply]
    refine (congrArg (val_main_v97 (F := Ideal) ya yb yc x md wa wb w lg lb) (at3 _ ⟨r.val / 2048, by omega⟩ ⟨r.val % 2048, by omega⟩ d ?_ ?_ ?_)).trans
      ((out_at ya yb yc yac ybc ycc x md wa wb w lg lb _ _ d).trans ?_)
    · show (r.val * 2048 + d.val) / 4194304 = r.val / 2048; omega
    · show (r.val * 2048 + d.val) / 2048 % 2048 = r.val % 2048; omega
    · show (r.val * 2048 + d.val) % 2048 = d.val; omega
    · exact congrArg (out ya yb yc yac ybc ycc x md wa wb w lg lb · d) (Fin.ext (show r.val / 2048 * 2048 + r.val % 2048 = r.val by omega))
  · refine (concatenate_pair_apply_right (α := EReal) (t := S9216x2048) 0 _ _ concatenates_S8192x2048_S1024x2048_S9216x2048_d0 (ix2 r d) rfl rfl (ix2 (⟨r.val - 8192, by omega⟩ : Fin 1024) d) (fun z hz => by
      match z, hz with
      | ⟨0, _⟩, hz => exact absurd rfl hz
      | ⟨1, _⟩, _ => rfl) (show r.val - 8192 + 8192 = r.val by omega)).trans ?_
    rw [val_main_v127_apply]
    refine (congrArg (val_main_v125 (F := Ideal) yac ybc ycc x md wa wb w lg lb) (at3 _ ⟨(r.val - 8192) / 256, by omega⟩ ⟨(r.val - 8192) % 256, by omega⟩ d ?_ ?_ ?_)).trans
      ((ctx_out_at ya yb yc yac ybc ycc x md wa wb w lg lb _ _ d).trans ?_)
    · show ((r.val - 8192) * 2048 + d.val) / 524288 = (r.val - 8192) / 256; omega
    · show ((r.val - 8192) * 2048 + d.val) / 2048 % 256 = (r.val - 8192) % 256; omega
    · show ((r.val - 8192) * 2048 + d.val) % 2048 = d.val; omega
    · exact congrArg (out ya yb yc yac ybc ycc x md wa wb w lg lb · d) (Fin.ext (show 8192 + ((r.val - 8192) / 256 * 256 + (r.val - 8192) % 256) = r.val by omega))

end Cert.Proof.OpRef

end
-- ==== Proof.OpFinal.lean ====
/- The output projection and its reference leave the same array. -/
module

public import proofs.«01_k».proof.Proof.OpValue
public import proofs.«01_k».proof.Proof.OpRef
public import proofs.«01_k».proof.Defs
public import proofs.«01_k».proof.Proof.Gen.OpRefIdeal.Run
public import Idealize.ShloMosaic.Lib.Quiescent

@[expose] public section

set_option maxRecDepth 16384

noncomputable section

namespace Cert.Proof.OpFinal

open Idealize.ShloMosaic Idealize.ShloMosaic.TcCoe Idealize.SL.Sem
open Cert.Proof.Op

theorem algebraic : @Cert.algebraic_OpIdeal_OpRefIdeal Cert.OpIdeal.Gen.facts Cert.OpRefIdeal.Gen.facts := by
  intro m g m' g' _ hagree
  refine ⟨fun c => result m c, ?_, ?_⟩
  · refine (θ_run Cert.OpIdeal.defs _ _).mono (fun r hr c => ?_) (Cert.OpIdeal.Value.run_blocks m g)
    obtain ⟨h0, h⟩ := hr c
    exact ⟨h0.trans (arr_eq m c), h⟩
  · refine (θ_run Cert.OpRefIdeal.defs _ _).mono (fun r hr c => ?_) (Cert.OpRefIdeal.Value.run m' g')
    obtain ⟨h0, h⟩ := hr c
    obtain ⟨a0, a1, a2, a3, a4, a5, a6, a7, a8, a9, a10, a11, a12⟩ := hagree c
    refine ⟨h0.trans ?_, h⟩
    rw [Cert.OpRefIdeal.Read.val_main_v128_eq, a0, a1, a2, a3, a4, a5, a6, a7, a8, a9, a10, a11, a12]
    exact funext fun i => Cert.Proof.OpRef.all_at _ _ _ _ _ _ _ _ _ _ _ _ _ i

/-- The reference's frame: its run read at the arguments; it declares no semaphore. -/
theorem frame_ref : @Cert.quiescent_OpRefIdeal Cert.OpRefIdeal.Gen.facts := fun m g _ =>
  (θ_run Cert.OpRefIdeal.defs _ _).mono (fun r h => ⟨fun c => (h c).2, sem_eq_zero_of_no_sems (by decide) r.2⟩) (Cert.OpRefIdeal.Value.run m g)

end Cert.Proof.OpFinal
end
-- ==== Proof.lean ====
module

public import proofs.«01_k».proof.Proof.Final
public import proofs.«01_k».proof.Proof.MoeFinal
public import proofs.«01_k».proof.Proof.Gen.MoeRefIdeal.Run
public import proofs.«01_k».proof.Proof.Gen.MoeRefIdeal.Read
public import proofs.«01_k».proof.Proof.IpFinal
public import proofs.«01_k».proof.Proof.OpFinal
public import proofs.«01_k».proof.Defs
public import proofs.«01_k».proof.Proof.Gen.Na
public import proofs.«01_k».proof.Proof.Gen.Na.Skeleton
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Launch
public import proofs.«01_k».proof.Proof.Gen.NaIdeal.Points
public import proofs.«01_k».proof.Proof.Gen.NaIdeal.Frame
public import proofs.«01_k».proof.Proof.Gen.NaRefIdeal
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.Ip
public import proofs.«01_k».proof.Proof.Gen.Ip.Launch
public import proofs.«01_k».proof.Proof.Gen.IpIdeal
public import proofs.«01_k».proof.Proof.Gen.IpIdeal.Skeleton
public import proofs.«01_k».proof.Proof.Gen.IpIdeal.Loops
public import proofs.«01_k».proof.Proof.Gen.IpIdeal.Launch
public import proofs.«01_k».proof.Proof.Gen.IpRefIdeal
public import proofs.«01_k».proof.Proof.Gen.IpRefIdeal.Run
public import proofs.«01_k».proof.Proof.Gen.IpRefIdeal.Read
public import proofs.«01_k».proof.Proof.Gen.Op
public import proofs.«01_k».proof.Proof.Gen.Op.Launch
public import proofs.«01_k».proof.Proof.Gen.Op.Frame
public import proofs.«01_k».proof.Proof.Gen.OpIdeal
public import proofs.«01_k».proof.Proof.Gen.OpIdeal.Skeleton
public import proofs.«01_k».proof.Proof.Gen.OpIdeal.Launch
public import proofs.«01_k».proof.Proof.Gen.OpIdeal.Points
public import proofs.«01_k».proof.Proof.Gen.OpIdeal.Frame
public import proofs.«01_k».proof.Proof.Gen.OpIdeal.Value
public import proofs.«01_k».proof.Proof.Gen.OpRefIdeal
public import proofs.«01_k».proof.Proof.Gen.OpRefIdeal.Run
public import proofs.«01_k».proof.Proof.Gen.OpRefIdeal.Read
public import proofs.«01_k».proof.Proof.Gen.Pre_finite
public import proofs.«01_k».proof.Proof.Gen.Pre_experts
public import Idealize.ShloMosaic.Adequacy
public import Idealize.ShloMosaic.Init

@[expose] public section

noncomputable section

namespace Cert.Proof

open Idealize.ShloMosaic Idealize.SL.Sem Cert.Na

theorem claim : Cert.Claim := ⟨Cert.Na.Gen.facts, Cert.NaIdeal.Gen.facts, Cert.NaRefIdeal.Gen.facts, Cert.Moe.Gen.facts, Cert.MoeIdeal.Gen.facts, Cert.MoeRefIdeal.Gen.facts, Cert.Ip.Gen.facts, Cert.IpIdeal.Gen.facts, Cert.IpRefIdeal.Gen.facts, Cert.Op.Gen.facts, Cert.OpIdeal.Gen.facts, Cert.OpRefIdeal.Gen.facts, Cert.Pre_finite.Gen.facts, Cert.Pre_experts.Gen.facts,
  fun m g _ => Cert.Na.Gen.frame m g, fun m g _ => Cert.NaIdeal.Gen.frame m g, fun m g _ => Cert.NaIdeal.Gen.frame m g,
  NaFinal.frame_ref, fun m g _ => NaFinal.frame_ref m g trivial,
  MoeFinal.frame, MoeFinal.frame_ideal, MoeFinal.frame_ref, fun m g _ => MoeFinal.frame_ref m g trivial,
  IpFinal.frame, IpFinal.frame_ideal, IpFinal.frame_ref,
  fun m g _ => Cert.Op.Gen.frame m g, fun m g _ => Cert.OpIdeal.Gen.frame m g, OpFinal.frame_ref,
  ⟨IdealRules.named_const.statement Cert.NaIdeal.κ "below" .f32 0xF0C9F2CA#32 ⊥ rfl,
    IdealRules.named_const.statement Cert.NaIdeal.κ "mask" .f32 0xF149F2CA#32 ⊥ rfl⟩,
  NaFinal.algebraic, trivial, MoeFinal.algebraic, trivial, IpFinal.algebraic, trivial, OpFinal.algebraic⟩

end Cert.Proof

end
